-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallS (m : (ℓ : Loc Cert.SmallS.nD Cert.SmallS.τ Cert.SmallS.sig) → Buf (Elt Bits) ℓ) : Prop :=
  True

def Pre_SmallSIdeal (m : (ℓ : Loc Cert.SmallSIdeal.nD Cert.SmallSIdeal.τ Cert.SmallSIdeal.sig) → Buf (Elt Ideal) ℓ) : Prop :=
  True

def Pre_SmallSRefIdeal (m : (ℓ : Loc Cert.SmallSRefIdeal.nD Cert.SmallSRefIdeal.τ Cert.SmallSRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_AddLn (m : (ℓ : Loc Cert.AddLn.nD Cert.AddLn.τ Cert.AddLn.sig) → Buf (Elt Bits) ℓ) : Prop :=
  True

def Pre_AddLnIdeal (m : (ℓ : Loc Cert.AddLnIdeal.nD Cert.AddLnIdeal.τ Cert.AddLnIdeal.sig) → Buf (Elt Ideal) ℓ) : Prop :=
  True

def Pre_AddLnRefIdeal (m : (ℓ : Loc Cert.AddLnRefIdeal.nD Cert.AddLnRefIdeal.τ Cert.AddLnRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_scores_above_neg_inf [hPre_scores_above_neg_inf : Cert.Pre_scores_above_neg_inf.Facts] (m : (ℓ : Loc Cert.RouteIdeal.nD Cert.RouteIdeal.τ Cert.RouteIdeal.sig) → Buf (Elt Ideal) ℓ) : Prop :=
  ∀ c : Dev Cert.RouteIdeal.nD,
    (Cert.Pre_scores_above_neg_inf.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_scores_above_neg_inf [hPre_scores_above_neg_inf : Cert.Pre_scores_above_neg_inf.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_scores_above_neg_inf.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2))) = (fun _ => 1#1)

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2))
      ∧ r.2.sem = fun _ => 0)

def quiescent_SmallS [hSmallS : Cert.SmallS.Facts] : Prop :=
  ∀ (m : (ℓ : Loc Cert.SmallS.nD Cert.SmallS.τ Cert.SmallS.sig) → Buf (Elt Bits) ℓ) (g : Dev Cert.SmallS.nD → PrngReg), Pre_SmallS m →
    θ_run (Cert.SmallS.defs (F := Bits)) (onTc (τ := Cert.SmallS.τ) (Cert.SmallS.main (F := Bits))) ⟨m, fun _ => 0, g⟩ (fun r => (∀ c : Dev Cert.SmallS.nD,
      r.2.mem ((c.tc : Thread Cert.SmallS.nD Cert.SmallS.τ).loc Cert.SmallS.main_arg0) = m ((c.tc : Thread Cert.SmallS.nD Cert.SmallS.τ).loc Cert.SmallS.main_arg0)
      ∧ r.2.mem ((c.tc : Thread Cert.SmallS.nD Cert.SmallS.τ).loc Cert.SmallS.main_arg1) = m ((c.tc : Thread Cert.SmallS.nD Cert.SmallS.τ).loc Cert.SmallS.main_arg1)
      ∧ r.2.mem ((c.tc : Thread Cert.SmallS.nD Cert.SmallS.τ).loc Cert.SmallS.main_arg2) = m ((c.tc : Thread Cert.SmallS.nD Cert.SmallS.τ).loc Cert.SmallS.main_arg2))
      ∧ r.2.sem = fun _ => 0)

def quiescent_SmallSIdeal [hSmallSIdeal : Cert.SmallSIdeal.Facts] : Prop :=
  ∀ (m : (ℓ : Loc Cert.SmallSIdeal.nD Cert.SmallSIdeal.τ Cert.SmallSIdeal.sig) → Buf (Elt Ideal) ℓ) (g : Dev Cert.SmallSIdeal.nD → PrngReg), Pre_SmallSIdeal m →
    θ_run (Cert.SmallSIdeal.defs (F := Ideal)) (onTc (τ := Cert.SmallSIdeal.τ) (Cert.SmallSIdeal.main (F := Ideal))) ⟨m, fun _ => 0, g⟩ (fun r => (∀ c : Dev Cert.SmallSIdeal.nD,
      r.2.mem ((c.tc : Thread Cert.SmallSIdeal.nD Cert.SmallSIdeal.τ).loc Cert.SmallSIdeal.main_arg0) = m ((c.tc : Thread Cert.SmallSIdeal.nD Cert.SmallSIdeal.τ).loc Cert.SmallSIdeal.main_arg0)
      ∧ r.2.mem ((c.tc : Thread Cert.SmallSIdeal.nD Cert.SmallSIdeal.τ).loc Cert.SmallSIdeal.main_arg1) = m ((c.tc : Thread Cert.SmallSIdeal.nD Cert.SmallSIdeal.τ).loc Cert.SmallSIdeal.main_arg1)
      ∧ r.2.mem ((c.tc : Thread Cert.SmallSIdeal.nD Cert.SmallSIdeal.τ).loc Cert.SmallSIdeal.main_arg2) = m ((c.tc : Thread Cert.SmallSIdeal.nD Cert.SmallSIdeal.τ).loc Cert.SmallSIdeal.main_arg2))
      ∧ r.2.sem = fun _ => 0)

def quiescent_SmallSRefIdeal [hSmallSRefIdeal : Cert.SmallSRefIdeal.Facts] : Prop :=
  ∀ (m : (ℓ : Loc Cert.SmallSRefIdeal.nD Cert.SmallSRefIdeal.τ Cert.SmallSRefIdeal.sig) → Buf (Elt Ideal) ℓ) (g : Dev Cert.SmallSRefIdeal.nD → PrngReg), Pre_SmallSRefIdeal m →
    θ_run (Cert.SmallSRefIdeal.defs (F := Ideal)) (onTc (τ := Cert.SmallSRefIdeal.τ) (Cert.SmallSRefIdeal.main (F := Ideal))) ⟨m, fun _ => 0, g⟩ (fun r => (∀ c : Dev Cert.SmallSRefIdeal.nD,
      r.2.mem ((c.tc : Thread Cert.SmallSRefIdeal.nD Cert.SmallSRefIdeal.τ).loc Cert.SmallSRefIdeal.main_arg0) = m ((c.tc : Thread Cert.SmallSRefIdeal.nD Cert.SmallSRefIdeal.τ).loc Cert.SmallSRefIdeal.main_arg0)
      ∧ r.2.mem ((c.tc : Thread Cert.SmallSRefIdeal.nD Cert.SmallSRefIdeal.τ).loc Cert.SmallSRefIdeal.main_arg1) = m ((c.tc : Thread Cert.SmallSRefIdeal.nD Cert.SmallSRefIdeal.τ).loc Cert.SmallSRefIdeal.main_arg1)
      ∧ r.2.mem ((c.tc : Thread Cert.SmallSRefIdeal.nD Cert.SmallSRefIdeal.τ).loc Cert.SmallSRefIdeal.main_arg2) = m ((c.tc : Thread Cert.SmallSRefIdeal.nD Cert.SmallSRefIdeal.τ).loc Cert.SmallSRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_AddLn [hAddLn : Cert.AddLn.Facts] : Prop :=
  ∀ (m : (ℓ : Loc Cert.AddLn.nD Cert.AddLn.τ Cert.AddLn.sig) → Buf (Elt Bits) ℓ) (g : Dev Cert.AddLn.nD → PrngReg), Pre_AddLn m →
    θ_run (Cert.AddLn.defs (F := Bits)) (onTc (τ := Cert.AddLn.τ) (Cert.AddLn.main (F := Bits))) ⟨m, fun _ => 0, g⟩ (fun r => (∀ c : Dev Cert.AddLn.nD,
      r.2.mem ((c.tc : Thread Cert.AddLn.nD Cert.AddLn.τ).loc Cert.AddLn.main_arg0) = m ((c.tc : Thread Cert.AddLn.nD Cert.AddLn.τ).loc Cert.AddLn.main_arg0)
      ∧ r.2.mem ((c.tc : Thread Cert.AddLn.nD Cert.AddLn.τ).loc Cert.AddLn.main_arg1) = m ((c.tc : Thread Cert.AddLn.nD Cert.AddLn.τ).loc Cert.AddLn.main_arg1)
      ∧ r.2.mem ((c.tc : Thread Cert.AddLn.nD Cert.AddLn.τ).loc Cert.AddLn.main_arg2) = m ((c.tc : Thread Cert.AddLn.nD Cert.AddLn.τ).loc Cert.AddLn.main_arg2)
      ∧ r.2.mem ((c.tc : Thread Cert.AddLn.nD Cert.AddLn.τ).loc Cert.AddLn.main_arg3) = m ((c.tc : Thread Cert.AddLn.nD Cert.AddLn.τ).loc Cert.AddLn.main_arg3))
      ∧ r.2.sem = fun _ => 0)

def quiescent_AddLnIdeal [hAddLnIdeal : Cert.AddLnIdeal.Facts] : Prop :=
  ∀ (m : (ℓ : Loc Cert.AddLnIdeal.nD Cert.AddLnIdeal.τ Cert.AddLnIdeal.sig) → Buf (Elt Ideal) ℓ) (g : Dev Cert.AddLnIdeal.nD → PrngReg), Pre_AddLnIdeal m →
    θ_run (Cert.AddLnIdeal.defs (F := Ideal)) (onTc (τ := Cert.AddLnIdeal.τ) (Cert.AddLnIdeal.main (F := Ideal))) ⟨m, fun _ => 0, g⟩ (fun r => (∀ c : Dev Cert.AddLnIdeal.nD,
      r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
      ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
      ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
      ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ r.2.sem = fun _ => 0)

def quiescent_AddLnRefIdeal [hAddLnRefIdeal : Cert.AddLnRefIdeal.Facts] : Prop :=
  ∀ (m : (ℓ : Loc Cert.AddLnRefIdeal.nD Cert.AddLnRefIdeal.τ Cert.AddLnRefIdeal.sig) → Buf (Elt Ideal) ℓ) (g : Dev Cert.AddLnRefIdeal.nD → PrngReg), Pre_AddLnRefIdeal m →
    θ_run (Cert.AddLnRefIdeal.defs (F := Ideal)) (onTc (τ := Cert.AddLnRefIdeal.τ) (Cert.AddLnRefIdeal.main (F := Ideal))) ⟨m, fun _ => 0, g⟩ (fun r => (∀ c : Dev Cert.AddLnRefIdeal.nD,
      r.2.mem ((c.tc : Thread Cert.AddLnRefIdeal.nD Cert.AddLnRefIdeal.τ).loc Cert.AddLnRefIdeal.main_arg0) = m ((c.tc : Thread Cert.AddLnRefIdeal.nD Cert.AddLnRefIdeal.τ).loc Cert.AddLnRefIdeal.main_arg0)
      ∧ r.2.mem ((c.tc : Thread Cert.AddLnRefIdeal.nD Cert.AddLnRefIdeal.τ).loc Cert.AddLnRefIdeal.main_arg1) = m ((c.tc : Thread Cert.AddLnRefIdeal.nD Cert.AddLnRefIdeal.τ).loc Cert.AddLnRefIdeal.main_arg1)
      ∧ r.2.mem ((c.tc : Thread Cert.AddLnRefIdeal.nD Cert.AddLnRefIdeal.τ).loc Cert.AddLnRefIdeal.main_arg2) = m ((c.tc : Thread Cert.AddLnRefIdeal.nD Cert.AddLnRefIdeal.τ).loc Cert.AddLnRefIdeal.main_arg2)
      ∧ r.2.mem ((c.tc : Thread Cert.AddLnRefIdeal.nD Cert.AddLnRefIdeal.τ).loc Cert.AddLnRefIdeal.main_arg3) = m ((c.tc : Thread Cert.AddLnRefIdeal.nD Cert.AddLnRefIdeal.τ).loc Cert.AddLnRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteIdeal_pre_scores_above_neg_inf [hRouteIdeal : Cert.RouteIdeal.Facts] [hPre_scores_above_neg_inf : Cert.Pre_scores_above_neg_inf.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_scores_above_neg_inf m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_RouteRefIdeal_pre_scores_above_neg_inf [hRouteRefIdeal : Cert.RouteRefIdeal.Facts] [hPre_scores_above_neg_inf : Cert.Pre_scores_above_neg_inf.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_scores_above_neg_inf m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3))
      ∧ r.2.sem = fun _ => 0)

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)) →
    ∃ (v0 : (c : Dev Cert.FoxIdeal.nD) → Buf (Elt Ideal) ((c.tc : Thread Cert.FoxIdeal.nD Cert.FoxIdeal.τ).loc Cert.FoxIdeal.main_v4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v4) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v40) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v27)) (v1 : (c : Dev Cert.ProjIdeal.nD) → Buf (Elt Ideal) ((c.tc : Thread Cert.ProjIdeal.nD Cert.ProjIdeal.τ).loc Cert.ProjIdeal.main_v28)) (v2 : (c : Dev Cert.ProjIdeal.nD) → Buf (Elt Ideal) ((c.tc : Thread Cert.ProjIdeal.nD Cert.ProjIdeal.τ).loc Cert.ProjIdeal.main_v24)) (v3 : (c : Dev Cert.ProjIdeal.nD) → Buf (Elt Ideal) ((c.tc : Thread Cert.ProjIdeal.nD Cert.ProjIdeal.τ).loc Cert.ProjIdeal.main_v30)) (v4 : (c : Dev Cert.ProjIdeal.nD) → Buf (Elt Ideal) ((c.tc : Thread Cert.ProjIdeal.nD Cert.ProjIdeal.τ).loc Cert.ProjIdeal.main_v33)) (v5 : (c : Dev Cert.ProjIdeal.nD) → Buf (Elt Ideal) ((c.tc : Thread Cert.ProjIdeal.nD Cert.ProjIdeal.τ).loc Cert.ProjIdeal.main_v34)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v27) = v0 c
          ∧ r.2.mem ((c.tc : Thread Cert.ProjIdeal.nD Cert.ProjIdeal.τ).loc Cert.ProjIdeal.main_v28) = v1 c
          ∧ r.2.mem ((c.tc : Thread Cert.ProjIdeal.nD Cert.ProjIdeal.τ).loc Cert.ProjIdeal.main_v24) = v2 c
          ∧ r.2.mem ((c.tc : Thread Cert.ProjIdeal.nD Cert.ProjIdeal.τ).loc Cert.ProjIdeal.main_v30) = v3 c
          ∧ r.2.mem ((c.tc : Thread Cert.ProjIdeal.nD Cert.ProjIdeal.τ).loc Cert.ProjIdeal.main_v33) = v4 c
          ∧ r.2.mem ((c.tc : Thread Cert.ProjIdeal.nD Cert.ProjIdeal.τ).loc Cert.ProjIdeal.main_v34) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_v8) = v2 c
          ∧ r.2.mem ((c.tc : Thread Cert.ProjRefIdeal.nD Cert.ProjRefIdeal.τ).loc Cert.ProjRefIdeal.main_v14) = v3 c
          ∧ r.2.mem ((c.tc : Thread Cert.ProjRefIdeal.nD Cert.ProjRefIdeal.τ).loc Cert.ProjRefIdeal.main_v16) = v4 c
          ∧ r.2.mem ((c.tc : Thread Cert.ProjRefIdeal.nD Cert.ProjRefIdeal.τ).loc Cert.ProjRefIdeal.main_v17) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)) →
    ∃ (v0 : (c : Dev Cert.ProjSIdeal.nD) → Buf (Elt Ideal) ((c.tc : Thread Cert.ProjSIdeal.nD Cert.ProjSIdeal.τ).loc Cert.ProjSIdeal.main_v32)) (v1 : (c : Dev Cert.ProjSIdeal.nD) → Buf (Elt Ideal) ((c.tc : Thread Cert.ProjSIdeal.nD Cert.ProjSIdeal.τ).loc Cert.ProjSIdeal.main_v33)) (v2 : (c : Dev Cert.ProjSIdeal.nD) → Buf (Elt Ideal) ((c.tc : Thread Cert.ProjSIdeal.nD Cert.ProjSIdeal.τ).loc Cert.ProjSIdeal.main_v35)) (v3 : (c : Dev Cert.ProjSIdeal.nD) → Buf (Elt Ideal) ((c.tc : Thread Cert.ProjSIdeal.nD Cert.ProjSIdeal.τ).loc Cert.ProjSIdeal.main_v36)) (v4 : (c : Dev Cert.ProjSIdeal.nD) → Buf (Elt Ideal) ((c.tc : Thread Cert.ProjSIdeal.nD Cert.ProjSIdeal.τ).loc Cert.ProjSIdeal.main_v37)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v32) = v0 c
          ∧ r.2.mem ((c.tc : Thread Cert.ProjSIdeal.nD Cert.ProjSIdeal.τ).loc Cert.ProjSIdeal.main_v33) = v1 c
          ∧ r.2.mem ((c.tc : Thread Cert.ProjSIdeal.nD Cert.ProjSIdeal.τ).loc Cert.ProjSIdeal.main_v35) = v2 c
          ∧ r.2.mem ((c.tc : Thread Cert.ProjSIdeal.nD Cert.ProjSIdeal.τ).loc Cert.ProjSIdeal.main_v36) = v3 c
          ∧ r.2.mem ((c.tc : Thread Cert.ProjSIdeal.nD Cert.ProjSIdeal.τ).loc Cert.ProjSIdeal.main_v37) = v4 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v2) = v0 c
          ∧ r.2.mem ((c.tc : Thread Cert.ProjSRefIdeal.nD Cert.ProjSRefIdeal.τ).loc Cert.ProjSRefIdeal.main_v5) = v1 c
          ∧ r.2.mem ((c.tc : Thread Cert.ProjSRefIdeal.nD Cert.ProjSRefIdeal.τ).loc Cert.ProjSRefIdeal.main_v15) = v2 c
          ∧ r.2.mem ((c.tc : Thread Cert.ProjSRefIdeal.nD Cert.ProjSRefIdeal.τ).loc Cert.ProjSRefIdeal.main_v17) = v3 c
          ∧ r.2.mem ((c.tc : Thread Cert.ProjSRefIdeal.nD Cert.ProjSRefIdeal.τ).loc Cert.ProjSRefIdeal.main_v18) = v4 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)) →
    ∃ (v0 : (c : Dev Cert.SmallIdeal.nD) → Buf (Elt Ideal) ((c.tc : Thread Cert.SmallIdeal.nD Cert.SmallIdeal.τ).loc Cert.SmallIdeal.main_v27)) (v1 : (c : Dev Cert.SmallIdeal.nD) → Buf (Elt Ideal) ((c.tc : Thread Cert.SmallIdeal.nD Cert.SmallIdeal.τ).loc Cert.SmallIdeal.main_v28)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v27) = v0 c
          ∧ r.2.mem ((c.tc : Thread Cert.SmallIdeal.nD Cert.SmallIdeal.τ).loc Cert.SmallIdeal.main_v28) = v1 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v14) = v0 c
          ∧ r.2.mem ((c.tc : Thread Cert.SmallRefIdeal.nD Cert.SmallRefIdeal.τ).loc Cert.SmallRefIdeal.main_v20) = v1 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2))

def preserves_SmallS_SmallSIdeal : Prop :=
  True

def algebraic_SmallSIdeal_SmallSRefIdeal [hSmallSIdeal : Cert.SmallSIdeal.Facts] [hSmallSRefIdeal : Cert.SmallSRefIdeal.Facts] : Prop :=
  ∀ (m : (ℓ : Loc Cert.SmallSIdeal.nD Cert.SmallSIdeal.τ Cert.SmallSIdeal.sig) → Buf (Elt Ideal) ℓ) (g : Dev Cert.SmallSIdeal.nD → PrngReg)
    (m' : (ℓ : Loc Cert.SmallSRefIdeal.nD Cert.SmallSRefIdeal.τ Cert.SmallSRefIdeal.sig) → Buf (Elt Ideal) ℓ) (g' : Dev Cert.SmallSRefIdeal.nD → PrngReg), Pre_SmallSIdeal m →
    (∀ c : Dev Cert.SmallSIdeal.nD,
      m' ((c.tc : Thread Cert.SmallSRefIdeal.nD Cert.SmallSRefIdeal.τ).loc Cert.SmallSRefIdeal.main_arg0) = m ((c.tc : Thread Cert.SmallSIdeal.nD Cert.SmallSIdeal.τ).loc Cert.SmallSIdeal.main_arg0)
      ∧ m' ((c.tc : Thread Cert.SmallSRefIdeal.nD Cert.SmallSRefIdeal.τ).loc Cert.SmallSRefIdeal.main_arg1) = m ((c.tc : Thread Cert.SmallSIdeal.nD Cert.SmallSIdeal.τ).loc Cert.SmallSIdeal.main_arg1)
      ∧ m' ((c.tc : Thread Cert.SmallSRefIdeal.nD Cert.SmallSRefIdeal.τ).loc Cert.SmallSRefIdeal.main_arg2) = m ((c.tc : Thread Cert.SmallSIdeal.nD Cert.SmallSIdeal.τ).loc Cert.SmallSIdeal.main_arg2)) →
    ∃ (v0 : (c : Dev Cert.SmallSIdeal.nD) → Buf (Elt Ideal) ((c.tc : Thread Cert.SmallSIdeal.nD Cert.SmallSIdeal.τ).loc Cert.SmallSIdeal.main_v27)) (v1 : (c : Dev Cert.SmallSIdeal.nD) → Buf (Elt Ideal) ((c.tc : Thread Cert.SmallSIdeal.nD Cert.SmallSIdeal.τ).loc Cert.SmallSIdeal.main_v28)),
      θ_run (Cert.SmallSIdeal.defs (F := Ideal)) (onTc (τ := Cert.SmallSIdeal.τ) (Cert.SmallSIdeal.main (F := Ideal))) ⟨m, fun _ => 0, g⟩ (fun r => ∀ c : Dev Cert.SmallSIdeal.nD,
          r.2.mem ((c.tc : Thread Cert.SmallSIdeal.nD Cert.SmallSIdeal.τ).loc Cert.SmallSIdeal.main_v27) = v0 c
          ∧ r.2.mem ((c.tc : Thread Cert.SmallSIdeal.nD Cert.SmallSIdeal.τ).loc Cert.SmallSIdeal.main_v28) = v1 c
          ∧ r.2.mem ((c.tc : Thread Cert.SmallSIdeal.nD Cert.SmallSIdeal.τ).loc Cert.SmallSIdeal.main_arg0) = m ((c.tc : Thread Cert.SmallSIdeal.nD Cert.SmallSIdeal.τ).loc Cert.SmallSIdeal.main_arg0)
          ∧ r.2.mem ((c.tc : Thread Cert.SmallSIdeal.nD Cert.SmallSIdeal.τ).loc Cert.SmallSIdeal.main_arg1) = m ((c.tc : Thread Cert.SmallSIdeal.nD Cert.SmallSIdeal.τ).loc Cert.SmallSIdeal.main_arg1)
          ∧ r.2.mem ((c.tc : Thread Cert.SmallSIdeal.nD Cert.SmallSIdeal.τ).loc Cert.SmallSIdeal.main_arg2) = m ((c.tc : Thread Cert.SmallSIdeal.nD Cert.SmallSIdeal.τ).loc Cert.SmallSIdeal.main_arg2))
      ∧ θ_run (Cert.SmallSRefIdeal.defs (F := Ideal)) (onTc (τ := Cert.SmallSRefIdeal.τ) (Cert.SmallSRefIdeal.main (F := Ideal))) ⟨m', fun _ => 0, g'⟩ (fun r => ∀ c : Dev Cert.SmallSRefIdeal.nD,
          r.2.mem ((c.tc : Thread Cert.SmallSRefIdeal.nD Cert.SmallSRefIdeal.τ).loc Cert.SmallSRefIdeal.main_v14) = v0 c
          ∧ r.2.mem ((c.tc : Thread Cert.SmallSRefIdeal.nD Cert.SmallSRefIdeal.τ).loc Cert.SmallSRefIdeal.main_v20) = v1 c
          ∧ r.2.mem ((c.tc : Thread Cert.SmallSRefIdeal.nD Cert.SmallSRefIdeal.τ).loc Cert.SmallSRefIdeal.main_arg0) = m' ((c.tc : Thread Cert.SmallSRefIdeal.nD Cert.SmallSRefIdeal.τ).loc Cert.SmallSRefIdeal.main_arg0)
          ∧ r.2.mem ((c.tc : Thread Cert.SmallSRefIdeal.nD Cert.SmallSRefIdeal.τ).loc Cert.SmallSRefIdeal.main_arg1) = m' ((c.tc : Thread Cert.SmallSRefIdeal.nD Cert.SmallSRefIdeal.τ).loc Cert.SmallSRefIdeal.main_arg1)
          ∧ r.2.mem ((c.tc : Thread Cert.SmallSRefIdeal.nD Cert.SmallSRefIdeal.τ).loc Cert.SmallSRefIdeal.main_arg2) = m' ((c.tc : Thread Cert.SmallSRefIdeal.nD Cert.SmallSRefIdeal.τ).loc Cert.SmallSRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v8)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v55) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_AddLn_AddLnIdeal : Prop :=
  True

def algebraic_AddLnIdeal_AddLnRefIdeal [hAddLnIdeal : Cert.AddLnIdeal.Facts] [hAddLnRefIdeal : Cert.AddLnRefIdeal.Facts] : Prop :=
  ∀ (m : (ℓ : Loc Cert.AddLnIdeal.nD Cert.AddLnIdeal.τ Cert.AddLnIdeal.sig) → Buf (Elt Ideal) ℓ) (g : Dev Cert.AddLnIdeal.nD → PrngReg)
    (m' : (ℓ : Loc Cert.AddLnRefIdeal.nD Cert.AddLnRefIdeal.τ Cert.AddLnRefIdeal.sig) → Buf (Elt Ideal) ℓ) (g' : Dev Cert.AddLnRefIdeal.nD → PrngReg), Pre_AddLnIdeal m →
    (∀ c : Dev Cert.AddLnIdeal.nD,
      m' ((c.tc : Thread Cert.AddLnRefIdeal.nD Cert.AddLnRefIdeal.τ).loc Cert.AddLnRefIdeal.main_arg0) = m ((c.tc : Thread Cert.AddLnIdeal.nD Cert.AddLnIdeal.τ).loc Cert.AddLnIdeal.main_arg0)
      ∧ m' ((c.tc : Thread Cert.AddLnRefIdeal.nD Cert.AddLnRefIdeal.τ).loc Cert.AddLnRefIdeal.main_arg1) = m ((c.tc : Thread Cert.AddLnIdeal.nD Cert.AddLnIdeal.τ).loc Cert.AddLnIdeal.main_arg1)
      ∧ m' ((c.tc : Thread Cert.AddLnRefIdeal.nD Cert.AddLnRefIdeal.τ).loc Cert.AddLnRefIdeal.main_arg2) = m ((c.tc : Thread Cert.AddLnIdeal.nD Cert.AddLnIdeal.τ).loc Cert.AddLnIdeal.main_arg2)
      ∧ m' ((c.tc : Thread Cert.AddLnRefIdeal.nD Cert.AddLnRefIdeal.τ).loc Cert.AddLnRefIdeal.main_arg3) = m ((c.tc : Thread Cert.AddLnIdeal.nD Cert.AddLnIdeal.τ).loc Cert.AddLnIdeal.main_arg3)) →
    ∃ (v0 : (c : Dev Cert.AddLnIdeal.nD) → Buf (Elt Ideal) ((c.tc : Thread Cert.AddLnIdeal.nD Cert.AddLnIdeal.τ).loc Cert.AddLnIdeal.main_v4)),
      θ_run (Cert.AddLnIdeal.defs (F := Ideal)) (onTc (τ := Cert.AddLnIdeal.τ) (Cert.AddLnIdeal.main (F := Ideal))) ⟨m, fun _ => 0, g⟩ (fun r => ∀ c : Dev Cert.AddLnIdeal.nD,
          r.2.mem ((c.tc : Thread Cert.AddLnIdeal.nD Cert.AddLnIdeal.τ).loc Cert.AddLnIdeal.main_v4) = v0 c
          ∧ r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
          ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
          ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
          ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ θ_run (Cert.AddLnRefIdeal.defs (F := Ideal)) (onTc (τ := Cert.AddLnRefIdeal.τ) (Cert.AddLnRefIdeal.main (F := Ideal))) ⟨m', fun _ => 0, g'⟩ (fun r => ∀ c : Dev Cert.AddLnRefIdeal.nD,
          r.2.mem ((c.tc : Thread Cert.AddLnRefIdeal.nD Cert.AddLnRefIdeal.τ).loc Cert.AddLnRefIdeal.main_v27) = v0 c
          ∧ r.2.mem ((c.tc : Thread Cert.AddLnRefIdeal.nD Cert.AddLnRefIdeal.τ).loc Cert.AddLnRefIdeal.main_arg0) = m' ((c.tc : Thread Cert.AddLnRefIdeal.nD Cert.AddLnRefIdeal.τ).loc Cert.AddLnRefIdeal.main_arg0)
          ∧ r.2.mem ((c.tc : Thread Cert.AddLnRefIdeal.nD Cert.AddLnRefIdeal.τ).loc Cert.AddLnRefIdeal.main_arg1) = m' ((c.tc : Thread Cert.AddLnRefIdeal.nD Cert.AddLnRefIdeal.τ).loc Cert.AddLnRefIdeal.main_arg1)
          ∧ r.2.mem ((c.tc : Thread Cert.AddLnRefIdeal.nD Cert.AddLnRefIdeal.τ).loc Cert.AddLnRefIdeal.main_arg2) = m' ((c.tc : Thread Cert.AddLnRefIdeal.nD Cert.AddLnRefIdeal.τ).loc Cert.AddLnRefIdeal.main_arg2)
          ∧ r.2.mem ((c.tc : Thread Cert.AddLnRefIdeal.nD Cert.AddLnRefIdeal.τ).loc Cert.AddLnRefIdeal.main_arg3) = m' ((c.tc : Thread Cert.AddLnRefIdeal.nD Cert.AddLnRefIdeal.τ).loc Cert.AddLnRefIdeal.main_arg3))

def preserves_Route_RouteIdeal : Prop :=
  True

def algebraic_RouteIdeal_RouteRefIdeal_pre_scores_above_neg_inf [hRouteIdeal : Cert.RouteIdeal.Facts] [hRouteRefIdeal : Cert.RouteRefIdeal.Facts] [hPre_scores_above_neg_inf : Cert.Pre_scores_above_neg_inf.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_scores_above_neg_inf m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)) →
    ∃ (v0 : (c : Dev Cert.RouteIdeal.nD) → Buf (Elt Ideal) ((c.tc : Thread Cert.RouteIdeal.nD Cert.RouteIdeal.τ).loc Cert.RouteIdeal.main_v3_0)) (v1 : (c : Dev Cert.RouteIdeal.nD) → Buf (Elt Ideal) ((c.tc : Thread Cert.RouteIdeal.nD Cert.RouteIdeal.τ).loc Cert.RouteIdeal.main_v3_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v3_0) = v0 c
          ∧ r.2.mem ((c.tc : Thread Cert.RouteIdeal.nD Cert.RouteIdeal.τ).loc Cert.RouteIdeal.main_v3_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v37) = v0 c
          ∧ r.2.mem ((c.tc : Thread Cert.RouteRefIdeal.nD Cert.RouteRefIdeal.τ).loc Cert.RouteRefIdeal.main_v39) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)) →
    ∃ (v0 : (c : Dev Cert.CmpIdeal.nD) → Buf (Elt Ideal) ((c.tc : Thread Cert.CmpIdeal.nD Cert.CmpIdeal.τ).loc Cert.CmpIdeal.main_v3)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v3) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v91) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3))

def Claim : Prop :=
  ∃ (hFox : Cert.Fox.Facts) (hFoxIdeal : Cert.FoxIdeal.Facts) (hFoxRefIdeal : Cert.FoxRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hSmall : Cert.Small.Facts) (hSmallIdeal : Cert.SmallIdeal.Facts) (hSmallRefIdeal : Cert.SmallRefIdeal.Facts) (hSmallS : Cert.SmallS.Facts) (hSmallSIdeal : Cert.SmallSIdeal.Facts) (hSmallSRefIdeal : Cert.SmallSRefIdeal.Facts) (hPost : Cert.Post.Facts) (hPostIdeal : Cert.PostIdeal.Facts) (hPostRefIdeal : Cert.PostRefIdeal.Facts) (hAddLn : Cert.AddLn.Facts) (hAddLnIdeal : Cert.AddLnIdeal.Facts) (hAddLnRefIdeal : Cert.AddLnRefIdeal.Facts) (hRoute : Cert.Route.Facts) (hRouteIdeal : Cert.RouteIdeal.Facts) (hRouteRefIdeal : Cert.RouteRefIdeal.Facts) (hCmp : Cert.Cmp.Facts) (hCmpIdeal : Cert.CmpIdeal.Facts) (hCmpRefIdeal : Cert.CmpRefIdeal.Facts) (hPre_scores_above_neg_inf : Cert.Pre_scores_above_neg_inf.Facts),
    quiescent_Fox (hFox := hFox)
    ∧ quiescent_FoxIdeal (hFoxIdeal := hFoxIdeal)
    ∧ quiescent_FoxRefIdeal (hFoxRefIdeal := hFoxRefIdeal)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Small (hSmall := hSmall)
    ∧ quiescent_SmallIdeal (hSmallIdeal := hSmallIdeal)
    ∧ quiescent_SmallRefIdeal (hSmallRefIdeal := hSmallRefIdeal)
    ∧ quiescent_SmallS (hSmallS := hSmallS)
    ∧ quiescent_SmallSIdeal (hSmallSIdeal := hSmallSIdeal)
    ∧ quiescent_SmallSRefIdeal (hSmallSRefIdeal := hSmallSRefIdeal)
    ∧ quiescent_Post (hPost := hPost)
    ∧ quiescent_PostIdeal (hPostIdeal := hPostIdeal)
    ∧ quiescent_PostRefIdeal (hPostRefIdeal := hPostRefIdeal)
    ∧ quiescent_AddLn (hAddLn := hAddLn)
    ∧ quiescent_AddLnIdeal (hAddLnIdeal := hAddLnIdeal)
    ∧ quiescent_AddLnRefIdeal (hAddLnRefIdeal := hAddLnRefIdeal)
    ∧ quiescent_Route (hRoute := hRoute)
    ∧ quiescent_RouteIdeal (hRouteIdeal := hRouteIdeal)
    ∧ quiescent_RouteIdeal_pre_scores_above_neg_inf (hRouteIdeal := hRouteIdeal) (hPre_scores_above_neg_inf := hPre_scores_above_neg_inf)
    ∧ quiescent_RouteRefIdeal (hRouteRefIdeal := hRouteRefIdeal)
    ∧ quiescent_RouteRefIdeal_pre_scores_above_neg_inf (hRouteRefIdeal := hRouteRefIdeal) (hPre_scores_above_neg_inf := hPre_scores_above_neg_inf)
    ∧ quiescent_Cmp (hCmp := hCmp)
    ∧ quiescent_CmpIdeal (hCmpIdeal := hCmpIdeal)
    ∧ quiescent_CmpRefIdeal (hCmpRefIdeal := hCmpRefIdeal)
    ∧ preserves_Fox_FoxIdeal
    ∧ algebraic_FoxIdeal_FoxRefIdeal (hFoxIdeal := hFoxIdeal) (hFoxRefIdeal := hFoxRefIdeal)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_Small_SmallIdeal
    ∧ algebraic_SmallIdeal_SmallRefIdeal (hSmallIdeal := hSmallIdeal) (hSmallRefIdeal := hSmallRefIdeal)
    ∧ preserves_SmallS_SmallSIdeal
    ∧ algebraic_SmallSIdeal_SmallSRefIdeal (hSmallSIdeal := hSmallSIdeal) (hSmallSRefIdeal := hSmallSRefIdeal)
    ∧ preserves_Post_PostIdeal
    ∧ algebraic_PostIdeal_PostRefIdeal (hPostIdeal := hPostIdeal) (hPostRefIdeal := hPostRefIdeal)
    ∧ preserves_AddLn_AddLnIdeal
    ∧ algebraic_AddLnIdeal_AddLnRefIdeal (hAddLnIdeal := hAddLnIdeal) (hAddLnRefIdeal := hAddLnRefIdeal)
    ∧ preserves_Route_RouteIdeal
    ∧ algebraic_RouteIdeal_RouteRefIdeal_pre_scores_above_neg_inf (hRouteIdeal := hRouteIdeal) (hRouteRefIdeal := hRouteRefIdeal) (hPre_scores_above_neg_inf := hPre_scores_above_neg_inf)
    ∧ preserves_Cmp_CmpIdeal
    ∧ algebraic_CmpIdeal_CmpRefIdeal (hCmpIdeal := hCmpIdeal) (hCmpRefIdeal := hCmpRefIdeal)
-- ==== Pre_scores_above_neg_inf.lean ====
abbrev S16384x2048 : Shape := ⟨2, ![16384, 2048]⟩
abbrev S2048x2048 : Shape := ⟨2, ![2048, 2048]⟩
abbrev S8x2x128x128 : Shape := ⟨4, ![8, 2, 128, 128]⟩
abbrev S16384x8x2x128 : Shape := ⟨4, ![16384, 8, 2, 128]⟩
abbrev S8x2x128x16384 : Shape := ⟨4, ![8, 2, 128, 16384]⟩
abbrev S_ : Shape := ⟨0, ![]⟩

class Facts : Prop where
  shapeCasts_S16384x2048_S16384x8x2x128 : S16384x2048.ShapeCasts S16384x8x2x128
  transposes_S8x2x128x16384_S16384x8x2x128_3_0_1_2 : S8x2x128x16384.Transposes [3, 0, 1, 2] S16384x8x2x128
  bcast_S_S16384x8x2x128 : S_.BroadcastsInDim S16384x8x2x128 (![] : Fin 0 → Fin S16384x8x2x128.rank)
  dot_S16384x2048_S2048x2048_S16384x2048_1_0_0_1_n_n_wf : DotDims.WF S16384x2048 S2048x2048 S16384x2048 [1] [0] [0] [1] [] []
  dot_S8x2x128x128_S16384x8x2x128_S8x2x128x16384_3_3_2_0_01_12_wf : DotDims.WF S8x2x128x128 S16384x8x2x128 S8x2x128x16384 [3] [3] [2] [0] [0, 1] [1, 2]

variable [Facts]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S8x2x128x128_S16384x8x2x128_S8x2x128x16384_3_3_2_0_01_12 : DotDims S8x2x128x128 S16384x8x2x128 S8x2x128x16384 where
  lhsContracting := [3]
  rhsContracting := [3]
  lhsNonContracting := [2]
  rhsNonContracting := [0]
  lhsBatch := [0, 1]
  rhsBatch := [1, 2]
  wf := dot_S8x2x128x128_S16384x8x2x128_S8x2x128x16384_3_3_2_0_01_12_wf
def fn {F : FTy → Type} [FloatOps F] (main_arg0 : FVec F S16384x2048 .f32) (main_arg1 : FVec F S2048x2048 .f32) (main_arg2 : FVec F S8x2x128x128 .f32) : IVec S16384x8x2x128 1 :=
  let main_v0 : FVec F S16384x2048 .f32 := (fun l r => Host.dotGeneral dot_S16384x2048_S2048x2048_S16384x2048_1_0_0_1_n_n none l r) main_arg0 main_arg1
  let main_v1 : FVec F S16384x8x2x128 .f32 := shapeCast S16384x8x2x128 main_v0 shapeCasts_S16384x2048_S16384x8x2x128
  let main_v2 : FVec F S8x2x128x16384 .f32 := (fun l r => Host.dotGeneral dot_S8x2x128x128_S16384x8x2x128_S8x2x128x16384_3_3_2_0_01_12 none l r) main_arg2 main_v1
  let main_v3 : FVec F S16384x8x2x128 .f32 := (transpose S16384x8x2x128 [3, 0, 1, 2] · transposes_S8x2x128x16384_S16384x8x2x128_3_0_1_2) main_v2
  let main_cst : FVec F S_ .f32 := constant S_ .f32 0xFF800000#32
  let main_v4 : FVec F S16384x8x2x128 .f32 := broadcastInDim S16384x8x2x128 ![] bcast_S_S16384x8x2x128 main_cst
  let main_v5 : IVec S16384x8x2x128 1 := cmpf .ogt main_v3 main_v4
  main_v5
-- ==== Fox.lean ====
abbrev S8x2048x5632 : Shape := ⟨3, ![8, 2048, 5632]⟩
abbrev S8x2048x8 : Shape := ⟨3, ![8, 2048, 8]⟩
abbrev S_ : Shape := ⟨0, ![]⟩
abbrev S8x8x2048 : Shape := ⟨3, ![8, 8, 2048]⟩
abbrev S8x8x2048x1 : Shape := ⟨4, ![8, 8, 2048, 1]⟩
abbrev S8x8x4x1x512 : Shape := ⟨5, ![8, 8, 4, 1, 512]⟩
abbrev S8x2048x1024 : Shape := ⟨3, ![8, 2048, 1024]⟩
abbrev S1x256x128 : Shape := ⟨3, ![1, 256, 128]⟩
abbrev S1x2048x128 : Shape := ⟨3, ![1, 2048, 128]⟩
abbrev S1x1x256x1 : Shape := ⟨4, ![1, 1, 256, 1]⟩
abbrev S1x1x4x1x512 : Shape := ⟨5, ![1, 1, 4, 1, 512]⟩
abbrev S256x1 : Shape := ⟨2, ![256, 1]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S1x1x1x1x512 : Shape := ⟨5, ![1, 1, 1, 1, 512]⟩
abbrev S1x512 : Shape := ⟨2, ![1, 512]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x5632, .f32⟩
  | .hbm, ⟨1, _⟩ => ⟨S8x2048x8, .f32⟩
  | .hbm, ⟨2, _⟩ => ⟨S_, .f32⟩
  | .hbm, ⟨3, _⟩ => ⟨S_, .f32⟩
  | .hbm, ⟨4, _⟩ => ⟨S8x2048x8, .f32⟩
  | .hbm, ⟨5, _⟩ => ⟨S8x8x2048, .f32⟩
  | .hbm, ⟨6, _⟩ => ⟨S8x8x2048x1, .f32⟩
  | .hbm, ⟨7, _⟩ => ⟨S8x8x4x1x512, .f32⟩
  | .hbm, ⟨8, _⟩ => ⟨S8x2048x1024, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x256x1, .f32⟩
  | .local _ .vmem, ⟨7, _⟩ => ⟨S1x1x256x1, .f32⟩
  | .local _ .vmem, ⟨8, _⟩ => ⟨S1x1x4x1x512, .f32⟩
  | .local _ .vmem, ⟨9, _⟩ => ⟨S1x1x4x1x512, .f32⟩
  | .local _ .vmem, ⟨10, _⟩ => ⟨S1x256x128, .f32⟩
  | .local _ .vmem, ⟨11, _⟩ => ⟨S1x256x128, .f32⟩
  | .local _ .vmem, ⟨12, _⟩ => ⟨S256x1, .f32⟩
  | .local _ .vmem, ⟨13, _⟩ => ⟨S256x1, .f32⟩
  | .local _ .vmem, ⟨14, _⟩ => ⟨S256x128, .f32⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_call0_cst : Ref sig .tc := ⟨.hbm, 2, rfl⟩
abbrev main_call0_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_14 : BitVec 32 := 0#32
  let arg2 : BitVec 32 := BitVec.ofNat 32 (i 2).val
  let c256_i32 : BitVec 32 := 256#32
  let v17 : BitVec 32 := Scalar.muli arg2 c256_i32
  let c9_i32 : BitVec 32 := 9#32
  let v18 : BitVec 32 := Scalar.shrsi v17 c9_i32
  let c1_i32 : BitVec 32 := 1#32
  let v19 : BitVec 32 := Scalar.addi v18 c1_i32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let c1_i32_16 : BitVec 32 := 1#32
  ⟨c0_i32_14, v24, c1_i32_16⟩
def k0_mult1 (i : grid0.Coords) (k0_t1 : Fin (k0_t1_loop i).trips) : BitVec 32 :=
  let c0_i32_14 : BitVec 32 := 0#32
  let c1_i32_16 : BitVec 32 := 1#32
  let arg12 : BitVec 32 := Scf.iv c0_i32_14 c1_i32_16 k0_t1
  let c512_i32 : BitVec 32 := 512#32
  let v34 : BitVec 32 := Scalar.muli arg12 c512_i32
  v34
def k0_off1 (i : grid0.Coords) (k0_t1 : Fin (k0_t1_loop i).trips) : Fin 3 → Nat :=
  let c0_26 : Index := 0#32
  let c0_i32_14 : BitVec 32 := 0#32
  let c1_i32_16 : BitVec 32 := 1#32
  let arg12 : BitVec 32 := Scf.iv c0_i32_14 c1_i32_16 k0_t1
  let c512_i32 : BitVec 32 := 512#32
  let v34 : BitVec 32 := Scalar.muli arg12 c512_i32
  let v35 : BitVec 32 := v34
  let v36 : Index := Scalar.indexCast v35
  let c0_27 : Index := 0#32
  ![0, v36.toNat, 0]
def k0_off2 (i : grid0.Coords) (k0_t1 : Fin (k0_t1_loop i).trips) : Fin 5 → Nat :=
  let c0_32 : Index := 0#32
  let c0_33 : Index := 0#32
  let c0_i32_14 : BitVec 32 := 0#32
  let c1_i32_16 : BitVec 32 := 1#32
  let arg12 : BitVec 32 := Scf.iv c0_i32_14 c1_i32_16 k0_t1
  let v49 : Index := Scalar.indexCast arg12
  let c0_34 : Index := 0#32
  let c0_35 : Index := 0#32
  ![0, 0, v49.toNat, 0, 0]
@[reducible] def k0_t2_loop (i : grid0.Coords) : Scf.Loop 32 :=
  let c0_i32_14 : BitVec 32 := 0#32
  let arg2 : BitVec 32 := BitVec.ofNat 32 (i 2).val
  let c256_i32 : BitVec 32 := 256#32
  let v17 : BitVec 32 := Scalar.muli arg2 c256_i32
  let c9_i32 : BitVec 32 := 9#32
  let v18 : BitVec 32 := Scalar.shrsi v17 c9_i32
  let c1_i32 : BitVec 32 := 1#32
  let v19 : BitVec 32 := Scalar.addi v18 c1_i32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let v21 : BitVec 32 := Scalar.addi c0_i32_14 v20
  let c1_i32_17 : BitVec 32 := 1#32
  ⟨v24, v21, c1_i32_17⟩
def k0_mult2 (i : grid0.Coords) (k0_t2 : Fin (k0_t2_loop i).trips) : BitVec 32 :=
  let c0_i32_14 : BitVec 32 := 0#32
  let arg2 : BitVec 32 := BitVec.ofNat 32 (i 2).val
  let c256_i32 : BitVec 32 := 256#32
  let v17 : BitVec 32 := Scalar.muli arg2 c256_i32
  let c9_i32 : BitVec 32 := 9#32
  let v18 : BitVec 32 := Scalar.shrsi v17 c9_i32
  let c1_i32 : BitVec 32 := 1#32
  let v19 : BitVec 32 := Scalar.addi v18 c1_i32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let c1_i32_17 : BitVec 32 := 1#32
  let arg12 : BitVec 32 := Scf.iv v24 c1_i32_17 k0_t2
  let c512_i32 : BitVec 32 := 512#32
  let v34 : BitVec 32 := Scalar.muli arg12 c512_i32
  v34
def k0_off3 (i : grid0.Coords) (k0_t2 : Fin (k0_t2_loop i).trips) : Fin 3 → Nat :=
  let c0_26 : Index := 0#32
  let c0_i32_14 : BitVec 32 := 0#32
  let arg2 : BitVec 32 := BitVec.ofNat 32 (i 2).val
  let c256_i32 : BitVec 32 := 256#32
  let v17 : BitVec 32 := Scalar.muli arg2 c256_i32
  let c9_i32 : BitVec 32 := 9#32
  let v18 : BitVec 32 := Scalar.shrsi v17 c9_i32
  let c1_i32 : BitVec 32 := 1#32
  let v19 : BitVec 32 := Scalar.addi v18 c1_i32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let c1_i32_17 : BitVec 32 := 1#32
  let arg12 : BitVec 32 := Scf.iv v24 c1_i32_17 k0_t2
  let c512_i32 : BitVec 32 := 512#32
  let v34 : BitVec 32 := Scalar.muli arg12 c512_i32
  let v35 : BitVec 32 := v34
  let v36 : Index := Scalar.indexCast v35
  let c0_27 : Index := 0#32
  ![0, v36.toNat, 0]
def k0_off4 (i : grid0.Coords) (k0_t2 : Fin (k0_t2_loop i).trips) : Fin 5 → Nat :=
  let c0_32 : Index := 0#32
  let c0_33 : Index := 0#32
  let c0_i32_14 : BitVec 32 := 0#32
  let arg2 : BitVec 32 := BitVec.ofNat 32 (i 2).val
  let c256_i32 : BitVec 32 := 256#32
  let v17 : BitVec 32 := Scalar.muli arg2 c256_i32
  let c9_i32 : BitVec 32 := 9#32
  let v18 : BitVec 32 := Scalar.shrsi v17 c9_i32
  let c1_i32 : BitVec 32 := 1#32
  let v19 : BitVec 32 := Scalar.addi v18 c1_i32
  let v20 : BitVec 32 := Scalar.subi v19 c0_i32_14
  let c1_i32_15 : BitVec 32 := 1#32
  let v22 : BitVec 32 := Scalar.divsi v20 c1_i32_15
  let v23 : BitVec 32 := Scalar.muli v22 c1_i32_15
  let v24 : BitVec 32 := Scalar.addi c0_i32_14 v23
  let c1_i32_17 : BitVec 32 := 1#32
  let arg12 : BitVec 32 := Scf.iv v24 c1_i32_17 k0_t2
  let v49 : Index := Scalar.indexCast arg12
  let c0_34 : Index := 0#32
  let c0_35 : Index := 0#32
  ![0, 0, v49.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S8x2048x5632 : Shape := ⟨3, ![8, 2048, 5632]⟩
abbrev S8x2048x8 : Shape := ⟨3, ![8, 2048, 8]⟩
abbrev S8x2048x1024 : Shape := ⟨3, ![8, 2048, 1024]⟩
abbrev S8x2048x8x128 : Shape := ⟨4, ![8, 2048, 8, 128]⟩
abbrev S8x2048x2048 : Shape := ⟨3, ![8, 2048, 2048]⟩
abbrev S8x2048x2x8x128 : Shape := ⟨5, ![8, 2048, 2, 8, 128]⟩
abbrev S8x2048x1x8x128 : Shape := ⟨5, ![8, 2048, 1, 8, 128]⟩
abbrev S_ : Shape := ⟨0, ![]⟩
abbrev S8x8x2048 : Shape := ⟨3, ![8, 8, 2048]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x128x2048 : Shape := ⟨4, ![8, 8, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x5632, .f32⟩
  | .hbm, ⟨1, _⟩ => ⟨S8x2048x8, .f32⟩
  | .hbm, ⟨2, _⟩ => ⟨S8x2048x1024, .f32⟩
  | .hbm, ⟨3, _⟩ => ⟨S8x2048x8x128, .f32⟩
  | .hbm, ⟨4, _⟩ => ⟨S8x2048x2048, .f32⟩
  | .hbm, ⟨5, _⟩ => ⟨S8x2048x2x8x128, .f32⟩
  | .hbm, ⟨6, _⟩ => ⟨S8x2048x1x8x128, .f32⟩
  | .hbm, ⟨7, _⟩ => ⟨S8x2048x8x128, .f32⟩
  | .hbm, ⟨8, _⟩ => ⟨S8x2048x1x8x128, .f32⟩
  | .hbm, ⟨9, _⟩ => ⟨S8x2048x8x128, .f32⟩
  | .hbm, ⟨10, _⟩ => ⟨S_, .f32⟩
  | .hbm, ⟨11, _⟩ => ⟨S_, .f32⟩
  | .hbm, ⟨12, _⟩ => ⟨S8x2048x8, .f32⟩
  | .hbm, ⟨13, _⟩ => ⟨S8x8x2048, .f32⟩
  | .hbm, ⟨14, _⟩ => ⟨S8x8x2048x2048, .f32⟩
  | .hbm, ⟨15, _⟩ => ⟨S_, .f32⟩
  | .hbm, ⟨16, _⟩ => ⟨S8x8x2048x2048, .f32⟩
  | .hbm, ⟨17, _⟩ => ⟨S8x8x2048x2048, .f32⟩
  | .hbm, ⟨18, _⟩ => ⟨S8x8x2048x1, .f32⟩
  | .hbm, ⟨19, _⟩ => ⟨S8x8x2048x2048, .f32⟩
  | .hbm, ⟨20, _⟩ => ⟨S8x8x2048x2048, .f32⟩
  | .hbm, ⟨21, _⟩ => ⟨S8x8x1x2048, .f32⟩
  | .hbm, ⟨22, _⟩ => ⟨S8x8x2048x2048, .f32⟩
  | .hbm, ⟨23, _⟩ => ⟨S8x8x2048x2048, .f32⟩
  | .hbm, ⟨24, _⟩ => ⟨S2048, .i32⟩
  | .hbm, ⟨25, _⟩ => ⟨S1x2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S8x8x2048x2048, .i1⟩
  | .hbm, ⟨33, _⟩ => ⟨S8x8x2048x2048, .f32⟩
  | .hbm, ⟨34, _⟩ => ⟨S8x8x2048x2048, .f32⟩
  | .hbm, ⟨35, _⟩ => ⟨S_, .f32⟩
  | .hbm, ⟨36, _⟩ => ⟨S8x8x2048, .f32⟩
  | .hbm, ⟨37, _⟩ => ⟨S8x8x2048x1, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S_, .f32⟩
  | .hbm, ⟨43, _⟩ => ⟨S8x8x2048x2048, .i1⟩
  | .hbm, ⟨44, _⟩ => ⟨S8x8x2048x2048, .f32⟩
  | .hbm, ⟨45, _⟩ => ⟨S8x8x2048x2048, .f32⟩
  | .hbm, ⟨46, _⟩ => ⟨S_, .f32⟩
  | .hbm, ⟨47, _⟩ => ⟨S8x8x2048, .f32⟩
  | .hbm, ⟨48, _⟩ => ⟨S8x8x2048x1, .f32⟩
  | .hbm, ⟨49, _⟩ => ⟨S_, .f32⟩
  | .hbm, ⟨50, _⟩ => ⟨S8x8x2048x1, .f32⟩
  | .hbm, ⟨51, _⟩ => ⟨S8x8x2048x1, .f32⟩
  | .hbm, ⟨52, _⟩ => ⟨S8x8x2048x2048, .f32⟩
  | .hbm, ⟨53, _⟩ => ⟨S8x8x2048x2048, .f32⟩
  | .hbm, ⟨54, _⟩ => ⟨S8x8x128x2048, .f32⟩
  | .hbm, ⟨55, _⟩ => ⟨S8x2048x8x128, .f32⟩
  | .hbm, ⟨56, _⟩ => ⟨S8x2048x1024, .f32⟩
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_call0_cst : Ref sig .tc := ⟨.hbm, 10, rfl⟩
abbrev main_call0_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proj.lean ====
abbrev S8x2048x2048 : Shape := ⟨3, ![8, 2048, 2048]⟩
abbrev S1x2048x5664 : Shape := ⟨3, ![1, 2048, 5664]⟩
abbrev S2048x5664 : Shape := ⟨2, ![2048, 5664]⟩
abbrev S_ : Shape := ⟨0, ![]⟩
abbrev S8 : Shape := ⟨1, ![8]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x8 : Shape := ⟨2, ![2048, 8]⟩
abbrev S2048x5632 : Shape := ⟨2, ![2048, 5632]⟩
abbrev S2048x116 : Shape := ⟨2, ![2048, 116]⟩
abbrev S2048x120 : Shape := ⟨2, ![2048, 120]⟩
abbrev S2048x12 : Shape := ⟨2, ![2048, 12]⟩
abbrev S2048x384 : Shape := ⟨2, ![2048, 384]⟩
abbrev S256 : Shape := ⟨1, ![256]⟩
abbrev S120 : Shape := ⟨1, ![120]⟩
abbrev S384 : Shape := ⟨1, ![384]⟩
abbrev S1x384 : Shape := ⟨2, ![1, 384]⟩
abbrev S16384x2048 : Shape := ⟨2, ![16384, 2048]⟩
abbrev S16384x5632 : Shape := ⟨2, ![16384, 5632]⟩
abbrev S512x2048 : Shape := ⟨2, ![512, 2048]⟩
abbrev S2048x512 : Shape := ⟨2, ![2048, 512]⟩
abbrev S512x512 : Shape := ⟨2, ![512, 512]⟩
abbrev S8x2048x5632 : Shape := ⟨3, ![8, 2048, 5632]⟩
abbrev S8x2048x1536 : Shape := ⟨3, ![8, 2048, 1536]⟩
abbrev S8x2048x3x2x2x128 : Shape := ⟨6, ![8, 2048, 3, 2, 2, 128]⟩
abbrev S8x2048x2x8x128 : Shape := ⟨5, ![8, 2048, 2, 8, 128]⟩
abbrev S8x2048x1024 : Shape := ⟨3, ![8, 2048, 1024]⟩
abbrev S8x2048x2x2x2x128 : Shape := ⟨6, ![8, 2048, 2, 2, 2, 128]⟩
abbrev S1x8x2048x2x2x2x128 : Shape := ⟨7, ![1, 8, 2048, 2, 2, 2, 128]⟩
abbrev S8x512x1x2x2x128 : Shape := ⟨6, ![8, 512, 1, 2, 2, 128]⟩
abbrev S8x512x2x2x128 : Shape := ⟨5, ![8, 512, 2, 2, 128]⟩
abbrev S1x8x512x2x2x128 : Shape := ⟨6, ![1, 8, 512, 2, 2, 128]⟩
abbrev S1x8x2048x2x8x128 : Shape := ⟨6, ![1, 8, 2048, 2, 8, 128]⟩

abbrev nBuf : Space → Nat
  | .hbm => 42
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5664, .f32⟩
  | .hbm, ⟨2, _⟩ => ⟨S2048x5664, .f32⟩
  | .hbm, ⟨3, _⟩ => ⟨S_, .f32⟩
  | .hbm, ⟨4, _⟩ => ⟨S8, .f32⟩
  | .hbm, ⟨5, _⟩ => ⟨S2048x1024, .f32⟩
  | .hbm, ⟨6, _⟩ => ⟨S2048x1536, .f32⟩
  | .hbm, ⟨7, _⟩ => ⟨S2048x24, .f32⟩
  | .hbm, ⟨8, _⟩ => ⟨S2048x1024, .f32⟩
  | .hbm, ⟨9, _⟩ => ⟨S2048x2048, .f32⟩
  | .hbm, ⟨10, _⟩ => ⟨S2048x8, .f32⟩
  | .hbm, ⟨11, _⟩ => ⟨S2048x5632, .f32⟩
  | .hbm, ⟨12, _⟩ => ⟨S2048x5632, .bf16⟩
  | .hbm, ⟨13, _⟩ => ⟨S_, .f32⟩
  | .hbm, ⟨14, _⟩ => ⟨S2048x116, .f32⟩
  | .hbm, ⟨15, _⟩ => ⟨S_, .f32⟩
  | .hbm, ⟨16, _⟩ => ⟨S2048x120, .f32⟩
  | .hbm, ⟨17, _⟩ => ⟨S2048x12, .f32⟩
  | .hbm, ⟨18, _⟩ => ⟨S2048x12, .f32⟩
  | .hbm, ⟨19, _⟩ => ⟨S2048x384, .f32⟩
  | .hbm, ⟨20, _⟩ => ⟨S2048x384, .bf16⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S120, .f32⟩
  | .hbm, ⟨25, _⟩ => ⟨S384, .f32⟩
  | .hbm, ⟨26, _⟩ => ⟨S1x384, .f32⟩
  | .hbm, ⟨27, _⟩ => ⟨S16384x2048, .f32⟩
  | .hbm, ⟨28, _⟩ => ⟨S16384x5632, .f32⟩
  | .hbm, ⟨29, _⟩ => ⟨S8x2048x5632, .f32⟩
  | .hbm, ⟨30, _⟩ => ⟨S8x2048x1536, .f32⟩
  | .hbm, ⟨31, _⟩ => ⟨S8x2048x3x2x2x128, .f32⟩
  | .hbm, ⟨32, _⟩ => ⟨S8x2048x2048, .f32⟩
  | .hbm, ⟨33, _⟩ => ⟨S8x2048x2x8x128, .f32⟩
  | .hbm, ⟨34, _⟩ => ⟨S8x2048x1024, .f32⟩
  | .hbm, ⟨35, _⟩ => ⟨S8x2048x1024, .f32⟩
  | .hbm, ⟨36, _⟩ => ⟨S8x2048x2x2x2x128, .f32⟩
  | .hbm, ⟨37, _⟩ => ⟨S1x8x2048x2x2x2x128, .f32⟩
  | .hbm, ⟨38, _⟩ => ⟨S8x512x1x2x2x128, .f32⟩
  | .hbm, ⟨39, _⟩ => ⟨S8x512x2x2x128, .f32⟩
  | .hbm, ⟨40, _⟩ => ⟨S1x8x512x2x2x128, .f32⟩
  | .hbm, ⟨41, _⟩ => ⟨S1x8x2048x2x8x128, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S8x2048x2048 : Shape := ⟨3, ![8, 2048, 2048]⟩
abbrev S1x2048x5664 : Shape := ⟨3, ![1, 2048, 5664]⟩
abbrev S2048x5664 : Shape := ⟨2, ![2048, 5664]⟩
abbrev S8x2048x5664 : Shape := ⟨3, ![8, 2048, 5664]⟩
abbrev S8x2048x1024 : Shape := ⟨3, ![8, 2048, 1024]⟩
abbrev S8x2048x1536 : Shape := ⟨3, ![8, 2048, 1536]⟩
abbrev S8x2048x24 : Shape := ⟨3, ![8, 2048, 24]⟩
abbrev S8x2048x8 : Shape := ⟨3, ![8, 2048, 8]⟩
abbrev S8x2048x3x2x2x128 : Shape := ⟨6, ![8, 2048, 3, 2, 2, 128]⟩
abbrev S8x2048x2x8x128 : Shape := ⟨5, ![8, 2048, 2, 8, 128]⟩
abbrev S8x2048x2x2x2x128 : Shape := ⟨6, ![8, 2048, 2, 2, 2, 128]⟩
abbrev S8x2048x1x2x2x128 : Shape := ⟨6, ![8, 2048, 1, 2, 2, 128]⟩
abbrev S8x2048x2x2x128 : Shape := ⟨5, ![8, 2048, 2, 2, 128]⟩
abbrev S_ : Shape := ⟨0, ![]⟩
abbrev S8x2560x2x2x128 : Shape := ⟨5, ![8, 2560, 2, 2, 128]⟩
abbrev S1x8x2048x2x2x2x128 : Shape := ⟨7, ![1, 8, 2048, 2, 2, 2, 128]⟩
abbrev S8x512x2x2x128 : Shape := ⟨5, ![8, 512, 2, 2, 128]⟩
abbrev S1x8x512x2x2x128 : Shape := ⟨6, ![1, 8, 512, 2, 2, 128]⟩
abbrev S1x8x2048x2x8x128 : Shape := ⟨6, ![1, 8, 2048, 2, 8, 128]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5664, .f32⟩
  | .hbm, ⟨2, _⟩ => ⟨S2048x5664, .f32⟩
  | .hbm, ⟨3, _⟩ => ⟨S8x2048x5664, .f32⟩
  | .hbm, ⟨4, _⟩ => ⟨S8x2048x1024, .f32⟩
  | .hbm, ⟨5, _⟩ => ⟨S8x2048x1536, .f32⟩
  | .hbm, ⟨6, _⟩ => ⟨S8x2048x24, .f32⟩
  | .hbm, ⟨7, _⟩ => ⟨S8x2048x1024, .f32⟩
  | .hbm, ⟨8, _⟩ => ⟨S8x2048x2048, .f32⟩
  | .hbm, ⟨9, _⟩ => ⟨S8x2048x8, .f32⟩
  | .hbm, ⟨10, _⟩ => ⟨S8x2048x3x2x2x128, .f32⟩
  | .hbm, ⟨11, _⟩ => ⟨S8x2048x2x8x128, .f32⟩
  | .hbm, ⟨12, _⟩ => ⟨S8x2048x2x2x2x128, .f32⟩
  | .hbm, ⟨13, _⟩ => ⟨S8x2048x1x2x2x128, .f32⟩
  | .hbm, ⟨14, _⟩ => ⟨S8x2048x2x2x128, .f32⟩
  | .hbm, ⟨15, _⟩ => ⟨S_, .i32⟩
  | .hbm, ⟨16, _⟩ => ⟨S_, .f32⟩
  | .hbm, ⟨17, _⟩ => ⟨S8x2560x2x2x128, .f32⟩
  | .hbm, ⟨18, _⟩ => ⟨S1x8x2048x2x2x2x128, .f32⟩
  | .hbm, ⟨19, _⟩ => ⟨S8x512x2x2x128, .f32⟩
  | .hbm, ⟨20, _⟩ => ⟨S1x8x512x2x2x128, .f32⟩
  | .hbm, ⟨21, _⟩ => ⟨S1x8x2048x2x8x128, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== ProjS.lean ====
abbrev S32x4x2048 : Shape := ⟨3, ![32, 4, 2048]⟩
abbrev S1x2048x5664 : Shape := ⟨3, ![1, 2048, 5664]⟩
abbrev S1x32x512x2x2x128 : Shape := ⟨6, ![1, 32, 512, 2, 2, 128]⟩
abbrev S2048x5664 : Shape := ⟨2, ![2048, 5664]⟩
abbrev S_ : Shape := ⟨0, ![]⟩
abbrev S8 : Shape := ⟨1, ![8]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x8 : Shape := ⟨2, ![2048, 8]⟩
abbrev S2048x5632 : Shape := ⟨2, ![2048, 5632]⟩
abbrev S2048x116 : Shape := ⟨2, ![2048, 116]⟩
abbrev S2048x120 : Shape := ⟨2, ![2048, 120]⟩
abbrev S2048x12 : Shape := ⟨2, ![2048, 12]⟩
abbrev S2048x384 : Shape := ⟨2, ![2048, 384]⟩
abbrev S256 : Shape := ⟨1, ![256]⟩
abbrev S120 : Shape := ⟨1, ![120]⟩
abbrev S384 : Shape := ⟨1, ![384]⟩
abbrev S1x384 : Shape := ⟨2, ![1, 384]⟩
abbrev S128x2048 : Shape := ⟨2, ![128, 2048]⟩
abbrev S128x5632 : Shape := ⟨2, ![128, 5632]⟩
abbrev S2048x512 : Shape := ⟨2, ![2048, 512]⟩
abbrev S128x512 : Shape := ⟨2, ![128, 512]⟩
abbrev S32x4x5632 : Shape := ⟨3, ![32, 4, 5632]⟩
abbrev S32x4x1536 : Shape := ⟨3, ![32, 4, 1536]⟩
abbrev S32x4x3x2x2x128 : Shape := ⟨6, ![32, 4, 3, 2, 2, 128]⟩
abbrev S32x4x2x8x128 : Shape := ⟨5, ![32, 4, 2, 8, 128]⟩
abbrev S32x512x2x2x128 : Shape := ⟨5, ![32, 512, 2, 2, 128]⟩
abbrev S32x508x2x2x128 : Shape := ⟨5, ![32, 508, 2, 2, 128]⟩
abbrev S32x4x1x2x2x128 : Shape := ⟨6, ![32, 4, 1, 2, 2, 128]⟩
abbrev S32x4x2x2x128 : Shape := ⟨5, ![32, 4, 2, 2, 128]⟩
abbrev S32x4x1024 : Shape := ⟨3, ![32, 4, 1024]⟩
abbrev S32x4x2x2x2x128 : Shape := ⟨6, ![32, 4, 2, 2, 2, 128]⟩
abbrev S1x32x4x2x2x2x128 : Shape := ⟨7, ![1, 32, 4, 2, 2, 2, 128]⟩
abbrev S1x32x4x2x8x128 : Shape := ⟨6, ![1, 32, 4, 2, 8, 128]⟩

abbrev nBuf : Space → Nat
  | .hbm => 46
  | .vmem => 5
  | .smem => 0
  | _ => 0

abbrev bufTy : (tb : Table) → Fin (tcTables nBuf tb) → BufTy
  | .hbm, ⟨0, _⟩ => ⟨S32x4x2048, .f32⟩
  | .hbm, ⟨1, _⟩ => ⟨S1x2048x5664, .f32⟩
  | .hbm, ⟨2, _⟩ => ⟨S1x32x512x2x2x128, .f32⟩
  | .hbm, ⟨3, _⟩ => ⟨S2048x5664, .f32⟩
  | .hbm, ⟨4, _⟩ => ⟨S_, .f32⟩
  | .hbm, ⟨5, _⟩ => ⟨S8, .f32⟩
  | .hbm, ⟨6, _⟩ => ⟨S2048x1024, .f32⟩
  | .hbm, ⟨7, _⟩ => ⟨S2048x1536, .f32⟩
  | .hbm, ⟨8, _⟩ => ⟨S2048x24, .f32⟩
  | .hbm, ⟨9, _⟩ => ⟨S2048x1024, .f32⟩
  | .hbm, ⟨10, _⟩ => ⟨S2048x2048, .f32⟩
  | .hbm, ⟨11, _⟩ => ⟨S2048x8, .f32⟩
  | .hbm, ⟨12, _⟩ => ⟨S2048x5632, .f32⟩
  | .hbm, ⟨13, _⟩ => ⟨S2048x5632, .bf16⟩
  | .hbm, ⟨14, _⟩ => ⟨S_, .f32⟩
  | .hbm, ⟨15, _⟩ => ⟨S2048x116, .f32⟩
  | .hbm, ⟨16, _⟩ => ⟨S_, .f32⟩
  | .hbm, ⟨17, _⟩ => ⟨S2048x120, .f32⟩
  | .hbm, ⟨18, _⟩ => ⟨S2048x12, .f32⟩
  | .hbm, ⟨19, _⟩ => ⟨S2048x12, .f32⟩
  | .hbm, ⟨20, _⟩ => ⟨S2048x384, .f32⟩
  | .hbm, ⟨21, _⟩ => ⟨S2048x384, .bf16⟩
  | .hbm, ⟨22, _⟩ => ⟨S_, .f32⟩
  | .hbm, ⟨23, _⟩ => ⟨S256, .f32⟩
  | .hbm, ⟨24, _⟩ => ⟨S_, .f32⟩
  | .hbm, ⟨25, _⟩ => ⟨S120, .f32⟩
  | .hbm, ⟨26, _⟩ => ⟨S384, .f32⟩
  | .hbm, ⟨27, _⟩ => ⟨S1x384, .f32⟩
  | .hbm, ⟨28, _⟩ => ⟨S128x2048, .f32⟩
  | .hbm, ⟨29, _⟩ => ⟨S128x5632, .f32⟩
  | .hbm, ⟨30, _⟩ => ⟨S32x4x5632, .f32⟩
  | .hbm, ⟨31, _⟩ => ⟨S32x4x1536, .f32⟩
  | .hbm, ⟨32, _⟩ => ⟨S32x4x3x2x2x128, .f32⟩
  | .hbm, ⟨33, _⟩ => ⟨S32x4x2048, .f32⟩
  | .hbm, ⟨34, _⟩ => ⟨S32x4x2x8x128, .f32⟩
  | .hbm, ⟨35, _⟩ => ⟨S32x512x2x2x128, .f32⟩
  | .hbm, ⟨36, _⟩ => ⟨S32x508x2x2x128, .f32⟩
  | .hbm, ⟨37, _⟩ => ⟨S32x4x1x2x2x128, .f32⟩
  | .hbm, ⟨38, _⟩ => ⟨S32x4x2x2x128, .f32⟩
  | .hbm, ⟨39, _⟩ => ⟨S32x512x2x2x128, .f32⟩
  | .hbm, ⟨40, _⟩ => ⟨S32x4x1024, .f32⟩
  | .hbm, ⟨41, _⟩ => ⟨S32x4x1024, .f32⟩
  | .hbm, ⟨42, _⟩ => ⟨S32x4x2x2x2x128, .f32⟩
  | .hbm, ⟨43, _⟩ => ⟨S1x32x4x2x2x2x128, .f32⟩
  | .hbm, ⟨44, _⟩ => ⟨S1x32x512x2x2x128, .f32⟩
  | .hbm, ⟨45, _⟩ => ⟨S1x32x4x2x8x128, .f32⟩
  | .local _ .vmem, ⟨0, _⟩ => ⟨S128x2048, .f32⟩
  | .local _ .vmem, ⟨1, _⟩ => ⟨S2048x512, .bf16⟩
  | .local _ .vmem, ⟨2, _⟩ => ⟨S2048x512, .bf16⟩
  | .local _ .vmem, ⟨3, _⟩ => ⟨S128x512, .f32⟩
  | .local _ .vmem, ⟨4, _⟩ => ⟨S128x512, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjSRefIdeal.lean ====
abbrev S32x4x2048 : Shape := ⟨3, ![32, 4, 2048]⟩
abbrev S1x2048x5664 : Shape := ⟨3, ![1, 2048, 5664]⟩
abbrev S1x32x512x2x2x128 : Shape := ⟨6, ![1, 32, 512, 2, 2, 128]⟩
abbrev S2048x5664 : Shape := ⟨2, ![2048, 5664]⟩
abbrev S32x4x5664 : Shape := ⟨3, ![32, 4, 5664]⟩
abbrev S32x4x1024 : Shape := ⟨3, ![32, 4, 1024]⟩
abbrev S32x4x1536 : Shape := ⟨3, ![32, 4, 1536]⟩
abbrev S32x4x24 : Shape := ⟨3, ![32, 4, 24]⟩
abbrev S32x4x8 : Shape := ⟨3, ![32, 4, 8]⟩
abbrev S32x4x3x2x2x128 : Shape := ⟨6, ![32, 4, 3, 2, 2, 128]⟩
abbrev S32x4x2x8x128 : Shape := ⟨5, ![32, 4, 2, 8, 128]⟩
abbrev S32x4x2x2x2x128 : Shape := ⟨6, ![32, 4, 2, 2, 2, 128]⟩
abbrev S32x4x1x2x2x128 : Shape := ⟨6, ![32, 4, 1, 2, 2, 128]⟩
abbrev S32x4x2x2x128 : Shape := ⟨5, ![32, 4, 2, 2, 128]⟩
abbrev S32x512x2x2x128 : Shape := ⟨5, ![32, 512, 2, 2, 128]⟩
abbrev S32x516x2x2x128 : Shape := ⟨5, ![32, 516, 2, 2, 128]⟩
abbrev S1x32x4x2x2x2x128 : Shape := ⟨7, ![1, 32, 4, 2, 2, 2, 128]⟩
abbrev S1x32x4x2x8x128 : Shape := ⟨6, ![1, 32, 4, 2, 8, 128]⟩

abbrev nBuf : Space → Nat
  | .hbm => 22
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x5664, .f32⟩
  | .hbm, ⟨2, _⟩ => ⟨S1x32x512x2x2x128, .f32⟩
  | .hbm, ⟨3, _⟩ => ⟨S2048x5664, .f32⟩
  | .hbm, ⟨4, _⟩ => ⟨S32x4x5664, .f32⟩
  | .hbm, ⟨5, _⟩ => ⟨S32x4x1024, .f32⟩
  | .hbm, ⟨6, _⟩ => ⟨S32x4x1536, .f32⟩
  | .hbm, ⟨7, _⟩ => ⟨S32x4x24, .f32⟩
  | .hbm, ⟨8, _⟩ => ⟨S32x4x1024, .f32⟩
  | .hbm, ⟨9, _⟩ => ⟨S32x4x2048, .f32⟩
  | .hbm, ⟨10, _⟩ => ⟨S32x4x8, .f32⟩
  | .hbm, ⟨11, _⟩ => ⟨S32x4x3x2x2x128, .f32⟩
  | .hbm, ⟨12, _⟩ => ⟨S32x4x2x8x128, .f32⟩
  | .hbm, ⟨13, _⟩ => ⟨S32x4x2x2x2x128, .f32⟩
  | .hbm, ⟨14, _⟩ => ⟨S32x4x1x2x2x128, .f32⟩
  | .hbm, ⟨15, _⟩ => ⟨S32x4x2x2x128, .f32⟩
  | .hbm, ⟨16, _⟩ => ⟨S32x512x2x2x128, .f32⟩
  | .hbm, ⟨17, _⟩ => ⟨S32x516x2x2x128, .f32⟩
  | .hbm, ⟨18, _⟩ => ⟨S1x32x4x2x2x2x128, .f32⟩
  | .hbm, ⟨19, _⟩ => ⟨S32x512x2x2x128, .f32⟩
  | .hbm, ⟨20, _⟩ => ⟨S1x32x512x2x2x128, .f32⟩
  | .hbm, ⟨21, _⟩ => ⟨S1x32x4x2x8x128, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Small.lean ====
abbrev S8x2048x2048 : Shape := ⟨3, ![8, 2048, 2048]⟩
abbrev S1x2048x5664 : Shape := ⟨3, ![1, 2048, 5664]⟩
abbrev S1x8 : Shape := ⟨2, ![1, 8]⟩
abbrev S2048x5664 : Shape := ⟨2, ![2048, 5664]⟩
abbrev S8 : Shape := ⟨1, ![8]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x8 : Shape := ⟨2, ![2048, 8]⟩
abbrev S2048x5632 : Shape := ⟨2, ![2048, 5632]⟩
abbrev S_ : Shape := ⟨0, ![]⟩
abbrev S2048x116 : Shape := ⟨2, ![2048, 116]⟩
abbrev S2048x120 : Shape := ⟨2, ![2048, 120]⟩
abbrev S2048x12 : Shape := ⟨2, ![2048, 12]⟩
abbrev S2048x384 : Shape := ⟨2, ![2048, 384]⟩
abbrev S256 : Shape := ⟨1, ![256]⟩
abbrev S120 : Shape := ⟨1, ![120]⟩
abbrev S384 : Shape := ⟨1, ![384]⟩
abbrev S1x384 : Shape := ⟨2, ![1, 384]⟩
abbrev S16384x2048 : Shape := ⟨2, ![16384, 2048]⟩
abbrev S16384x384 : Shape := ⟨2, ![16384, 384]⟩
abbrev S512x2048 : Shape := ⟨2, ![512, 2048]⟩
abbrev S512x384 : Shape := ⟨2, ![512, 384]⟩
abbrev S512x256 : Shape := ⟨2, ![512, 256]⟩
abbrev S512x128 : Shape := ⟨2, ![512, 128]⟩
abbrev S8x2048x384 : Shape := ⟨3, ![8, 2048, 384]⟩
abbrev S8x2048x8 : Shape := ⟨3, ![8, 2048, 8]⟩
abbrev S8x2048x12 : Shape := ⟨3, ![8, 2048, 12]⟩
abbrev S8x2048x24 : Shape := ⟨3, ![8, 2048, 24]⟩
abbrev S8x2048x8x3 : Shape := ⟨4, ![8, 2048, 8, 3]⟩
abbrev S1x8x2048x8 : Shape := ⟨4, ![1, 8, 2048, 8]⟩

abbrev nBuf : Space → Nat
  | .hbm => 36
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5664, .f32⟩
  | .hbm, ⟨2, _⟩ => ⟨S1x8, .f32⟩
  | .hbm, ⟨3, _⟩ => ⟨S2048x5664, .f32⟩
  | .hbm, ⟨4, _⟩ => ⟨S8, .f32⟩
  | .hbm, ⟨5, _⟩ => ⟨S2048x1024, .f32⟩
  | .hbm, ⟨6, _⟩ => ⟨S2048x1536, .f32⟩
  | .hbm, ⟨7, _⟩ => ⟨S2048x24, .f32⟩
  | .hbm, ⟨8, _⟩ => ⟨S2048x1024, .f32⟩
  | .hbm, ⟨9, _⟩ => ⟨S2048x2048, .f32⟩
  | .hbm, ⟨10, _⟩ => ⟨S2048x8, .f32⟩
  | .hbm, ⟨11, _⟩ => ⟨S2048x5632, .f32⟩
  | .hbm, ⟨12, _⟩ => ⟨S2048x5632, .bf16⟩
  | .hbm, ⟨13, _⟩ => ⟨S_, .f32⟩
  | .hbm, ⟨14, _⟩ => ⟨S2048x116, .f32⟩
  | .hbm, ⟨15, _⟩ => ⟨S_, .f32⟩
  | .hbm, ⟨16, _⟩ => ⟨S2048x120, .f32⟩
  | .hbm, ⟨17, _⟩ => ⟨S2048x12, .f32⟩
  | .hbm, ⟨18, _⟩ => ⟨S2048x12, .f32⟩
  | .hbm, ⟨19, _⟩ => ⟨S2048x384, .f32⟩
  | .hbm, ⟨20, _⟩ => ⟨S2048x384, .bf16⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S120, .f32⟩
  | .hbm, ⟨25, _⟩ => ⟨S384, .f32⟩
  | .hbm, ⟨26, _⟩ => ⟨S1x384, .f32⟩
  | .hbm, ⟨27, _⟩ => ⟨S16384x2048, .f32⟩
  | .hbm, ⟨28, _⟩ => ⟨S16384x384, .f32⟩
  | .hbm, ⟨29, _⟩ => ⟨S8x2048x384, .f32⟩
  | .hbm, ⟨30, _⟩ => ⟨S8x2048x8, .f32⟩
  | .hbm, ⟨31, _⟩ => ⟨S8x2048x12, .f32⟩
  | .hbm, ⟨32, _⟩ => ⟨S8x2048x12, .f32⟩
  | .hbm, ⟨33, _⟩ => ⟨S8x2048x24, .f32⟩
  | .hbm, ⟨34, _⟩ => ⟨S8x2048x8x3, .f32⟩
  | .hbm, ⟨35, _⟩ => ⟨S1x8x2048x8, .f32⟩
  | .local _ .vmem, ⟨0, _⟩ => ⟨S512x2048, .f32⟩
  | .local _ .vmem, ⟨1, _⟩ => ⟨S512x2048, .f32⟩
  | .local _ .vmem, ⟨2, _⟩ => ⟨S2048x384, .bf16⟩
  | .local _ .vmem, ⟨3, _⟩ => ⟨S1x384, .f32⟩
  | .local _ .vmem, ⟨4, _⟩ => ⟨S512x384, .f32⟩
  | .local _ .vmem, ⟨5, _⟩ => ⟨S512x384, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SmallIdeal.lean ====
abbrev S8x2048x2048 : Shape := ⟨3, ![8, 2048, 2048]⟩
abbrev S1x2048x5664 : Shape := ⟨3, ![1, 2048, 5664]⟩
abbrev S1x8 : Shape := ⟨2, ![1, 8]⟩
abbrev S2048x5664 : Shape := ⟨2, ![2048, 5664]⟩
abbrev S8 : Shape := ⟨1, ![8]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x8 : Shape := ⟨2, ![2048, 8]⟩
abbrev S2048x5632 : Shape := ⟨2, ![2048, 5632]⟩
abbrev S_ : Shape := ⟨0, ![]⟩
abbrev S2048x116 : Shape := ⟨2, ![2048, 116]⟩
abbrev S2048x120 : Shape := ⟨2, ![2048, 120]⟩
abbrev S2048x12 : Shape := ⟨2, ![2048, 12]⟩
abbrev S2048x384 : Shape := ⟨2, ![2048, 384]⟩
abbrev S256 : Shape := ⟨1, ![256]⟩
abbrev S120 : Shape := ⟨1, ![120]⟩
abbrev S384 : Shape := ⟨1, ![384]⟩
abbrev S1x384 : Shape := ⟨2, ![1, 384]⟩
abbrev S16384x2048 : Shape := ⟨2, ![16384, 2048]⟩
abbrev S16384x384 : Shape := ⟨2, ![16384, 384]⟩
abbrev S512x2048 : Shape := ⟨2, ![512, 2048]⟩
abbrev S512x384 : Shape := ⟨2, ![512, 384]⟩
abbrev S512x256 : Shape := ⟨2, ![512, 256]⟩
abbrev S512x128 : Shape := ⟨2, ![512, 128]⟩
abbrev S8x2048x384 : Shape := ⟨3, ![8, 2048, 384]⟩
abbrev S8x2048x8 : Shape := ⟨3, ![8, 2048, 8]⟩
abbrev S8x2048x12 : Shape := ⟨3, ![8, 2048, 12]⟩
abbrev S8x2048x24 : Shape := ⟨3, ![8, 2048, 24]⟩
abbrev S8x2048x8x3 : Shape := ⟨4, ![8, 2048, 8, 3]⟩
abbrev S1x8x2048x8 : Shape := ⟨4, ![1, 8, 2048, 8]⟩

abbrev nBuf : Space → Nat
  | .hbm => 36
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5664, .f32⟩
  | .hbm, ⟨2, _⟩ => ⟨S1x8, .f32⟩
  | .hbm, ⟨3, _⟩ => ⟨S2048x5664, .f32⟩
  | .hbm, ⟨4, _⟩ => ⟨S8, .f32⟩
  | .hbm, ⟨5, _⟩ => ⟨S2048x1024, .f32⟩
  | .hbm, ⟨6, _⟩ => ⟨S2048x1536, .f32⟩
  | .hbm, ⟨7, _⟩ => ⟨S2048x24, .f32⟩
  | .hbm, ⟨8, _⟩ => ⟨S2048x1024, .f32⟩
  | .hbm, ⟨9, _⟩ => ⟨S2048x2048, .f32⟩
  | .hbm, ⟨10, _⟩ => ⟨S2048x8, .f32⟩
  | .hbm, ⟨11, _⟩ => ⟨S2048x5632, .f32⟩
  | .hbm, ⟨12, _⟩ => ⟨S2048x5632, .bf16⟩
  | .hbm, ⟨13, _⟩ => ⟨S_, .f32⟩
  | .hbm, ⟨14, _⟩ => ⟨S2048x116, .f32⟩
  | .hbm, ⟨15, _⟩ => ⟨S_, .f32⟩
  | .hbm, ⟨16, _⟩ => ⟨S2048x120, .f32⟩
  | .hbm, ⟨17, _⟩ => ⟨S2048x12, .f32⟩
  | .hbm, ⟨18, _⟩ => ⟨S2048x12, .f32⟩
  | .hbm, ⟨19, _⟩ => ⟨S2048x384, .f32⟩
  | .hbm, ⟨20, _⟩ => ⟨S2048x384, .bf16⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S120, .f32⟩
  | .hbm, ⟨25, _⟩ => ⟨S384, .f32⟩
  | .hbm, ⟨26, _⟩ => ⟨S1x384, .f32⟩
  | .hbm, ⟨27, _⟩ => ⟨S16384x2048, .f32⟩
  | .hbm, ⟨28, _⟩ => ⟨S16384x384, .f32⟩
  | .hbm, ⟨29, _⟩ => ⟨S8x2048x384, .f32⟩
  | .hbm, ⟨30, _⟩ => ⟨S8x2048x8, .f32⟩
  | .hbm, ⟨31, _⟩ => ⟨S8x2048x12, .f32⟩
  | .hbm, ⟨32, _⟩ => ⟨S8x2048x12, .f32⟩
  | .hbm, ⟨33, _⟩ => ⟨S8x2048x24, .f32⟩
  | .hbm, ⟨34, _⟩ => ⟨S8x2048x8x3, .f32⟩
  | .hbm, ⟨35, _⟩ => ⟨S1x8x2048x8, .f32⟩
  | .local _ .vmem, ⟨0, _⟩ => ⟨S512x2048, .f32⟩
  | .local _ .vmem, ⟨1, _⟩ => ⟨S512x2048, .f32⟩
  | .local _ .vmem, ⟨2, _⟩ => ⟨S2048x384, .bf16⟩
  | .local _ .vmem, ⟨3, _⟩ => ⟨S1x384, .f32⟩
  | .local _ .vmem, ⟨4, _⟩ => ⟨S512x384, .f32⟩
  | .local _ .vmem, ⟨5, _⟩ => ⟨S512x384, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SmallRefIdeal.lean ====
abbrev S8x2048x2048 : Shape := ⟨3, ![8, 2048, 2048]⟩
abbrev S1x2048x5664 : Shape := ⟨3, ![1, 2048, 5664]⟩
abbrev S1x8 : Shape := ⟨2, ![1, 8]⟩
abbrev S2048x5664 : Shape := ⟨2, ![2048, 5664]⟩
abbrev S8x2048x5664 : Shape := ⟨3, ![8, 2048, 5664]⟩
abbrev S8x2048x1024 : Shape := ⟨3, ![8, 2048, 1024]⟩
abbrev S8x2048x1536 : Shape := ⟨3, ![8, 2048, 1536]⟩
abbrev S8x2048x24 : Shape := ⟨3, ![8, 2048, 24]⟩
abbrev S8x2048x8 : Shape := ⟨3, ![8, 2048, 8]⟩
abbrev S_ : Shape := ⟨0, ![]⟩
abbrev S8x2048x8x3 : Shape := ⟨4, ![8, 2048, 8, 3]⟩
abbrev S8 : Shape := ⟨1, ![8]⟩
abbrev S1x1x8 : Shape := ⟨3, ![1, 1, 8]⟩
abbrev S1x8x2048x8 : Shape := ⟨4, ![1, 8, 2048, 8]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x5664, .f32⟩
  | .hbm, ⟨2, _⟩ => ⟨S1x8, .f32⟩
  | .hbm, ⟨3, _⟩ => ⟨S2048x5664, .f32⟩
  | .hbm, ⟨4, _⟩ => ⟨S8x2048x5664, .f32⟩
  | .hbm, ⟨5, _⟩ => ⟨S8x2048x1024, .f32⟩
  | .hbm, ⟨6, _⟩ => ⟨S8x2048x1536, .f32⟩
  | .hbm, ⟨7, _⟩ => ⟨S8x2048x24, .f32⟩
  | .hbm, ⟨8, _⟩ => ⟨S8x2048x1024, .f32⟩
  | .hbm, ⟨9, _⟩ => ⟨S8x2048x2048, .f32⟩
  | .hbm, ⟨10, _⟩ => ⟨S8x2048x8, .f32⟩
  | .hbm, ⟨11, _⟩ => ⟨S8x2048x24, .f32⟩
  | .hbm, ⟨12, _⟩ => ⟨S8x2048x24, .f32⟩
  | .hbm, ⟨13, _⟩ => ⟨S_, .f32⟩
  | .hbm, ⟨14, _⟩ => ⟨S8x2048x24, .f32⟩
  | .hbm, ⟨15, _⟩ => ⟨S8x2048x24, .f32⟩
  | .hbm, ⟨16, _⟩ => ⟨S_, .f32⟩
  | .hbm, ⟨17, _⟩ => ⟨S8x2048x24, .f32⟩
  | .hbm, ⟨18, _⟩ => ⟨S8x2048x24, .f32⟩
  | .hbm, ⟨19, _⟩ => ⟨S8x2048x8x3, .f32⟩
  | .hbm, ⟨20, _⟩ => ⟨S8, .f32⟩
  | .hbm, ⟨21, _⟩ => ⟨S1x1x8, .f32⟩
  | .hbm, ⟨22, _⟩ => ⟨S8x2048x8, .f32⟩
  | .hbm, ⟨23, _⟩ => ⟨S8x2048x8, .f32⟩
  | .hbm, ⟨24, _⟩ => ⟨S8x2048x8, .f32⟩
  | .hbm, ⟨25, _⟩ => ⟨S_, .f32⟩
  | .hbm, ⟨26, _⟩ => ⟨S8x2048x8, .f32⟩
  | .hbm, ⟨27, _⟩ => ⟨S8x2048x8, .f32⟩
  | .hbm, ⟨28, _⟩ => ⟨S8x2048x8, .f32⟩
  | .hbm, ⟨29, _⟩ => ⟨S8x2048x8, .f32⟩
  | .hbm, ⟨30, _⟩ => ⟨S8x2048x8, .i1⟩
  | .hbm, ⟨31, _⟩ => ⟨S8x2048x8, .f32⟩
  | .hbm, ⟨32, _⟩ => ⟨S8x2048x8, .f32⟩
  | .hbm, ⟨33, _⟩ => ⟨S8x2048x8, .f32⟩
  | .hbm, ⟨34, _⟩ => ⟨S8x2048x8, .f32⟩
  | .hbm, ⟨35, _⟩ => ⟨S8x2048x8, .f32⟩
  | .hbm, ⟨36, _⟩ => ⟨S8x2048x8, .f32⟩
  | .hbm, ⟨37, _⟩ => ⟨S8x2048x8, .f32⟩
  | .hbm, ⟨38, _⟩ => ⟨S8x2048x8, .f32⟩
  | .hbm, ⟨39, _⟩ => ⟨S8x2048x8, .f32⟩
  | .hbm, ⟨40, _⟩ => ⟨S1x8x2048x8, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== SmallS.lean ====
abbrev S32x4x2048 : Shape := ⟨3, ![32, 4, 2048]⟩
abbrev S1x2048x5664 : Shape := ⟨3, ![1, 2048, 5664]⟩
abbrev S1x8 : Shape := ⟨2, ![1, 8]⟩
abbrev S2048x5664 : Shape := ⟨2, ![2048, 5664]⟩
abbrev S8 : Shape := ⟨1, ![8]⟩
abbrev S2048x1024 : Shape := ⟨2, ![2048, 1024]⟩
abbrev S2048x1536 : Shape := ⟨2, ![2048, 1536]⟩
abbrev S2048x24 : Shape := ⟨2, ![2048, 24]⟩
abbrev S2048x2048 : Shape := ⟨2, ![2048, 2048]⟩
abbrev S2048x8 : Shape := ⟨2, ![2048, 8]⟩
abbrev S2048x5632 : Shape := ⟨2, ![2048, 5632]⟩
abbrev S_ : Shape := ⟨0, ![]⟩
abbrev S2048x116 : Shape := ⟨2, ![2048, 116]⟩
abbrev S2048x120 : Shape := ⟨2, ![2048, 120]⟩
abbrev S2048x12 : Shape := ⟨2, ![2048, 12]⟩
abbrev S2048x384 : Shape := ⟨2, ![2048, 384]⟩
abbrev S256 : Shape := ⟨1, ![256]⟩
abbrev S120 : Shape := ⟨1, ![120]⟩
abbrev S384 : Shape := ⟨1, ![384]⟩
abbrev S1x384 : Shape := ⟨2, ![1, 384]⟩
abbrev S128x2048 : Shape := ⟨2, ![128, 2048]⟩
abbrev S128x384 : Shape := ⟨2, ![128, 384]⟩
abbrev S128x256 : Shape := ⟨2, ![128, 256]⟩
abbrev S128x128 : Shape := ⟨2, ![128, 128]⟩
abbrev S32x4x384 : Shape := ⟨3, ![32, 4, 384]⟩
abbrev S32x4x8 : Shape := ⟨3, ![32, 4, 8]⟩
abbrev S32x4x12 : Shape := ⟨3, ![32, 4, 12]⟩
abbrev S32x4x24 : Shape := ⟨3, ![32, 4, 24]⟩
abbrev S32x4x8x3 : Shape := ⟨4, ![32, 4, 8, 3]⟩
abbrev S1x32x4x8 : Shape := ⟨4, ![1, 32, 4, 8]⟩

abbrev nBuf : Space → Nat
  | .hbm => 36
  | .vmem => 4
  | .smem => 0
  | _ => 0

abbrev bufTy : (tb : Table) → Fin (tcTables nBuf tb) → BufTy
  | .hbm, ⟨0, _⟩ => ⟨S32x4x2048, .f32⟩
  | .hbm, ⟨1, _⟩ => ⟨S1x2048x5664, .f32⟩
  | .hbm, ⟨2, _⟩ => ⟨S1x8, .f32⟩
  | .hbm, ⟨3, _⟩ => ⟨S2048x5664, .f32⟩
  | .hbm, ⟨4, _⟩ => ⟨S8, .f32⟩
  | .hbm, ⟨5, _⟩ => ⟨S2048x1024, .f32⟩
  | .hbm, ⟨6, _⟩ => ⟨S2048x1536, .f32⟩
  | .hbm, ⟨7, _⟩ => ⟨S2048x24, .f32⟩
  | .hbm, ⟨8, _⟩ => ⟨S2048x1024, .f32⟩
  | .hbm, ⟨9, _⟩ => ⟨S2048x2048, .f32⟩
  | .hbm, ⟨10, _⟩ => ⟨S2048x8, .f32⟩
  | .hbm, ⟨11, _⟩ => ⟨S2048x5632, .f32⟩
  | .hbm, ⟨12, _⟩ => ⟨S2048x5632, .bf16⟩
  | .hbm, ⟨13, _⟩ => ⟨S_, .f32⟩
  | .hbm, ⟨14, _⟩ => ⟨S2048x116, .f32⟩
  | .hbm, ⟨15, _⟩ => ⟨S_, .f32⟩
  | .hbm, ⟨16, _⟩ => ⟨S2048x120, .f32⟩
  | .hbm, ⟨17, _⟩ => ⟨S2048x12, .f32⟩
  | .hbm, ⟨18, _⟩ => ⟨S2048x12, .f32⟩
  | .hbm, ⟨19, _⟩ => ⟨S2048x384, .f32⟩
  | .hbm, ⟨20, _⟩ => ⟨S2048x384, .bf16⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S120, .f32⟩
  | .hbm, ⟨25, _⟩ => ⟨S384, .f32⟩
  | .hbm, ⟨26, _⟩ => ⟨S1x384, .f32⟩
  | .hbm, ⟨27, _⟩ => ⟨S128x2048, .f32⟩
  | .hbm, ⟨28, _⟩ => ⟨S128x384, .f32⟩
  | .hbm, ⟨29, _⟩ => ⟨S32x4x384, .f32⟩
  | .hbm, ⟨30, _⟩ => ⟨S32x4x8, .f32⟩
  | .hbm, ⟨31, _⟩ => ⟨S32x4x12, .f32⟩
  | .hbm, ⟨32, _⟩ => ⟨S32x4x12, .f32⟩
  | .hbm, ⟨33, _⟩ => ⟨S32x4x24, .f32⟩
  | .hbm, ⟨34, _⟩ => ⟨S32x4x8x3, .f32⟩
  | .hbm, ⟨35, _⟩ => ⟨S1x32x4x8, .f32⟩
  | .local _ .vmem, ⟨0, _⟩ => ⟨S128x2048, .f32⟩
  | .local _ .vmem, ⟨1, _⟩ => ⟨S2048x384, .bf16⟩
  | .local _ .vmem, ⟨2, _⟩ => ⟨S1x384, .f32⟩
  | .local _ .vmem, ⟨3, _⟩ => ⟨S128x384, .f32⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== SmallSRefIdeal.lean ====
abbrev S32x4x2048 : Shape := ⟨3, ![32, 4, 2048]⟩
abbrev S1x2048x5664 : Shape := ⟨3, ![1, 2048, 5664]⟩
abbrev S1x8 : Shape := ⟨2, ![1, 8]⟩
abbrev S2048x5664 : Shape := ⟨2, ![2048, 5664]⟩
abbrev S32x4x5664 : Shape := ⟨3, ![32, 4, 5664]⟩
abbrev S32x4x1024 : Shape := ⟨3, ![32, 4, 1024]⟩
abbrev S32x4x1536 : Shape := ⟨3, ![32, 4, 1536]⟩
abbrev S32x4x24 : Shape := ⟨3, ![32, 4, 24]⟩
abbrev S32x4x8 : Shape := ⟨3, ![32, 4, 8]⟩
abbrev S_ : Shape := ⟨0, ![]⟩
abbrev S32x4x8x3 : Shape := ⟨4, ![32, 4, 8, 3]⟩
abbrev S8 : Shape := ⟨1, ![8]⟩
abbrev S1x1x8 : Shape := ⟨3, ![1, 1, 8]⟩
abbrev S1x32x4x8 : Shape := ⟨4, ![1, 32, 4, 8]⟩

abbrev nBuf : Space → Nat
  | .hbm => 41
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048x5664, .f32⟩
  | .hbm, ⟨2, _⟩ => ⟨S1x8, .f32⟩
  | .hbm, ⟨3, _⟩ => ⟨S2048x5664, .f32⟩
  | .hbm, ⟨4, _⟩ => ⟨S32x4x5664, .f32⟩
  | .hbm, ⟨5, _⟩ => ⟨S32x4x1024, .f32⟩
  | .hbm, ⟨6, _⟩ => ⟨S32x4x1536, .f32⟩
  | .hbm, ⟨7, _⟩ => ⟨S32x4x24, .f32⟩
  | .hbm, ⟨8, _⟩ => ⟨S32x4x1024, .f32⟩
  | .hbm, ⟨9, _⟩ => ⟨S32x4x2048, .f32⟩
  | .hbm, ⟨10, _⟩ => ⟨S32x4x8, .f32⟩
  | .hbm, ⟨11, _⟩ => ⟨S32x4x24, .f32⟩
  | .hbm, ⟨12, _⟩ => ⟨S32x4x24, .f32⟩
  | .hbm, ⟨13, _⟩ => ⟨S_, .f32⟩
  | .hbm, ⟨14, _⟩ => ⟨S32x4x24, .f32⟩
  | .hbm, ⟨15, _⟩ => ⟨S32x4x24, .f32⟩
  | .hbm, ⟨16, _⟩ => ⟨S_, .f32⟩
  | .hbm, ⟨17, _⟩ => ⟨S32x4x24, .f32⟩
  | .hbm, ⟨18, _⟩ => ⟨S32x4x24, .f32⟩
  | .hbm, ⟨19, _⟩ => ⟨S32x4x8x3, .f32⟩
  | .hbm, ⟨20, _⟩ => ⟨S8, .f32⟩
  | .hbm, ⟨21, _⟩ => ⟨S1x1x8, .f32⟩
  | .hbm, ⟨22, _⟩ => ⟨S32x4x8, .f32⟩
  | .hbm, ⟨23, _⟩ => ⟨S32x4x8, .f32⟩
  | .hbm, ⟨24, _⟩ => ⟨S32x4x8, .f32⟩
  | .hbm, ⟨25, _⟩ => ⟨S_, .f32⟩
  | .hbm, ⟨26, _⟩ => ⟨S32x4x8, .f32⟩
  | .hbm, ⟨27, _⟩ => ⟨S32x4x8, .f32⟩
  | .hbm, ⟨28, _⟩ => ⟨S32x4x8, .f32⟩
  | .hbm, ⟨29, _⟩ => ⟨S32x4x8, .f32⟩
  | .hbm, ⟨30, _⟩ => ⟨S32x4x8, .i1⟩
  | .hbm, ⟨31, _⟩ => ⟨S32x4x8, .f32⟩
  | .hbm, ⟨32, _⟩ => ⟨S32x4x8, .f32⟩
  | .hbm, ⟨33, _⟩ => ⟨S32x4x8, .f32⟩
  | .hbm, ⟨34, _⟩ => ⟨S32x4x8, .f32⟩
  | .hbm, ⟨35, _⟩ => ⟨S32x4x8, .f32⟩
  | .hbm, ⟨36, _⟩ => ⟨S32x4x8, .f32⟩
  | .hbm, ⟨37, _⟩ => ⟨S32x4x8, .f32⟩
  | .hbm, ⟨38, _⟩ => ⟨S32x4x8, .f32⟩
  | .hbm, ⟨39, _⟩ => ⟨S32x4x8, .f32⟩
  | .hbm, ⟨40, _⟩ => ⟨S1x32x4x8, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Post.lean ====
abbrev S8x2048x1024 : Shape := ⟨3, ![8, 2048, 1024]⟩
abbrev S8x2048x2048 : Shape := ⟨3, ![8, 2048, 2048]⟩
abbrev S1024 : Shape := ⟨1, ![1024]⟩
abbrev S2048x2048 : Shape := ⟨2, ![2048, 2048]⟩
abbrev S2048 : Shape := ⟨1, ![2048]⟩
abbrev S16384x1024 : Shape := ⟨2, ![16384, 1024]⟩
abbrev S16384x2048 : Shape := ⟨2, ![16384, 2048]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩

abbrev nBuf : Space → Nat
  | .hbm => 17
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S16384x1024, .f32⟩
  | .hbm, ⟨9, _⟩ => ⟨S16384x1024, .f32⟩
  | .hbm, ⟨10, _⟩ => ⟨S16384x2048, .f32⟩
  | .hbm, ⟨11, _⟩ => ⟨S1x1024, .f32⟩
  | .hbm, ⟨12, _⟩ => ⟨S1x1024, .f32⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostRefIdeal.lean ====
abbrev S8x2048x1024 : Shape := ⟨3, ![8, 2048, 1024]⟩
abbrev S8x2048x2048 : Shape := ⟨3, ![8, 2048, 2048]⟩
abbrev S1024 : Shape := ⟨1, ![1024]⟩
abbrev S2048x2048 : Shape := ⟨2, ![2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x2048 : Shape := ⟨3, ![1, 1, 2048]⟩
abbrev S16384x2048 : Shape := ⟨2, ![16384, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S1024, .f32⟩
  | .hbm, ⟨4, _⟩ => ⟨S1024, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1, .f32⟩
  | .hbm, ⟨67, _⟩ => ⟨S8x2048x2048, .f32⟩
  | .hbm, ⟨68, _⟩ => ⟨S8x2048x2048, .f32⟩
  | .hbm, ⟨69, _⟩ => ⟨S1x1x2048, .f32⟩
  | .hbm, ⟨70, _⟩ => ⟨S8x2048x2048, .f32⟩
  | .hbm, ⟨71, _⟩ => ⟨S8x2048x2048, .f32⟩
  | .hbm, ⟨72, _⟩ => ⟨S1x1x2048, .f32⟩
  | .hbm, ⟨73, _⟩ => ⟨S8x2048x2048, .f32⟩
  | .hbm, ⟨74, _⟩ => ⟨S8x2048x2048, .f32⟩
  | .hbm, ⟨75, _⟩ => ⟨S16384x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== AddLn.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AddLnRefIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S1x1x2048, .f32⟩
  | .hbm, ⟨32, _⟩ => ⟨S8x2048x2048, .f32⟩
  | .hbm, ⟨33, _⟩ => ⟨S8x2048x2048, .f32⟩
  | .hbm, ⟨34, _⟩ => ⟨S1x1x2048, .f32⟩
  | .hbm, ⟨35, _⟩ => ⟨S8x2048x2048, .f32⟩
  | .hbm, ⟨36, _⟩ => ⟨S8x2048x2048, .f32⟩
  | .hbm, ⟨37, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Route.lean ====
abbrev S16384x2048 : Shape := ⟨2, ![16384, 2048]⟩
abbrev S2048x2048 : Shape := ⟨2, ![2048, 2048]⟩
abbrev S8x2x128x128 : Shape := ⟨4, ![8, 2, 128, 128]⟩
abbrev S16x128x128 : Shape := ⟨3, ![16, 128, 128]⟩
abbrev S128x128x128 : Shape := ⟨3, ![128, 128, 128]⟩
abbrev S128x2048 : Shape := ⟨2, ![128, 2048]⟩
abbrev S1x128x128 : Shape := ⟨3, ![1, 128, 128]⟩
abbrev S16x16x128 : Shape := ⟨3, ![16, 16, 128]⟩
abbrev S128x128 : Shape := ⟨2, ![128, 128]⟩
abbrev S128 : Shape := ⟨1, ![128]⟩
abbrev S1x128 : Shape := ⟨2, ![1, 128]⟩
abbrev S16x128 : Shape := ⟨2, ![16, 128]⟩
abbrev S1x16x128 : Shape := ⟨3, ![1, 16, 128]⟩
abbrev S256x128 : Shape := ⟨2, ![256, 128]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S8x2x128x128, .f32⟩
  | .hbm, ⟨3, _⟩ => ⟨S2048x2048, .bf16⟩
  | .hbm, ⟨4, _⟩ => ⟨S16x128x128, .f32⟩
  | .hbm, ⟨5, _⟩ => ⟨S16x128x128, .bf16⟩
  | .hbm, ⟨6, _⟩ => ⟨S128x128x128, .f32⟩
  | .hbm, ⟨7, _⟩ => ⟨S128x128x128, .i32⟩
  | .local _ .vmem, ⟨0, _⟩ => ⟨S128x2048, .f32⟩
  | .local _ .vmem, ⟨1, _⟩ => ⟨S128x2048, .f32⟩
  | .local _ .vmem, ⟨2, _⟩ => ⟨S2048x2048, .bf16⟩
  | .local _ .vmem, ⟨3, _⟩ => ⟨S16x128x128, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .i32⟩
  | .local _ .vmem, ⟨7, _⟩ => ⟨S1x128x128, .i32⟩
  | .local _ .vmem, ⟨8, _⟩ => ⟨S16x16x128, .f32⟩
  | .local _ .vmem, ⟨9, _⟩ => ⟨S16x16x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouteRefIdeal.lean ====
abbrev S16384x2048 : Shape := ⟨2, ![16384, 2048]⟩
abbrev S2048x2048 : Shape := ⟨2, ![2048, 2048]⟩
abbrev S8x2x128x128 : Shape := ⟨4, ![8, 2, 128, 128]⟩
abbrev S16384x8x2x128 : Shape := ⟨4, ![16384, 8, 2, 128]⟩
abbrev S8x2x128x16384 : Shape := ⟨4, ![8, 2, 128, 16384]⟩
abbrev S16384x8x2x16 : Shape := ⟨4, ![16384, 8, 2, 16]⟩
abbrev S16384x8x1x16 : Shape := ⟨4, ![16384, 8, 1, 16]⟩
abbrev S16384x8x16 : Shape := ⟨3, ![16384, 8, 16]⟩
abbrev S16384x8x16x1 : Shape := ⟨4, ![16384, 8, 16, 1]⟩
abbrev S16384x8x16x16 : Shape := ⟨4, ![16384, 8, 16, 16]⟩
abbrev S16384x8x256 : Shape := ⟨3, ![16384, 8, 256]⟩
abbrev S_ : Shape := ⟨0, ![]⟩
abbrev S1 : Shape := ⟨1, ![1]⟩
abbrev S1x1x1x1 : Shape := ⟨4, ![1, 1, 1, 1]⟩
abbrev S16384x8 : Shape := ⟨2, ![16384, 8]⟩
abbrev S16384x8x1 : Shape := ⟨3, ![16384, 8, 1]⟩
abbrev S128x128x128 : Shape := ⟨3, ![128, 128, 128]⟩

abbrev nBuf : Space → Nat
  | .hbm => 131
  | .vmem => 0
  | .smem => 0
  | _ => 0

abbrev hbmTy0_0 (i : Nat) : BufTy := match i % 128 with
  | 0 => ⟨S16384x2048, .f32⟩
  | 1 => ⟨S2048x2048, .f32⟩
  | 2 => ⟨S8x2x128x128, .f32⟩
  | 3 => ⟨S16384x2048, .f32⟩
  | 4 => ⟨S16384x8x2x128, .f32⟩
  | 5 => ⟨S8x2x128x16384, .f32⟩
  | 6 => ⟨S16384x8x2x128, .f32⟩
  | 7 => ⟨S16384x8x2x16, .f32⟩
  | 8 => ⟨S16384x8x2x16, .i32⟩
  | 9 => ⟨S16384x8x1x16, .f32⟩
  | 10 => ⟨S16384x8x16, .f32⟩
  | 11 => ⟨S16384x8x16x1, .f32⟩
  | 12 => ⟨S16384x8x1x16, .f32⟩
  | 13 => ⟨S16384x8x16, .f32⟩
  | 14 => ⟨S16384x8x1x16, .f32⟩
  | 15 => ⟨S16384x8x16x16, .f32⟩
  | 16 => ⟨S16384x8x16x16, .f32⟩
  | 17 => ⟨S16384x8x16x16, .f32⟩
  | 18 => ⟨S16384x8x256, .f32⟩
  | 19 => ⟨S16384x8x16, .f32⟩
  | 20 => ⟨S16384x8x16, .i32⟩
  | 21 => ⟨S16384x8x1x16, .i32⟩
  | 22 => ⟨S16384x8x16, .i32⟩
  | 23 => ⟨S_, .i32⟩
  | 24 => ⟨S_, .i32⟩
  | 25 => ⟨S16384x8x16, .i32⟩
  | 26 => ⟨S16384x8x16, .i32⟩
  | 27 => ⟨S16384x8x16, .i32⟩
  | 28 => ⟨S_, .i32⟩
  | 29 => ⟨S16384x8x16, .i32⟩
  | 30 => ⟨S16384x8x16, .i1⟩
  | 31 => ⟨S16384x8x16, .i32⟩
  | 32 => ⟨S16384x8x16, .i32⟩
  | 33 => ⟨S_, .i32⟩
  | 34 => ⟨S16384x8x16, .i32⟩
  | 35 => ⟨S16384x8x16, .i1⟩
  | 36 => ⟨S16384x8x16, .i1⟩
  | 37 => ⟨S_, .i32⟩
  | 38 => ⟨S16384x8x16, .i32⟩
  | 39 => ⟨S16384x8x16, .i32⟩
  | 40 => ⟨S16384x8x16, .i32⟩
  | 41 => ⟨S_, .i32⟩
  | 42 => ⟨S16384x8x16, .i32⟩
  | 43 => ⟨S16384x8x16, .i1⟩
  | 44 => ⟨S_, .i32⟩
  | 45 => ⟨S16384x8x16, .i32⟩
  | 46 => ⟨S16384x8x16, .i32⟩
  | 47 => ⟨S16384x8x16, .i32⟩
  | 48 => ⟨S16384x8x16x1, .i32⟩
  | 49 => ⟨S1, .i32⟩
  | 50 => ⟨S_, .i32⟩
  | 51 => ⟨S16384x8x16x1, .i32⟩
  | 52 => ⟨S16384x8x16x1, .i1⟩
  | 53 => ⟨S1x1x1x1, .i32⟩
  | 54 => ⟨S16384x8x16x1, .i32⟩
  | 55 => ⟨S16384x8x16x1, .i1⟩
  | 56 => ⟨S16384x8x16x1, .i1⟩
  | 57 => ⟨S_, .i1⟩
  | 58 => ⟨S16384x8x16, .i1⟩
  | 59 => ⟨S16384x8x16, .i32⟩
  | 60 => ⟨S_, .i32⟩
  | 61 => ⟨S16384x8x16, .i32⟩
  | 62 => ⟨S16384x8x16, .i32⟩
  | 63 => ⟨S16384x8x1x16, .i32⟩
  | 64 => ⟨S16384x8x16, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S16384x8x16, .i32⟩
  | 72 => ⟨S16384x8x16, .i32⟩
  | 73 => ⟨S_, .i32⟩
  | 74 => ⟨S16384x8x16, .i32⟩
  | 75 => ⟨S16384x8x16, .i1⟩
  | 76 => ⟨S_, .i32⟩
  | 77 => ⟨S16384x8x16, .i32⟩
  | 78 => ⟨S16384x8x16, .i1⟩
  | 79 => ⟨S_, .i32⟩
  | 80 => ⟨S_, .i1⟩
  | 81 => ⟨S16384x8x16, .i1⟩
  | 82 => ⟨S16384x8x16, .i1⟩
  | 83 => ⟨S16384x8x16, .i1⟩
  | 84 => ⟨S16384x8x16, .i32⟩
  | 85 => ⟨S16384x8x16, .i32⟩
  | 86 => ⟨S16384x8x16, .i32⟩
  | 87 => ⟨S_, .i32⟩
  | 88 => ⟨S16384x8x16, .i32⟩
  | 89 => ⟨S16384x8x16, .i1⟩
  | 90 => ⟨S_, .i32⟩
  | 91 => ⟨S16384x8x16, .i32⟩
  | 92 => ⟨S16384x8x16, .i32⟩
  | 93 => ⟨S16384x8x16, .i32⟩
  | 94 => ⟨S16384x8x16x1, .i32⟩
  | 95 => ⟨S1, .i32⟩
  | 96 => ⟨S_, .i32⟩
  | 97 => ⟨S16384x8x16x1, .i32⟩
  | 98 => ⟨S16384x8x16x1, .i1⟩
  | 99 => ⟨S1x1x1x1, .i32⟩
  | 100 => ⟨S16384x8x16x1, .i32⟩
  | 101 => ⟨S16384x8x16x1, .i1⟩
  | 102 => ⟨S16384x8x16x1, .i1⟩
  | 103 => ⟨S_, .i1⟩
  | 104 => ⟨S16384x8x16, .i1⟩
  | 105 => ⟨S16384x8x16, .i32⟩
  | 106 => ⟨S_, .i32⟩
  | 107 => ⟨S16384x8x16, .i32⟩
  | 108 => ⟨S16384x8x16, .i32⟩
  | 109 => ⟨S_, .i32⟩
  | 110 => ⟨S16384x8x16, .i32⟩
  | 111 => ⟨S16384x8x16, .i32⟩
  | 112 => ⟨S16384x8x16, .i32⟩
  | 113 => ⟨S_, .f32⟩
  | 114 => ⟨S16384x8, .f32⟩
  | 115 => ⟨S_, .f32⟩
  | 116 => ⟨S16384x8, .f32⟩
  | 117 => ⟨S16384x8, .f32⟩
  | 118 => ⟨S16384x8x1, .f32⟩
  | 119 => ⟨S16384x8x16, .f32⟩
  | 120 => ⟨S16384x8x16, .f32⟩
  | 121 => ⟨S16384x8x16, .f32⟩
  | 122 => ⟨S_, .f32⟩
  | 123 => ⟨S16384x8, .f32⟩
  | 124 => ⟨S16384x8x1, .f32⟩
  | 125 => ⟨S16384x8x16, .f32⟩
  | 126 => ⟨S16384x8x16, .f32⟩
  | 127 => ⟨S128x128x128, .f32⟩
  | _ => ⟨S16384x2048, .f32⟩

abbrev hbmTy0_1 (i : Nat) : BufTy := match i % 128 with
  | 0 => ⟨S128x128x128, .f32⟩
  | 1 => ⟨S128x128x128, .i32⟩
  | 2 => ⟨S128x128x128, .i32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values_0 : Ref sig .tc := ⟨.hbm, 19, rfl⟩
abbrev main_indices_1 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v16 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_c_4 : Ref sig .tc := ⟨.hbm, 60, rfl⟩
abbrev main_call1_v14 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_c_2 : Ref sig .tc := ⟨.hbm, 65, rfl⟩
abbrev main_call2_v0 : Ref sig .tc := ⟨.hbm, 66, rfl⟩
abbrev main_call2_c : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_1 : Ref sig .tc := ⟨.hbm, 73, rfl⟩
abbrev main_call2_v5 : Ref sig .tc := ⟨.hbm, 74, rfl⟩
abbrev main_call2_v6 : Ref sig .tc := ⟨.hbm, 75, rfl⟩
abbrev main_call2_c_2 : Ref sig .tc := ⟨.hbm, 76, rfl⟩
abbrev main_call2_v7 : Ref sig .tc := ⟨.hbm, 77, rfl⟩
abbrev main_call2_v8 : Ref sig .tc := ⟨.hbm, 78, rfl⟩
abbrev main_call2_c_3 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_v20 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_c_4 : Ref sig .tc := ⟨.hbm, 106, rfl⟩
abbrev main_call3_v14 : Ref sig .tc := ⟨.hbm, 107, rfl⟩
abbrev main_v21 : Ref sig .tc := ⟨.hbm, 108, rfl⟩
abbrev main_c_3 : Ref sig .tc := ⟨.hbm, 109, rfl⟩
abbrev main_v22 : Ref sig .tc := ⟨.hbm, 110, rfl⟩
abbrev main_v23 : Ref sig .tc := ⟨.hbm, 111, rfl⟩
abbrev main_v24 : Ref sig .tc := ⟨.hbm, 112, rfl⟩
abbrev main_cst : Ref sig .tc := ⟨.hbm, 113, rfl⟩
abbrev main_v25 : Ref sig .tc := ⟨.hbm, 114, rfl⟩
abbrev main_cst_4 : Ref sig .tc := ⟨.hbm, 115, rfl⟩
abbrev main_v26 : Ref sig .tc := ⟨.hbm, 116, rfl⟩
abbrev main_v27 : Ref sig .tc := ⟨.hbm, 117, rfl⟩
abbrev main_v28 : Ref sig .tc := ⟨.hbm, 118, rfl⟩
abbrev main_v29 : Ref sig .tc := ⟨.hbm, 119, rfl⟩
abbrev main_v30 : Ref sig .tc := ⟨.hbm, 120, rfl⟩
abbrev main_v31 : Ref sig .tc := ⟨.hbm, 121, rfl⟩
abbrev main_cst_5 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_v36 : Ref sig .tc := ⟨.hbm, 127, rfl⟩
abbrev main_v37 : Ref sig .tc := ⟨.hbm, 128, rfl⟩
abbrev main_v38 : Ref sig .tc := ⟨.hbm, 129, rfl⟩
abbrev main_v39 : Ref sig .tc := ⟨.hbm, 130, rfl⟩

abbrev nD : Nat := 1
abbrev τ : Topo := Topo.v7x

variable {F : FTy → Type} [FloatOps F]
-- ==== Cmp.lean ====
abbrev S8x2048x5632 : Shape := ⟨3, ![8, 2048, 5632]⟩
abbrev S2x32x128 : Shape := ⟨3, ![2, 32, 128]⟩
abbrev S2x32x128x128 : Shape := ⟨4, ![2, 32, 128, 128]⟩
abbrev S2x128x128 : Shape := ⟨3, ![2, 128, 128]⟩
abbrev S8x4x128x128 : Shape := ⟨4, ![8, 4, 128, 128]⟩
abbrev S1x2048x128 : Shape := ⟨3, ![1, 2048, 128]⟩
abbrev S1x32x128 : Shape := ⟨3, ![1, 32, 128]⟩
abbrev S1x32x128x128 : Shape := ⟨4, ![1, 32, 128, 128]⟩
abbrev S1x128x128 : Shape := ⟨3, ![1, 128, 128]⟩
abbrev S1x1x128x128 : Shape := ⟨4, ![1, 1, 128, 128]⟩
abbrev S128x128 : Shape := ⟨2, ![128, 128]⟩
abbrev S1x1x128 : Shape := ⟨3, ![1, 1, 128]⟩
abbrev S1x128 : Shape := ⟨2, ![1, 128]⟩
abbrev S8x4x127x128 : Shape := ⟨4, ![8, 4, 127, 128]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x5632, .f32⟩
  | .hbm, ⟨1, _⟩ => ⟨S2x32x128, .f32⟩
  | .hbm, ⟨2, _⟩ => ⟨S2x32x128x128, .f32⟩
  | .hbm, ⟨3, _⟩ => ⟨S2x128x128, .f32⟩
  | .hbm, ⟨4, _⟩ => ⟨S2x32x128x128, .bf16⟩
  | .hbm, ⟨5, _⟩ => ⟨S2x128x128, .bf16⟩
  | .hbm, ⟨6, _⟩ => ⟨S8x4x128x128, .f32⟩
  | .hbm, ⟨7, _⟩ => ⟨S8x4x127x128, .f32⟩
  | .local _ .vmem, ⟨0, _⟩ => ⟨S1x2048x128, .f32⟩
  | .local _ .vmem, ⟨1, _⟩ => ⟨S1x2048x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128x128, .bf16⟩
  | .local _ .vmem, ⟨5, _⟩ => ⟨S1x32x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x1x128x128, .f32⟩
  | .local _ .vmem, ⟨9, _⟩ => ⟨S1x1x128x128, .f32⟩
  | _, _ => ⟨S8x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x32x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== CmpRefIdeal.lean ====
abbrev S8x2048x5632 : Shape := ⟨3, ![8, 2048, 5632]⟩
abbrev S2x32x128 : Shape := ⟨3, ![2, 32, 128]⟩
abbrev S2x32x128x128 : Shape := ⟨4, ![2, 32, 128, 128]⟩
abbrev S2x128x128 : Shape := ⟨3, ![2, 128, 128]⟩
abbrev S8x2048x512 : Shape := ⟨3, ![8, 2048, 512]⟩
abbrev S8x2048x2x2x128 : Shape := ⟨5, ![8, 2048, 2, 2, 128]⟩
abbrev S8x2048x1x2x128 : Shape := ⟨5, ![8, 2048, 1, 2, 128]⟩
abbrev S8x2048x2x128 : Shape := ⟨4, ![8, 2048, 2, 128]⟩
abbrev S1x32x128 : Shape := ⟨3, ![1, 32, 128]⟩
abbrev S32x128 : Shape := ⟨2, ![32, 128]⟩
abbrev S1x32x128x128 : Shape := ⟨4, ![1, 32, 128, 128]⟩
abbrev S32x128x128 : Shape := ⟨3, ![32, 128, 128]⟩
abbrev S1x128x128 : Shape := ⟨3, ![1, 128, 128]⟩
abbrev S128x128 : Shape := ⟨2, ![128, 128]⟩
abbrev S8x128x16x2x128 : Shape := ⟨5, ![8, 128, 16, 2, 128]⟩
abbrev S2x16x1x128 : Shape := ⟨4, ![2, 16, 1, 128]⟩
abbrev S2x16x128x128 : Shape := ⟨4, ![2, 16, 128, 128]⟩
abbrev S8x127x16x2x128 : Shape := ⟨5, ![8, 127, 16, 2, 128]⟩
abbrev S1x16x1x128 : Shape := ⟨4, ![1, 16, 1, 128]⟩
abbrev S16x1x128 : Shape := ⟨3, ![16, 1, 128]⟩
abbrev S1x1x16x1x128 : Shape := ⟨5, ![1, 1, 16, 1, 128]⟩
abbrev S1x16x128x128 : Shape := ⟨4, ![1, 16, 128, 128]⟩
abbrev S16x128x128 : Shape := ⟨3, ![16, 128, 128]⟩
abbrev S8x127x2x128 : Shape := ⟨4, ![8, 127, 2, 128]⟩
abbrev S_ : Shape := ⟨0, ![]⟩
abbrev S8x127x4x128 : Shape := ⟨4, ![8, 127, 4, 128]⟩
abbrev S8x4x127x128 : Shape := ⟨4, ![8, 4, 127, 128]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x5632, .f32⟩
  | .hbm, ⟨1, _⟩ => ⟨S2x32x128, .f32⟩
  | .hbm, ⟨2, _⟩ => ⟨S2x32x128x128, .f32⟩
  | .hbm, ⟨3, _⟩ => ⟨S2x128x128, .f32⟩
  | .hbm, ⟨4, _⟩ => ⟨S8x2048x512, .f32⟩
  | .hbm, ⟨5, _⟩ => ⟨S8x2048x2x2x128, .f32⟩
  | .hbm, ⟨6, _⟩ => ⟨S8x2048x1x2x128, .f32⟩
  | .hbm, ⟨7, _⟩ => ⟨S8x2048x2x128, .f32⟩
  | .hbm, ⟨8, _⟩ => ⟨S1x32x128, .f32⟩
  | .hbm, ⟨9, _⟩ => ⟨S32x128, .f32⟩
  | .hbm, ⟨10, _⟩ => ⟨S1x32x128x128, .f32⟩
  | .hbm, ⟨11, _⟩ => ⟨S32x128x128, .f32⟩
  | .hbm, ⟨12, _⟩ => ⟨S1x128x128, .f32⟩
  | .hbm, ⟨13, _⟩ => ⟨S128x128, .f32⟩
  | .hbm, ⟨14, _⟩ => ⟨S8x128x16x2x128, .f32⟩
  | .hbm, ⟨15, _⟩ => ⟨S2x16x1x128, .f32⟩
  | .hbm, ⟨16, _⟩ => ⟨S2x16x128x128, .f32⟩
  | .hbm, ⟨17, _⟩ => ⟨S8x127x16x2x128, .f32⟩
  | .hbm, ⟨18, _⟩ => ⟨S1x16x1x128, .f32⟩
  | .hbm, ⟨19, _⟩ => ⟨S16x1x128, .f32⟩
  | .hbm, ⟨20, _⟩ => ⟨S1x1x16x1x128, .f32⟩
  | .hbm, ⟨21, _⟩ => ⟨S8x127x16x2x128, .f32⟩
  | .hbm, ⟨22, _⟩ => ⟨S8x127x16x2x128, .f32⟩
  | .hbm, ⟨23, _⟩ => ⟨S1x16x128x128, .f32⟩
  | .hbm, ⟨24, _⟩ => ⟨S16x128x128, .f32⟩
  | .hbm, ⟨25, _⟩ => ⟨S8x127x2x128, .f32⟩
  | .hbm, ⟨26, _⟩ => ⟨S8x127x16x2x128, .f32⟩
  | .hbm, ⟨27, _⟩ => ⟨S1x16x1x128, .f32⟩
  | .hbm, ⟨28, _⟩ => ⟨S16x1x128, .f32⟩
  | .hbm, ⟨29, _⟩ => ⟨S1x1x16x1x128, .f32⟩
  | .hbm, ⟨30, _⟩ => ⟨S8x127x16x2x128, .f32⟩
  | .hbm, ⟨31, _⟩ => ⟨S8x127x16x2x128, .f32⟩
  | .hbm, ⟨32, _⟩ => ⟨S1x16x128x128, .f32⟩
  | .hbm, ⟨33, _⟩ => ⟨S16x128x128, .f32⟩
  | .hbm, ⟨34, _⟩ => ⟨S8x127x2x128, .f32⟩
  | .hbm, ⟨35, _⟩ => ⟨S8x127x2x128, .f32⟩
  | .hbm, ⟨36, _⟩ => ⟨S8x127x2x128, .f32⟩
  | .hbm, ⟨37, _⟩ => ⟨S8x127x2x128, .f32⟩
  | .hbm, ⟨38, _⟩ => ⟨S_, .f32⟩
  | .hbm, ⟨39, _⟩ => ⟨S8x127x2x128, .f32⟩
  | .hbm, ⟨40, _⟩ => ⟨S8x127x2x128, .f32⟩
  | .hbm, ⟨41, _⟩ => ⟨S8x127x2x128, .f32⟩
  | .hbm, ⟨42, _⟩ => ⟨S_, .f32⟩
  | .hbm, ⟨43, _⟩ => ⟨S8x127x2x128, .f32⟩
  | .hbm, ⟨44, _⟩ => ⟨S8x127x2x128, .f32⟩
  | .hbm, ⟨45, _⟩ => ⟨S8x127x2x128, .f32⟩
  | .hbm, ⟨46, _⟩ => ⟨S_, .f32⟩
  | .hbm, ⟨47, _⟩ => ⟨S8x127x2x128, .f32⟩
  | .hbm, ⟨48, _⟩ => ⟨S8x127x2x128, .f32⟩
  | .hbm, ⟨49, _⟩ => ⟨S_, .f32⟩
  | .hbm, ⟨50, _⟩ => ⟨S8x127x2x128, .f32⟩
  | .hbm, ⟨51, _⟩ => ⟨S8x127x2x128, .f32⟩
  | .hbm, ⟨52, _⟩ => ⟨S8x127x2x128, .f32⟩
  | .hbm, ⟨53, _⟩ => ⟨S8x127x2x128, .f32⟩
  | .hbm, ⟨54, _⟩ => ⟨S8x2048x1x2x128, .f32⟩
  | .hbm, ⟨55, _⟩ => ⟨S8x2048x2x128, .f32⟩
  | .hbm, ⟨56, _⟩ => ⟨S1x32x128, .f32⟩
  | .hbm, ⟨57, _⟩ => ⟨S32x128, .f32⟩
  | .hbm, ⟨58, _⟩ => ⟨S1x32x128x128, .f32⟩
  | .hbm, ⟨59, _⟩ => ⟨S32x128x128, .f32⟩
  | .hbm, ⟨60, _⟩ => ⟨S1x128x128, .f32⟩
  | .hbm, ⟨61, _⟩ => ⟨S128x128, .f32⟩
  | .hbm, ⟨62, _⟩ => ⟨S8x128x16x2x128, .f32⟩
  | .hbm, ⟨63, _⟩ => ⟨S2x16x1x128, .f32⟩
  | .hbm, ⟨64, _⟩ => ⟨S2x16x128x128, .f32⟩
  | .hbm, ⟨65, _⟩ => ⟨S8x127x16x2x128, .f32⟩
  | .hbm, ⟨66, _⟩ => ⟨S1x16x1x128, .f32⟩
  | .hbm, ⟨67, _⟩ => ⟨S16x1x128, .f32⟩
  | .hbm, ⟨68, _⟩ => ⟨S1x1x16x1x128, .f32⟩
  | .hbm, ⟨69, _⟩ => ⟨S8x127x16x2x128, .f32⟩
  | .hbm, ⟨70, _⟩ => ⟨S8x127x16x2x128, .f32⟩
  | .hbm, ⟨71, _⟩ => ⟨S1x16x128x128, .f32⟩
  | .hbm, ⟨72, _⟩ => ⟨S16x128x128, .f32⟩
  | .hbm, ⟨73, _⟩ => ⟨S8x127x2x128, .f32⟩
  | .hbm, ⟨74, _⟩ => ⟨S8x127x16x2x128, .f32⟩
  | .hbm, ⟨75, _⟩ => ⟨S1x16x1x128, .f32⟩
  | .hbm, ⟨76, _⟩ => ⟨S16x1x128, .f32⟩
  | .hbm, ⟨77, _⟩ => ⟨S1x1x16x1x128, .f32⟩
  | .hbm, ⟨78, _⟩ => ⟨S8x127x16x2x128, .f32⟩
  | .hbm, ⟨79, _⟩ => ⟨S8x127x16x2x128, .f32⟩
  | .hbm, ⟨80, _⟩ => ⟨S1x16x128x128, .f32⟩
  | .hbm, ⟨81, _⟩ => ⟨S16x128x128, .f32⟩
  | .hbm, ⟨82, _⟩ => ⟨S8x127x2x128, .f32⟩
  | .hbm, ⟨83, _⟩ => ⟨S8x127x2x128, .f32⟩
  | .hbm, ⟨84, _⟩ => ⟨S8x127x2x128, .f32⟩
  | .hbm, ⟨85, _⟩ => ⟨S8x127x2x128, .f32⟩
  | .hbm, ⟨86, _⟩ => ⟨S_, .f32⟩
  | .hbm, ⟨87, _⟩ => ⟨S8x127x2x128, .f32⟩
  | .hbm, ⟨88, _⟩ => ⟨S8x127x2x128, .f32⟩
  | .hbm, ⟨89, _⟩ => ⟨S8x127x2x128, .f32⟩
  | .hbm, ⟨90, _⟩ => ⟨S_, .f32⟩
  | .hbm, ⟨91, _⟩ => ⟨S8x127x2x128, .f32⟩
  | .hbm, ⟨92, _⟩ => ⟨S8x127x2x128, .f32⟩
  | .hbm, ⟨93, _⟩ => ⟨S8x127x2x128, .f32⟩
  | .hbm, ⟨94, _⟩ => ⟨S_, .f32⟩
  | .hbm, ⟨95, _⟩ => ⟨S8x127x2x128, .f32⟩
  | .hbm, ⟨96, _⟩ => ⟨S8x127x2x128, .f32⟩
  | .hbm, ⟨97, _⟩ => ⟨S_, .f32⟩
  | .hbm, ⟨98, _⟩ => ⟨S8x127x2x128, .f32⟩
  | .hbm, ⟨99, _⟩ => ⟨S8x127x2x128, .f32⟩
  | .hbm, ⟨100, _⟩ => ⟨S8x127x2x128, .f32⟩
  | .hbm, ⟨101, _⟩ => ⟨S8x127x2x128, .f32⟩
  | .hbm, ⟨102, _⟩ => ⟨S8x127x4x128, .f32⟩
  | .hbm, ⟨103, _⟩ => ⟨S8x4x127x128, .f32⟩
  | _, _ => ⟨S8x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_0 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_3 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_cst_4 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_cst_5 : Ref sig .tc := ⟨.hbm, 94, rfl⟩
abbrev main_v84 : Ref sig .tc := ⟨.hbm, 95, rfl⟩
abbrev main_v85 : Ref sig .tc := ⟨.hbm, 96, rfl⟩
abbrev main_cst_6 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩

abbrev nD : Nat := 1
abbrev τ : Topo := Topo.v7x

variable {F : FTy → Type} [FloatOps F]
-- ==== Proof.PostSpec.lean ====
/-
  One token's row through the attention's output: each head group scaled to unit mean square, the output projection, the
  residual, and the layer norm.
-/
module

public import Idealize.ShloMosaic.Lib.Pointwise

@[expose] public section

noncomputable section

namespace Cert.Proof.PostSpec

open Idealize.ShloMosaic

/-- The norms' epsilon. -/
def eps : Ideal .f32 := Ideal.ofBits FTy.f32 0x3727C5AC#32
/-- The residual's factor. -/
def alpha : Ideal .f32 := Ideal.ofBits FTy.f32 0x3F9837F0#32
/-- The number of channels of one head group. -/
def nHalf : Ideal .f32 := Ideal.ofBits FTy.f32 0x44800000#32
/-- The number of channels. -/
def nFull : Ideal .f32 := Ideal.ofBits FTy.f32 0x45000000#32

/-- A row divided by the root of its mean square, by channel gain. -/
def rms (o g : Fin 1024 → Ideal .f32) (k : Fin 1024) : Ideal .f32 :=
  o k * Ideal.rsqrt (Ideal.div (∑ x, o x * o x) nHalf + eps) * g k

/-- A row's mean. -/
def mean (z : Fin 2048 → Ideal .f32) : Ideal .f32 := Ideal.div (∑ x, z x) nFull

/-- A row centred and scaled by its deviation, by channel gain and offset. -/
def lnorm (z g b : Fin 2048 → Ideal .f32) (j : Fin 2048) : Ideal .f32 :=
  (z j - mean z) * Ideal.rsqrt (Ideal.div (∑ x, (z x - mean z) * (z x - mean z)) nFull + eps) * g j + b j

/-- The output projection of the two groups' rows. -/
def mix (n f : Fin 1024 → Ideal .f32) (w : Fin 2048 → Fin 2048 → Ideal .f32) (j : Fin 2048) : Ideal .f32 :=
  ∑ k : Fin 1024, n k * w ⟨k.val, by omega⟩ j + ∑ k : Fin 1024, f k * w ⟨1024 + k.val, by omega⟩ j

/-- The whole row. -/
def outRow (on of : Fin 1024 → Ideal .f32) (x : Fin 2048 → Ideal .f32) (gn gf : Fin 1024 → Ideal .f32) (w : Fin 2048 → Fin 2048 → Ideal .f32)
    (g b : Fin 2048 → Ideal .f32) (j : Fin 2048) : Ideal .f32 :=
  lnorm (fun j => alpha * x j + mix (rms on gn) (rms of gf) w j) g b j

end Cert.Proof.PostSpec

end
-- ==== Proof.AddLnArray.lean ====
/-
  The second layer norm's call: each grid point takes 512 tokens' rows, the residual and the experts' output added, through
  the norm, and the points fill the array (`final_eq`).
-/
module

public import proofs.«01_k».proof.Proof.PostSpec
public import proofs.«01_k».proof.Proof.Gen.AddLnIdeal.Value
public import Idealize.ShloMosaic.Lib.Pipeline.Value
public import Idealize.ShloMosaic.Lib.Pointwise
public import Idealize.ShloMosaic.Lib.ValueIdx
public import Idealize.ShloMosaic.Lib.Claim

@[expose] public section

set_option maxRecDepth 16384

noncomputable section

namespace Cert.Proof.AddLnArray

open Cert.AddLnIdeal Cert.AddLnIdeal.Gen Idealize.ShloMosaic Idealize.ShloMosaic.TcCoe Idealize.SL.Sem
open Cert.Proof.PostSpec Pointwise
open Idealize.ShloMosaic.Pipeline (Dat)

/-! ## A point's block -/

/-- The residual and the layer norm. -/
theorem pay1_apply (x0 x1 : Vec Ideal S512x2048 .f32) (x2 x3 : Vec Ideal S1x2048 .f32) (r : Fin 512) (j : Fin 2048) :
    (k0_pay1 x0 x1 x2 x3 : FVec Ideal S512x2048 .f32) (ix2 r j)
      = lnorm (fun j => alpha * x0 (ix2 r j) + x1 (ix2 r j)) (fun j => x2 (ix2 0 j)) (fun j => x3 (ix2 0 j)) j := by
  unfold lnorm mean alpha nFull eps
  pointwise [k0_pay1]

/-- What a point leaves, by row and channel. -/
theorem out_apply (x0 x1 : Vec Ideal S512x2048 .f32) (x2 x3 : Vec Ideal S1x2048 .f32) (r : Fin 512) (j : Fin 2048) :
    out0_4 (F := Ideal) x0 x1 x2 x3 (ix2 r j)
      = lnorm (fun j => alpha * x0 (ix2 r j) + x1 (ix2 r j)) (fun j => x2 (ix2 0 j)) (fun j => x3 (ix2 0 j)) j := by
  unfold out0_4
  rw [View.canon_cons_unit_zero (by funext a; fin_cases a <;> rfl)]
  have l0 : ∀ x : Vec Ideal S512x2048 .f32, View.ld x r0_0 = x := fun x => View.ld_unit_zero (by funext a; fin_cases a <;> rfl) _ x
  have l1 : ∀ x : Vec Ideal S1x2048 .f32, View.ld x r0_1 = x := fun x => View.ld_unit_zero (by funext a; fin_cases a <;> rfl) _ x
  rw [l0, l0, l1, l1]
  exact pay1_apply x0 x1 x2 x3 r j

/-! ## The arrays as the region finds them -/

variable (m : (ℓ : Loc nD τ sig) → Buf (Elt Ideal) ℓ) (c : Dev nD)

/-- The first norm's output as launched. -/
abbrev hArg : Vec Ideal S8x2048x2048 .f32 := m ((c : Thread nD τ).loc main_arg0)
/-- The experts' output. -/
abbrev fArg : Vec Ideal S8x2048x2048 .f32 := m ((c : Thread nD τ).loc main_arg1)
/-- The layer norm's gains. -/
abbrev gArg : Vec Ideal S2048 .f32 := m ((c : Thread nD τ).loc main_arg2)
/-- The layer norm's offsets. -/
abbrev bArg : Vec Ideal S2048 .f32 := m ((c : Thread nD τ).loc main_arg3)

/-- The result's array. -/
def big (h f : Vec Ideal S8x2048x2048 .f32) (g b : Vec Ideal S2048 .f32) : Vec Ideal S16384x2048 .f32 := fun i =>
  lnorm (fun j => alpha * h (ix3 ⟨(i 0).val / 2048, by have : (i 0).val < 16384 := (i 0).isLt; omega⟩ ⟨(i 0).val % 2048, by omega⟩ j)
      + f (ix3 ⟨(i 0).val / 2048, by have : (i 0).val < 16384 := (i 0).isLt; omega⟩ ⟨(i 0).val % 2048, by omega⟩ j))
    (fun j => g (ix1 j)) (fun j => b (ix1 j)) (i 1)

theorem V0_apply (r : Fin 16384) (k : Fin 2048) : (V m c main_v0 : Vec Ideal S16384x2048 .f32) (ix2 r k)
    = hArg m c (ix3 ⟨r.val / 2048, by omega⟩ ⟨r.val % 2048, by omega⟩ k) := by
  have e : (V m c main_v0 : Vec Ideal S16384x2048 .f32) = shapeCast _ (hArg m c) shapeCasts_S8x2048x2048_S16384x2048 := by
    entry_read
    rfl
  rw [e]
  generalize hArg m c = y
  pointwise

theorem V1_apply (r : Fin 16384) (k : Fin 2048) : (V m c main_v1 : Vec Ideal S16384x2048 .f32) (ix2 r k)
    = fArg m c (ix3 ⟨r.val / 2048, by omega⟩ ⟨r.val % 2048, by omega⟩ k) := by
  have e : (V m c main_v1 : Vec Ideal S16384x2048 .f32) = shapeCast _ (fArg m c) shapeCasts_S8x2048x2048_S16384x2048 := by
    entry_read
    rfl
  rw [e]
  generalize fArg m c = y
  pointwise

theorem V2_apply (k : Fin 2048) : (V m c main_v2 : Vec Ideal S1x2048 .f32) (ix2 0 k) = gArg m c (ix1 k) := by
  have e : (V m c main_v2 : Vec Ideal S1x2048 .f32) = broadcastInDim S1x2048 ![1] bcast_S2048_S1x2048_1 (gArg m c) := by
    entry_read
    rfl
  rw [e]
  generalize gArg m c = y
  pointwise

theorem V3_apply (k : Fin 2048) : (V m c main_v3 : Vec Ideal S1x2048 .f32) (ix2 0 k) = bArg m c (ix1 k) := by
  have e : (V m c main_v3 : Vec Ideal S1x2048 .f32) = broadcastInDim S1x2048 ![1] bcast_S2048_S1x2048_1 (bArg m c) := by
    entry_read
    rfl
  rw [e]
  generalize bArg m c = y
  pointwise

/-! ## The index maps -/

section Maps
variable (i : grid0.Coords)

theorem i0_lt : (i 0).val < 32 := (i 0).isLt

theorem toNat_small {n : ℕ} (h : n < 32) : (BitVec.ofNat 32 n).toNat = n := by rw [BitVec.toNat_ofNat]; omega

theorem map0 : cc0_transform_0 i = ![(i 0).val, 0] := by
  show ![(BitVec.ofNat 32 (i 0).val).toNat, 0] = _
  rw [toNat_small (i0_lt i)]
theorem map1 : cc0_transform_1 i = ![(i 0).val, 0] := by
  show ![(BitVec.ofNat 32 (i 0).val).toNat, 0] = _
  rw [toNat_small (i0_lt i)]
theorem map4 : cc0_transform_4 i = ![(i 0).val, 0] := by
  show ![(BitVec.ofNat 32 (i 0).val).toNat, 0] = _
  rw [toNat_small (i0_lt i)]
theorem map2 : cc0_transform_2 i = ![0, 0] := rfl
theorem map3 : cc0_transform_3 i = ![0, 0] := rfl

end Maps

/-! ## A point's blocks -/

variable (t : Fin cfg0.N)

/-- Point `t`'s coordinate. -/
abbrev co : grid0.Coords := grid0.coords t

/-- The first norm's block of point `t`. -/
abbrev b0 : Vec Ideal S512x2048 .f32 := iblk m c 0 t
/-- The experts' block. -/
abbrev b1 : Vec Ideal S512x2048 .f32 := iblk m c 1 t
/-- The layer norm's gains. -/
abbrev b2 : Vec Ideal S1x2048 .f32 := iblk m c 2 t
/-- The layer norm's offsets. -/
abbrev b3 : Vec Ideal S1x2048 .f32 := iblk m c 3 t

/-- The array row of the block's row `r`. -/
abbrev row (r : Fin 512) : Fin 16384 := ⟨512 * (co t 0).val + r.val, by have := i0_lt (co t); omega⟩

theorem b0_apply (r : Fin 512) (k : Fin 2048) : b0 m c t (ix2 r k)
    = hArg m c (ix3 ⟨(row t r).val / 2048, by have := (row t r).isLt; omega⟩ ⟨(row t r).val % 2048, by omega⟩ k) := by
  have h := map0 (co t)
  refine Eq.trans ?_ (V0_apply m c (row t r) k)
  refine congrArg (V m c main_v0 : Vec Ideal S16384x2048 .f32) (funext fun a => Fin.ext ?_)
  match a with
  | ⟨0, _⟩ => show cc0_transform_0 (co t) 0 * 512 + 1 * r.val = 512 * (co t 0).val + r.val
              rw [h]; show (co t 0).val * 512 + 1 * r.val = _; omega
  | ⟨1, _⟩ => show cc0_transform_0 (co t) 1 * 2048 + 1 * k.val = k.val; rw [h]; show 0 * 2048 + 1 * k.val = _; omega

theorem b1_apply (r : Fin 512) (k : Fin 2048) : b1 m c t (ix2 r k)
    = fArg m c (ix3 ⟨(row t r).val / 2048, by have := (row t r).isLt; omega⟩ ⟨(row t r).val % 2048, by omega⟩ k) := by
  have h := map1 (co t)
  refine Eq.trans ?_ (V1_apply m c (row t r) k)
  refine congrArg (V m c main_v1 : Vec Ideal S16384x2048 .f32) (funext fun a => Fin.ext ?_)
  match a with
  | ⟨0, _⟩ => show cc0_transform_1 (co t) 0 * 512 + 1 * r.val = 512 * (co t 0).val + r.val
              rw [h]; show (co t 0).val * 512 + 1 * r.val = _; omega
  | ⟨1, _⟩ => show cc0_transform_1 (co t) 1 * 2048 + 1 * k.val = k.val; rw [h]; show 0 * 2048 + 1 * k.val = _; omega

theorem b2_apply (k : Fin 2048) : b2 m c t (ix2 0 k) = gArg m c (ix1 k) := by
  have h := map2 (co t)
  refine Eq.trans ?_ (V2_apply m c k)
  refine congrArg (V m c main_v2 : Vec Ideal S1x2048 .f32) (funext fun a => Fin.ext ?_)
  match a with
  | ⟨0, _⟩ => show cc0_transform_2 (co t) 0 * 1 + 1 * 0 = 0; rw [h]; rfl
  | ⟨1, _⟩ => show cc0_transform_2 (co t) 1 * 2048 + 1 * k.val = k.val; rw [h]; show 0 * 2048 + 1 * k.val = _; omega

theorem b3_apply (k : Fin 2048) : b3 m c t (ix2 0 k) = bArg m c (ix1 k) := by
  have h := map3 (co t)
  refine Eq.trans ?_ (V3_apply m c k)
  refine congrArg (V m c main_v3 : Vec Ideal S1x2048 .f32) (funext fun a => Fin.ext ?_)
  match a with
  | ⟨0, _⟩ => show cc0_transform_3 (co t) 0 * 1 + 1 * 0 = 0; rw [h]; rfl
  | ⟨1, _⟩ => show cc0_transform_3 (co t) 1 * 2048 + 1 * k.val = k.val; rw [h]; show 0 * 2048 + 1 * k.val = _; omega

/-- The result's array, of the arguments as launched. -/
abbrev res : Vec Ideal S16384x2048 .f32 :=
  big (hArg m c) (fArg m c) (gArg m c) (bArg m c)

/-- What point `t` writes back is its block of the result. -/
theorem flushed_eq (hf : (cfg0.win 4).flush t = true) :
    (dats m 0 c).flushed 4 t = ((cfg0.win 4).blk t).view.read (Elt Ideal) (res m c) := by
  rw [Value.flushed4]
  funext y
  have hy : ∃ (r : Fin 512) (j : Fin 2048), y = ix2 r j := ⟨y 0, y 1, by
    funext a
    match a with
    | ⟨0, _⟩ => rfl
    | ⟨1, _⟩ => rfl⟩
  obtain ⟨r, j, rfl⟩ := hy
  refine (out_apply (b0 m c t) (b1 m c t) (b2 m c t) (b3 m c t) r j).trans ?_
  simp only [b0_apply, b1_apply, b2_apply, b3_apply]
  have h := map4 (co t)
  refine ((rfl : res m c (ix2 (row t r) j) = _).symm.trans ?_ : _ = _)
  refine congrArg (res m c) (funext fun a => Fin.ext ?_)
  match a with
  | ⟨0, _⟩ => show 512 * (co t 0).val + r.val = cc0_transform_4 (co t) 0 * 512 + 1 * r.val
              rw [h]; show _ = (co t 0).val * 512 + 1 * r.val; omega
  | ⟨1, _⟩ => show j.val = cc0_transform_4 (co t) 1 * 2048 + 1 * j.val
              rw [h]; show _ = 0 * 2048 + 1 * j.val; omega

/-- Every row block is some grid point's. -/
theorem point_of : ∀ (a : Fin 32), ∃ t : Fin grid0.N, grid0.coords t 0 = a := by
  have h : ∀ t : Fin grid0.N, (grid0.coords t 0).val = t.val := by
    decide +kernel
  intro a
  have hN : grid0.N = 32 := N_0
  have h0 := h ⟨a.val, by omega⟩
  exact ⟨_, Fin.ext h0⟩

/-- The result array after the run. -/
theorem final_eq : (dats m 0 c).arrAt 4 cfg0.N = res m c :=
  (dats m 0 c).arrAt_eq_of_cover 4 (res m c) (flushed_eq m c) fun i => by
    have h0 : (i 0 : Nat) < 16384 := (i 0).isLt
    have h1 : (i 1 : Nat) < 2048 := (i 1).isLt
    obtain ⟨t, e0⟩ := point_of ⟨(i 0 : Nat) / 512, by omega⟩
    have e0 : (co t 0).val = (i 0 : Nat) / 512 := congrArg Fin.val e0
    have h := map4 (co t)
    refine ⟨t, flush0_4 t, ?_⟩
    show i ∈ ((View.whole main_v4).slice (win0_4.rect t)).set
    rw [View.set_slice_whole, Rect.mem_set_unit]
    intro a
    match a with
    | ⟨0, _⟩ => show cc0_transform_4 (co t) 0 * 512 ≤ (i 0 : Nat) ∧ (i 0 : Nat) < cc0_transform_4 (co t) 0 * 512 + 512
                rw [h]; show (co t 0).val * 512 ≤ (i 0 : Nat) ∧ (i 0 : Nat) < (co t 0).val * 512 + 512; omega
    | ⟨1, _⟩ => show cc0_transform_4 (co t) 1 * 2048 ≤ (i 1 : Nat) ∧ (i 1 : Nat) < cc0_transform_4 (co t) 1 * 2048 + 2048
                rw [h]; show 0 * 2048 ≤ (i 1 : Nat) ∧ (i 1 : Nat) < 0 * 2048 + 2048; omega

/-- The kernel's run leaves the result and its arguments. -/
theorem kernel_run (ρ : Dev nD → PrngReg) : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_eq m c), (h c).2⟩) (Value.run_blocks m ρ)

end Cert.Proof.AddLnArray

end
-- ==== Proof.AddLnRef.lean ====
/-
  The reference's second layer norm read at an index; its result is the kernel's (`ref_run`).
-/
module

public import proofs.«01_k».proof.Proof.AddLnArray
public import proofs.«01_k».proof.Proof.Gen.AddLnRefIdeal.Run
public import proofs.«01_k».proof.Proof.Gen.AddLnRefIdeal.Read
public import Idealize.ShloMosaic.Lib.KernelVsHost

@[expose] public section

set_option maxRecDepth 16384

noncomputable section

namespace Cert.Proof.AddLnRef

open Cert.AddLnRefIdeal Cert.AddLnRefIdeal.Gen Cert.AddLnRefIdeal.Read Idealize.ShloMosaic Idealize.ShloMosaic.TcCoe Idealize.SL.Sem
open Cert.Proof.PostSpec Pointwise
open Cert.Proof.AddLnArray (big)

variable (h f : Vec Ideal S8x2048x2048 .f32) (g b : Vec Ideal S2048 .f32)

/-- The residual and the experts' output. -/
theorem v2_apply (p : Fin 8) (t j : Fin 2048) : val_main_v2 (F := Ideal) h f (ix3 p t j) = alpha * h (ix3 p t j) + f (ix3 p t j) := by
  unfold alpha
  pointwise [val_main_v2, val_main_v1, val_main_v0, val_main_cst]

/-- The reference's row. -/
theorem v26_apply (p : Fin 8) (t j : Fin 2048) : val_main_v26 (F := Ideal) h f g b (ix3 p t j)
    = lnorm (fun j => alpha * h (ix3 p t j) + f (ix3 p t j)) (fun j => g (ix1 j)) (fun j => b (ix1 j)) j := by
  rw [← funext fun j => v2_apply h f p t j]
  unfold val_main_v26 val_main_v25 val_main_v24 val_main_v23 val_main_v22 val_main_v21 val_main_v20 val_main_v19 val_main_v18 val_main_v17 val_main_v16 val_main_cst_4 val_main_v15 val_main_v14 val_main_v13 val_main_v12 val_main_cst_3 val_main_v11 val_main_v10 val_main_cst_2 val_main_v9 val_main_v8 val_main_v7 val_main_v6 val_main_v5 val_main_cst_1 val_main_v4 val_main_v3 val_main_cst_0
  generalize val_main_v2 (F := Ideal) h f = z
  unfold lnorm mean nFull eps
  pointwise

/-- The reference's result is the kernel's. -/
theorem result_eq : val_main_v27 (F := Ideal) h f g b = big h f g b := by
  funext i
  obtain ⟨r, j, rfl⟩ : ∃ (r : Fin 16384) (j : Fin 2048), i = ix2 r j := ⟨i 0, i 1, eq_ix2 i⟩
  refine Eq.trans ?_ (v26_apply h f g b ⟨r.val / 2048, by omega⟩ ⟨r.val % 2048, by omega⟩ j)
  unfold val_main_v27
  generalize val_main_v26 (F := Ideal) h f g b = z
  pointwise

/-- The reference's run leaves the kernel's result. -/
theorem ref_run (m : (ℓ : Loc nD τ sig) → Buf (Elt Ideal) ℓ) (ρ : Dev nD → PrngReg) (h f : Dev nD → Vec Ideal S8x2048x2048 .f32) (g b : Dev nD → Vec Ideal S2048 .f32)
    (h0 : ∀ c : Dev nD, m ((c.tc : Thread nD τ).loc main_arg0) = h c) (h1 : ∀ c : Dev nD, m ((c.tc : Thread nD τ).loc main_arg1) = f c)
    (h2 : ∀ c : Dev nD, m ((c.tc : Thread nD τ).loc main_arg2) = g c) (h3 : ∀ c : Dev nD, m ((c.tc : Thread nD τ).loc main_arg3) = b c) :
    θ_run defs (onTc (τ := τ) (main (F := Ideal))) ⟨m, fun _ => 0, ρ⟩ fun r => ∀ c : Dev nD,
      r.2.mem ((c.tc : Thread nD τ).loc main_v27) = big (h c) (f c) (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r q c => by
    obtain ⟨hr, hk⟩ := q c
    refine ⟨hr.trans ?_, hk⟩
    rw [val_main_v27_eq, h0, h1, h2, h3]
    exact result_eq (h c) (f c) (g c) (b c))
    (Cert.AddLnRefIdeal.Value.run (F := Ideal) m ρ)

end Cert.Proof.AddLnRef

end
-- ==== Proof.FoxBlock.lean ====
/-
  What one grid point of the FoX attention call computes. A point takes 256 query rows of one head and goes through the
  key tiles of 512 keys its rows may see, keeping per row a running maximum, a running sum of weights and a running
  weighted sum of values in three scratch buffers. `trip_eq` names what one trip stores, `st` iterates it, and
  `out_eq` says that the block written back is the last weighted sum divided by the last sum of weights.
-/
module

public import proofs.«01_k».proof.Proof.Gen.FoxIdeal.Value
public import Idealize.ShloMosaic.Lib.Pipeline.Value
public import Idealize.ShloMosaic.Lib.ValueIdx
public import Idealize.ShloMosaic.Lib.VecWindow

@[expose] public section

set_option maxRecDepth 16384

noncomputable section

namespace Cert.Proof.FoxBlock

open Cert.FoxIdeal Cert.FoxIdeal.Gen Idealize.ShloMosaic Idealize.ShloMosaic.TcCoe Idealize.SL.Sem

/-- The keys, or values, of tile `k`: 512 rows of the block that holds all of them. -/
def tile (i : grid0.Coords) (k : Fin (k0_t1_loop i).trips) (x : Vec Ideal S1x2048x128 .f32) : Vec Ideal S1x512x128 .f32 :=
  View.ld x (Rect.unit (k0_off1 i k) S1x512x128.size (k0_off1_inb i k))

/-- The cumulated log forget gates of tile `k`'s keys. -/
def tileG (i : grid0.Coords) (k : Fin (k0_t1_loop i).trips) (x : Vec Ideal S1x1x4x1x512 .f32) :
    Vec Ideal S1x1x1x1x512 .f32 :=
  View.ld x (Rect.unit (k0_off2 i k) S1x1x1x1x512.size (k0_off2_inb i k))

/-- The running maximum after trip `k`, from the one before it. -/
def mNew (i : grid0.Coords) (v0 : Vec Ideal S1x256x128 .f32) (v3 : Vec Ideal S1x1x256x1 .f32)
    (x1 : Vec Ideal S1x2048x128 .f32) (x4 : Vec Ideal S1x1x4x1x512 .f32) (k : Fin (k0_t1_loop i).trips)
    (m : Vec Ideal S256x1 .f32) : Vec Ideal S256x1 .f32 :=
  k0_pay5 i (BitVec.ofNat 32 (i 2).val) (k0_pay14 v0) (k0_pay15 v3) 0#32 1#32 k (tile i k x1) (tileG i k x4) m

/-- The weights of tile `k`'s keys against the maximum after it. -/
def wNew (i : grid0.Coords) (v0 : Vec Ideal S1x256x128 .f32) (v3 : Vec Ideal S1x1x256x1 .f32)
    (x1 : Vec Ideal S1x2048x128 .f32) (x4 : Vec Ideal S1x1x4x1x512 .f32) (k : Fin (k0_t1_loop i).trips)
    (m : Vec Ideal S256x1 .f32) : Vec Ideal S256x512 .f32 :=
  k0_pay6 i (BitVec.ofNat 32 (i 2).val) (k0_pay14 v0) (k0_pay15 v3) 0#32 1#32 k (tile i k x1) (tileG i k x4) m

/-- The old maximum less the new one. -/
def dNew (i : grid0.Coords) (v0 : Vec Ideal S1x256x128 .f32) (v3 : Vec Ideal S1x1x256x1 .f32)
    (x1 : Vec Ideal S1x2048x128 .f32) (x4 : Vec Ideal S1x1x4x1x512 .f32) (k : Fin (k0_t1_loop i).trips)
    (m : Vec Ideal S256x1 .f32) : Vec Ideal S256x1 .f32 :=
  k0_pay7 i (BitVec.ofNat 32 (i 2).val) (k0_pay14 v0) (k0_pay15 v3) 0#32 1#32 k (tile i k x1) (tileG i k x4) m

/-- The three scratch buffers before trip `n`: the maximum, the sum of weights, the weighted sum. -/
def st (i : grid0.Coords) (v0 : Vec Ideal S1x256x128 .f32) (v3 : Vec Ideal S1x1x256x1 .f32)
    (x1 x2 : Vec Ideal S1x2048x128 .f32) (x4 : Vec Ideal S1x1x4x1x512 .f32) :
    ℕ → Vec Ideal S256x1 .f32 × Vec Ideal S256x1 .f32 × Vec Ideal S256x128 .f32
  | 0 => ((k0_pay16 (F := Ideal)), (k0_pay17 (F := Ideal)), (k0_pay18 (F := Ideal)))
  | n + 1 =>
    if h : n < (k0_t1_loop i).trips then
      (k0_pay22 (F := Ideal) (mNew i v0 v3 x1 x4 ⟨n, h⟩ (st i v0 v3 x1 x2 x4 n).1),
       k0_pay20 (F := Ideal) (wNew i v0 v3 x1 x4 ⟨n, h⟩ (st i v0 v3 x1 x2 x4 n).1)
        (dNew i v0 v3 x1 x4 ⟨n, h⟩ (st i v0 v3 x1 x2 x4 n).1) (st i v0 v3 x1 x2 x4 n).2.1,
       k0_pay21 (F := Ideal) (k0_pay2 (tile i ⟨n, h⟩ x2)) (wNew i v0 v3 x1 x4 ⟨n, h⟩ (st i v0 v3 x1 x2 x4 n).1)
        (dNew i v0 v3 x1 x4 ⟨n, h⟩ (st i v0 v3 x1 x2 x4 n).1) (st i v0 v3 x1 x2 x4 n).2.2)
    else st i v0 v3 x1 x2 x4 n

/-- The second loop, which takes what an unrolled first loop would leave, makes no trip. -/
theorem trips_two : ∀ i : grid0.Coords, (k0_t2_loop i).trips = 0 := by
  have h : ∀ j : Fin 8, ∀ i : grid0.Coords, i 2 = j → (k0_t2_loop i).trips = 0 := by
    intro j i hij
    unfold k0_t2_loop
    rw [hij]
    clear hij
    revert j
    decide +kernel
  exact fun i => h (i 2) i rfl

/-- The first loop makes one trip for each tile that holds a key the point's rows may see. -/
theorem trips_one : ∀ i : grid0.Coords, (k0_t1_loop i).trips = (i 2).val / 2 + 1 := by
  have h : ∀ j : Fin 8, ∀ i : grid0.Coords, i 2 = j → (k0_t1_loop i).trips = (i 2).val / 2 + 1 := by
    intro j i hij
    unfold k0_t1_loop
    rw [hij]
    clear hij
    revert j
    decide +kernel
  exact fun i => h (i 2) i rfl

theorem trips_le (i : grid0.Coords) : (k0_t1_loop i).trips ≤ 4 := by
  rw [trips_one]
  have : (i 2).val < 8 := (i 2).isLt
  omega

/-- Tile `k` starts at key `512 k`. -/
theorem off1_eq (i : grid0.Coords) (k : Fin (k0_t1_loop i).trips) : k0_off1 i k = ![0, 512 * k.val, 0] := by
  have hk : k.val < 4 := lt_of_lt_of_le k.isLt (trips_le i)
  have h : ∀ n : Fin 4, (Scalar.indexCast (Scalar.muli (Scf.iv 0#32 1#32 n.val) 512#32)).toNat = 512 * n.val := by decide +kernel
  have := h ⟨k.val, hk⟩
  unfold k0_off1
  dsimp only at this ⊢
  rw [this]

theorem off2_eq (i : grid0.Coords) (k : Fin (k0_t1_loop i).trips) : k0_off2 i k = ![0, 0, k.val, 0, 0] := by
  have hk : k.val < 4 := lt_of_lt_of_le k.isLt (trips_le i)
  have h : ∀ n : Fin 4, (Scalar.indexCast (Scf.iv 0#32 1#32 n.val)).toNat = n.val := by decide +kernel
  have := h ⟨k.val, hk⟩
  unfold k0_off2
  dsimp only at this ⊢
  rw [this]

section Run

variable (𝒱 : Variants) (c : Dev nD) (bd : Option 𝒱.V) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x1x256x1 .f32) (harg6 : arg6.IsWhole) (arg7 : Memref sig .tc .vmem S1x1x4x1x512 .f32) (harg7 : arg7.IsWhole) (arg8 : Memref sig .tc .vmem S1x256x128 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x128 .f32) (harg11 : arg11.IsWhole)
  (v0 : Vec Ideal S1x256x128 .f32) (v3 : Vec Ideal S1x1x256x1 .f32)
  (x1 : Vec Ideal S1x2048x128 .f32) (x2 : Vec Ideal S1x2048x128 .f32) (x4 : Vec Ideal S1x1x4x1x512 .f32)

/-- What one trip stores: the new maximum, the new sum of weights and the new weighted sum, each over its whole buffer. -/
theorem trip_eq (k : Fin (k0_t1_loop i).trips) (f9 : BufTy.Contents (Elt Ideal) arg9.view.ty)
    (f10 : BufTy.Contents (Elt Ideal) arg10.view.ty) (f11 : BufTy.Contents (Elt Ideal) arg11.view.ty) :
    tripL_k0_t1 (F := Ideal) 𝒱 c bd i arg3 harg3 arg4 harg4 arg5 harg5 arg6 harg6 arg7 harg7 arg8 harg8 arg9 harg9 arg10 harg10 arg11 harg11
        (BitVec.ofNat 32 (i 2).val) v0 v3 (harg4.unread x1) (harg5.unread x2) (harg7.unread x4) k f9 f10 f11
      = ([⟨Rect.unit ![0, 0] S256x1.size inb_S256x1_S256x1_0_0,
            k0_pay22 (F := Ideal) (mNew i v0 v3 x1 x4 k (arg9.view.read (Elt Ideal) f9))⟩],
         [⟨Rect.unit ![0, 0] S256x1.size inb_S256x1_S256x1_0_0,
            k0_pay20 (F := Ideal) (wNew i v0 v3 x1 x4 k (arg9.view.read (Elt Ideal) f9)) (dNew i v0 v3 x1 x4 k (arg9.view.read (Elt Ideal) f9))
              (arg10.view.read (Elt Ideal) f10)⟩],
         [⟨Rect.unit ![0, 0] S256x128.size inb_S256x128_S256x128_0_0,
            k0_pay21 (F := Ideal) (k0_pay2 (tile i k x2)) (wNew i v0 v3 x1 x4 k (arg9.view.read (Elt Ideal) f9))
              (dNew i v0 v3 x1 x4 k (arg9.view.read (Elt Ideal) f9)) (arg11.view.read (Elt Ideal) f11)⟩]) := by
  unfold tripL_k0_t1
  unfold trip_k0_t1
  dsimp only
  sl_unfold_words
  have h9 : ∀ h, View.readAt (Elt Ideal) arg9.view (Rect.unit ![0, 0] S256x1.size h).toLoadRect f9
      = arg9.view.read (Elt Ideal) f9 := fun h => View.readAt_full _ _ _
  have h10 : ∀ h, View.readAt (Elt Ideal) arg10.view (Rect.unit ![0, 0] S256x1.size h).toLoadRect f10
      = arg10.view.read (Elt Ideal) f10 := fun h => View.readAt_full _ _ _
  have h11 : ∀ h, View.readAt (Elt Ideal) arg11.view (Rect.unit ![0, 0] S256x128.size h).toLoadRect f11
      = arg11.view.read (Elt Ideal) f11 := fun h => View.readAt_full _ _ _
  have h4 : ∀ (r : Rect S1x2048x128), View.readAt (Elt Ideal) arg4.view r.toLoadRect (harg4.unread x1) = View.ld x1 r := fun r => by
    rw [View.readAt_eq_ld, harg4.read_unread]
  have h5 : ∀ (r : Rect S1x2048x128), View.readAt (Elt Ideal) arg5.view r.toLoadRect (harg5.unread x2) = View.ld x2 r := fun r => by
    rw [View.readAt_eq_ld, harg5.read_unread]
  have h7 : ∀ (r : Rect S1x1x4x1x512), View.readAt (Elt Ideal) arg7.view r.toLoadRect (harg7.unread x4) = View.ld x4 r := fun r => by
    rw [View.readAt_eq_ld, harg7.read_unread]
  rw [← h9 inb_S256x1_S256x1_0_0, ← h10 inb_S256x1_S256x1_0_0, ← h11 inb_S256x128_S256x128_0_0]
  unfold mNew wNew dNew tile tileG
  rw [← h4, ← h5, ← h7]
  rfl

/-- The scratch buffers' contents before trip `n`, read back, are `st`'s. -/
theorem pb_read (G9 : BufTy.Contents (Elt Ideal) arg9.view.ty) (G10 : BufTy.Contents (Elt Ideal) arg10.view.ty)
    (G11 : BufTy.Contents (Elt Ideal) arg11.view.ty) (h9 : arg9.view.read (Elt Ideal) G9 = (k0_pay16 (F := Ideal)))
    (h10 : arg10.view.read (Elt Ideal) G10 = (k0_pay17 (F := Ideal))) (h11 : arg11.view.read (Elt Ideal) G11 = (k0_pay18 (F := Ideal))) :
    ∀ n, n ≤ (k0_t1_loop i).trips →
      arg9.view.read (Elt Ideal) (arg9.view.writes (Elt Ideal) G9 (pb_k0_t1 (F := Ideal) 𝒱 c bd i arg3 harg3 arg4 harg4 arg5 harg5 arg6 harg6 arg7 harg7 arg8 harg8 arg9 harg9 arg10 harg10 arg11 harg11
        (BitVec.ofNat 32 (i 2).val) v0 v3 (harg4.unread x1) (harg5.unread x2) (harg7.unread x4) G9 G10 G11 n).1) = (st i v0 v3 x1 x2 x4 n).1
      ∧ arg10.view.read (Elt Ideal) (arg10.view.writes (Elt Ideal) G10 (pb_k0_t1 (F := Ideal) 𝒱 c bd i arg3 harg3 arg4 harg4 arg5 harg5 arg6 harg6 arg7 harg7 arg8 harg8 arg9 harg9 arg10 harg10 arg11 harg11
        (BitVec.ofNat 32 (i 2).val) v0 v3 (harg4.unread x1) (harg5.unread x2) (harg7.unread x4) G9 G10 G11 n).2.1) = (st i v0 v3 x1 x2 x4 n).2.1
      ∧ arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11
        (BitVec.ofNat 32 (i 2).val) v0 v3 (harg4.unread x1) (harg5.unread x2) (harg7.unread x4) G9 G10 G11 n).2.2) = (st i v0 v3 x1 x2 x4 n).2.2 := by
  intro n
  induction n with
  | zero => intro _; exact ⟨h9, h10, h11⟩
  | succ n ih =>
    intro hn
    obtain ⟨e9, e10, e11⟩ := ih (Nat.le_of_succ_le hn)
    have hlt : n < (k0_t1_loop i).trips := hn
    rw [pb_k0_t1_succ (k := ⟨n, hlt⟩)]
    rw [trip_eq]
    unfold st
    rw [dif_pos hlt]
    dsimp only
    rw [e9, e10, e11]
    simp only [List.cons_append, List.nil_append]
    refine ⟨View.read_writes_full _ _ _ _ _, View.read_writes_full _ _ _ _ _, View.read_writes_full _ _ _ _ _⟩

end Run

/-- The block a point writes back: the weighted sum after its last trip divided by the sum of weights. -/
theorem out_eq (c : Dev nD) (i : grid0.Coords) (arg3 : Memref sig .tc .vmem S1x256x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x1x256x1 .f32) (harg6 : arg6.IsWhole) (arg7 : Memref sig .tc .vmem S1x1x4x1x512 .f32) (harg7 : arg7.IsWhole) (arg8 : Memref sig .tc .vmem S1x256x128 .f32) (harg8 : arg8.IsWhole) (arg9 : Memref sig .tc .vmem S256x1 .f32) (harg9 : arg9.IsWhole) (arg10 : Memref sig .tc .vmem S256x1 .f32) (harg10 : arg10.IsWhole) (arg11 : Memref sig .tc .vmem S256x128 .f32) (harg11 : arg11.IsWhole)
    (x0 : Vec Ideal S1x256x128 .f32) (x1 : Vec Ideal S1x2048x128 .f32) (x2 : Vec Ideal S1x2048x128 .f32) (x3 : Vec Ideal S1x1x256x1 .f32) (x4 : Vec Ideal S1x1x4x1x512 .f32) :
    out0_A_5 (F := Ideal) c i arg3 harg3 arg4 harg4 arg5 harg5 arg6 harg6 arg7 harg7 arg8 harg8 arg9 harg9 arg10 harg10 arg11 harg11 x0 x1 x2 x3 x4
      = k0_pay1 (st i x0 x3 x1 x2 x4 (k0_t1_loop i).trips).2.2 (st i x0 x3 x1 x2 x4 (k0_t1_loop i).trips).2.1 := by
  unfold out0_A_5
  rw [View.read_writes_eq_canon _ _ _ (cover0_A_5 c i arg3 harg3 arg4 harg4 arg5 harg5 arg6 harg6 arg7 harg7 arg8 harg8 arg9 harg9 arg10 harg10 arg11 harg11 x0 x1 x2 x3 x4)]
  unfold kernelRun0_A
  dsimp only
  sl_unfold_words
  have ht : Scf.trips (k0_t2_loop i).lb (k0_t2_loop i).ub (k0_t2_loop i).st = 0 := trips_two i
  rw [ht]
  have e3 : ∀ h, View.readAt (Elt Ideal) arg3.view (Rect.unit ![0, 0, 0] S1x256x128.size h).toLoadRect (harg3.unread x0) = x0 :=
    fun h => (View.readAt_full _ _ _).trans (harg3.read_unread x0)
  have e6 : ∀ h, View.readAt (Elt Ideal) arg6.view (Rect.unit ![0, 0, 0, 0] S1x1x256x1.size h).toLoadRect (harg6.unread x3) = x3 :=
    fun h => (View.readAt_full _ _ _).trans (harg6.read_unread x3)
  rw [e3, e6]
  obtain ⟨-, p10, p11⟩ := pb_read Variants.none c none i arg3 harg3 arg4 harg4 arg5 harg5 arg6 harg6 arg7 harg7 arg8 harg8 arg9 harg9 arg10 harg10 arg11 harg11
    x0 x3 x1 x2 x4
    (arg9.view.writes (Elt Ideal) arg9.view.junk [⟨Rect.unit ![0, 0] S256x1.size inb_S256x1_S256x1_0_0, (k0_pay16 (F := Ideal))⟩])
    (arg10.view.writes (Elt Ideal) arg10.view.junk [⟨Rect.unit ![0, 0] S256x1.size inb_S256x1_S256x1_0_0, (k0_pay17 (F := Ideal))⟩])
    (arg11.view.writes (Elt Ideal) arg11.view.junk [⟨Rect.unit ![0, 0] S256x128.size inb_S256x128_S256x128_0_0, (k0_pay18 (F := Ideal))⟩])
    (View.read_writes_full _ _ _ _ _) (View.read_writes_full _ _ _ _ _) (View.read_writes_full _ _ _ _ _) _ (le_refl _)
  rw [← View.writes_append] at p10 p11
  simp only [pb_k0_t2, List.nil_append]
  rw [View.canon_cons_unit_zero (by funext a; fin_cases a <;> rfl)]
  refine congrArg₂ k0_pay1 ?_ ?_
  · exact (View.readAt_full _ _ _).trans p11
  · exact (View.readAt_full _ _ _).trans p10

end Cert.Proof.FoxBlock

end
-- ==== Proof.Softmax.lean ====
/-
  The softmax of one query row taken a tile at a time, over the extended reals and with no assumption about the scores.

  `rowMax x n`, `rowSum x n` and `rowAcc x v n` are the running maximum, the running sum of weights and the running
  weighted sum of values after the first `n` keys, every weight being `exp (x k - rowMax x n)`. A hidden key has score
  `⊥`, so its weight is `exp ⊥ = 0`. `rowSum_add` and `rowAcc_add` say what happens when further keys arrive: the old
  sums are multiplied by `exp (old maximum - new maximum)`. They hold at infinite scores too: at a maximum `⊤` every
  weight is `exp ⊥ = 0`, and at a maximum `⊥` every earlier score was `⊥`.
-/
module

public import Idealize.ShloMosaic.PureOps.Ideal
public import Idealize.ShloMosaic.PureOps.Ideal.Laws

@[expose] public section

noncomputable section

namespace Cert.Proof.Softmax

open Idealize.ShloMosaic

/-- The exponential of an extended real is never negative. -/
theorem exp_nonneg (x : EReal) : 0 ≤ Ideal.exp x := by
  induction x with
  | bot => simp
  | coe r => rw [Ideal.exp_coe]; exact_mod_cast (Real.exp_pos r).le
  | top => simp

/-- The exponential of anything but `⊤` is not `⊤`. -/
theorem exp_ne_top {x : EReal} (h : x ≠ ⊤) : Ideal.exp x ≠ ⊤ := by
  induction x with
  | bot => simp
  | coe r => rw [Ideal.exp_coe]; exact EReal.coe_ne_top _
  | top => exact absurd rfl h

/-- A difference whose first term is at most its second is not `⊤`: a difference of equal infinities is `⊥`. -/
theorem sub_ne_top {x m : EReal} (h : x ≤ m) : x - m ≠ ⊤ := by
  induction m with
  | bot => rw [le_bot_iff.1 h, sub_eq_add_neg, EReal.bot_add]; exact bot_ne_top
  | coe r =>
    induction x with
    | bot => rw [sub_eq_add_neg, EReal.bot_add]; exact bot_ne_top
    | coe t => rw [← EReal.coe_sub]; exact EReal.coe_ne_top _
    | top => exact absurd (top_le_iff.1 h) (EReal.coe_ne_top _)
  | top => rw [sub_eq_add_neg, EReal.neg_top, EReal.add_bot]; exact bot_ne_top

/-- A weight taken against one maximum, times the exponential of the two maxima's difference, is the weight taken
    against the larger maximum. -/
theorem exp_rescale {x m m' : EReal} (h : x ≤ m) (h' : m ≤ m') :
    Ideal.exp (m - m') * Ideal.exp (x - m) = Ideal.exp (x - m') := by
  induction m' with
  | bot =>
    have hm := le_bot_iff.1 h'
    subst hm
    have hx := le_bot_iff.1 h
    subst hx
    simp [sub_eq_add_neg]
  | top => simp [sub_eq_add_neg]
  | coe c =>
    induction m with
    | top => exact absurd (top_le_iff.1 h') (EReal.coe_ne_top _)
    | bot =>
      have hx := le_bot_iff.1 h
      subst hx
      simp [sub_eq_add_neg]
    | coe b =>
      induction x with
      | top => exact absurd (top_le_iff.1 h) (EReal.coe_ne_top _)
      | bot => simp [sub_eq_add_neg]
      | coe a =>
        rw [← EReal.coe_sub, ← EReal.coe_sub, ← EReal.coe_sub, Ideal.exp_coe, Ideal.exp_coe, Ideal.exp_coe,
          ← EReal.coe_mul, ← Real.exp_add]
        congr 2
        ring

/-- A factor that is neither negative nor `⊤` goes into a sum of extended reals, whatever its terms. -/
theorem mul_sum {ι : Type} (s : Finset ι) (f : ι → EReal) {c : EReal} (h0 : 0 ≤ c) (ht : c ≠ ⊤) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-- The largest of the first `n` scores, `⊥` if there are none. -/
def rowMax (x : ℕ → EReal) (n : ℕ) : EReal := (Finset.range n).sup x

/-- The sum of the first `n` weights. -/
def rowSum (x : ℕ → EReal) (n : ℕ) : EReal := ∑ k ∈ Finset.range n, Ideal.exp (x k - rowMax x n)

/-- The weighted sum of the first `n` values. -/
def rowAcc (x v : ℕ → EReal) (n : ℕ) : EReal := ∑ k ∈ Finset.range n, Ideal.exp (x k - rowMax x n) * v k

theorem le_rowMax (x : ℕ → EReal) {n k : ℕ} (h : k < n) : x k ≤ rowMax x n :=
  Finset.le_sup (f := x) (Finset.mem_range.2 h)

/-- The maximum after `t` further keys is the larger of the old one and theirs. -/
theorem rowMax_add (x : ℕ → EReal) (n t : ℕ) :
    rowMax x (n + t) = max (rowMax x n) ((Finset.univ : Finset (Fin t)).sup fun j => x (n + j.val)) := by
  apply le_antisymm
  · refine Finset.sup_le fun k hk => ?_
    rw [Finset.mem_range] at hk
    by_cases h : k < n
    · exact le_max_of_le_left (le_rowMax x h)
    · refine le_max_of_le_right ?_
      have := Finset.le_sup (f := fun j : Fin t => x (n + j.val)) (Finset.mem_univ ⟨k - n, by omega⟩)
      simpa [Nat.add_sub_cancel' (not_lt.1 h)] using this
  · refine max_le (Finset.sup_mono (Finset.range_mono (Nat.le_add_right n t))) (Finset.sup_le fun j _ => ?_)
    exact le_rowMax x (by have := j.isLt; omega)

theorem rowMax_mono (x : ℕ → EReal) (n t : ℕ) : rowMax x n ≤ rowMax x (n + t) :=
  Finset.sup_mono (Finset.range_mono (Nat.le_add_right n t))

/-- The weighted sum after `t` further keys: the old one rescaled, plus theirs. -/
theorem rowAcc_add (x v : ℕ → EReal) (n t : ℕ) :
    rowAcc x v (n + t) = Ideal.exp (rowMax x n - rowMax x (n + t)) * rowAcc x v n
      + ∑ j : Fin t, Ideal.exp (x (n + j.val) - rowMax x (n + t)) * v (n + j.val) := by
  have hle := rowMax_mono x n t
  unfold rowAcc
  rw [Finset.sum_range_add, mul_sum _ _ (exp_nonneg _) (exp_ne_top (sub_ne_top hle)),
    Finset.sum_range (fun j => Ideal.exp (x (n + j) - rowMax x (n + t)) * v (n + j))]
  congr 1
  refine Finset.sum_congr rfl fun k hk => ?_
  rw [← mul_assoc, exp_rescale (le_rowMax x (Finset.mem_range.1 hk)) hle]

/-- The sum of weights is the weighted sum of ones. -/
theorem rowSum_eq (x : ℕ → EReal) (n : ℕ) : rowSum x n = rowAcc x (fun _ => 1) n := by
  simp [rowSum, rowAcc]

/-- The sum of weights after `t` further keys: the old one rescaled, plus theirs. -/
theorem rowSum_add (x : ℕ → EReal) (n t : ℕ) :
    rowSum x (n + t) = Ideal.exp (rowMax x n - rowMax x (n + t)) * rowSum x n
      + ∑ j : Fin t, Ideal.exp (x (n + j.val) - rowMax x (n + t)) := by
  simp only [rowSum_eq, rowAcc_add x (fun _ => 1) n t, mul_one]

/-- Keys whose score is `⊥` change nothing. -/
theorem rowMax_tail (x : ℕ → EReal) {n N : ℕ} (h : n ≤ N) (hx : ∀ k, n ≤ k → x k = ⊥) : rowMax x N = rowMax x n := by
  apply le_antisymm
  · refine Finset.sup_le fun k _ => ?_
    by_cases hk : k < n
    · exact le_rowMax x hk
    · rw [hx k (not_lt.1 hk)]; exact bot_le
  · exact Finset.sup_mono (Finset.range_mono h)

theorem rowAcc_tail (x v : ℕ → EReal) {n N : ℕ} (h : n ≤ N) (hx : ∀ k, n ≤ k → x k = ⊥) :
    rowAcc x v N = rowAcc x v n := by
  unfold rowAcc
  rw [rowMax_tail x h hx]
  symm
  refine Finset.sum_subset (Finset.range_mono h) fun k _ hk => ?_
  rw [hx k (by simpa using hk), sub_eq_add_neg, EReal.bot_add, Ideal.exp_bot, zero_mul]

theorem rowSum_tail (x : ℕ → EReal) {n N : ℕ} (h : n ≤ N) (hx : ∀ k, n ≤ k → x k = ⊥) : rowSum x N = rowSum x n := by
  rw [rowSum_eq, rowSum_eq, rowAcc_tail x _ h hx]

/-- A sum of weights is neither negative nor `⊤`: each weight is at most one. -/
theorem rowSum_ne_top (x : ℕ → EReal) (n : ℕ) : rowSum x n ≠ ⊤ := by
  unfold rowSum
  have : ∀ s : Finset ℕ, (∀ k ∈ s, k < n) → (∑ k ∈ s, Ideal.exp (x k - rowMax x n)) ≠ ⊤ := by
    intro s
    induction s using Finset.induction_on with
    | empty => intro _; simp
    | insert a s ha ih =>
      intro hs
      rw [Finset.sum_insert ha]
      exact (EReal.add_lt_top (exp_ne_top (sub_ne_top (le_rowMax x (hs a (Finset.mem_insert_self a s)))))
        (ih fun k hk => hs k (Finset.mem_insert_of_mem hk))).ne
  exact this _ fun k hk => Finset.mem_range.1 hk

/-- Dividing the weighted sum by a positive real is dividing each weight. -/
theorem div_rowAcc (x v : ℕ → EReal) (n : ℕ) {y : EReal} (h0 : 0 < y) :
    Ideal.div (rowAcc x v n) y = ∑ k ∈ Finset.range n, Ideal.div (Ideal.exp (x k - rowMax x n)) y * v k := by
  have hi : 0 ≤ y⁻¹ := EReal.inv_nonneg_of_nonneg h0.le
  have ht : y⁻¹ ≠ ⊤ := by
    induction y with
    | bot => simp
    | coe r => rw [← EReal.coe_inv]; exact EReal.coe_ne_top _
    | top => simp
  have e : ∀ z : EReal, Ideal.div z y = y⁻¹ * z := fun z => by rw [Ideal.div, if_neg h0.ne', mul_comm]
  rw [e, rowAcc, mul_sum _ _ hi ht]
  refine Finset.sum_congr rfl fun k _ => ?_
  rw [e, mul_assoc]

end Cert.Proof.Softmax

end
-- ==== Proof.FoxRow.lean ====
/-
  One grid point's block read at a row and a column. Row `r` of the point has one score per key it may see, and the
  scratch buffers before trip `n` are, at that row, the running maximum, sum of weights and weighted sum over the first
  `512 n` keys (`st_row`). Keys after the last tile are ones the row may not see, so the block is the softmax over all
  2048 keys (`block_eq`).
-/
module

public import proofs.«01_k».proof.Proof.FoxBlock
public import proofs.«01_k».proof.Proof.Softmax
public import Idealize.ShloMosaic.Lib.Pointwise

@[expose] public section

set_option maxRecDepth 16384

noncomputable section

namespace Cert.Proof.FoxRow

open Cert.FoxIdeal Cert.FoxIdeal.Gen Idealize.ShloMosaic Idealize.ShloMosaic.TcCoe Idealize.SL.Sem
open Cert.Proof.FoxBlock Cert.Proof.Softmax Pointwise

/-- A word comparison of two numbers below `2 ^ 31` is their comparison. -/
theorem sle_ofNat {a b : ℕ} (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    have na : (BitVec.ofNat 32 a).toNat = a := by rw [BitVec.toNat_ofNat]; omega
    have nb : (BitVec.ofNat 32 b).toNat = b := by rw [BitVec.toNat_ofNat]; omega
    rw [BitVec.sle_eq_decide, BitVec.toInt_eq_toNat_of_lt (by rw [na]; omega),
      BitVec.toInt_eq_toNat_of_lt (by rw [nb]; omega), na, nb]
    simp
  show BitVec.ofBool ((BitVec.ofNat 32 a).sle (BitVec.ofNat 32 b)) = _
  rw [h]
  by_cases hab : a ≤ b <;> simp [hab]

/-- The named mask constant is `⊥` at the extended reals. -/
theorem mask_eq : (Named.named (F := Ideal) κ "mask" 0xF149F2CA#32 : Ideal .f32) = ⊥ :=
  IdealRules.named_const.ideal_named_scalar _ _ _ _ rfl

section Point

variable (i : grid0.Coords) (x0 : Vec Ideal S1x256x128 .f32) (x1 x2 : Vec Ideal S1x2048x128 .f32)
  (x3 : Vec Ideal S1x1x256x1 .f32) (x4 : Vec Ideal S1x1x4x1x512 .f32)

theorem row_lt {n : ℕ} (r : Fin 256) (h : n ≤ 256 * (i 2).val + r.val) : n < 2048 := by
  have h2 : (i 2).val < 8 := (i 2).isLt
  have := r.isLt
  omega

/-- Row `r`'s score at key `n`: the scaled product of query and key, plus the row's cumulated log forget gate, less the
    key's; `⊥` at a key the row may not see. -/
def sc (r : Fin 256) (n : ℕ) : EReal :=
  if h : n ≤ 256 * (i 2).val + r.val then
    (∑ d : Fin 128, x0 (ix3 0 r d) * x1 (ix3 0 ⟨n, row_lt i r h⟩ d)) * Ideal.ofBits .f32 0x3DB504F3#32
      + x3 (ix4 0 0 r 0) - x4 (ix5 0 0 ⟨n / 512, by have := row_lt i r h; omega⟩ 0 ⟨n % 512, Nat.mod_lt _ (by decide)⟩)
  else ⊥

/-- Column `d` of the value at key `n`. -/
def vl (d : Fin 128) (n : ℕ) : EReal := if h : n < 2048 then x2 (ix3 0 ⟨n, h⟩ d) else 0

variable (k : Fin (k0_t1_loop i).trips) (r : Fin 256) (j : Fin 512) (d : Fin 128)

theorem k_lt : k.val < 4 := lt_of_lt_of_le k.isLt (trips_le i)

/-- The mask of tile `k` lets row `r` see key `512 k + j` when that is at most the row's own position. -/
theorem mask_apply : k0_pay3 i (BitVec.ofNat 32 (i 2).val) 0#32 1#32 k (ix2 r j)
    = if 512 * k.val + j.val ≤ 256 * (i 2).val + r.val then 1#1 else 0#1 := by
  have hk := k_lt i k
  have h2 : (i 2).val < 8 := (i 2).isLt
  have hj := j.isLt
  have hr := r.isLt
  have ea : IntOp.addi (BitVec.ofNat 32 j.val) (Scalar.muli (Scf.iv 0#32 1#32 k.val) 512#32)
      = BitVec.ofNat 32 (512 * k.val + j.val) := by
    show BitVec.ofNat 32 j.val + (0#32 + BitVec.ofNat 32 k.val * 1#32) * 512#32 = _
    apply BitVec.eq_of_toNat_eq
    simp only [BitVec.toNat_add, BitVec.toNat_mul, BitVec.toNat_ofNat]
    omega
  have eb : IntOp.addi (BitVec.ofNat 32 r.val) (Scalar.muli (BitVec.ofNat 32 (i 2).val) 256#32)
      = BitVec.ofNat 32 (256 * (i 2).val + r.val) := by
    show BitVec.ofNat 32 r.val + BitVec.ofNat 32 (i 2).val * 256#32 = _
    apply BitVec.eq_of_toNat_eq
    simp only [BitVec.toNat_add, BitVec.toNat_mul, BitVec.toNat_ofNat]
    omega
  pointwise [k0_pay3]
  rw [ea, eb]
  exact sle_ofNat (by omega) (by omega)

theorem tile_apply (x : Vec Ideal S1x2048x128 .f32) :
    tile i k x (ix3 0 j d) = x (ix3 0 ⟨512 * k.val + j.val, by have := k_lt i k; have := j.isLt; omega⟩ d) := by
  pointwise [tile]
  have h := off1_eq i k
  congr 1
  have h0 : k0_off1 i k 0 = 0 := congrFun h 0
  have h1 : k0_off1 i k 1 = 512 * k.val := congrFun h 1
  have h2 : k0_off1 i k 2 = 0 := congrFun h 2
  simp only [h0, h1, h2, Nat.zero_add]
  rfl

theorem tileG_apply : tileG i k x4 (ix5 0 0 0 0 j) = x4 (ix5 0 0 ⟨k.val, k_lt i k⟩ 0 j) := by
  have h := off2_eq i k
  have h0 : k0_off2 i k 0 = 0 := congrFun h 0
  have h1 : k0_off2 i k 1 = 0 := congrFun h 1
  have h2 : k0_off2 i k 2 = k.val := congrFun h 2
  have h3 : k0_off2 i k 3 = 0 := congrFun h 3
  have h4 : k0_off2 i k 4 = 0 := congrFun h 4
  refine congrArg x4 (funext fun a => Fin.ext ?_)
  match a with
  | ⟨0, _⟩ => show k0_off2 i k 0 + 1 * 0 = 0; rw [h0]
  | ⟨1, _⟩ => show k0_off2 i k 1 + 1 * 0 = 0; rw [h1]
  | ⟨2, _⟩ => show k0_off2 i k 2 + 1 * 0 = k.val; rw [h2, Nat.mul_zero, Nat.add_zero]
  | ⟨3, _⟩ => show k0_off2 i k 3 + 1 * 0 = 0; rw [h3]
  | ⟨4, _⟩ => show k0_off2 i k 4 + 1 * j.val = j.val; rw [h4, Nat.one_mul, Nat.zero_add]

/-- The masked score of tile `k` at row `r` and key `j` of the tile. -/
theorem score_apply : k0_pay4 i (BitVec.ofNat 32 (i 2).val) (k0_pay14 x0) (k0_pay15 x3) 0#32 1#32 k (tile i k x1)
    (tileG i k x4) (ix2 r j) = sc i x0 x1 x3 x4 r (512 * k.val + j.val) := by
  have hj := j.isLt
  pointwise [k0_pay4, k0_pay14, k0_pay15]
  rw [mask_apply, mask_eq]
  unfold sc
  by_cases h : 512 * k.val + j.val ≤ 256 * (i 2).val + r.val
  · rw [if_pos h, dif_pos h]
    have hd : (512 * k.val + j.val) / 512 = k.val := by omega
    have hm : (512 * k.val + j.val) % 512 = j.val := by omega
    simp only [Scalar.select, tile_apply, tileG_apply, hd, hm]
    exact if_pos rfl
  · rw [if_neg h, dif_neg h]
    simp [Scalar.select]

variable (m : Vec Ideal S256x1 .f32)

theorem mNew_apply : mNew i x0 x3 x1 x4 k m (ix2 r 0)
    = max (m (ix2 r 0)) ((Finset.univ : Finset (Fin 512)).sup fun j => sc i x0 x1 x3 x4 r (512 * k.val + j.val)) := by
  unfold mNew
  pointwise [k0_pay5]
  simp only [score_apply]
  have : Ideal.ofBits FTy.f32 4286578688#32 = ⊥ := by simp [Ideal.ofBits, Ideal.ieee]
  rw [this]
  rfl

theorem wNew_apply : wNew i x0 x3 x1 x4 k m (ix2 r j)
    = Ideal.exp (sc i x0 x1 x3 x4 r (512 * k.val + j.val) - mNew i x0 x3 x1 x4 k m (ix2 r 0)) := by
  unfold wNew
  pointwise [k0_pay6]
  rw [score_apply, mask_apply]
  by_cases h : 512 * k.val + j.val ≤ 256 * (i 2).val + r.val
  · rw [if_pos h]; rfl
  · rw [if_neg h]
    have hs : sc i x0 x1 x3 x4 r (512 * k.val + j.val) = ⊥ := by unfold sc; rw [dif_neg h]
    rw [hs, sub_eq_add_neg, EReal.bot_add, Ideal.exp_bot]
    rfl

theorem dNew_apply : dNew i x0 x3 x1 x4 k m (ix2 r 0) = m (ix2 r 0) - mNew i x0 x3 x1 x4 k m (ix2 r 0) := by
  unfold dNew
  pointwise [k0_pay7]
  rfl

/-- The scratch buffers before trip `n`, at a row: maximum, sum of weights and weighted sum over the first `512 n` keys. -/
theorem st_row : ∀ n, n ≤ (k0_t1_loop i).trips →
    (st i x0 x3 x1 x2 x4 n).1 (ix2 r 0) = rowMax (sc i x0 x1 x3 x4 r) (512 * n)
    ∧ (st i x0 x3 x1 x2 x4 n).2.1 (ix2 r 0) = rowSum (sc i x0 x1 x3 x4 r) (512 * n)
    ∧ (st i x0 x3 x1 x2 x4 n).2.2 (ix2 r d) = rowAcc (sc i x0 x1 x3 x4 r) (vl x2 d) (512 * n) := by
  intro n
  induction n with
  | zero =>
    intro _
    unfold st
    dsimp only
    refine ⟨?_, ?_, ?_⟩
    · pointwise [k0_pay16]
      rw [mask_eq]; simp [rowMax]
    · pointwise [k0_pay17]
      simp [rowSum]
    · pointwise [k0_pay18]
      simp [rowAcc]
  | succ n ih =>
    intro hn
    have hlt : n < (k0_t1_loop i).trips := hn
    obtain ⟨e1, e2, e3⟩ := ih (Nat.le_of_succ_le hn)
    have hn4 : n < 4 := lt_of_lt_of_le hlt (trips_le i)
    unfold st
    rw [dif_pos hlt]
    dsimp only
    have em : mNew i x0 x3 x1 x4 ⟨n, hlt⟩ (st i x0 x3 x1 x2 x4 n).1 (ix2 r 0)
        = rowMax (sc i x0 x1 x3 x4 r) (512 * n + 512) := by
      rw [mNew_apply, e1, rowMax_add]
    rw [Nat.mul_succ]
    refine ⟨?_, ?_, ?_⟩
    · pointwise [k0_pay22]
      exact em
    · pointwise [k0_pay20, k0_pay19]
      rw [e2, dNew_apply, em, e1, rowSum_add]
      simp only [wNew_apply, em]
    · pointwise [k0_pay21, k0_pay19, k0_pay2]
      rw [e3, dNew_apply, em, e1, rowAcc_add]
      simp only [wNew_apply, em, tile_apply]
      congr 1
      refine Finset.sum_congr rfl fun j _ => ?_
      have hj := j.isLt
      unfold vl
      rw [dif_pos (show 512 * n + j.val < 2048 by omega)]

/-- The block a point computes, at row `r` and column `d`: the softmax of the row's scores over all keys, applied to the
    values. -/
theorem block_eq : k0_pay1 (st i x0 x3 x1 x2 x4 (k0_t1_loop i).trips).2.2 (st i x0 x3 x1 x2 x4 (k0_t1_loop i).trips).2.1
      (ix3 0 r d)
    = Ideal.div (rowAcc (sc i x0 x1 x3 x4 r) (vl x2 d) 2048)
        (max (rowSum (sc i x0 x1 x3 x4 r) 2048) (Ideal.ofBits .f32 0x0DA24260#32)) := by
  obtain ⟨-, e2, e3⟩ := st_row i x0 x1 x2 x3 x4 r d _ (le_refl _)
  have hr := r.isLt
  have h2 : (i 2).val < 8 := (i 2).isLt
  have ht := trips_one i
  have hle : 512 * (k0_t1_loop i).trips ≤ 2048 := by omega
  have hbot : ∀ n, 512 * (k0_t1_loop i).trips ≤ n → sc i x0 x1 x3 x4 r n = ⊥ := by
    intro n hn
    unfold sc
    rw [dif_neg (by omega)]
  pointwise [k0_pay1]
  rw [e2, e3, rowAcc_tail _ _ hle hbot, rowSum_tail _ hle hbot]

end Point

end Cert.Proof.FoxRow

end
-- ==== Proof.FoxSpec.lean ====
/-
  What both programs compute: the FoX attention as one function of the projection and of the cumulated log forget gates.
-/
module

public import proofs.«01_k».proof.FoxRefIdeal
public import proofs.«01_k».proof.Proof.Softmax
public import Idealize.ShloMosaic.Lib.Pointwise

@[expose] public section

noncomputable section

namespace Cert.Proof.FoxSpec

open Cert.FoxRefIdeal Idealize.ShloMosaic Cert.Proof.Softmax Pointwise

variable (x : Vec Ideal S8x2048x5632 .f32) (cum : Vec Ideal S8x2048x8 .f32)

/-- Batch `b`, head `h`: query `q`'s score at key `n`; `⊥` at a later key. -/
def score (b h : Fin 8) (q : Fin 2048) (n : ℕ) : EReal :=
  if hn : n ≤ q.val then
    (∑ d : Fin 128, x (ix3 b q ⟨2560 + 128 * h.val + d.val, by omega⟩)
        * x (ix3 b ⟨n, by omega⟩ ⟨3584 + 128 * h.val + d.val, by omega⟩)) * Ideal.ofBits .f32 0x3DB504F3#32
      + cum (ix3 b q h) - cum (ix3 b ⟨n, by omega⟩ h)
  else ⊥

/-- Batch `b`, head `h`: column `d` of the value at key `n`. -/
def value (b h : Fin 8) (d : Fin 128) (n : ℕ) : EReal :=
  if hn : n < 2048 then x (ix3 b ⟨n, hn⟩ ⟨4608 + 128 * h.val + d.val, by omega⟩) else 0

/-- The attention of batch `b`, head `h` at query `q`, column `d`. -/
def attn (b h : Fin 8) (q : Fin 2048) (d : Fin 128) : EReal :=
  Ideal.div (rowAcc (score x cum b h q) (value x b h d) 2048)
    (max (rowSum (score x cum b h q) 2048) (Ideal.ofBits .f32 0x0DA24260#32))

/-- The result array: head `h`'s columns are `128 h` to `128 h + 127`. -/
def out : Vec Ideal S8x2048x1024 .f32 := fun i =>
  attn x cum (i 0) ⟨(i 2).val / 128, by have h : (i 2).val < 1024 := (i 2).isLt; omega⟩ (i 1)
    ⟨(i 2).val % 128, Nat.mod_lt _ (by decide)⟩

end Cert.Proof.FoxSpec

end
-- ==== Proof.FoxArray.lean ====
/-
  The kernel's result array: each grid point's input blocks read at an index of the arguments (`q_apply`, …), so that the
  block a point writes back is its block of the attention (`flushed_eq`), and the blocks cover the array (`final_eq`).
-/
module

public import proofs.«01_k».proof.Proof.FoxRow
public import proofs.«01_k».proof.Proof.FoxSpec
public import proofs.«01_k».proof.Proof.Gen.FoxIdeal.Value
public import Idealize.ShloMosaic.Lib.Claim

@[expose] public section

set_option maxRecDepth 16384

noncomputable section

namespace Cert.Proof.FoxArray

open Cert.FoxIdeal Cert.FoxIdeal.Gen Idealize.ShloMosaic Idealize.ShloMosaic.TcCoe Idealize.SL.Sem
open Cert.Proof.FoxBlock Cert.Proof.FoxRow Cert.Proof.Softmax Cert.Proof.FoxSpec Pointwise
open Idealize.ShloMosaic.Pipeline (Dat)

variable (m : (ℓ : Loc nD τ sig) → Buf (Elt Ideal) ℓ) (c : Dev nD)

/-- The projection as launched. -/
abbrev xArg : Vec Ideal S8x2048x5632 .f32 := m ((c : Thread nD τ).loc main_arg0)

/-- The log forget gates cumulated along the sequence, by the host. -/
def cum : Vec Ideal S8x2048x8 .f32 :=
  Host.reduceWindowAdd ![1, 2048, 1] ![1, 1, 1] ![0, 2047, 0] ![0, 0, 0] (m ((c : Thread nD τ).loc main_arg1))
    (broadcastInDim S_ ![] bcast_S_S_ (constant (F := Ideal) S_ .f32 0x00000000#32))
    reduceWindows_S8x2048x8_S8x2048x8_w1s1p0_0_w2048s1p2047_0_w1s1p0_0 h_S_

/-- The queries' cumulated gates as the region finds them. -/
theorem V2_apply (b h : Fin 8) (t : Fin 2048) :
    (V m c main_v2 : Vec Ideal S8x8x2048x1 .f32) (ix4 b h t 0) = cum m c (ix3 b t h) := by
  have e : (V m c main_v2 : Vec Ideal S8x8x2048x1 .f32)
      = broadcastInDim S8x8x2048x1 ![0, 1, 2] bcast_S8x8x2048_S8x8x2048x1_0_1_2
          (transpose S8x8x2048 [0, 2, 1] (cum m c) transposes_S8x2048x8_S8x8x2048_0_2_1) := by
    entry_read
    rfl
  rw [e]
  generalize cum m c = y
  pointwise

/-- The keys' cumulated gates as the region finds them, in tiles of 512. -/
theorem V3_apply (b h : Fin 8) (a : Fin 4) (j : Fin 512) :
    (V m c main_v3 : Vec Ideal S8x8x4x1x512 .f32) (ix5 b h a 0 j)
      = cum m c (ix3 b ⟨512 * a.val + j.val, by omega⟩ h) := by
  have e : (V m c main_v3 : Vec Ideal S8x8x4x1x512 .f32)
      = shapeCast _ (transpose S8x8x2048 [0, 2, 1] (cum m c) transposes_S8x2048x8_S8x8x2048_0_2_1)
          shapeCasts_S8x8x2048_S8x8x4x1x512 := by
    entry_read
    rfl
  rw [e]
  generalize cum m c = y
  pointwise
  congr 2
  exact Fin.ext (by show a.val * 512 + j.val = 512 * a.val + j.val; omega)

/-! ## The index maps -/

section Maps
variable (i : grid0.Coords)

theorem i0_lt : (i 0).val < 8 := (i 0).isLt
theorem i1_lt : (i 1).val < 8 := (i 1).isLt
theorem i2_lt : (i 2).val < 8 := (i 2).isLt

theorem toNat_lt8 {n : ℕ} (h : n < 8) : (BitVec.ofNat 32 n).toNat = n := by rw [BitVec.toNat_ofNat]; omega

theorem toNat_add8 {a n : ℕ} (h : n < 8) (ha : a < 64) :
    (Scalar.addi (BitVec.ofNat 32 a) (BitVec.ofNat 32 n)).toNat = a + n := by
  show (BitVec.ofNat 32 a + BitVec.ofNat 32 n).toNat = _
  rw [BitVec.toNat_add, BitVec.toNat_ofNat, BitVec.toNat_ofNat]; omega

theorem map0 : cc0_transform_0 i = ![(i 0).val, (i 2).val, 20 + (i 1).val] := by
  show ![(BitVec.ofNat 32 (i 0).val).toNat, (BitVec.ofNat 32 (i 2).val).toNat,
    (Scalar.addi (BitVec.ofNat 32 20) (BitVec.ofNat 32 (i 1).val)).toNat] = _
  rw [toNat_lt8 (i0_lt i), toNat_lt8 (i2_lt i), toNat_add8 (i1_lt i) (by decide)]
theorem map1 : cc0_transform_1 i = ![(i 0).val, 0, 28 + (i 1).val] := by
  show ![(BitVec.ofNat 32 (i 0).val).toNat, 0,
    (Scalar.addi (BitVec.ofNat 32 28) (BitVec.ofNat 32 (i 1).val)).toNat] = _
  rw [toNat_lt8 (i0_lt i), toNat_add8 (i1_lt i) (by decide)]
theorem map2 : cc0_transform_2 i = ![(i 0).val, 0, 36 + (i 1).val] := by
  show ![(BitVec.ofNat 32 (i 0).val).toNat, 0,
    (Scalar.addi (BitVec.ofNat 32 36) (BitVec.ofNat 32 (i 1).val)).toNat] = _
  rw [toNat_lt8 (i0_lt i), toNat_add8 (i1_lt i) (by decide)]
theorem map3 : cc0_transform_3 i = ![(i 0).val, (i 1).val, (i 2).val, 0] := by
  show ![(BitVec.ofNat 32 (i 0).val).toNat, (BitVec.ofNat 32 (i 1).val).toNat, (BitVec.ofNat 32 (i 2).val).toNat, 0] = _
  rw [toNat_lt8 (i0_lt i), toNat_lt8 (i1_lt i), toNat_lt8 (i2_lt i)]
theorem map4 : cc0_transform_4 i = ![(i 0).val, (i 1).val, 0, 0, 0] := by
  show ![(BitVec.ofNat 32 (i 0).val).toNat, (BitVec.ofNat 32 (i 1).val).toNat, 0, 0, 0] = _
  rw [toNat_lt8 (i0_lt i), toNat_lt8 (i1_lt i)]
theorem map5 : cc0_transform_5 i = ![(i 0).val, (i 2).val, (i 1).val] := by
  show ![(BitVec.ofNat 32 (i 0).val).toNat, (BitVec.ofNat 32 (i 2).val).toNat, (BitVec.ofNat 32 (i 1).val).toNat] = _
  rw [toNat_lt8 (i0_lt i), toNat_lt8 (i1_lt i), toNat_lt8 (i2_lt i)]

end Maps

/-! ## A point's input blocks, at an index -/

variable (t : Fin cfg0.N)

/-- Point `t`'s coordinates: batch, head, query tile. -/
abbrev co : grid0.Coords := grid0.coords t

/-- The queries' block of point `t`. -/
abbrev b0 : Vec Ideal S1x256x128 .f32 := iblk m c 0 t
/-- The keys' block. -/
abbrev b1 : Vec Ideal S1x2048x128 .f32 := iblk m c 1 t
/-- The values' block. -/
abbrev b2 : Vec Ideal S1x2048x128 .f32 := iblk m c 2 t
/-- The block of the queries' cumulated gates. -/
abbrev b3 : Vec Ideal S1x1x256x1 .f32 := iblk m c 3 t
/-- The block of the keys' cumulated gates. -/
abbrev b4 : Vec Ideal S1x1x4x1x512 .f32 := iblk m c 4 t

/-- The query position of row `r`. -/
abbrev qpos (r : Fin 256) : Fin 2048 := ⟨256 * (co t 2).val + r.val, by have := i2_lt (co t); omega⟩

theorem q_apply (r : Fin 256) (d : Fin 128) : b0 m c t (ix3 0 r d)
    = xArg m c (ix3 (co t 0) (qpos t r) ⟨2560 + 128 * (co t 1).val + d.val, by have := i1_lt (co t); omega⟩) := by
  have h := map0 (co t)
  show (V m c main_arg0 : Vec Ideal S8x2048x5632 .f32) _ = _
  rw [V_main_arg0]
  refine congrArg (xArg m c) (funext fun a => Fin.ext ?_)
  match a with
  | ⟨0, _⟩ => show cc0_transform_0 (co t) 0 * 1 + 1 * 0 = (co t 0).val; rw [h]; show (co t 0).val * 1 + 1 * 0 = _; omega
  | ⟨1, _⟩ => show cc0_transform_0 (co t) 1 * 256 + 1 * r.val = 256 * (co t 2).val + r.val
              rw [h]; show (co t 2).val * 256 + 1 * r.val = _; omega
  | ⟨2, _⟩ => show cc0_transform_0 (co t) 2 * 128 + 1 * d.val = 2560 + 128 * (co t 1).val + d.val
              rw [h]; show (20 + (co t 1).val) * 128 + 1 * d.val = _; omega

theorem k_apply (n : Fin 2048) (d : Fin 128) : b1 m c t (ix3 0 n d)
    = xArg m c (ix3 (co t 0) n ⟨3584 + 128 * (co t 1).val + d.val, by have := i1_lt (co t); omega⟩) := by
  have h := map1 (co t)
  show (V m c main_arg0 : Vec Ideal S8x2048x5632 .f32) _ = _
  rw [V_main_arg0]
  refine congrArg (xArg m c) (funext fun a => Fin.ext ?_)
  match a with
  | ⟨0, _⟩ => show cc0_transform_1 (co t) 0 * 1 + 1 * 0 = (co t 0).val; rw [h]; show (co t 0).val * 1 + 1 * 0 = _; omega
  | ⟨1, _⟩ => show cc0_transform_1 (co t) 1 * 2048 + 1 * n.val = n.val
              rw [h]; show 0 * 2048 + 1 * n.val = _; omega
  | ⟨2, _⟩ => show cc0_transform_1 (co t) 2 * 128 + 1 * d.val = 3584 + 128 * (co t 1).val + d.val
              rw [h]; show (28 + (co t 1).val) * 128 + 1 * d.val = _; omega

theorem v_apply (n : Fin 2048) (d : Fin 128) : b2 m c t (ix3 0 n d)
    = xArg m c (ix3 (co t 0) n ⟨4608 + 128 * (co t 1).val + d.val, by have := i1_lt (co t); omega⟩) := by
  have h := map2 (co t)
  show (V m c main_arg0 : Vec Ideal S8x2048x5632 .f32) _ = _
  rw [V_main_arg0]
  refine congrArg (xArg m c) (funext fun a => Fin.ext ?_)
  match a with
  | ⟨0, _⟩ => show cc0_transform_2 (co t) 0 * 1 + 1 * 0 = (co t 0).val; rw [h]; show (co t 0).val * 1 + 1 * 0 = _; omega
  | ⟨1, _⟩ => show cc0_transform_2 (co t) 1 * 2048 + 1 * n.val = n.val
              rw [h]; show 0 * 2048 + 1 * n.val = _; omega
  | ⟨2, _⟩ => show cc0_transform_2 (co t) 2 * 128 + 1 * d.val = 4608 + 128 * (co t 1).val + d.val
              rw [h]; show (36 + (co t 1).val) * 128 + 1 * d.val = _; omega

theorem cq_apply (r : Fin 256) : b3 m c t (ix4 0 0 r 0) = cum m c (ix3 (co t 0) (qpos t r) (co t 1)) := by
  have h := map3 (co t)
  refine Eq.trans ?_ (V2_apply m c (co t 0) (co t 1) (qpos t r))
  refine congrArg (V m c main_v2 : Vec Ideal S8x8x2048x1 .f32) (funext fun a => Fin.ext ?_)
  match a with
  | ⟨0, _⟩ => show cc0_transform_3 (co t) 0 * 1 + 1 * 0 = (co t 0).val; rw [h]; show (co t 0).val * 1 + 1 * 0 = _; omega
  | ⟨1, _⟩ => show cc0_transform_3 (co t) 1 * 1 + 1 * 0 = (co t 1).val; rw [h]; show (co t 1).val * 1 + 1 * 0 = _; omega
  | ⟨2, _⟩ => show cc0_transform_3 (co t) 2 * 256 + 1 * r.val = 256 * (co t 2).val + r.val
              rw [h]; show (co t 2).val * 256 + 1 * r.val = _; omega
  | ⟨3, _⟩ => show cc0_transform_3 (co t) 3 * 1 + 1 * 0 = 0; rw [h]; rfl

theorem ck_apply (a : Fin 4) (j : Fin 512) : b4 m c t (ix5 0 0 a 0 j)
    = cum m c (ix3 (co t 0) ⟨512 * a.val + j.val, by omega⟩ (co t 1)) := by
  have h := map4 (co t)
  refine Eq.trans ?_ (V3_apply m c (co t 0) (co t 1) a j)
  refine congrArg (V m c main_v3 : Vec Ideal S8x8x4x1x512 .f32) (funext fun e => Fin.ext ?_)
  match e with
  | ⟨0, _⟩ => show cc0_transform_4 (co t) 0 * 1 + 1 * 0 = (co t 0).val; rw [h]; show (co t 0).val * 1 + 1 * 0 = _; omega
  | ⟨1, _⟩ => show cc0_transform_4 (co t) 1 * 1 + 1 * 0 = (co t 1).val; rw [h]; show (co t 1).val * 1 + 1 * 0 = _; omega
  | ⟨2, _⟩ => show cc0_transform_4 (co t) 2 * 4 + 1 * a.val = a.val; rw [h]; show 0 * 4 + 1 * a.val = _; omega
  | ⟨3, _⟩ => show cc0_transform_4 (co t) 3 * 1 + 1 * 0 = 0; rw [h]; rfl
  | ⟨4, _⟩ => show cc0_transform_4 (co t) 4 * 512 + 1 * j.val = j.val; rw [h]; show 0 * 512 + 1 * j.val = _; omega

/-- A row's scores over the point's blocks are the attention's scores. -/
theorem sc_eq (r : Fin 256) : sc (co t) (b0 m c t) (b1 m c t) (b3 m c t) (b4 m c t) r
    = score (xArg m c) (cum m c) (co t 0) (co t 1) (qpos t r) := by
  funext n
  unfold sc score
  by_cases hn : n ≤ 256 * (co t 2).val + r.val
  · rw [dif_pos hn, dif_pos hn, cq_apply, ck_apply]
    simp only [q_apply, k_apply]
    congr 3
    exact Fin.ext (by show 512 * (n / 512) + n % 512 = n; omega)
  · rw [dif_neg hn, dif_neg hn]

/-- A column of the point's value block. -/
theorem vl_eq (d : Fin 128) : vl (b2 m c t) d = value (xArg m c) (co t 0) (co t 1) d := by
  funext n
  unfold vl value
  by_cases hn : n < 2048
  · rw [dif_pos hn, dif_pos hn, v_apply]
  · rw [dif_neg hn, dif_neg hn]

/-- What point `t` writes back is its block of the attention. -/
theorem flushed_eq (hf : (cfg0.win 5).flush t = true) :
    (dats m 0 c).flushed 5 t = ((cfg0.win 5).blk t).view.read (Elt Ideal) (FoxSpec.out (xArg m c) (cum m c)) := by
  rw [Cert.FoxIdeal.Value.flushed5_A, out_eq]
  funext j
  have hj : ∃ (r : Fin 256) (d : Fin 128), j = ix3 0 r d := ⟨j 1, j 2, by
    funext a
    match a with
    | ⟨0, _⟩ => exact Subsingleton.elim (α := Fin 1) _ _
    | ⟨1, _⟩ => rfl
    | ⟨2, _⟩ => rfl⟩
  obtain ⟨r, d, rfl⟩ := hj
  refine (block_eq (co t) (b0 m c t) (b1 m c t) (b2 m c t) (b3 m c t) (b4 m c t) r d).trans ?_
  rw [sc_eq, vl_eq]
  have h := map5 (co t)
  have h1 := i1_lt (co t)
  have key : FoxSpec.out (xArg m c) (cum m c)
      (ix3 (co t 0) (qpos t r) ⟨128 * (co t 1).val + d.val, by omega⟩)
      = attn (xArg m c) (cum m c) (co t 0) (co t 1) (qpos t r) d := by
    have hd := d.isLt
    have e1 : (⟨(128 * (co t 1).val + d.val) / 128, by omega⟩ : Fin 8) = co t 1 := Fin.ext (by show _ / 128 = _; omega)
    have e2 : (⟨(128 * (co t 1).val + d.val) % 128, by omega⟩ : Fin 128) = d := Fin.ext (by show _ % 128 = _; omega)
    show attn (xArg m c) (cum m c) (co t 0) ⟨(128 * (co t 1).val + d.val) / 128, _⟩ (qpos t r)
      ⟨(128 * (co t 1).val + d.val) % 128, _⟩ = _
    rw [e1, e2]
  refine (key.symm.trans ?_ : attn (xArg m c) (cum m c) (co t 0) (co t 1) (qpos t r) d = _)
  refine congrArg (FoxSpec.out (xArg m c) (cum m c)) (funext fun a => Fin.ext ?_)
  match a with
  | ⟨0, _⟩ => show (co t 0).val = cc0_transform_5 (co t) 0 * 1 + 1 * 0; rw [h]; show _ = (co t 0).val * 1 + 1 * 0; omega
  | ⟨1, _⟩ => show 256 * (co t 2).val + r.val = cc0_transform_5 (co t) 1 * 256 + 1 * r.val
              rw [h]; show _ = (co t 2).val * 256 + 1 * r.val; omega
  | ⟨2, _⟩ => show 128 * (co t 1).val + d.val = cc0_transform_5 (co t) 2 * 128 + 1 * d.val
              rw [h]; show _ = (co t 1).val * 128 + 1 * d.val; omega

/-- Every batch, head and query tile is some grid point's. -/
theorem point_of : ∀ a b e : Fin 8, ∃ t : Fin grid0.N, grid0.coords t 0 = a ∧ grid0.coords t 1 = b ∧ grid0.coords t 2 = e := by
  have h : ∀ t : Fin grid0.N, (grid0.coords t 0).val = t.val / 64 ∧ (grid0.coords t 1).val = t.val / 8 % 8
      ∧ (grid0.coords t 2).val = t.val % 8 := by decide +kernel
  intro a b e
  have hN : grid0.N = 512 := N_0
  obtain ⟨h0, h1, h2⟩ := h ⟨a.val * 64 + b.val * 8 + e.val, by omega⟩
  dsimp only at h0 h1 h2
  exact ⟨_, Fin.ext (h0.trans (by omega)), Fin.ext (h1.trans (by omega)), Fin.ext (h2.trans (by omega))⟩

/-- The result array after the run is the attention. -/
theorem final_eq : (dats m 0 c).arrAt 5 cfg0.N = FoxSpec.out (xArg m c) (cum m c) :=
  (dats m 0 c).arrAt_eq_of_cover 5 (FoxSpec.out (xArg m c) (cum m c)) (flushed_eq m c) fun i => by
    have h0 : (i 0 : Nat) < 8 := (i 0).isLt
    have h1 : (i 1 : Nat) < 2048 := (i 1).isLt
    have h2 : (i 2 : Nat) < 1024 := (i 2).isLt
    obtain ⟨t, e0, e1, e2⟩ := point_of ⟨(i 0 : Nat), h0⟩ ⟨(i 2 : Nat) / 128, by omega⟩ ⟨(i 1 : Nat) / 256, by omega⟩
    have e0 : (co t 0).val = (i 0 : Nat) := congrArg Fin.val e0
    have e1 : (co t 1).val = (i 2 : Nat) / 128 := congrArg Fin.val e1
    have e2 : (co t 2).val = (i 1 : Nat) / 256 := congrArg Fin.val e2
    have h := map5 (co t)
    refine ⟨t, flush0_5 t, ?_⟩
    show i ∈ ((View.whole main_v4).slice (win0_5.rect t)).set
    rw [View.set_slice_whole, Rect.mem_set_unit]
    intro a
    match a with
    | ⟨0, _⟩ => show cc0_transform_5 (co t) 0 * 1 ≤ (i 0 : Nat) ∧ (i 0 : Nat) < cc0_transform_5 (co t) 0 * 1 + 1
                rw [h]; show (co t 0).val * 1 ≤ (i 0 : Nat) ∧ (i 0 : Nat) < (co t 0).val * 1 + 1; omega
    | ⟨1, _⟩ => show cc0_transform_5 (co t) 1 * 256 ≤ (i 1 : Nat) ∧ (i 1 : Nat) < cc0_transform_5 (co t) 1 * 256 + 256
                rw [h]; show (co t 2).val * 256 ≤ (i 1 : Nat) ∧ (i 1 : Nat) < (co t 2).val * 256 + 256; omega
    | ⟨2, _⟩ => show cc0_transform_5 (co t) 2 * 128 ≤ (i 2 : Nat) ∧ (i 2 : Nat) < cc0_transform_5 (co t) 2 * 128 + 128
                rw [h]; show (co t 1).val * 128 ≤ (i 2 : Nat) ∧ (i 2 : Nat) < (co t 1).val * 128 + 128; omega

end Cert.Proof.FoxArray

end
-- ==== Proof.FoxRef.lean ====
/-
  The reference read at an index: masked scores, their softmax along the keys, the weighted sum of the values. The result
  is the attention of FoxSpec.lean (`result_eq`).
-/
module

public import proofs.«01_k».proof.Proof.FoxSpec
public import proofs.«01_k».proof.Proof.Gen.FoxRefIdeal.Run
public import proofs.«01_k».proof.Proof.Gen.FoxRefIdeal.Read
public import proofs.«01_k».proof.Proof.FoxRow

@[expose] public section

set_option maxRecDepth 16384

noncomputable section

namespace Cert.Proof.FoxRef

open Cert.FoxRefIdeal Cert.FoxRefIdeal.Gen Cert.FoxRefIdeal.Read Idealize.ShloMosaic Idealize.ShloMosaic.TcCoe Idealize.SL.Sem
open Cert.Proof.Softmax Cert.Proof.FoxSpec Pointwise

variable (x0 : Vec Ideal S8x2048x5632 .f32) (x1 : Vec Ideal S8x2048x8 .f32)

theorem q_apply (b h : Fin 8) (q : Fin 2048) (d : Fin 128) :
    val_main_v1 (F := Ideal) x0 (ix4 b q h d) = x0 (ix3 b q ⟨2560 + 128 * h.val + d.val, by omega⟩) := by
  pointwise [val_main_v1, val_main_v0]
  congr 2
  exact Fin.ext (by show 2560 + (h.val * 128 + d.val) = 2560 + 128 * h.val + d.val; omega)

theorem k_apply (b h : Fin 8) (q : Fin 2048) (d : Fin 128) :
    val_main_v5 (F := Ideal) x0 (ix4 b q h d) = x0 (ix3 b q ⟨3584 + 128 * h.val + d.val, by omega⟩) := by
  pointwise [val_main_v5, val_main_v4, val_main_v3, val_main_v2]
  congr 2
  exact Fin.ext (by show 3584 + (h.val * 128 + d.val) = 3584 + 128 * h.val + d.val; omega)

theorem v_apply (b h : Fin 8) (q : Fin 2048) (d : Fin 128) :
    val_main_v7 (F := Ideal) x0 (ix4 b q h d) = x0 (ix3 b q ⟨4608 + 128 * h.val + d.val, by omega⟩) := by
  pointwise [val_main_v7, val_main_v6, val_main_v3, val_main_v2]
  congr 2
  refine Fin.ext ?_
  dsimp only
  omega

/-- The mask: key `k` is at most query `q`. -/
theorem mask_apply (q k : Fin 2048) :
    IntOp.cmpi .sle (BitVec.ofNat 32 k.val) (BitVec.ofNat 32 q.val) = if k.val ≤ q.val then 1#1 else 0#1 :=
  FoxRow.sle_ofNat (by omega) (by omega)

/-- The masked scores. -/
theorem score_apply (b h : Fin 8) (q k : Fin 2048) :
    val_main_v25 (F := Ideal) x0 x1 (ix4 b h q k) = score x0 (val_main_v8 (F := Ideal) x1) b h q k.val := by
  have e18 : val_main_v18 (F := Ideal) x0 x1 (ix4 b h q k)
      = (∑ d : Fin 128, x0 (ix3 b q ⟨2560 + 128 * h.val + d.val, by omega⟩)
        * x0 (ix3 b k ⟨3584 + 128 * h.val + d.val, by omega⟩)) * Ideal.ofBits .f32 0x3DB504F3#32
      + val_main_v8 (F := Ideal) x1 (ix3 b q h) - val_main_v8 (F := Ideal) x1 (ix3 b k h) := by
    pointwise [val_main_v18, val_main_v17, val_main_v16, val_main_v15, val_main_v14, val_main_v13, val_main_v12,
      val_main_v11, val_main_v10, val_main_cst, val_main_v9]
    simp only [q_apply, k_apply]
  pointwise [val_main_v25, val_main_call1_v1, val_main_call1_v2, val_main_call1_v0, val_main_cst_0, val_main_v24,
    val_main_v23, val_main_v22, val_main_v21, val_main_v20, val_main_v19]
  rw [mask_apply, e18]
  unfold score
  by_cases hk : k.val ≤ q.val
  · rw [if_pos hk, dif_pos hk]; rfl
  · rw [if_neg hk, dif_neg hk]
    show Ideal.ofBits FTy.f32 4286578688#32 = ⊥
    simp [Ideal.ofBits, Ideal.ieee]

/-- The row maximum. -/
theorem max_apply (b h : Fin 8) (q : Fin 2048) :
    val_main_v26 (F := Ideal) x0 x1 (ix3 b h q) = rowMax (score x0 (val_main_v8 (F := Ideal) x1) b h q) 2048 := by
  pointwise [val_main_v26, val_main_cst_1]
  simp only [score_apply]
  have e : Ideal.ofBits FTy.f32 4286578688#32 = ⊥ := by simp [Ideal.ofBits, Ideal.ieee]
  have h0 := rowMax_add (score x0 (val_main_v8 (F := Ideal) x1) b h q) 0 2048
  rw [Nat.zero_add] at h0
  rw [e, h0]
  simp only [Nat.zero_add]
  have hz : rowMax (score x0 (val_main_v8 (F := Ideal) x1) b h q) 0 = ⊥ := by simp [rowMax]
  rw [hz, max_eq_right bot_le]
  rfl

/-- The weights. -/
theorem weight_apply (b h : Fin 8) (q k : Fin 2048) :
    val_main_v31 (F := Ideal) x0 x1 (ix4 b h q k)
      = Ideal.exp (score x0 (val_main_v8 (F := Ideal) x1) b h q k.val
          - rowMax (score x0 (val_main_v8 (F := Ideal) x1) b h q) 2048) := by
  pointwise [val_main_v31, val_main_v30, val_main_v29, val_main_v28, val_main_v27, val_main_call2_v1, val_main_call2_v2,
    val_main_call2_v0, val_main_cst_2]
  rw [max_apply, score_apply]
  pointwise [val_main_v24, val_main_v23, val_main_v22, val_main_v21, val_main_v20, val_main_v19]
  rw [mask_apply]
  by_cases hk : k.val ≤ q.val
  · rw [if_pos hk]; rfl
  · rw [if_neg hk]
    have hs : score x0 (val_main_v8 (F := Ideal) x1) b h q k.val = ⊥ := by unfold score; rw [dif_neg hk]
    rw [hs, sub_eq_add_neg, EReal.bot_add, Ideal.exp_bot]
    show Ideal.ofBits FTy.f32 0#32 = 0
    simp [Ideal.ofBits, Ideal.ieee]

/-- The smallest divisor is positive. -/
theorem tiny_pos : (0 : EReal) < Ideal.ofBits FTy.f32 228737632#32 := by
  have e : Ideal.ofBits FTy.f32 228737632#32 = (((10633824 : ℝ) * (2 ^ 123 : ℝ)⁻¹ : ℝ) : EReal) := by
    simp [Ideal.ofBits, Ideal.ieee]
  rw [e]
  exact EReal.coe_pos.mpr (by positivity)

/-- The reference's result is the attention. -/
theorem result_eq : val_main_v40 (F := Ideal) x0 x1 = FoxSpec.out x0 (val_main_v8 (F := Ideal) x1) := by
  funext i
  rw [eq_ix3 i]
  generalize i 0 = b
  generalize i 1 = q
  generalize i 2 = e
  revert b q e
  intro (b : Fin 8) (q : Fin 2048) (e : Fin 1024)
  show val_main_v40 (F := Ideal) x0 x1 (ix3 b q e) = attn x0 (val_main_v8 (F := Ideal) x1) b ⟨e.val / 128, by omega⟩ q
    ⟨e.val % 128, by omega⟩
  pointwise [val_main_v40, val_main_v39, val_main_v38]
  generalize (⟨e.val / 128, by omega⟩ : Fin 8) = h
  generalize (⟨e.val % 128, by omega⟩ : Fin 128) = d
  have hw : ∀ k : Fin 2048, val_main_v37 (F := Ideal) x0 x1 (ix4 b h q k)
      = Ideal.div (Ideal.exp (score x0 (val_main_v8 (F := Ideal) x1) b h q k.val
          - rowMax (score x0 (val_main_v8 (F := Ideal) x1) b h q) 2048))
        (max (rowSum (score x0 (val_main_v8 (F := Ideal) x1) b h q) 2048) (Ideal.ofBits .f32 228737632#32)) := by
    intro k
    pointwise [val_main_v37, val_main_v36, val_main_v35, val_main_v34, val_main_v33, val_main_v32, val_main_cst_3,
      val_main_cst_4]
    simp only [weight_apply]
    rw [rowSum, Finset.sum_range]
  unfold attn
  rw [div_rowAcc _ _ _ (lt_max_of_lt_right tiny_pos), Finset.sum_range]
  refine Finset.sum_congr rfl fun k _ => ?_
  rw [hw, v_apply, mul_comm]
  congr 1
  unfold value
  rw [dif_pos k.isLt]

end Cert.Proof.FoxRef

end
-- ==== Proof.PostArray.lean ====
/-
  The attention's output call: each grid point takes 256 tokens' rows through the norms and the output projection, and the
  points fill the array (`final_eq`).
-/
module

public import proofs.«01_k».proof.Proof.PostSpec
public import proofs.«01_k».proof.Proof.Gen.PostIdeal.Value
public import Idealize.ShloMosaic.Lib.Pipeline.Value
public import Idealize.ShloMosaic.Lib.Pointwise
public import Idealize.ShloMosaic.Lib.ValueIdx
public import Idealize.ShloMosaic.Lib.Claim

@[expose] public section

set_option maxRecDepth 16384

noncomputable section

namespace Cert.Proof.PostArray

open Cert.PostIdeal Cert.PostIdeal.Gen Idealize.ShloMosaic Idealize.ShloMosaic.TcCoe Idealize.SL.Sem
open Cert.Proof.PostSpec Pointwise
open Idealize.ShloMosaic.Pipeline (Dat)

/-! ## A point's block -/

/-- The sparse heads' half of the projection. -/
theorem pay2_apply (v0 : Vec Ideal S256x1024 .f32) (v2 : Vec Ideal S1x1024 .f32) (v17 : Vec Ideal S1024x2048 .bf16) (r : Fin 256) (j : Fin 2048) :
    (k0_pay2 v0 v2 v17 : FVec Ideal S256x2048 .f32) (ix2 r j)
      = ∑ k : Fin 1024, rms (fun k => v0 (ix2 r k)) (fun k => v2 (ix2 0 k)) k * v17 (ix2 k j) := by
  unfold rms nHalf eps
  pointwise [k0_pay2]

/-- The forgetting heads' rows, normed. -/
theorem pay3_apply (v0 : Vec Ideal S256x1024 .f32) (v2 : Vec Ideal S1x1024 .f32) (r : Fin 256) (k : Fin 1024) :
    (k0_pay3 v0 v2 : FVec Ideal S256x1024 .bf16) (ix2 r k) = rms (fun k => v0 (ix2 r k)) (fun k => v2 (ix2 0 k)) k := by
  unfold rms nHalf eps
  pointwise [k0_pay3]

/-- The other half, the residual and the layer norm. -/
theorem pay1_apply (v19 : FVec Ideal S256x2048 .f32) (v36 : FVec Ideal S256x1024 .bf16) (v38 : FVec Ideal S1024x2048 .bf16) (v41 : Vec Ideal S256x2048 .f32)
    (v46 : Vec Ideal S1x2048 .f32) (v48 : Vec Ideal S1x2048 .f32) (r : Fin 256) (j : Fin 2048) :
    (k0_pay1 v19 v36 v38 (constant S256x2048 .f32 0x00000000#32) v41 v46 v48 : FVec Ideal S256x2048 .f32) (ix2 r j)
      = lnorm (fun j => alpha * v41 (ix2 r j) + (v19 (ix2 r j) + ∑ k : Fin 1024, v36 (ix2 r k) * v38 (ix2 k j)))
          (fun j => v46 (ix2 0 j)) (fun j => v48 (ix2 0 j)) j := by
  unfold lnorm mean alpha nFull eps
  pointwise [k0_pay1]

/-- What a point leaves, by row and channel. -/
theorem out_apply (x0 x1 : Vec Ideal S256x1024 .f32) (x2 : Vec Ideal S256x2048 .f32) (x3 x4 : Vec Ideal S1x1024 .f32) (x5 : Vec Ideal S2048x2048 .bf16)
    (x6 x7 : Vec Ideal S1x2048 .f32) (r : Fin 256) (j : Fin 2048) :
    out0_8 (F := Ideal) x0 x1 x2 x3 x4 x5 x6 x7 (ix2 r j)
      = outRow (fun k => x0 (ix2 r k)) (fun k => x1 (ix2 r k)) (fun j => x2 (ix2 r j)) (fun k => x3 (ix2 0 k)) (fun k => x4 (ix2 0 k))
          (fun k j => x5 (ix2 k j)) (fun j => x6 (ix2 0 j)) (fun j => x7 (ix2 0 j)) j := by
  unfold out0_8
  rw [View.canon_cons_unit_zero (by funext a; fin_cases a <;> rfl)]
  have l0 : ∀ x : Vec Ideal S256x1024 .f32, View.ld x r0_0 = x := fun x => View.ld_unit_zero (by funext a; fin_cases a <;> rfl) _ x
  have l1 : ∀ x : Vec Ideal S1x1024 .f32, View.ld x r0_1 = x := fun x => View.ld_unit_zero (by funext a; fin_cases a <;> rfl) _ x
  have l4 : ∀ x : Vec Ideal S256x2048 .f32, View.ld x r0_4 = x := fun x => View.ld_unit_zero (by funext a; fin_cases a <;> rfl) _ x
  have l5 : ∀ x : Vec Ideal S1x2048 .f32, View.ld x r0_5 = x := fun x => View.ld_unit_zero (by funext a; fin_cases a <;> rfl) _ x
  have a0 : ∀ (k : Fin 1024) (j : Fin 2048), (View.ld x5 r0_2 : Vec Ideal S1024x2048 .bf16) (ix2 k j) = x5 (ix2 ⟨k.val, by omega⟩ j) := fun k j => by
    refine congrArg x5 (funext fun a => Fin.ext ?_)
    match a with
    | ⟨0, _⟩ => show 0 + 1 * k.val = k.val; omega
    | ⟨1, _⟩ => show 0 + 1 * j.val = j.val; omega
  have a1 : ∀ (k : Fin 1024) (j : Fin 2048), (k0_pay4 (View.ld x5 r0_3) : FVec Ideal S1024x2048 .bf16) (ix2 k j) = x5 (ix2 ⟨1024 + k.val, by omega⟩ j) := fun k j => by
    refine Eq.trans (?_ : _ = (View.ld x5 r0_3 : Vec Ideal S1024x2048 .bf16) (ix2 k j)) ?_
    · generalize View.ld x5 r0_3 = z
      pointwise [k0_pay4]
    refine congrArg x5 (funext fun a => Fin.ext ?_)
    match a with
    | ⟨0, _⟩ => show 1024 + 1 * k.val = 1024 + k.val; omega
    | ⟨1, _⟩ => show 0 + 1 * j.val = j.val; omega
  rw [l0, l0, l1, l1, l4, l5, l5]
  refine (pay1_apply _ _ _ _ _ _ r j).trans ?_
  unfold outRow mix
  simp only [pay2_apply, pay3_apply, a0, a1]

/-! ## The arrays as the region finds them -/

variable (m : (ℓ : Loc nD τ sig) → Buf (Elt Ideal) ℓ) (c : Dev nD)

/-- The sparse heads' output as launched. -/
abbrev onArg : Vec Ideal S8x2048x1024 .f32 := m ((c : Thread nD τ).loc main_arg0)
/-- The forgetting heads' output. -/
abbrev ofArg : Vec Ideal S8x2048x1024 .f32 := m ((c : Thread nD τ).loc main_arg1)
/-- The tokens. -/
abbrev xArg : Vec Ideal S8x2048x2048 .f32 := m ((c : Thread nD τ).loc main_arg2)
/-- The sparse heads' gains. -/
abbrev gnArg : Vec Ideal S1024 .f32 := m ((c : Thread nD τ).loc main_arg3)
/-- The forgetting heads' gains. -/
abbrev gfArg : Vec Ideal S1024 .f32 := m ((c : Thread nD τ).loc main_arg4)
/-- The output projection. -/
abbrev wArg : Vec Ideal S2048x2048 .f32 := m ((c : Thread nD τ).loc main_arg5)
/-- The layer norm's gains. -/
abbrev gArg : Vec Ideal S2048 .f32 := m ((c : Thread nD τ).loc main_arg6)
/-- The layer norm's offsets. -/
abbrev bArg : Vec Ideal S2048 .f32 := m ((c : Thread nD τ).loc main_arg7)

/-- The result's array. -/
def big (on of : Vec Ideal S8x2048x1024 .f32) (x : Vec Ideal S8x2048x2048 .f32) (gn gf : Vec Ideal S1024 .f32) (w : Vec Ideal S2048x2048 .f32)
    (g b : Vec Ideal S2048 .f32) : Vec Ideal S16384x2048 .f32 := fun i =>
  outRow (fun k => on (ix3 ⟨(i 0).val / 2048, by have : (i 0).val < 16384 := (i 0).isLt; omega⟩ ⟨(i 0).val % 2048, by omega⟩ k))
    (fun k => of (ix3 ⟨(i 0).val / 2048, by have : (i 0).val < 16384 := (i 0).isLt; omega⟩ ⟨(i 0).val % 2048, by omega⟩ k))
    (fun j => x (ix3 ⟨(i 0).val / 2048, by have : (i 0).val < 16384 := (i 0).isLt; omega⟩ ⟨(i 0).val % 2048, by omega⟩ j))
    (fun k => gn (ix1 k)) (fun k => gf (ix1 k)) (fun k j => w (ix2 k j)) (fun j => g (ix1 j)) (fun j => b (ix1 j)) (i 1)

theorem V0_apply (r : Fin 16384) (k : Fin 1024) : (V m c main_v0 : Vec Ideal S16384x1024 .f32) (ix2 r k)
    = onArg m c (ix3 ⟨r.val / 2048, by omega⟩ ⟨r.val % 2048, by omega⟩ k) := by
  have e : (V m c main_v0 : Vec Ideal S16384x1024 .f32) = shapeCast _ (onArg m c) shapeCasts_S8x2048x1024_S16384x1024 := by
    entry_read
    rfl
  rw [e]
  generalize onArg m c = y
  pointwise

theorem V1_apply (r : Fin 16384) (k : Fin 1024) : (V m c main_v1 : Vec Ideal S16384x1024 .f32) (ix2 r k)
    = ofArg m c (ix3 ⟨r.val / 2048, by omega⟩ ⟨r.val % 2048, by omega⟩ k) := by
  have e : (V m c main_v1 : Vec Ideal S16384x1024 .f32) = shapeCast _ (ofArg m c) shapeCasts_S8x2048x1024_S16384x1024 := by
    entry_read
    rfl
  rw [e]
  generalize ofArg m c = y
  pointwise

theorem V2_apply (r : Fin 16384) (k : Fin 2048) : (V m c main_v2 : Vec Ideal S16384x2048 .f32) (ix2 r k)
    = xArg m c (ix3 ⟨r.val / 2048, by omega⟩ ⟨r.val % 2048, by omega⟩ k) := by
  have e : (V m c main_v2 : Vec Ideal S16384x2048 .f32) = shapeCast _ (xArg m c) shapeCasts_S8x2048x2048_S16384x2048 := by
    entry_read
    rfl
  rw [e]
  generalize xArg m c = y
  pointwise

theorem V3_apply (k : Fin 1024) : (V m c main_v3 : Vec Ideal S1x1024 .f32) (ix2 0 k) = gnArg m c (ix1 k) := by
  have e : (V m c main_v3 : Vec Ideal S1x1024 .f32) = broadcastInDim S1x1024 ![1] bcast_S1024_S1x1024_1 (gnArg m c) := by
    entry_read
    rfl
  rw [e]
  generalize gnArg m c = y
  pointwise

theorem V4_apply (k : Fin 1024) : (V m c main_v4 : Vec Ideal S1x1024 .f32) (ix2 0 k) = gfArg m c (ix1 k) := by
  have e : (V m c main_v4 : Vec Ideal S1x1024 .f32) = broadcastInDim S1x1024 ![1] bcast_S1024_S1x1024_1 (gfArg m c) := by
    entry_read
    rfl
  rw [e]
  generalize gfArg m c = y
  pointwise

theorem V5_apply (k j : Fin 2048) : (V m c main_v5 : Vec Ideal S2048x2048 .bf16) (ix2 k j) = wArg m c (ix2 k j) := by
  have e : @Eq (FVec Ideal S2048x2048 .bf16) (V m c main_v5) (truncf (F := Ideal) (φ := .f32) .bf16 (wArg m c) bitsLt_bf16_f32) := by
    entry_read
    rfl
  exact congrFun e (ix2 k j)

theorem V6_apply (k : Fin 2048) : (V m c main_v6 : Vec Ideal S1x2048 .f32) (ix2 0 k) = gArg m c (ix1 k) := by
  have e : (V m c main_v6 : Vec Ideal S1x2048 .f32) = broadcastInDim S1x2048 ![1] bcast_S2048_S1x2048_1 (gArg m c) := by
    entry_read
    rfl
  rw [e]
  generalize gArg m c = y
  pointwise

theorem V7_apply (k : Fin 2048) : (V m c main_v7 : Vec Ideal S1x2048 .f32) (ix2 0 k) = bArg m c (ix1 k) := by
  have e : (V m c main_v7 : Vec Ideal S1x2048 .f32) = broadcastInDim S1x2048 ![1] bcast_S2048_S1x2048_1 (bArg m c) := by
    entry_read
    rfl
  rw [e]
  generalize bArg m c = y
  pointwise

/-! ## The index maps -/

section Maps
variable (i : grid0.Coords)

theorem i0_lt : (i 0).val < 64 := (i 0).isLt

theorem toNat_small {n : ℕ} (h : n < 64) : (BitVec.ofNat 32 n).toNat = n := by rw [BitVec.toNat_ofNat]; omega

theorem map0 : cc0_transform_0 i = ![(i 0).val, 0] := by
  show ![(BitVec.ofNat 32 (i 0).val).toNat, 0] = _
  rw [toNat_small (i0_lt i)]
theorem map1 : cc0_transform_1 i = ![(i 0).val, 0] := by
  show ![(BitVec.ofNat 32 (i 0).val).toNat, 0] = _
  rw [toNat_small (i0_lt i)]
theorem map2 : cc0_transform_2 i = ![(i 0).val, 0] := by
  show ![(BitVec.ofNat 32 (i 0).val).toNat, 0] = _
  rw [toNat_small (i0_lt i)]
theorem map8 : cc0_transform_8 i = ![(i 0).val, 0] := by
  show ![(BitVec.ofNat 32 (i 0).val).toNat, 0] = _
  rw [toNat_small (i0_lt i)]
theorem map3 : cc0_transform_3 i = ![0, 0] := rfl
theorem map4 : cc0_transform_4 i = ![0, 0] := rfl
theorem map5 : cc0_transform_5 i = ![0, 0] := rfl
theorem map6 : cc0_transform_6 i = ![0, 0] := rfl
theorem map7 : cc0_transform_7 i = ![0, 0] := rfl

end Maps

/-! ## A point's blocks -/

variable (t : Fin cfg0.N)

/-- Point `t`'s coordinate. -/
abbrev co : grid0.Coords := grid0.coords t

/-- The sparse heads' block of point `t`. -/
abbrev b0 : Vec Ideal S256x1024 .f32 := iblk m c 0 t
/-- The forgetting heads' block. -/
abbrev b1 : Vec Ideal S256x1024 .f32 := iblk m c 1 t
/-- The tokens' block. -/
abbrev b2 : Vec Ideal S256x2048 .f32 := iblk m c 2 t
/-- The sparse heads' gains. -/
abbrev b3 : Vec Ideal S1x1024 .f32 := iblk m c 3 t
/-- The forgetting heads' gains. -/
abbrev b4 : Vec Ideal S1x1024 .f32 := iblk m c 4 t
/-- The output projection. -/
abbrev b5 : Vec Ideal S2048x2048 .bf16 := iblk m c 5 t
/-- The layer norm's gains. -/
abbrev b6 : Vec Ideal S1x2048 .f32 := iblk m c 6 t
/-- The layer norm's offsets. -/
abbrev b7 : Vec Ideal S1x2048 .f32 := iblk m c 7 t

/-- The array row of the block's row `r`. -/
abbrev row (r : Fin 256) : Fin 16384 := ⟨256 * (co t 0).val + r.val, by have := i0_lt (co t); omega⟩

theorem b0_apply (r : Fin 256) (k : Fin 1024) : b0 m c t (ix2 r k)
    = onArg m c (ix3 ⟨(row t r).val / 2048, by have := (row t r).isLt; omega⟩ ⟨(row t r).val % 2048, by omega⟩ k) := by
  have h := map0 (co t)
  refine Eq.trans ?_ (V0_apply m c (row t r) k)
  refine congrArg (V m c main_v0 : Vec Ideal S16384x1024 .f32) (funext fun a => Fin.ext ?_)
  match a with
  | ⟨0, _⟩ => show cc0_transform_0 (co t) 0 * 256 + 1 * r.val = 256 * (co t 0).val + r.val
              rw [h]; show (co t 0).val * 256 + 1 * r.val = _; omega
  | ⟨1, _⟩ => show cc0_transform_0 (co t) 1 * 1024 + 1 * k.val = k.val; rw [h]; show 0 * 1024 + 1 * k.val = _; omega

theorem b1_apply (r : Fin 256) (k : Fin 1024) : b1 m c t (ix2 r k)
    = ofArg m c (ix3 ⟨(row t r).val / 2048, by have := (row t r).isLt; omega⟩ ⟨(row t r).val % 2048, by omega⟩ k) := by
  have h := map1 (co t)
  refine Eq.trans ?_ (V1_apply m c (row t r) k)
  refine congrArg (V m c main_v1 : Vec Ideal S16384x1024 .f32) (funext fun a => Fin.ext ?_)
  match a with
  | ⟨0, _⟩ => show cc0_transform_1 (co t) 0 * 256 + 1 * r.val = 256 * (co t 0).val + r.val
              rw [h]; show (co t 0).val * 256 + 1 * r.val = _; omega
  | ⟨1, _⟩ => show cc0_transform_1 (co t) 1 * 1024 + 1 * k.val = k.val; rw [h]; show 0 * 1024 + 1 * k.val = _; omega

theorem b2_apply (r : Fin 256) (k : Fin 2048) : b2 m c t (ix2 r k)
    = xArg m c (ix3 ⟨(row t r).val / 2048, by have := (row t r).isLt; omega⟩ ⟨(row t r).val % 2048, by omega⟩ k) := by
  have h := map2 (co t)
  refine Eq.trans ?_ (V2_apply m c (row t r) k)
  refine congrArg (V m c main_v2 : Vec Ideal S16384x2048 .f32) (funext fun a => Fin.ext ?_)
  match a with
  | ⟨0, _⟩ => show cc0_transform_2 (co t) 0 * 256 + 1 * r.val = 256 * (co t 0).val + r.val
              rw [h]; show (co t 0).val * 256 + 1 * r.val = _; omega
  | ⟨1, _⟩ => show cc0_transform_2 (co t) 1 * 2048 + 1 * k.val = k.val; rw [h]; show 0 * 2048 + 1 * k.val = _; omega

theorem b3_apply (k : Fin 1024) : b3 m c t (ix2 0 k) = gnArg m c (ix1 k) := by
  have h := map3 (co t)
  refine Eq.trans ?_ (V3_apply m c k)
  refine congrArg (V m c main_v3 : Vec Ideal S1x1024 .f32) (funext fun a => Fin.ext ?_)
  match a with
  | ⟨0, _⟩ => show cc0_transform_3 (co t) 0 * 1 + 1 * 0 = 0; rw [h]; rfl
  | ⟨1, _⟩ => show cc0_transform_3 (co t) 1 * 1024 + 1 * k.val = k.val; rw [h]; show 0 * 1024 + 1 * k.val = _; omega

theorem b4_apply (k : Fin 1024) : b4 m c t (ix2 0 k) = gfArg m c (ix1 k) := by
  have h := map4 (co t)
  refine Eq.trans ?_ (V4_apply m c k)
  refine congrArg (V m c main_v4 : Vec Ideal S1x1024 .f32) (funext fun a => Fin.ext ?_)
  match a with
  | ⟨0, _⟩ => show cc0_transform_4 (co t) 0 * 1 + 1 * 0 = 0; rw [h]; rfl
  | ⟨1, _⟩ => show cc0_transform_4 (co t) 1 * 1024 + 1 * k.val = k.val; rw [h]; show 0 * 1024 + 1 * k.val = _; omega

theorem b5_apply (k j : Fin 2048) : b5 m c t (ix2 k j) = wArg m c (ix2 k j) := by
  have h := map5 (co t)
  refine Eq.trans ?_ (V5_apply m c k j)
  refine congrArg (V m c main_v5 : Vec Ideal S2048x2048 .bf16) (funext fun a => Fin.ext ?_)
  match a with
  | ⟨0, _⟩ => show cc0_transform_5 (co t) 0 * 2048 + 1 * k.val = k.val; rw [h]; show 0 * 2048 + 1 * k.val = _; omega
  | ⟨1, _⟩ => show cc0_transform_5 (co t) 1 * 2048 + 1 * j.val = j.val; rw [h]; show 0 * 2048 + 1 * j.val = _; omega

theorem b6_apply (k : Fin 2048) : b6 m c t (ix2 0 k) = gArg m c (ix1 k) := by
  have h := map6 (co t)
  refine Eq.trans ?_ (V6_apply m c k)
  refine congrArg (V m c main_v6 : Vec Ideal S1x2048 .f32) (funext fun a => Fin.ext ?_)
  match a with
  | ⟨0, _⟩ => show cc0_transform_6 (co t) 0 * 1 + 1 * 0 = 0; rw [h]; rfl
  | ⟨1, _⟩ => show cc0_transform_6 (co t) 1 * 2048 + 1 * k.val = k.val; rw [h]; show 0 * 2048 + 1 * k.val = _; omega

theorem b7_apply (k : Fin 2048) : b7 m c t (ix2 0 k) = bArg m c (ix1 k) := by
  have h := map7 (co t)
  refine Eq.trans ?_ (V7_apply m c k)
  refine congrArg (V m c main_v7 : Vec Ideal S1x2048 .f32) (funext fun a => Fin.ext ?_)
  match a with
  | ⟨0, _⟩ => show cc0_transform_7 (co t) 0 * 1 + 1 * 0 = 0; rw [h]; rfl
  | ⟨1, _⟩ => show cc0_transform_7 (co t) 1 * 2048 + 1 * k.val = k.val; rw [h]; show 0 * 2048 + 1 * k.val = _; omega

/-- The result's array, of the arguments as launched. -/
abbrev res : Vec Ideal S16384x2048 .f32 :=
  big (onArg m c) (ofArg m c) (xArg m c) (gnArg m c) (gfArg m c) (wArg m c) (gArg m c) (bArg m c)

/-- What point `t` writes back is its block of the result. -/
theorem flushed_eq (hf : (cfg0.win 8).flush t = true) :
    (dats m 0 c).flushed 8 t = ((cfg0.win 8).blk t).view.read (Elt Ideal) (res m c) := by
  rw [Value.flushed8]
  funext y
  have hy : ∃ (r : Fin 256) (j : Fin 2048), y = ix2 r j := ⟨y 0, y 1, by
    funext a
    match a with
    | ⟨0, _⟩ => rfl
    | ⟨1, _⟩ => rfl⟩
  obtain ⟨r, j, rfl⟩ := hy
  refine (out_apply (b0 m c t) (b1 m c t) (b2 m c t) (b3 m c t) (b4 m c t) (b5 m c t) (b6 m c t) (b7 m c t) r j).trans ?_
  simp only [b0_apply, b1_apply, b2_apply, b3_apply, b4_apply, b5_apply, b6_apply, b7_apply]
  have h := map8 (co t)
  refine ((rfl : res m c (ix2 (row t r) j) = _).symm.trans ?_ : _ = _)
  refine congrArg (res m c) (funext fun a => Fin.ext ?_)
  match a with
  | ⟨0, _⟩ => show 256 * (co t 0).val + r.val = cc0_transform_8 (co t) 0 * 256 + 1 * r.val
              rw [h]; show _ = (co t 0).val * 256 + 1 * r.val; omega
  | ⟨1, _⟩ => show j.val = cc0_transform_8 (co t) 1 * 2048 + 1 * j.val
              rw [h]; show _ = 0 * 2048 + 1 * j.val; omega

/-- Every row block is some grid point's. -/
theorem point_of : ∀ (a : Fin 64), ∃ t : Fin grid0.N, grid0.coords t 0 = a := by
  have h : ∀ t : Fin grid0.N, (grid0.coords t 0).val = t.val := by
    decide +kernel
  intro a
  have hN : grid0.N = 64 := N_0
  have h0 := h ⟨a.val, by omega⟩
  exact ⟨_, Fin.ext h0⟩

/-- The result array after the run. -/
theorem final_eq : (dats m 0 c).arrAt 8 cfg0.N = res m c :=
  (dats m 0 c).arrAt_eq_of_cover 8 (res m c) (flushed_eq m c) fun i => by
    have h0 : (i 0 : Nat) < 16384 := (i 0).isLt
    have h1 : (i 1 : Nat) < 2048 := (i 1).isLt
    obtain ⟨t, e0⟩ := point_of ⟨(i 0 : Nat) / 256, by omega⟩
    have e0 : (co t 0).val = (i 0 : Nat) / 256 := congrArg Fin.val e0
    have h := map8 (co t)
    refine ⟨t, flush0_8 t, ?_⟩
    show i ∈ ((View.whole main_v8).slice (win0_8.rect t)).set
    rw [View.set_slice_whole, Rect.mem_set_unit]
    intro a
    match a with
    | ⟨0, _⟩ => show cc0_transform_8 (co t) 0 * 256 ≤ (i 0 : Nat) ∧ (i 0 : Nat) < cc0_transform_8 (co t) 0 * 256 + 256
                rw [h]; show (co t 0).val * 256 ≤ (i 0 : Nat) ∧ (i 0 : Nat) < (co t 0).val * 256 + 256; omega
    | ⟨1, _⟩ => show cc0_transform_8 (co t) 1 * 2048 ≤ (i 1 : Nat) ∧ (i 1 : Nat) < cc0_transform_8 (co t) 1 * 2048 + 2048
                rw [h]; show 0 * 2048 ≤ (i 1 : Nat) ∧ (i 1 : Nat) < 0 * 2048 + 2048; omega

/-- The kernel's run leaves the result and its arguments. -/
theorem kernel_run (ρ : Dev nD → PrngReg) : θ_run defs (onTc (τ := τ) (main (F := Ideal))) ⟨m, fun _ => 0, ρ⟩ fun r => ∀ c : Dev nD,
      r.2.mem ((c : Thread nD τ).loc main_v8) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_eq m c), (h c).2⟩) (Value.run_blocks m ρ)

end Cert.Proof.PostArray

end
-- ==== Proof.PostRef.lean ====
/-
  The reference's output of the attention read at an index; its result is the kernel's (`ref_run`).
-/
module

public import proofs.«01_k».proof.Proof.PostArray
public import proofs.«01_k».proof.Proof.Gen.PostRefIdeal.Run
public import proofs.«01_k».proof.Proof.Gen.PostRefIdeal.Read
public import Idealize.ShloMosaic.Lib.KernelVsHost

@[expose] public section

set_option maxRecDepth 16384

noncomputable section

namespace Cert.Proof.PostRef

open Cert.PostRefIdeal Cert.PostRefIdeal.Gen Cert.PostRefIdeal.Read Idealize.ShloMosaic Idealize.ShloMosaic.TcCoe Idealize.SL.Sem
open Cert.Proof.PostSpec Pointwise
open Cert.Proof.PostArray (big)

variable (on of : Vec Ideal S8x2048x1024 .f32) (x : Vec Ideal S8x2048x2048 .f32) (gn gf : Vec Ideal S1024 .f32) (w : Vec Ideal S2048x2048 .f32)
  (g b : Vec Ideal S2048 .f32)

/-- The sparse heads' rows, normed. -/
theorem v12_apply (p : Fin 8) (t : Fin 2048) (k : Fin 1024) : val_main_v12 (F := Ideal) on gn (ix3 p t k)
    = rms (fun k => on (ix3 p t k)) (fun k => gn (ix1 k)) k := by
  unfold rms nHalf eps
  pointwise [val_main_v0, val_main_v1, val_main_v2, val_main_v3, val_main_v4, val_main_v5, val_main_v6, val_main_v7, val_main_v8,
    val_main_v9, val_main_v10, val_main_v11, val_main_v12, val_main_cst, val_main_cst_0, val_main_cst_1]

/-- The forgetting heads' rows, normed. -/
theorem v25_apply (p : Fin 8) (t : Fin 2048) (k : Fin 1024) : val_main_v25 (F := Ideal) of gf (ix3 p t k)
    = rms (fun k => of (ix3 p t k)) (fun k => gf (ix1 k)) k := by
  unfold rms nHalf eps
  pointwise [val_main_v13, val_main_v14, val_main_v15, val_main_v16, val_main_v17, val_main_v18, val_main_v19, val_main_v20, val_main_v21,
    val_main_v22, val_main_v23, val_main_v24, val_main_v25, val_main_cst_2, val_main_cst_3, val_main_cst_4]

/-- The output projection of the two groups side by side. -/
theorem v27_apply (p : Fin 8) (t j : Fin 2048) : val_main_v27 (F := Ideal) on of gn gf w (ix3 p t j)
    = mix (rms (fun k => on (ix3 p t k)) (fun k => gn (ix1 k))) (rms (fun k => of (ix3 p t k)) (fun k => gf (ix1 k))) (fun k j => w (ix2 k j)) j := by
  unfold val_main_v27 val_main_v26
  have h := v12_apply on gn p t
  have h' := v25_apply of gf p t
  generalize val_main_v12 (F := Ideal) on gn = y at *
  generalize val_main_v25 (F := Ideal) of gf = z at *
  unfold mix
  simp only [← h, ← h']
  pointwise

/-- The residual and the projection. -/
theorem v30_apply (p : Fin 8) (t j : Fin 2048) : val_main_v30 (F := Ideal) on of x gn gf w (ix3 p t j)
    = alpha * x (ix3 p t j)
      + mix (rms (fun k => on (ix3 p t k)) (fun k => gn (ix1 k))) (rms (fun k => of (ix3 p t k)) (fun k => gf (ix1 k))) (fun k j => w (ix2 k j)) j := by
  rw [← v27_apply]
  unfold val_main_v30 val_main_v29 val_main_v28 val_main_cst_5 alpha
  generalize val_main_v27 (F := Ideal) on of gn gf w = z
  pointwise

/-- The reference's row. -/
theorem v54_apply (p : Fin 8) (t j : Fin 2048) : val_main_v54 (F := Ideal) on of x gn gf w g b (ix3 p t j)
    = outRow (fun k => on (ix3 p t k)) (fun k => of (ix3 p t k)) (fun j => x (ix3 p t j)) (fun k => gn (ix1 k)) (fun k => gf (ix1 k))
        (fun k j => w (ix2 k j)) (fun j => g (ix1 j)) (fun j => b (ix1 j)) j := by
  have h := fun j => v30_apply on of x gn gf w p t j
  unfold outRow
  simp only [← h]
  unfold val_main_v54 val_main_v53 val_main_v52 val_main_v51 val_main_v50 val_main_v49 val_main_v48 val_main_v47 val_main_v46 val_main_v45 val_main_v44 val_main_cst_10 val_main_v43 val_main_v42 val_main_v41 val_main_v40 val_main_cst_9 val_main_v39 val_main_v38 val_main_cst_8 val_main_v37 val_main_v36 val_main_v35 val_main_v34 val_main_v33 val_main_cst_7 val_main_v32 val_main_v31 val_main_cst_6
  clear h
  generalize val_main_v30 (F := Ideal) on of x gn gf w = z
  unfold lnorm mean nFull eps
  pointwise

/-- The reference's result is the kernel's. -/
theorem result_eq : val_main_v55 (F := Ideal) on of x gn gf w g b = big on of x gn gf w g b := by
  funext i
  obtain ⟨r, j, rfl⟩ : ∃ (r : Fin 16384) (j : Fin 2048), i = ix2 r j := ⟨i 0, i 1, eq_ix2 i⟩
  refine Eq.trans ?_ (v54_apply on of x gn gf w g b ⟨r.val / 2048, by omega⟩ ⟨r.val % 2048, by omega⟩ j)
  unfold val_main_v55
  generalize val_main_v54 (F := Ideal) on of x gn gf w g b = z
  pointwise

/-- The reference's run leaves the kernel's result. -/
theorem ref_run (m : (ℓ : Loc nD τ sig) → Buf (Elt Ideal) ℓ) (ρ : Dev nD → PrngReg) (on of : Dev nD → Vec Ideal S8x2048x1024 .f32)
    (x : Dev nD → Vec Ideal S8x2048x2048 .f32) (gn gf : Dev nD → Vec Ideal S1024 .f32) (w : Dev nD → Vec Ideal S2048x2048 .f32) (g b : Dev nD → Vec Ideal S2048 .f32)
    (h0 : ∀ c : Dev nD, m ((c.tc : Thread nD τ).loc main_arg0) = on c) (h1 : ∀ c : Dev nD, m ((c.tc : Thread nD τ).loc main_arg1) = of c)
    (h2 : ∀ c : Dev nD, m ((c.tc : Thread nD τ).loc main_arg2) = x c) (h3 : ∀ c : Dev nD, m ((c.tc : Thread nD τ).loc main_arg3) = gn c)
    (h4 : ∀ c : Dev nD, m ((c.tc : Thread nD τ).loc main_arg4) = gf c) (h5 : ∀ c : Dev nD, m ((c.tc : Thread nD τ).loc main_arg5) = w c)
    (h6 : ∀ c : Dev nD, m ((c.tc : Thread nD τ).loc main_arg6) = g c) (h7 : ∀ c : Dev nD, m ((c.tc : Thread nD τ).loc main_arg7) = b c) :
    θ_run defs (onTc (τ := τ) (main (F := Ideal))) ⟨m, fun _ => 0, ρ⟩ fun r => ∀ c : Dev nD,
      r.2.mem ((c.tc : Thread nD τ).loc main_v55) = big (on c) (of c) (x c) (gn c) (gf c) (w c) (g c) (b c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨hr, hk⟩ := h c
    refine ⟨hr.trans ?_, hk⟩
    rw [val_main_v55_eq, h0, h1, h2, h3, h4, h5, h6, h7]
    exact result_eq (on c) (of c) (x c) (gn c) (gf c) (w c) (g c) (b c))
    (Cert.PostRefIdeal.Value.run (F := Ideal) m ρ)

end Cert.Proof.PostRef

end
-- ==== Proof.ProjSpec.lean ====
/-
  The input projection, entry by entry: row (b, t) of the group's tokens against a column of the weights, and the columns
  of the weights that the large product keeps (all but the 24 gate columns and the 8 forget columns).
-/
module

public import Idealize.ShloMosaic.Lib.Pointwise

@[expose] public section

noncomputable section

namespace Cert.Proof.ProjSpec

open Idealize.ShloMosaic Pointwise

/-- One entry of the projection. -/
def prod {B T : Nat} (x : Vec Ideal (⟨3, ![B, T, 2048]⟩ : Shape) .f32) (w : Vec Ideal (⟨3, ![1, 2048, 5664]⟩ : Shape) .f32)
    (b : Fin B) (t : Fin T) (n : Fin 5664) : Ideal .f32 :=
  ∑ k : Fin 2048, x (ix3 b t k) * w (ix3 0 k n)

/-- The weights' column that the large product's column `j` reads. -/
def colOf (j : Fin 5632) : Fin 5664 := ⟨if j.val < 2560 then j.val else j.val + 24, by split <;> omega⟩

theorem colOf_lt (j : Fin 5632) (h : j.val < 2560) : (colOf j).val = j.val := if_pos h
theorem colOf_ge (j : Fin 5632) (h : ¬ j.val < 2560) : (colOf j).val = j.val + 24 := if_neg h

end Cert.Proof.ProjSpec

end
-- ==== Proof.ProjArray.lean ====
/-
  The large product of the projection over the prompt group: each grid point multiplies a block of 512 rows by a block of
  512 weight columns, and the blocks fill the array (`final_eq`).
-/
module

public import proofs.«01_k».proof.Proof.ProjSpec
public import proofs.«01_k».proof.Proof.Gen.ProjIdeal.Frame
public import Idealize.ShloMosaic.Lib.Pipeline.Value
public import Idealize.ShloMosaic.Lib.Pointwise
public import Idealize.ShloMosaic.Lib.ValueIdx
public import Idealize.ShloMosaic.Lib.Claim

@[expose] public section

set_option maxRecDepth 16384

noncomputable section

namespace Cert.Proof.ProjArray

open Cert.ProjIdeal Cert.ProjIdeal.Gen Idealize.ShloMosaic Idealize.ShloMosaic.TcCoe Idealize.SL.Sem
open Cert.Proof.ProjSpec Pointwise
open Idealize.ShloMosaic.Pipeline (Dat)

variable (m : (ℓ : Loc nD τ sig) → Buf (Elt Ideal) ℓ) (c : Dev nD)

/-- The tokens as launched. -/
abbrev xArg : Vec Ideal S8x2048x2048 .f32 := m ((c : Thread nD τ).loc main_arg0)
/-- The weights as launched. -/
abbrev wArg : Vec Ideal S1x2048x5664 .f32 := m ((c : Thread nD τ).loc main_arg1)

/-- The product's array. -/
def big (x : Vec Ideal S8x2048x2048 .f32) (w : Vec Ideal S1x2048x5664 .f32) : Vec Ideal S16384x5632 .f32 := fun i =>
  prod x w ⟨(i 0).val / 2048, by have : (i 0).val < 16384 := (i 0).isLt; omega⟩ ⟨(i 0).val % 2048, by omega⟩ (colOf (i 1))

/-- The rows as the region finds them. -/
theorem V20_apply (r : Fin 16384) (k : Fin 2048) :
    (V m c main_v20 : Vec Ideal S16384x2048 .f32) (ix2 r k)
      = xArg m c (ix3 ⟨r.val / 2048, by omega⟩ ⟨r.val % 2048, by omega⟩ k) := by
  have e : (V m c main_v20 : Vec Ideal S16384x2048 .f32) = shapeCast _ (xArg m c) shapeCasts_S8x2048x2048_S16384x2048 := by
    entry_read
    rfl
  rw [e]
  generalize xArg m c = y
  pointwise

/-- The weights as the region finds them. -/
theorem V9_apply (k : Fin 2048) (j : Fin 5632) :
    (V m c main_v9 : Vec Ideal S2048x5632 .bf16) (ix2 k j) = wArg m c (ix3 0 k (colOf j)) := by
  have e : @Eq (FVec Ideal S2048x5632 .bf16) (V m c main_v9) (truncf (F := Ideal) (φ := .f32) .bf16 (concatenate S2048x5632 1
      [⟨S2048x1024, extractStridedSlice S2048x1024 ![0, 0] (shapeCast S2048x5664 (wArg m c) shapeCasts_S1x2048x5664_S2048x5664) slices_S2048x5664_S2048x1024_0_0⟩,
       ⟨S2048x1536, extractStridedSlice S2048x1536 ![0, 1024] (shapeCast S2048x5664 (wArg m c) shapeCasts_S1x2048x5664_S2048x5664) slices_S2048x5664_S2048x1536_0_1024⟩,
       ⟨S2048x1024, extractStridedSlice S2048x1024 ![0, 2584] (shapeCast S2048x5664 (wArg m c) shapeCasts_S1x2048x5664_S2048x5664) slices_S2048x5664_S2048x1024_0_2584⟩,
       ⟨S2048x2048, extractStridedSlice S2048x2048 ![0, 3608] (shapeCast S2048x5664 (wArg m c) shapeCasts_S1x2048x5664_S2048x5664) slices_S2048x5664_S2048x2048_0_3608⟩]
      concatenates_S2048x1024_S2048x1536_S2048x1024_S2048x2048_S2048x5632_d1) bitsLt_bf16_f32) := by
    entry_read
    rfl
  refine (congrFun e (ix2 k j)).trans ?_
  generalize wArg m c = y
  pointwise
  split_ifs <;> (refine congrArg y (congrArg (ix3 0 k) (Fin.ext ?_)); dsimp only
                 first
                 | (rw [colOf_lt j (by omega)]; done)
                 | (rw [colOf_lt j (by omega)]; omega)
                 | (rw [colOf_ge j (by omega)]; omega))

/-! ## The index maps -/

section Maps
variable (i : grid0.Coords)

theorem i0_lt : (i 0).val < 32 := (i 0).isLt
theorem i1_lt : (i 1).val < 11 := (i 1).isLt

theorem toNat_small {n : ℕ} (h : n < 64) : (BitVec.ofNat 32 n).toNat = n := by rw [BitVec.toNat_ofNat]; omega

theorem map0 : cc0_transform_0 i = ![(i 0).val, 0] := by
  show ![(BitVec.ofNat 32 (i 0).val).toNat, 0] = _
  rw [toNat_small (by have := i0_lt i; omega)]
theorem map1 : cc0_transform_1 i = ![0, (i 1).val] := by
  show ![0, (BitVec.ofNat 32 (i 1).val).toNat] = _
  rw [toNat_small (by have := i1_lt i; omega)]
theorem map2 : cc0_transform_2 i = ![(i 0).val, (i 1).val] := by
  show ![(BitVec.ofNat 32 (i 0).val).toNat, (BitVec.ofNat 32 (i 1).val).toNat] = _
  rw [toNat_small (by have := i0_lt i; omega), toNat_small (by have := i1_lt i; omega)]

end Maps

/-! ## A point's blocks -/

variable (t : Fin cfg0.N)

/-- Point `t`'s coordinates: row block, column block. -/
abbrev co : grid0.Coords := grid0.coords t

/-- The rows' block of point `t`. -/
abbrev b0 : Vec Ideal S512x2048 .f32 := iblk m c 0 t
/-- The weights' block. -/
abbrev b1 : Vec Ideal S2048x512 .bf16 := iblk m c 1 t

/-- The array row of the block's row `r`. -/
abbrev row (r : Fin 512) : Fin 16384 := ⟨512 * (co t 0).val + r.val, by have := i0_lt (co t); omega⟩
/-- The array column of the block's column `j`. -/
abbrev col (j : Fin 512) : Fin 5632 := ⟨512 * (co t 1).val + j.val, by have := i1_lt (co t); omega⟩

theorem x_apply (r : Fin 512) (k : Fin 2048) : b0 m c t (ix2 r k)
    = xArg m c (ix3 ⟨(row t r).val / 2048, by have := (row t r).isLt; omega⟩ ⟨(row t r).val % 2048, by omega⟩ k) := by
  have h := map0 (co t)
  refine Eq.trans ?_ (V20_apply m c (row t r) k)
  refine congrArg (V m c main_v20 : Vec Ideal S16384x2048 .f32) (funext fun a => Fin.ext ?_)
  match a with
  | ⟨0, _⟩ => show cc0_transform_0 (co t) 0 * 512 + 1 * r.val = 512 * (co t 0).val + r.val
              rw [h]; show (co t 0).val * 512 + 1 * r.val = _; omega
  | ⟨1, _⟩ => show cc0_transform_0 (co t) 1 * 2048 + 1 * k.val = k.val; rw [h]; show 0 * 2048 + 1 * k.val = _; omega

theorem w_apply (k : Fin 2048) (j : Fin 512) : b1 m c t (ix2 k j) = wArg m c (ix3 0 k (colOf (col t j))) := by
  have h := map1 (co t)
  refine Eq.trans ?_ (V9_apply m c k (col t j))
  refine congrArg (V m c main_v9 : Vec Ideal S2048x5632 .bf16) (funext fun a => Fin.ext ?_)
  match a with
  | ⟨0, _⟩ => show cc0_transform_1 (co t) 0 * 2048 + 1 * k.val = k.val; rw [h]; show 0 * 2048 + 1 * k.val = _; omega
  | ⟨1, _⟩ => show cc0_transform_1 (co t) 1 * 512 + 1 * j.val = 512 * (co t 1).val + j.val
              rw [h]; show (co t 1).val * 512 + 1 * j.val = _; omega

theorem pay_apply (x0 : Vec Ideal S512x2048 .f32) (x1 : Vec Ideal S2048x512 .bf16) (r j : Fin 512) :
    (k0_pay1 x0 x1 : Vec Ideal S512x512 .f32) (ix2 r j) = ∑ k : Fin 2048, x0 (ix2 r k) * x1 (ix2 k j) := by
  pointwise [k0_pay1]

/-- What point `t` writes back is its block of the product. -/
theorem flushed_eq (hf : (cfg0.win 2).flush t = true) :
    (dats m 0 c).flushed 2 t = ((cfg0.win 2).blk t).view.read (Elt Ideal) (big (xArg m c) (wArg m c)) := by
  show (cfg0.win 2).cut (grid0.coords t) ((dats m 0 c).after 2 t) = _
  rw [after0_2]
  unfold out0_2
  rw [View.canon_cons_unit_zero (by funext a; fin_cases a <;> rfl),
    View.ld_unit_zero (by funext a; fin_cases a <;> rfl), View.ld_unit_zero (by funext a; fin_cases a <;> rfl)]
  funext y
  have hy : ∃ r j : Fin 512, y = ix2 r j := ⟨y 0, y 1, by
    funext a
    match a with
    | ⟨0, _⟩ => rfl
    | ⟨1, _⟩ => rfl⟩
  obtain ⟨r, j, rfl⟩ := hy
  refine (pay_apply (b0 m c t) (b1 m c t) r j).trans ?_
  simp only [x_apply, w_apply]
  have h := map2 (co t)
  refine ((rfl : big (xArg m c) (wArg m c) (ix2 (row t r) (col t j)) = _).symm.trans ?_ : _ = _)
  refine congrArg (big (xArg m c) (wArg m c)) (funext fun a => Fin.ext ?_)
  match a with
  | ⟨0, _⟩ => show 512 * (co t 0).val + r.val = cc0_transform_2 (co t) 0 * 512 + 1 * r.val
              rw [h]; show _ = (co t 0).val * 512 + 1 * r.val; omega
  | ⟨1, _⟩ => show 512 * (co t 1).val + j.val = cc0_transform_2 (co t) 1 * 512 + 1 * j.val
              rw [h]; show _ = (co t 1).val * 512 + 1 * j.val; omega

/-- Every row block and column block is some grid point's. -/
theorem point_of : ∀ (a : Fin 32) (b : Fin 11), ∃ t : Fin grid0.N, grid0.coords t 0 = a ∧ grid0.coords t 1 = b := by
  have h : ∀ t : Fin grid0.N, (grid0.coords t 0).val = t.val / 11 ∧ (grid0.coords t 1).val = t.val % 11 := by
    decide +kernel
  intro a b
  have hN : grid0.N = 352 := N_0
  obtain ⟨h0, h1⟩ := h ⟨a.val * 11 + b.val, by omega⟩
  dsimp only at h0 h1
  exact ⟨_, Fin.ext (h0.trans (by omega)), Fin.ext (h1.trans (by omega))⟩

/-- The result array after the run is the product. -/
theorem final_eq : (dats m 0 c).arrAt 2 cfg0.N = big (xArg m c) (wArg m c) :=
  (dats m 0 c).arrAt_eq_of_cover 2 (big (xArg m c) (wArg m c)) (flushed_eq m c) fun i => by
    have h0 : (i 0 : Nat) < 16384 := (i 0).isLt
    have h1 : (i 1 : Nat) < 5632 := (i 1).isLt
    obtain ⟨t, e0, e1⟩ := point_of ⟨(i 0 : Nat) / 512, by omega⟩ ⟨(i 1 : Nat) / 512, by omega⟩
    have e0 : (co t 0).val = (i 0 : Nat) / 512 := congrArg Fin.val e0
    have e1 : (co t 1).val = (i 1 : Nat) / 512 := congrArg Fin.val e1
    have h := map2 (co t)
    refine ⟨t, flush0_2 t, ?_⟩
    show i ∈ ((View.whole main_v21).slice (win0_2.rect t)).set
    rw [View.set_slice_whole, Rect.mem_set_unit]
    intro a
    match a with
    | ⟨0, _⟩ => show cc0_transform_2 (co t) 0 * 512 ≤ (i 0 : Nat) ∧ (i 0 : Nat) < cc0_transform_2 (co t) 0 * 512 + 512
                rw [h]; show (co t 0).val * 512 ≤ (i 0 : Nat) ∧ (i 0 : Nat) < (co t 0).val * 512 + 512; omega
    | ⟨1, _⟩ => show cc0_transform_2 (co t) 1 * 512 ≤ (i 1 : Nat) ∧ (i 1 : Nat) < cc0_transform_2 (co t) 1 * 512 + 512
                rw [h]; show (co t 1).val * 512 ≤ (i 1 : Nat) ∧ (i 1 : Nat) < (co t 1).val * 512 + 512; omega

end Cert.Proof.ProjArray

end
-- ==== Proof.ProjTail.lean ====
/-
  The arrays the host cuts from the large product of the prompt group: queries, keys and values (`tail_eq`).
-/
module

public import proofs.«01_k».proof.Proof.ProjArray
public import Idealize.ShloMosaic.Lib.StableHlo.Run
public import Idealize.ShloMosaic.Lib.Pipeline.FrameSuffix

@[expose] public section

set_option maxRecDepth 16384

noncomputable section

namespace Cert.Proof.ProjTail

open Cert.ProjIdeal Cert.ProjIdeal.Gen Idealize.ShloMosaic Idealize.ShloMosaic.TcCoe Idealize.SL.Sem Idealize.ShloMosaic.StableHlo
open Cert.Proof.ProjArray

variable (m : (ℓ : Loc nD τ sig) → Buf (Elt Ideal) ℓ) (c : Dev nD)

/-- The large product by token. -/
abbrev y3 (y : Vec Ideal S16384x5632 .f32) : Vec Ideal S8x2048x5632 .f32 :=
  shapeCast S8x2048x5632 y shapeCasts_S16384x5632_S8x2048x5632

/-- The sparse heads' queries. -/
abbrev qn (y : Vec Ideal S8x2048x5632 .f32) : Vec Ideal S8x2048x1024 .f32 :=
  extractStridedSlice S8x2048x1024 ![0, 0, 0] y slices_S8x2048x5632_S8x2048x1024_0_0_0

/-- The forgetting heads' queries. -/
abbrev qf (y : Vec Ideal S8x2048x5632 .f32) : Vec Ideal S8x2048x1024 .f32 :=
  extractStridedSlice S8x2048x1024 ![0, 0, 2560] y slices_S8x2048x5632_S8x2048x1024_0_0_2560

/-- The sparse heads' keys and values, flat. -/
abbrev kvFlat (y : Vec Ideal S8x2048x5632 .f32) : Vec Ideal S8x2048x1536 .f32 :=
  extractStridedSlice S8x2048x1536 ![0, 0, 1024] y slices_S8x2048x5632_S8x2048x1536_0_0_1024

/-- The forgetting heads' keys and values, flat. -/
abbrev kvfFlat (y : Vec Ideal S8x2048x5632 .f32) : Vec Ideal S8x2048x2048 .f32 :=
  extractStridedSlice S8x2048x2048 ![0, 0, 3584] y slices_S8x2048x5632_S8x2048x2048_0_0_3584

/-- The sparse heads' keys and values, by branch, key or value, head. -/
abbrev kvn (f : Vec Ideal S8x2048x1536 .f32) : Vec Ideal S8x2048x3x2x2x128 .f32 :=
  shapeCast S8x2048x3x2x2x128 f shapeCasts_S8x2048x1536_S8x2048x3x2x2x128

/-- The first two branches' rows. -/
abbrev rows (z : Vec Ideal S8x2048x3x2x2x128 .f32) : Vec Ideal S1x8x2048x2x2x2x128 .f32 :=
  broadcastInDim S1x8x2048x2x2x2x128 ![1, 2, 3, 4, 5, 6] bcast_S8x2048x2x2x2x128_S1x8x2048x2x2x2x128_1_2_3_4_5_6
    (extractStridedSlice S8x2048x2x2x2x128 ![0, 0, 0, 0, 0, 0] z slices_S8x2048x3x2x2x128_S8x2048x2x2x2x128_0_0_0_0_0_0)

/-- The third branch's last 512 rows. -/
abbrev lastRows (z : Vec Ideal S8x2048x3x2x2x128 .f32) : Vec Ideal S8x512x2x2x128 .f32 :=
  shapeCast S8x512x2x2x128
    (extractStridedSlice S8x512x1x2x2x128 ![0, 1536, 2, 0, 0, 0] z slices_S8x2048x3x2x2x128_S8x512x1x2x2x128_0_1536_2_0_0_0)
    shapeCasts_S8x512x1x2x2x128_S8x512x2x2x128

/-- The window cache's layer axis. -/
abbrev winRows (z : Vec Ideal S8x512x2x2x128 .f32) : Vec Ideal S1x8x512x2x2x128 .f32 :=
  broadcastInDim S1x8x512x2x2x128 ![1, 2, 3, 4, 5] bcast_S8x512x2x2x128_S1x8x512x2x2x128_1_2_3_4_5 z

/-- The forgetting heads' rows. -/
abbrev foxRows (f : Vec Ideal S8x2048x2048 .f32) : Vec Ideal S1x8x2048x2x8x128 .f32 :=
  broadcastInDim S1x8x2048x2x8x128 ![1, 2, 3, 4, 5] bcast_S8x2048x2x8x128_S1x8x2048x2x8x128_1_2_3_4_5
    (shapeCast S8x2048x2x8x128 f shapeCasts_S8x2048x2048_S8x2048x2x8x128)

section
variable (W : Valuation τ sig (Elt Ideal)) (y : Vec Ideal S16384x5632 .f32) (h : W (Proc.devRef .tc main_v21) = y)
include h

theorem after27 : after hostOps1 W (Proc.devRef .tc main_v27) = qn (y3 y) := by
  subst h; simp only [hostOps1]; after_results <;> rfl
theorem after28 : after hostOps1 W (Proc.devRef .tc main_v28) = qf (y3 y) := by
  subst h; simp only [hostOps1]; after_results <;> rfl
theorem after24 : after hostOps1 W (Proc.devRef .tc main_v24) = kvn (kvFlat (y3 y)) := by
  subst h; simp only [hostOps1]; after_results <;> rfl
theorem after30 : after hostOps1 W (Proc.devRef .tc main_v30) = rows (kvn (kvFlat (y3 y))) := by
  subst h; simp only [hostOps1]; after_results <;> rfl
theorem after33 : after hostOps1 W (Proc.devRef .tc main_v33) = winRows (lastRows (kvn (kvFlat (y3 y)))) := by
  subst h; simp only [hostOps1]; after_results <;> rfl
theorem after34 : after hostOps1 W (Proc.devRef .tc main_v34) = foxRows (kvfFlat (y3 y)) := by
  subst h; simp only [hostOps1]; after_results <;> rfl

end

/-- The region leaves the product in its array. -/
theorem exit_eq : Pipeline.withArrays (cfgs 0).spec c (V0 m c) (fun w => (dats m 0 c).arrAt w (cfgs 0).N) (Proc.devRef .tc main_v21)
    = big (xArg m c) (wArg m c) :=
  (Pipeline.withArrays_arr spec0 launch0.win.arr_inj c (V0 m c) (fun w => (dats m 0 c).arrAt w (cfgs 0).N) 2).trans (final_eq m c)

/-- The kernel's results, of the product's array. -/
theorem tail_run (ρ : Dev nD → PrngReg) : θ_run defs (onTc (τ := τ) (main (F := Ideal))) ⟨m, fun _ => 0, ρ⟩ (fun r => ∀ c : Dev nD,
    r.2.mem ((c.tc : Thread nD τ).loc main_v27) = qn (y3 (big (xArg m c) (wArg m c)))
    ∧ r.2.mem ((c.tc : Thread nD τ).loc main_v28) = qf (y3 (big (xArg m c) (wArg m c)))
    ∧ r.2.mem ((c.tc : Thread nD τ).loc main_v24) = kvn (kvFlat (y3 (big (xArg m c) (wArg m c))))
    ∧ r.2.mem ((c.tc : Thread nD τ).loc main_v30) = rows (kvn (kvFlat (y3 (big (xArg m c) (wArg m c)))))
    ∧ r.2.mem ((c.tc : Thread nD τ).loc main_v33) = winRows (lastRows (kvn (kvFlat (y3 (big (xArg m c) (wArg m c))))))
    ∧ r.2.mem ((c.tc : Thread nD τ).loc main_v34) = foxRows (kvfFlat (y3 (big (xArg m c) (wArg m c))))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    have g := fun b hb => (h c).2 b hb
    have e := exit_eq m c
    have l : ([hostOps1] : List (List (HloOp τ sig (Elt Ideal)))).flatten = hostOps1 := by simp only [List.flatten_cons, List.flatten_nil, List.append_nil]
    unfold Pipeline.afterTail₀ at g
    rw [l] at g
    exact ⟨(g main_v27 (Pipeline.mem_restRefs_of main_v27 (by decide) (by decide))).trans (after27 _ _ e),
      (g main_v28 (Pipeline.mem_restRefs_of main_v28 (by decide) (by decide))).trans (after28 _ _ e),
      (g main_v24 (Pipeline.mem_restRefs_of main_v24 (by decide) (by decide))).trans (after24 _ _ e),
      (g main_v30 (Pipeline.mem_restRefs_of main_v30 (by decide) (by decide))).trans (after30 _ _ e),
      (g main_v33 (Pipeline.mem_restRefs_of main_v33 (by decide) (by decide))).trans (after33 _ _ e),
      (g main_v34 (Pipeline.mem_restRefs_of main_v34 (by decide) (by decide))).trans (after34 _ _ e),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.ProjTail

end
-- ==== Proof.ProjRef.lean ====
/-
  The reference's projection over the prompt group read at an index; its results are the kernel's (`ref_run`).
-/
module

public import proofs.«01_k».proof.Proof.ProjTail
public import proofs.«01_k».proof.Proof.Gen.ProjRefIdeal.Run
public import proofs.«01_k».proof.Proof.Gen.ProjRefIdeal.Read
public import Idealize.ShloMosaic.Lib.ValueIdxRank6
public import Idealize.ShloMosaic.Lib.KernelVsHost

@[expose] public section

set_option maxRecDepth 16384

noncomputable section

namespace Cert.Proof.ProjRef

open Cert.ProjRefIdeal Cert.ProjRefIdeal.Gen Cert.ProjRefIdeal.Read Idealize.ShloMosaic Idealize.ShloMosaic.TcCoe Idealize.SL.Sem
open Cert.Proof.ProjSpec Cert.Proof.ProjArray Pointwise
open Cert.Proof.ProjTail (y3 qn qf kvFlat kvfFlat kvn rows lastRows winRows foxRows)

variable (x : Vec Ideal S8x2048x2048 .f32) (w : Vec Ideal S1x2048x5664 .f32)

/-- The kernel's product by token. -/
theorem y3_apply (b : Fin 8) (t : Fin 2048) (j : Fin 5632) : y3 (big x w) (ix3 b t j) = prod x w b t (colOf j) := by
  have e : y3 (big x w) (ix3 b t j) = big x w (ix2 ⟨b.val * 2048 + t.val, by omega⟩ j) := by
    generalize big x w = z
    pointwise [y3]
  rw [e]
  show prod x w ⟨(b.val * 2048 + t.val) / 2048, _⟩ ⟨(b.val * 2048 + t.val) % 2048, _⟩ (colOf j) = _
  have e1 : (⟨(b.val * 2048 + t.val) / 2048, by omega⟩ : Fin 8) = b := Fin.ext (by show _ / _ = _; omega)
  have e2 : (⟨(b.val * 2048 + t.val) % 2048, by omega⟩ : Fin 2048) = t := Fin.ext (by show _ % _ = _; omega)
  rw [e1, e2]

/-- The reference's product by token. -/
theorem v1_apply (b : Fin 8) (t : Fin 2048) (n : Fin 5664) : val_main_v1 (F := Ideal) x w (ix3 b t n) = prod x w b t n := by
  unfold prod
  pointwise [val_main_v1, val_main_v0]

/-- The sparse heads' queries agree. -/
theorem qn_eq : qn (y3 (big x w)) = val_main_v2 (F := Ideal) x w := by
  unfold val_main_v2
  have h := y3_apply x w
  have h' := v1_apply x w
  generalize y3 (big x w) = y at *
  generalize val_main_v1 (F := Ideal) x w = z at *
  funext i
  obtain ⟨b, t, d, rfl⟩ : ∃ (b : Fin 8) (t : Fin 2048) (d : Fin 1024), i = ix3 b t d := ⟨i 0, i 1, i 2, eq_ix3 i⟩
  pointwise [qn]
  refine (h _ _ _).trans (Eq.trans ?_ (h' _ _ _).symm)
  exact congrArg (prod x w b t) (Fin.ext (by rw [colOf_lt _ (by dsimp only; omega)]))

/-- The sparse heads' keys and values agree. -/
theorem kv_eq : kvFlat (y3 (big x w)) = val_main_v3 (F := Ideal) x w := by
  unfold val_main_v3
  have h := y3_apply x w
  have h' := v1_apply x w
  generalize y3 (big x w) = y at *
  generalize val_main_v1 (F := Ideal) x w = z at *
  funext i
  obtain ⟨b, t, d, rfl⟩ : ∃ (b : Fin 8) (t : Fin 2048) (d : Fin 1536), i = ix3 b t d := ⟨i 0, i 1, i 2, eq_ix3 i⟩
  pointwise [kvFlat]
  refine (h _ _ _).trans (Eq.trans ?_ (h' _ _ _).symm)
  exact congrArg (prod x w b t) (Fin.ext (by rw [colOf_lt _ (by dsimp only; omega)]))

/-- The forgetting heads' queries agree. -/
theorem qf_eq : qf (y3 (big x w)) = val_main_v5 (F := Ideal) x w := by
  unfold val_main_v5
  have h := y3_apply x w
  have h' := v1_apply x w
  generalize y3 (big x w) = y at *
  generalize val_main_v1 (F := Ideal) x w = z at *
  funext i
  obtain ⟨b, t, d, rfl⟩ : ∃ (b : Fin 8) (t : Fin 2048) (d : Fin 1024), i = ix3 b t d := ⟨i 0, i 1, i 2, eq_ix3 i⟩
  pointwise [qf]
  refine (h _ _ _).trans (Eq.trans ?_ (h' _ _ _).symm)
  exact congrArg (prod x w b t) (Fin.ext (by rw [colOf_ge _ (by dsimp only; omega)]; dsimp only; omega))

/-- The forgetting heads' keys and values agree. -/
theorem kvf_eq : kvfFlat (y3 (big x w)) = val_main_v6 (F := Ideal) x w := by
  unfold val_main_v6
  have h := y3_apply x w
  have h' := v1_apply x w
  generalize y3 (big x w) = y at *
  generalize val_main_v1 (F := Ideal) x w = z at *
  funext i
  obtain ⟨b, t, d, rfl⟩ : ∃ (b : Fin 8) (t : Fin 2048) (d : Fin 2048), i = ix3 b t d := ⟨i 0, i 1, i 2, eq_ix3 i⟩
  pointwise [kvfFlat]
  refine (h _ _ _).trans (Eq.trans ?_ (h' _ _ _).symm)
  exact congrArg (prod x w b t) (Fin.ext (by rw [colOf_ge _ (by dsimp only; omega)]; dsimp only; omega))

/-- A reshape that drops a unit axis after the rows. -/
theorem drop_apply {T : Nat} (z : Vec Ideal (⟨6, ![8, T, 1, 2, 2, 128]⟩ : Shape) .f32)
    (hc : (⟨6, ![8, T, 1, 2, 2, 128]⟩ : Shape).ShapeCasts ⟨5, ![8, T, 2, 2, 128]⟩)
    (b : Fin 8) (t : Fin T) (e f : Fin 2) (d : Fin 128) :
    shapeCast ⟨5, ![8, T, 2, 2, 128]⟩ z hc (ix5 b t e f d) = z (ValueIdx.ix6 b t 0 e f d) := by
  refine shapeCast_apply z hc _ _ ?_
  rw [Shape.rowMajor_val_six, Shape.rowMajor_val_five]
  show ((((b.val * T + t.val) * 1 + 0) * 2 + e.val) * 2 + f.val) * 128 + d.val
    = (((b.val * T + t.val) * 2 + e.val) * 2 + f.val) * 128 + d.val
  rw [Nat.mul_one, Nat.add_zero]

/-- The last 512 rows of the padded window are the last 512 rows. -/
theorem last_eq (z : Vec Ideal S8x2048x3x2x2x128 .f32) (v : Vec Ideal S_ .f32) :
    lastRows z = extractStridedSlice S8x512x2x2x128 ![0, 2048, 0, 0, 0]
      (pad S8x2560x2x2x128 ![0, 512, 0, 0, 0] ![0, 0, 0, 0, 0] ![0, 0, 0, 0, 0]
        (shapeCast S8x2048x2x2x128 (extractStridedSlice S8x2048x1x2x2x128 ![0, 0, 2, 0, 0, 0] z
          slices_S8x2048x3x2x2x128_S8x2048x1x2x2x128_0_0_2_0_0_0) shapeCasts_S8x2048x1x2x2x128_S8x2048x2x2x128)
        v pads_S8x2048x2x2x128_S8x2560x2x2x128_000_51200_000_000_000 h_S_) slices_S8x2560x2x2x128_S8x512x2x2x128_0_2048_0_0_0 := by
  funext i
  obtain ⟨b, t, e, f, d, rfl⟩ : ∃ (b : Fin 8) (t : Fin 512) (e f : Fin 2) (d : Fin 128), i = ix5 b t e f d :=
    ⟨i 0, i 1, i 2, i 3, i 4, eq_ix5 i⟩
  refine (drop_apply _ _ b t e f d).trans ?_
  refine Eq.trans ?_ (pad_apply_of_inside _ _ _ _ _ _ _ _ (ix5 b ⟨1536 + t.val, by omega⟩ e f d) ?_).symm
  · refine Eq.trans ?_ (drop_apply _ _ b ⟨1536 + t.val, by omega⟩ e f d).symm
    refine congrArg z (funext fun a => Fin.ext ?_)
    match a with
    | ⟨0, _⟩ => rfl
    | ⟨1, _⟩ => show 1536 + t.val = 0 + (1536 + t.val); omega
    | ⟨2, _⟩ => rfl
    | ⟨3, _⟩ => rfl
    | ⟨4, _⟩ => rfl
    | ⟨5, _⟩ => rfl
  · intro a
    match a with
    | ⟨0, _⟩ => show 0 + b.val = 0 + b.val * (0 + 1); omega
    | ⟨1, _⟩ => show 2048 + t.val = 512 + (1536 + t.val) * (0 + 1); omega
    | ⟨2, _⟩ => show 0 + e.val = 0 + e.val * (0 + 1); omega
    | ⟨3, _⟩ => show 0 + f.val = 0 + f.val * (0 + 1); omega
    | ⟨4, _⟩ => show 0 + d.val = 0 + d.val * (0 + 1); omega

/-- The reference's results are the kernel's. -/
theorem results_eq : val_main_v8 (F := Ideal) x w = kvn (kvFlat (y3 (big x w)))
    ∧ val_main_v14 (F := Ideal) x w = rows (kvn (kvFlat (y3 (big x w))))
    ∧ val_main_v16 (F := Ideal) x w = winRows (lastRows (kvn (kvFlat (y3 (big x w)))))
    ∧ val_main_v17 (F := Ideal) x w = foxRows (kvfFlat (y3 (big x w))) := by
  have h8 : val_main_v8 (F := Ideal) x w = kvn (kvFlat (y3 (big x w))) := by rw [kv_eq]; rfl
  refine ⟨h8, ?_, ?_, by rw [kvf_eq]; rfl⟩
  · rw [← h8]; rfl
  · rw [← h8, last_eq (val_main_v8 (F := Ideal) x w) (val_main_call0_v0 (F := Ideal))]; rfl

/-- The reference's run leaves the kernel's results. -/
theorem ref_run (m : (ℓ : Loc nD τ sig) → Buf (Elt Ideal) ℓ) (ρ : Dev nD → PrngReg) (x : Dev nD → Vec Ideal S8x2048x2048 .f32) (w : Dev nD → Vec Ideal S1x2048x5664 .f32)
    (hx : ∀ c : Dev nD, m ((c.tc : Thread nD τ).loc main_arg0) = x c) (hw : ∀ c : Dev nD, m ((c.tc : Thread nD τ).loc main_arg1) = w c) :
    θ_run defs (onTc (τ := τ) (main (F := Ideal))) ⟨m, fun _ => 0, ρ⟩ fun r => ∀ c : Dev nD,
      r.2.mem ((c.tc : Thread nD τ).loc main_v2) = qn (y3 (big (x c) (w c)))
      ∧ r.2.mem ((c.tc : Thread nD τ).loc main_v5) = qf (y3 (big (x c) (w c)))
      ∧ r.2.mem ((c.tc : Thread nD τ).loc main_v8) = kvn (kvFlat (y3 (big (x c) (w c))))
      ∧ r.2.mem ((c.tc : Thread nD τ).loc main_v14) = rows (kvn (kvFlat (y3 (big (x c) (w c)))))
      ∧ r.2.mem ((c.tc : Thread nD τ).loc main_v16) = winRows (lastRows (kvn (kvFlat (y3 (big (x c) (w c))))))
      ∧ r.2.mem ((c.tc : Thread nD τ).loc main_v17) = foxRows (kvfFlat (y3 (big (x c) (w c))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h2, h5, h8, h14, h16, h17, ha, hb⟩ := h c
    have e := results_eq (x c) (w c)
    refine ⟨h2.trans ?_, h5.trans ?_, h8.trans ?_, h14.trans ?_, h16.trans ?_, h17.trans ?_, ha, hb⟩
    · rw [val_main_v2_eq, hx, hw]; exact (qn_eq (x c) (w c)).symm
    · rw [val_main_v5_eq, hx, hw]; exact (qf_eq (x c) (w c)).symm
    · rw [val_main_v8_eq, hx, hw]; exact e.1
    · rw [val_main_v14_eq, hx, hw]; exact e.2.1
    · rw [val_main_v16_eq, hx, hw]; exact e.2.2.1
    · rw [val_main_v17_eq, hx, hw]; exact e.2.2.2)
    (Cert.ProjRefIdeal.Value.run (F := Ideal) m ρ)

end Cert.Proof.ProjRef

end
-- ==== Proof.ProjSArray.lean ====
/-
  The large product of the projection over the sample group: each grid point multiplies the 128 rows by a block of
  512 weight columns, and the blocks fill the array (`final_eq`).
-/
module

public import proofs.«01_k».proof.Proof.ProjSpec
public import proofs.«01_k».proof.Proof.Gen.ProjSIdeal.Frame
public import Idealize.ShloMosaic.Lib.Pipeline.Value
public import Idealize.ShloMosaic.Lib.Pointwise
public import Idealize.ShloMosaic.Lib.ValueIdx
public import Idealize.ShloMosaic.Lib.Claim

@[expose] public section

set_option maxRecDepth 16384

noncomputable section

namespace Cert.Proof.ProjSArray

open Cert.ProjSIdeal Cert.ProjSIdeal.Gen Idealize.ShloMosaic Idealize.ShloMosaic.TcCoe Idealize.SL.Sem
open Cert.Proof.ProjSpec Pointwise
open Idealize.ShloMosaic.Pipeline (Dat)

variable (m : (ℓ : Loc nD τ sig) → Buf (Elt Ideal) ℓ) (c : Dev nD)

/-- The tokens as launched. -/
abbrev xArg : Vec Ideal S32x4x2048 .f32 := m ((c : Thread nD τ).loc main_arg0)
/-- The weights as launched. -/
abbrev wArg : Vec Ideal S1x2048x5664 .f32 := m ((c : Thread nD τ).loc main_arg1)

/-- The product's array. -/
def big (x : Vec Ideal S32x4x2048 .f32) (w : Vec Ideal S1x2048x5664 .f32) : Vec Ideal S128x5632 .f32 := fun i =>
  prod x w ⟨(i 0).val / 4, by have : (i 0).val < 128 := (i 0).isLt; omega⟩ ⟨(i 0).val % 4, by omega⟩ (colOf (i 1))

/-- The rows as the region finds them. -/
theorem V20_apply (r : Fin 128) (k : Fin 2048) :
    (V m c main_v20 : Vec Ideal S128x2048 .f32) (ix2 r k)
      = xArg m c (ix3 ⟨r.val / 4, by omega⟩ ⟨r.val % 4, by omega⟩ k) := by
  have e : (V m c main_v20 : Vec Ideal S128x2048 .f32) = shapeCast _ (xArg m c) shapeCasts_S32x4x2048_S128x2048 := by
    entry_read
    rfl
  rw [e]
  generalize xArg m c = y
  pointwise

/-- The weights as the region finds them. -/
theorem V9_apply (k : Fin 2048) (j : Fin 5632) :
    (V m c main_v9 : Vec Ideal S2048x5632 .bf16) (ix2 k j) = wArg m c (ix3 0 k (colOf j)) := by
  have e : @Eq (FVec Ideal S2048x5632 .bf16) (V m c main_v9) (truncf (F := Ideal) (φ := .f32) .bf16 (concatenate S2048x5632 1
      [⟨S2048x1024, extractStridedSlice S2048x1024 ![0, 0] (shapeCast S2048x5664 (wArg m c) shapeCasts_S1x2048x5664_S2048x5664) slices_S2048x5664_S2048x1024_0_0⟩,
       ⟨S2048x1536, extractStridedSlice S2048x1536 ![0, 1024] (shapeCast S2048x5664 (wArg m c) shapeCasts_S1x2048x5664_S2048x5664) slices_S2048x5664_S2048x1536_0_1024⟩,
       ⟨S2048x1024, extractStridedSlice S2048x1024 ![0, 2584] (shapeCast S2048x5664 (wArg m c) shapeCasts_S1x2048x5664_S2048x5664) slices_S2048x5664_S2048x1024_0_2584⟩,
       ⟨S2048x2048, extractStridedSlice S2048x2048 ![0, 3608] (shapeCast S2048x5664 (wArg m c) shapeCasts_S1x2048x5664_S2048x5664) slices_S2048x5664_S2048x2048_0_3608⟩]
      concatenates_S2048x1024_S2048x1536_S2048x1024_S2048x2048_S2048x5632_d1) bitsLt_bf16_f32) := by
    entry_read
    rfl
  refine (congrFun e (ix2 k j)).trans ?_
  generalize wArg m c = y
  pointwise
  split_ifs <;> (refine congrArg y (congrArg (ix3 0 k) (Fin.ext ?_)); dsimp only
                 first
                 | (rw [colOf_lt j (by omega)]; done)
                 | (rw [colOf_lt j (by omega)]; omega)
                 | (rw [colOf_ge j (by omega)]; omega))

/-! ## The index maps -/

section Maps
variable (i : grid0.Coords)

theorem i0_lt : (i 0).val < 1 := (i 0).isLt
theorem i1_lt : (i 1).val < 11 := (i 1).isLt

theorem toNat_small {n : ℕ} (h : n < 64) : (BitVec.ofNat 32 n).toNat = n := by rw [BitVec.toNat_ofNat]; omega

theorem map0 : cc0_transform_0 i = ![(i 0).val, 0] := by
  show ![(BitVec.ofNat 32 (i 0).val).toNat, 0] = _
  rw [toNat_small (by have := i0_lt i; omega)]
theorem map1 : cc0_transform_1 i = ![0, (i 1).val] := by
  show ![0, (BitVec.ofNat 32 (i 1).val).toNat] = _
  rw [toNat_small (by have := i1_lt i; omega)]
theorem map2 : cc0_transform_2 i = ![(i 0).val, (i 1).val] := by
  show ![(BitVec.ofNat 32 (i 0).val).toNat, (BitVec.ofNat 32 (i 1).val).toNat] = _
  rw [toNat_small (by have := i0_lt i; omega), toNat_small (by have := i1_lt i; omega)]

end Maps

/-! ## A point's blocks -/

variable (t : Fin cfg0.N)

/-- Point `t`'s coordinates: row block, column block. -/
abbrev co : grid0.Coords := grid0.coords t

/-- The rows' block of point `t`. -/
abbrev b0 : Vec Ideal S128x2048 .f32 := iblk m c 0 t
/-- The weights' block. -/
abbrev b1 : Vec Ideal S2048x512 .bf16 := iblk m c 1 t

/-- The array row of the block's row `r`. -/
abbrev row (r : Fin 128) : Fin 128 := ⟨128 * (co t 0).val + r.val, by have := i0_lt (co t); omega⟩
/-- The array column of the block's column `j`. -/
abbrev col (j : Fin 512) : Fin 5632 := ⟨512 * (co t 1).val + j.val, by have := i1_lt (co t); omega⟩

theorem x_apply (r : Fin 128) (k : Fin 2048) : b0 m c t (ix2 r k)
    = xArg m c (ix3 ⟨(row t r).val / 4, by have := (row t r).isLt; omega⟩ ⟨(row t r).val % 4, by omega⟩ k) := by
  have h := map0 (co t)
  refine Eq.trans ?_ (V20_apply m c (row t r) k)
  refine congrArg (V m c main_v20 : Vec Ideal S128x2048 .f32) (funext fun a => Fin.ext ?_)
  match a with
  | ⟨0, _⟩ => show cc0_transform_0 (co t) 0 * 128 + 1 * r.val = 128 * (co t 0).val + r.val
              rw [h]; show (co t 0).val * 128 + 1 * r.val = _; omega
  | ⟨1, _⟩ => show cc0_transform_0 (co t) 1 * 2048 + 1 * k.val = k.val; rw [h]; show 0 * 2048 + 1 * k.val = _; omega

theorem w_apply (k : Fin 2048) (j : Fin 512) : b1 m c t (ix2 k j) = wArg m c (ix3 0 k (colOf (col t j))) := by
  have h := map1 (co t)
  refine Eq.trans ?_ (V9_apply m c k (col t j))
  refine congrArg (V m c main_v9 : Vec Ideal S2048x5632 .bf16) (funext fun a => Fin.ext ?_)
  match a with
  | ⟨0, _⟩ => show cc0_transform_1 (co t) 0 * 2048 + 1 * k.val = k.val; rw [h]; show 0 * 2048 + 1 * k.val = _; omega
  | ⟨1, _⟩ => show cc0_transform_1 (co t) 1 * 512 + 1 * j.val = 512 * (co t 1).val + j.val
              rw [h]; show (co t 1).val * 512 + 1 * j.val = _; omega

theorem pay_apply (x0 : Vec Ideal S128x2048 .f32) (x1 : Vec Ideal S2048x512 .bf16) (r : Fin 128) (j : Fin 512) :
    (k0_pay1 x0 x1 : Vec Ideal S128x512 .f32) (ix2 r j) = ∑ k : Fin 2048, x0 (ix2 r k) * x1 (ix2 k j) := by
  pointwise [k0_pay1]

/-- What point `t` writes back is its block of the product. -/
theorem flushed_eq (hf : (cfg0.win 2).flush t = true) :
    (dats m 0 c).flushed 2 t = ((cfg0.win 2).blk t).view.read (Elt Ideal) (big (xArg m c) (wArg m c)) := by
  show (cfg0.win 2).cut (grid0.coords t) ((dats m 0 c).after 2 t) = _
  rw [after0_2]
  unfold out0_2
  rw [View.canon_cons_unit_zero (by funext a; fin_cases a <;> rfl),
    View.ld_unit_zero (by funext a; fin_cases a <;> rfl), View.ld_unit_zero (by funext a; fin_cases a <;> rfl)]
  funext y
  have hy : ∃ (r : Fin 128) (j : Fin 512), y = ix2 r j := ⟨y 0, y 1, by
    funext a
    match a with
    | ⟨0, _⟩ => rfl
    | ⟨1, _⟩ => rfl⟩
  obtain ⟨r, j, rfl⟩ := hy
  refine (pay_apply (b0 m c t) (b1 m c t) r j).trans ?_
  simp only [x_apply, w_apply]
  have h := map2 (co t)
  refine ((rfl : big (xArg m c) (wArg m c) (ix2 (row t r) (col t j)) = _).symm.trans ?_ : _ = _)
  refine congrArg (big (xArg m c) (wArg m c)) (funext fun a => Fin.ext ?_)
  match a with
  | ⟨0, _⟩ => show 128 * (co t 0).val + r.val = cc0_transform_2 (co t) 0 * 128 + 1 * r.val
              rw [h]; show _ = (co t 0).val * 128 + 1 * r.val; omega
  | ⟨1, _⟩ => show 512 * (co t 1).val + j.val = cc0_transform_2 (co t) 1 * 512 + 1 * j.val
              rw [h]; show _ = (co t 1).val * 512 + 1 * j.val; omega

/-- Every row block and column block is some grid point's. -/
theorem point_of : ∀ (a : Fin 1) (b : Fin 11), ∃ t : Fin grid0.N, grid0.coords t 0 = a ∧ grid0.coords t 1 = b := by
  have h : ∀ t : Fin grid0.N, (grid0.coords t 0).val = t.val / 11 ∧ (grid0.coords t 1).val = t.val % 11 := by
    decide +kernel
  intro a b
  have hN : grid0.N = 11 := N_0
  obtain ⟨h0, h1⟩ := h ⟨a.val * 11 + b.val, by omega⟩
  dsimp only at h0 h1
  exact ⟨_, Fin.ext (h0.trans (by omega)), Fin.ext (h1.trans (by omega))⟩

/-- The result array after the run is the product. -/
theorem final_eq : (dats m 0 c).arrAt 2 cfg0.N = big (xArg m c) (wArg m c) :=
  (dats m 0 c).arrAt_eq_of_cover 2 (big (xArg m c) (wArg m c)) (flushed_eq m c) fun i => by
    have h0 : (i 0 : Nat) < 128 := (i 0).isLt
    have h1 : (i 1 : Nat) < 5632 := (i 1).isLt
    obtain ⟨t, e0, e1⟩ := point_of ⟨(i 0 : Nat) / 128, by omega⟩ ⟨(i 1 : Nat) / 512, by omega⟩
    have e0 : (co t 0).val = (i 0 : Nat) / 128 := congrArg Fin.val e0
    have e1 : (co t 1).val = (i 1 : Nat) / 512 := congrArg Fin.val e1
    have h := map2 (co t)
    refine ⟨t, flush0_2 t, ?_⟩
    show i ∈ ((View.whole main_v21).slice (win0_2.rect t)).set
    rw [View.set_slice_whole, Rect.mem_set_unit]
    intro a
    match a with
    | ⟨0, _⟩ => show cc0_transform_2 (co t) 0 * 128 ≤ (i 0 : Nat) ∧ (i 0 : Nat) < cc0_transform_2 (co t) 0 * 128 + 128
                rw [h]; show (co t 0).val * 128 ≤ (i 0 : Nat) ∧ (i 0 : Nat) < (co t 0).val * 128 + 128; omega
    | ⟨1, _⟩ => show cc0_transform_2 (co t) 1 * 512 ≤ (i 1 : Nat) ∧ (i 1 : Nat) < cc0_transform_2 (co t) 1 * 512 + 512
                rw [h]; show (co t 1).val * 512 ≤ (i 1 : Nat) ∧ (i 1 : Nat) < (co t 1).val * 512 + 512; omega

end Cert.Proof.ProjSArray

end
-- ==== Proof.ProjSTail.lean ====
/-
  The arrays the host cuts from the large product of the sample group: queries, keys and values (`tail_eq`).
-/
module

public import proofs.«01_k».proof.Proof.ProjSArray
public import Idealize.ShloMosaic.Lib.StableHlo.Run
public import Idealize.ShloMosaic.Lib.Pipeline.FrameSuffix

@[expose] public section

set_option maxRecDepth 16384

noncomputable section

namespace Cert.Proof.ProjSTail

open Cert.ProjSIdeal Cert.ProjSIdeal.Gen Idealize.ShloMosaic Idealize.ShloMosaic.TcCoe Idealize.SL.Sem Idealize.ShloMosaic.StableHlo
open Cert.Proof.ProjSArray

variable (m : (ℓ : Loc nD τ sig) → Buf (Elt Ideal) ℓ) (c : Dev nD)

/-- The large product by token. -/
abbrev y3 (y : Vec Ideal S128x5632 .f32) : Vec Ideal S32x4x5632 .f32 :=
  shapeCast S32x4x5632 y shapeCasts_S128x5632_S32x4x5632

/-- The sparse heads' queries. -/
abbrev qn (y : Vec Ideal S32x4x5632 .f32) : Vec Ideal S32x4x1024 .f32 :=
  extractStridedSlice S32x4x1024 ![0, 0, 0] y slices_S32x4x5632_S32x4x1024_0_0_0

/-- The forgetting heads' queries. -/
abbrev qf (y : Vec Ideal S32x4x5632 .f32) : Vec Ideal S32x4x1024 .f32 :=
  extractStridedSlice S32x4x1024 ![0, 0, 2560] y slices_S32x4x5632_S32x4x1024_0_0_2560

/-- The sparse heads' keys and values, flat. -/
abbrev kvFlat (y : Vec Ideal S32x4x5632 .f32) : Vec Ideal S32x4x1536 .f32 :=
  extractStridedSlice S32x4x1536 ![0, 0, 1024] y slices_S32x4x5632_S32x4x1536_0_0_1024

/-- The forgetting heads' keys and values, flat. -/
abbrev kvfFlat (y : Vec Ideal S32x4x5632 .f32) : Vec Ideal S32x4x2048 .f32 :=
  extractStridedSlice S32x4x2048 ![0, 0, 3584] y slices_S32x4x5632_S32x4x2048_0_0_3584

/-- The sparse heads' keys and values, by branch, key or value, head. -/
abbrev kvn (f : Vec Ideal S32x4x1536 .f32) : Vec Ideal S32x4x3x2x2x128 .f32 :=
  shapeCast S32x4x3x2x2x128 f shapeCasts_S32x4x1536_S32x4x3x2x2x128

/-- The first two branches' rows. -/
abbrev rows (z : Vec Ideal S32x4x3x2x2x128 .f32) : Vec Ideal S1x32x4x2x2x2x128 .f32 :=
  broadcastInDim S1x32x4x2x2x2x128 ![1, 2, 3, 4, 5, 6] bcast_S32x4x2x2x2x128_S1x32x4x2x2x2x128_1_2_3_4_5_6
    (extractStridedSlice S32x4x2x2x2x128 ![0, 0, 0, 0, 0, 0] z slices_S32x4x3x2x2x128_S32x4x2x2x2x128_0_0_0_0_0_0)

/-- The third branch's new rows. -/
abbrev newRows (z : Vec Ideal S32x4x3x2x2x128 .f32) : Vec Ideal S32x4x2x2x128 .f32 :=
  shapeCast S32x4x2x2x128
    (extractStridedSlice S32x4x1x2x2x128 ![0, 0, 2, 0, 0, 0] z slices_S32x4x3x2x2x128_S32x4x1x2x2x128_0_0_2_0_0_0)
    shapeCasts_S32x4x1x2x2x128_S32x4x2x2x128

/-- The window's rows: the cache without its oldest four, then the new ones. -/
abbrev window (u : Vec Ideal S1x32x512x2x2x128 .f32) (n : Vec Ideal S32x4x2x2x128 .f32) : Vec Ideal S32x512x2x2x128 .f32 :=
  concatenate S32x512x2x2x128 1
    [⟨S32x508x2x2x128, extractStridedSlice S32x508x2x2x128 ![0, 4, 0, 0, 0]
        (shapeCast S32x512x2x2x128 u shapeCasts_S1x32x512x2x2x128_S32x512x2x2x128) slices_S32x512x2x2x128_S32x508x2x2x128_0_4_0_0_0⟩,
     ⟨S32x4x2x2x128, n⟩] concatenates_S32x508x2x2x128_S32x4x2x2x128_S32x512x2x2x128_d1

/-- The window cache's layer axis. -/
abbrev winRows (z : Vec Ideal S32x512x2x2x128 .f32) : Vec Ideal S1x32x512x2x2x128 .f32 :=
  broadcastInDim S1x32x512x2x2x128 ![1, 2, 3, 4, 5] bcast_S32x512x2x2x128_S1x32x512x2x2x128_1_2_3_4_5 z

/-- The forgetting heads' rows. -/
abbrev foxRows (f : Vec Ideal S32x4x2048 .f32) : Vec Ideal S1x32x4x2x8x128 .f32 :=
  broadcastInDim S1x32x4x2x8x128 ![1, 2, 3, 4, 5] bcast_S32x4x2x8x128_S1x32x4x2x8x128_1_2_3_4_5
    (shapeCast S32x4x2x8x128 f shapeCasts_S32x4x2048_S32x4x2x8x128)

section
variable (W : Valuation τ sig (Elt Ideal)) (y : Vec Ideal S128x5632 .f32) (h : W (Proc.devRef .tc main_v21) = y)
include h

theorem after32 : after hostOps1 W (Proc.devRef .tc main_v32) = qn (y3 y) := by
  subst h; simp only [hostOps1]; after_results <;> rfl
theorem after33 : after hostOps1 W (Proc.devRef .tc main_v33) = qf (y3 y) := by
  subst h; simp only [hostOps1]; after_results <;> rfl
theorem after35 : after hostOps1 W (Proc.devRef .tc main_v35) = rows (kvn (kvFlat (y3 y))) := by
  subst h; simp only [hostOps1]; after_results <;> rfl
theorem after37 : after hostOps1 W (Proc.devRef .tc main_v37) = foxRows (kvfFlat (y3 y)) := by
  subst h; simp only [hostOps1]; after_results <;> rfl
theorem after36 (u : Vec Ideal S1x32x512x2x2x128 .f32) (hu : W (Proc.devRef .tc main_arg2) = u) :
    after hostOps1 W (Proc.devRef .tc main_v36) = winRows (window u (newRows (kvn (kvFlat (y3 y))))) := by
  subst h; subst hu; simp only [hostOps1]; after_results <;> rfl

end

/-- The region leaves the product in its array. -/
theorem exit_eq : Pipeline.withArrays (cfgs 0).spec c (V0 m c) (fun w => (dats m 0 c).arrAt w (cfgs 0).N) (Proc.devRef .tc main_v21)
    = big (xArg m c) (wArg m c) :=
  (Pipeline.withArrays_arr spec0 launch0.win.arr_inj c (V0 m c) (fun w => (dats m 0 c).arrAt w (cfgs 0).N) 2).trans (final_eq m c)

/-- The window cache as launched. -/
abbrev uArg : Vec Ideal S1x32x512x2x2x128 .f32 := m ((c : Thread nD τ).loc main_arg2)

/-- The region leaves the window cache as launched. -/
theorem exit_cache : Pipeline.withArrays (cfgs 0).spec c (V0 m c) (fun w => (dats m 0 c).arrAt w (cfgs 0).N) (Proc.devRef .tc main_arg2)
    = uArg m c :=
  (Pipeline.withArrays_of_ne spec0 c (V0 m c) (fun w => (dats m 0 c).arrAt w (cfgs 0).N) main_arg2
    (by exact (by decide : ∀ w, Pipeline.arrRef spec0 w ≠ main_arg2))).trans (V_main_arg2 m c)

/-- The kernel's results, of the product's array and the window cache. -/
theorem tail_run (ρ : Dev nD → PrngReg) : θ_run defs (onTc (τ := τ) (main (F := Ideal))) ⟨m, fun _ => 0, ρ⟩ (fun r => ∀ c : Dev nD,
    r.2.mem ((c.tc : Thread nD τ).loc main_v32) = qn (y3 (big (xArg m c) (wArg m c)))
    ∧ r.2.mem ((c.tc : Thread nD τ).loc main_v33) = qf (y3 (big (xArg m c) (wArg m c)))
    ∧ r.2.mem ((c.tc : Thread nD τ).loc main_v35) = rows (kvn (kvFlat (y3 (big (xArg m c) (wArg m c)))))
    ∧ r.2.mem ((c.tc : Thread nD τ).loc main_v36) = winRows (window (uArg m c) (newRows (kvn (kvFlat (y3 (big (xArg m c) (wArg m c)))))))
    ∧ r.2.mem ((c.tc : Thread nD τ).loc main_v37) = foxRows (kvfFlat (y3 (big (xArg m c) (wArg m c))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
    have g := fun b hb => (h c).2 b hb
    have e := exit_eq m c
    have e' := exit_cache m c
    have l : ([hostOps1] : List (List (HloOp τ sig (Elt Ideal)))).flatten = hostOps1 := by simp only [List.flatten_cons, List.flatten_nil, List.append_nil]
    unfold Pipeline.afterTail₀ at g
    rw [l] at g
    exact ⟨(g main_v32 (Pipeline.mem_restRefs_of main_v32 (by decide) (by decide))).trans (after32 _ _ e),
      (g main_v33 (Pipeline.mem_restRefs_of main_v33 (by decide) (by decide))).trans (after33 _ _ e),
      (g main_v35 (Pipeline.mem_restRefs_of main_v35 (by decide) (by decide))).trans (after35 _ _ e),
      (g main_v36 (Pipeline.mem_restRefs_of main_v36 (by decide) (by decide))).trans (after36 _ _ e _ e'),
      (g main_v37 (Pipeline.mem_restRefs_of main_v37 (by decide) (by decide))).trans (after37 _ _ e),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.ProjSTail

end
-- ==== Proof.ProjSRef.lean ====
/-
  The reference's projection over the sample group read at an index; its results are the kernel's (`ref_run`).
-/
module

public import proofs.«01_k».proof.Proof.ProjSTail
public import proofs.«01_k».proof.Proof.Gen.ProjSRefIdeal.Run
public import proofs.«01_k».proof.Proof.Gen.ProjSRefIdeal.Read
public import Idealize.ShloMosaic.Lib.ValueIdxRank6
public import Idealize.ShloMosaic.Lib.KernelVsHost

@[expose] public section

set_option maxRecDepth 16384

noncomputable section

namespace Cert.Proof.ProjSRef

open Cert.ProjSRefIdeal Cert.ProjSRefIdeal.Gen Cert.ProjSRefIdeal.Read Idealize.ShloMosaic Idealize.ShloMosaic.TcCoe Idealize.SL.Sem
open Cert.Proof.ProjSpec Cert.Proof.ProjSArray Pointwise
open Cert.Proof.ProjSTail (y3 qn qf kvFlat kvfFlat kvn rows newRows winRows foxRows window)

variable (x : Vec Ideal S32x4x2048 .f32) (w : Vec Ideal S1x2048x5664 .f32)

/-- The kernel's product by token. -/
theorem y3_apply (b : Fin 32) (t : Fin 4) (j : Fin 5632) : y3 (big x w) (ix3 b t j) = prod x w b t (colOf j) := by
  have e : y3 (big x w) (ix3 b t j) = big x w (ix2 ⟨b.val * 4 + t.val, by omega⟩ j) := by
    generalize big x w = z
    pointwise [y3]
  rw [e]
  show prod x w ⟨(b.val * 4 + t.val) / 4, _⟩ ⟨(b.val * 4 + t.val) % 4, _⟩ (colOf j) = _
  have e1 : (⟨(b.val * 4 + t.val) / 4, by omega⟩ : Fin 32) = b := Fin.ext (by show _ / _ = _; omega)
  have e2 : (⟨(b.val * 4 + t.val) % 4, by omega⟩ : Fin 4) = t := Fin.ext (by show _ % _ = _; omega)
  rw [e1, e2]

/-- The reference's product by token. -/
theorem v1_apply (b : Fin 32) (t : Fin 4) (n : Fin 5664) : val_main_v1 (F := Ideal) x w (ix3 b t n) = prod x w b t n := by
  unfold prod
  pointwise [val_main_v1, val_main_v0]

/-- The sparse heads' queries agree. -/
theorem qn_eq : qn (y3 (big x w)) = val_main_v2 (F := Ideal) x w := by
  unfold val_main_v2
  have h := y3_apply x w
  have h' := v1_apply x w
  generalize y3 (big x w) = y at *
  generalize val_main_v1 (F := Ideal) x w = z at *
  funext i
  obtain ⟨b, t, d, rfl⟩ : ∃ (b : Fin 32) (t : Fin 4) (d : Fin 1024), i = ix3 b t d := ⟨i 0, i 1, i 2, eq_ix3 i⟩
  pointwise [qn]
  refine (h _ _ _).trans (Eq.trans ?_ (h' _ _ _).symm)
  exact congrArg (prod x w b t) (Fin.ext (by rw [colOf_lt _ (by dsimp only; omega)]))

/-- The sparse heads' keys and values agree. -/
theorem kv_eq : kvFlat (y3 (big x w)) = val_main_v3 (F := Ideal) x w := by
  unfold val_main_v3
  have h := y3_apply x w
  have h' := v1_apply x w
  generalize y3 (big x w) = y at *
  generalize val_main_v1 (F := Ideal) x w = z at *
  funext i
  obtain ⟨b, t, d, rfl⟩ : ∃ (b : Fin 32) (t : Fin 4) (d : Fin 1536), i = ix3 b t d := ⟨i 0, i 1, i 2, eq_ix3 i⟩
  pointwise [kvFlat]
  refine (h _ _ _).trans (Eq.trans ?_ (h' _ _ _).symm)
  exact congrArg (prod x w b t) (Fin.ext (by rw [colOf_lt _ (by dsimp only; omega)]))

/-- The forgetting heads' queries agree. -/
theorem qf_eq : qf (y3 (big x w)) = val_main_v5 (F := Ideal) x w := by
  unfold val_main_v5
  have h := y3_apply x w
  have h' := v1_apply x w
  generalize y3 (big x w) = y at *
  generalize val_main_v1 (F := Ideal) x w = z at *
  funext i
  obtain ⟨b, t, d, rfl⟩ : ∃ (b : Fin 32) (t : Fin 4) (d : Fin 1024), i = ix3 b t d := ⟨i 0, i 1, i 2, eq_ix3 i⟩
  pointwise [qf]
  refine (h _ _ _).trans (Eq.trans ?_ (h' _ _ _).symm)
  exact congrArg (prod x w b t) (Fin.ext (by rw [colOf_ge _ (by dsimp only; omega)]; dsimp only; omega))

/-- The forgetting heads' keys and values agree. -/
theorem kvf_eq : kvfFlat (y3 (big x w)) = val_main_v6 (F := Ideal) x w := by
  unfold val_main_v6
  have h := y3_apply x w
  have h' := v1_apply x w
  generalize y3 (big x w) = y at *
  generalize val_main_v1 (F := Ideal) x w = z at *
  funext i
  obtain ⟨b, t, d, rfl⟩ : ∃ (b : Fin 32) (t : Fin 4) (d : Fin 2048), i = ix3 b t d := ⟨i 0, i 1, i 2, eq_ix3 i⟩
  pointwise [kvfFlat]
  refine (h _ _ _).trans (Eq.trans ?_ (h' _ _ _).symm)
  exact congrArg (prod x w b t) (Fin.ext (by rw [colOf_ge _ (by dsimp only; omega)]; dsimp only; omega))

/-- The last 512 rows of the cache followed by the new rows. -/
theorem window_eq (u : Vec Ideal S1x32x512x2x2x128 .f32) (n : Vec Ideal S32x4x2x2x128 .f32) :
    window u n = extractStridedSlice S32x512x2x2x128 ![0, 4, 0, 0, 0]
      (concatenate S32x516x2x2x128 1 [⟨S32x512x2x2x128, shapeCast S32x512x2x2x128 u shapeCasts_S1x32x512x2x2x128_S32x512x2x2x128⟩, ⟨S32x4x2x2x128, n⟩]
        concatenates_S32x512x2x2x128_S32x4x2x2x128_S32x516x2x2x128_d1) slices_S32x516x2x2x128_S32x512x2x2x128_0_4_0_0_0 := by
  unfold window
  generalize shapeCast S32x512x2x2x128 u shapeCasts_S1x32x512x2x2x128_S32x512x2x2x128 = z
  funext i
  obtain ⟨b, t, e, f, d, rfl⟩ : ∃ (b : Fin 32) (t : Fin 512) (e f : Fin 2) (d : Fin 128), i = ix5 b t e f d :=
    ⟨i 0, i 1, i 2, i 3, i 4, eq_ix5 i⟩
  pointwise
  by_cases ht : t.val < 508
  · rw [dif_pos ht, dif_pos (show 4 + t.val < 512 by omega)]
  · rw [dif_neg ht, dif_neg (show ¬ 4 + t.val < 512 by omega)]
    exact congrArg (fun q => n (ix5 b q e f d)) (Fin.ext (by show t.val - 508 = 4 + t.val - 512; omega))

/-- The reference's results are the kernel's. -/
theorem results_eq (u : Vec Ideal S1x32x512x2x2x128 .f32) : val_main_v15 (F := Ideal) x w = rows (kvn (kvFlat (y3 (big x w))))
    ∧ val_main_v17 (F := Ideal) x w u = winRows (window u (newRows (kvn (kvFlat (y3 (big x w))))))
    ∧ val_main_v18 (F := Ideal) x w = foxRows (kvfFlat (y3 (big x w))) := by
  have h8 : val_main_v8 (F := Ideal) x w = kvn (kvFlat (y3 (big x w))) := by rw [kv_eq]; rfl
  refine ⟨?_, ?_, by rw [kvf_eq]; rfl⟩
  · rw [← h8]; rfl
  · rw [← h8, window_eq]; rfl

/-- The reference's run leaves the kernel's results. -/
theorem ref_run (m : (ℓ : Loc nD τ sig) → Buf (Elt Ideal) ℓ) (ρ : Dev nD → PrngReg) (x : Dev nD → Vec Ideal S32x4x2048 .f32)
    (w : Dev nD → Vec Ideal S1x2048x5664 .f32) (u : Dev nD → Vec Ideal S1x32x512x2x2x128 .f32)
    (hx : ∀ c : Dev nD, m ((c.tc : Thread nD τ).loc main_arg0) = x c) (hw : ∀ c : Dev nD, m ((c.tc : Thread nD τ).loc main_arg1) = w c)
    (hu : ∀ c : Dev nD, m ((c.tc : Thread nD τ).loc main_arg2) = u c) :
    θ_run defs (onTc (τ := τ) (main (F := Ideal))) ⟨m, fun _ => 0, ρ⟩ fun r => ∀ c : Dev nD,
      r.2.mem ((c.tc : Thread nD τ).loc main_v2) = qn (y3 (big (x c) (w c)))
      ∧ r.2.mem ((c.tc : Thread nD τ).loc main_v5) = qf (y3 (big (x c) (w c)))
      ∧ r.2.mem ((c.tc : Thread nD τ).loc main_v15) = rows (kvn (kvFlat (y3 (big (x c) (w c)))))
      ∧ r.2.mem ((c.tc : Thread nD τ).loc main_v17) = winRows (window (u c) (newRows (kvn (kvFlat (y3 (big (x c) (w c)))))))
      ∧ r.2.mem ((c.tc : Thread nD τ).loc main_v18) = foxRows (kvfFlat (y3 (big (x c) (w c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h2, h5, h15, h17, h18, ha, hb, hc⟩ := h c
    have e := results_eq (x c) (w c) (u c)
    refine ⟨h2.trans ?_, h5.trans ?_, h15.trans ?_, h17.trans ?_, h18.trans ?_, ha, hb, hc⟩
    · rw [val_main_v2_eq, hx, hw]; exact (qn_eq (x c) (w c)).symm
    · rw [val_main_v5_eq, hx, hw]; exact (qf_eq (x c) (w c)).symm
    · rw [val_main_v15_eq, hx, hw]; exact e.1
    · rw [val_main_v17_eq, hx, hw, hu]; exact e.2.1
    · rw [val_main_v18_eq, hx, hw]; exact e.2.2)
    (Cert.ProjSRefIdeal.Value.run (F := Ideal) m ρ)

end Cert.Proof.ProjSRef

end
-- ==== Proof.SmallSpec.lean ====
/-
  The two functions of the small columns: the logistic gate and the log forget gate, in the forms the kernel and the
  reference write them.
-/
module

public import Idealize.ShloMosaic.Lib.Pointwise

@[expose] public section

noncomputable section

namespace Cert.Proof.SmallSpec

open Idealize.ShloMosaic

/-- The logistic gate. -/
def gate (z : Ideal .f32) : Ideal .f32 := Ideal.div 1 (1 + Ideal.exp (-z))

/-- The logarithm of the logistic function, by the softplus of `-z`. -/
def forget (z : Ideal .f32) : Ideal .f32 := -(max (-z) 0 + Ideal.log1p (Ideal.exp (-FloatOps.absf z)))

theorem zero_sub' (a : EReal) : (0 : EReal) - a = -a := by rw [sub_eq_add_neg, zero_add]

/-- The kernel's gate. -/
theorem gate_kernel (z : Ideal .f32) : Ideal.div 1 (1 + Ideal.exp (0 - z)) = gate z := by
  unfold gate; rw [zero_sub' z]

/-- The kernel's log forget gate. -/
theorem forget_kernel (z : Ideal .f32) :
    (0 : EReal) - (max (0 - z) 0 + Ideal.log1p (Ideal.exp (0 - FloatOps.absf z))) = forget z := by
  unfold forget; rw [zero_sub', zero_sub' z, zero_sub' (FloatOps.absf z)]

/-- The size of `-z`. -/
theorem absf_neg (z : Ideal .f32) : FloatOps.absf (-z : EReal) = (FloatOps.absf z : Ideal .f32) := by
  show max (-z : EReal) (- -z) = max (z : EReal) (-z)
  rw [neg_neg, max_comm]

/-- The reference's log forget gate. -/
theorem forget_reference (z : Ideal .f32) :
    (-(if (-z : EReal) ≠ -z then (-z : EReal) else
      max (-z : EReal) 0 + Ideal.log1p (Ideal.exp (-FloatOps.absf (-z : EReal)))) : EReal) = forget z := by
  rw [if_neg (fun h => h rfl), absf_neg]; rfl

end Cert.Proof.SmallSpec

end
-- ==== Proof.SmallBlock.lean ====
/-
  The gates' call over the prompt group: the block a grid point leaves is, by column, a logistic gate or a log forget gate
  of the point's product (`out_apply`).
-/
module

public import proofs.«01_k».proof.Proof.Gen.SmallIdeal.Frame
public import Idealize.ShloMosaic.Lib.Pipeline.Value
public import Idealize.ShloMosaic.Lib.Pointwise
public import Idealize.ShloMosaic.Lib.ValueIdx
public import Idealize.ShloMosaic.Lib.VecWindow
public import proofs.«01_k».proof.Proof.SmallSpec

@[expose] public section

set_option maxRecDepth 16384

noncomputable section

namespace Cert.Proof.SmallBlock

open Cert.SmallIdeal Cert.SmallIdeal.Gen Idealize.ShloMosaic Idealize.ShloMosaic.TcCoe Idealize.SL.Sem Idealize.ShloMosaic.Tactic
open Pointwise Cert.Proof.SmallSpec

/-- A point's block as its two stores leave it. -/
theorem out_canon (c : Dev nD) (i : grid0.Coords) (arg1 : Memref sig .tc .vmem S512x2048 .f32) (harg1 : arg1.IsWhole) (arg2 : Memref sig .tc .vmem S2048x384 .bf16) (harg2 : arg2.IsWhole) (arg3 : Memref sig .tc .vmem S1x384 .f32) (harg3 : arg3.IsWhole) (arg4 : Memref sig .tc .vmem S512x384 .f32) (harg4 : arg4.IsWhole)
    (x0 : Vec Ideal S512x2048 .f32) (x1 : Vec Ideal S2048x384 .bf16) (x2 : Vec Ideal S1x384 .f32) :
    out0_A_3 (F := Ideal) c i arg1 harg1 arg2 harg2 arg3 harg3 arg4 harg4 x0 x1 x2
      = View.canon [⟨Rect.unit (s := S512x384) ![0, 256] S512x128.size inb_S512x384_S512x128_0_256, k0_pay3 x0 x1 x2⟩,
          ⟨Rect.unit (s := S512x384) ![0, 0] S512x256.size inb_S512x384_S512x256_0_0, k0_pay2 x0 x1 x2⟩] := by
  unfold out0_A_3
  rw [View.read_writes_eq_canon _ _ _ (cover0_A_3 c i arg1 harg1 arg2 harg2 arg3 harg3 arg4 harg4 x0 x1 x2)]
  unfold kernelRun0_A
  dsimp only
  sl_unfold_words
  have e1 : ∀ h, View.readAt (Elt Ideal) arg1.view (Rect.unit ![0, 0] S512x2048.size h).toLoadRect (harg1.unread x0) = x0 :=
    fun h => (View.readAt_full _ _ _).trans (harg1.read_unread x0)
  have e2 : ∀ h, View.readAt (Elt Ideal) arg2.view (Rect.unit ![0, 0] S2048x384.size h).toLoadRect (harg2.unread x1) = x1 :=
    fun h => (View.readAt_full _ _ _).trans (harg2.read_unread x1)
  have e3 : ∀ h, View.readAt (Elt Ideal) arg3.view (Rect.unit ![0, 0] S1x384.size h).toLoadRect (harg3.unread x2) = x2 :=
    fun h => (View.readAt_full _ _ _).trans (harg3.read_unread x2)
  rw [e1, e2, e3]

/-- An entry of the block's product, the bias added. -/
def lin {R : Nat} (a : Vec Ideal (⟨2, ![R, 2048]⟩ : Shape) .f32) (v : Vec Ideal S2048x384 .bf16) (b : Vec Ideal S1x384 .f32) (r : Fin R) (j : Fin 384) : Ideal .f32 :=
  ∑ k : Fin 2048, a (ix2 r k) * v (ix2 k j) + b (ix2 0 j)

/-- The array of gates: logistic gates in the first 256 columns, log forget gates in the others. -/
def gates {R : Nat} (a : Vec Ideal (⟨2, ![R, 2048]⟩ : Shape) .f32) (v : Vec Ideal S2048x384 .bf16) (b : Vec Ideal S1x384 .f32) (r : Fin R) (j : Fin 384) : Ideal .f32 :=
  if j.val < 256 then gate (lin a v b r j) else forget (lin a v b r j)

/-- The first store's entries. -/
theorem pay2_apply (x0 : Vec Ideal S512x2048 .f32) (x1 : Vec Ideal S2048x384 .bf16) (x2 : Vec Ideal S1x384 .f32) (r : Fin 512) (j : Fin 256) :
    (k0_pay2 x0 x1 x2 : Vec Ideal S512x256 .f32) (ix2 r j) = gate (lin x0 x1 x2 r ⟨j.val, by omega⟩) := by
  refine Eq.trans ?_ (gate_kernel _)
  unfold lin
  pointwise [k0_pay2, k0_pay1]

/-- The second store's entries. -/
theorem pay3_apply (x0 : Vec Ideal S512x2048 .f32) (x1 : Vec Ideal S2048x384 .bf16) (x2 : Vec Ideal S1x384 .f32) (r : Fin 512) (j : Fin 128) :
    (k0_pay3 x0 x1 x2 : Vec Ideal S512x128 .f32) (ix2 r j) = forget (lin x0 x1 x2 r ⟨256 + j.val, by omega⟩) := by
  refine Eq.trans ?_ (forget_kernel _)
  unfold lin
  pointwise [k0_pay3, k0_pay1]

/-- What a point leaves, by row and column. -/
theorem out_apply (c : Dev nD) (i : grid0.Coords) (arg1 : Memref sig .tc .vmem S512x2048 .f32) (harg1 : arg1.IsWhole) (arg2 : Memref sig .tc .vmem S2048x384 .bf16) (harg2 : arg2.IsWhole) (arg3 : Memref sig .tc .vmem S1x384 .f32) (harg3 : arg3.IsWhole) (arg4 : Memref sig .tc .vmem S512x384 .f32) (harg4 : arg4.IsWhole)
    (x0 : Vec Ideal S512x2048 .f32) (x1 : Vec Ideal S2048x384 .bf16) (x2 : Vec Ideal S1x384 .f32) (r : Fin 512) (j : Fin 384) :
    out0_A_3 (F := Ideal) c i arg1 harg1 arg2 harg2 arg3 harg3 arg4 harg4 x0 x1 x2 (ix2 r j) = gates x0 x1 x2 r j := by
  rw [out_canon]
  unfold gates
  split_ifs with h
  · rw [View.canon_cons_of_not_mem _ _ (by
      rw [Rect.mem_set_unit]; intro g; have g := (g 1).1; have g : 256 ≤ j.val := g; omega)]
    have e : (ix2 r j : S512x384.Idx) = (Rect.unit (s := S512x384) ![0, 0] S512x256.size inb_S512x384_S512x256_0_0).emb (ix2 r ⟨j.val, h⟩) := by
      funext a
      match a with
      | ⟨0, _⟩ => exact Fin.ext (by show r.val = 0 + 1 * r.val; omega)
      | ⟨1, _⟩ => exact Fin.ext (by show j.val = 0 + 1 * j.val; omega)
    rw [e, View.canon_cons_emb]
    exact pay2_apply x0 x1 x2 r ⟨j.val, h⟩
  · have e : (ix2 r j : S512x384.Idx) = (Rect.unit (s := S512x384) ![0, 256] S512x128.size inb_S512x384_S512x128_0_256).emb (ix2 r ⟨j.val - 256, by omega⟩) := by
      funext a
      match a with
      | ⟨0, _⟩ => exact Fin.ext (by show r.val = 0 + 1 * r.val; omega)
      | ⟨1, _⟩ => exact Fin.ext (by show j.val = 256 + 1 * (j.val - 256); omega)
    rw [e, View.canon_cons_emb]
    refine (pay3_apply x0 x1 x2 r ⟨j.val - 256, by omega⟩).trans ?_
    exact congrArg (fun q => forget (lin x0 x1 x2 r q)) (Fin.ext (by show 256 + (j.val - 256) = j.val; omega))

end Cert.Proof.SmallBlock

end
-- ==== Proof.SmallArray.lean ====
/-
  The array of gates of the prompt group: the weights and biases as the host pads them, each grid point's 512 rows, and the
  array they fill (`final_eq`).
-/
module

public import proofs.«01_k».proof.Proof.SmallBlock
public import Idealize.ShloMosaic.Lib.Claim

@[expose] public section

set_option maxRecDepth 16384

noncomputable section

namespace Cert.Proof.SmallArray

open Cert.SmallIdeal Cert.SmallIdeal.Gen Idealize.ShloMosaic Idealize.ShloMosaic.TcCoe Idealize.SL.Sem
open Cert.Proof.SmallSpec Cert.Proof.SmallBlock Pointwise
open Idealize.ShloMosaic.Pipeline (Dat)

variable (m : (ℓ : Loc nD τ sig) → Buf (Elt Ideal) ℓ) (c : Dev nD)

/-- The tokens as launched. -/
abbrev xArg : Vec Ideal S8x2048x2048 .f32 := m ((c : Thread nD τ).loc main_arg0)
/-- The weights as launched. -/
abbrev wArg : Vec Ideal S1x2048x5664 .f32 := m ((c : Thread nD τ).loc main_arg1)
/-- The forget biases as launched. -/
abbrev fArg : Vec Ideal S1x8 .f32 := m ((c : Thread nD τ).loc main_arg2)

/-- The rows, one a token. -/
def rowsOf (x : Vec Ideal S8x2048x2048 .f32) : Vec Ideal S16384x2048 .f32 := shapeCast S16384x2048 x shapeCasts_S8x2048x2048_S16384x2048

/-- The weights' small columns in three groups of 128, zero columns between. -/
def colsOf (w : Vec Ideal S1x2048x5664 .f32) : FVec Ideal S2048x384 .bf16 :=
  truncf (F := Ideal) (φ := .f32) .bf16 (concatenate S2048x384 1
    [⟨S2048x12, extractStridedSlice S2048x12 ![0, 0] (extractStridedSlice S2048x24 ![0, 2560] (shapeCast S2048x5664 w shapeCasts_S1x2048x5664_S2048x5664) slices_S2048x5664_S2048x24_0_2560) slices_S2048x24_S2048x12_0_0⟩,
     ⟨S2048x116, broadcastInDim S2048x116 ![] bcast_S_S2048x116 (constant (F := Ideal) S_ .f32 0x00000000#32)⟩,
     ⟨S2048x12, extractStridedSlice S2048x12 ![0, 12] (extractStridedSlice S2048x24 ![0, 2560] (shapeCast S2048x5664 w shapeCasts_S1x2048x5664_S2048x5664) slices_S2048x5664_S2048x24_0_2560) slices_S2048x24_S2048x12_0_12⟩,
     ⟨S2048x116, broadcastInDim S2048x116 ![] bcast_S_S2048x116 (constant (F := Ideal) S_ .f32 0x00000000#32)⟩,
     ⟨S2048x8, extractStridedSlice S2048x8 ![0, 5656] (shapeCast S2048x5664 w shapeCasts_S1x2048x5664_S2048x5664) slices_S2048x5664_S2048x8_0_5656⟩,
     ⟨S2048x120, broadcastInDim S2048x120 ![] bcast_S_S2048x120 (constant (F := Ideal) S_ .f32 0x00000000#32)⟩]
    concatenates_S2048x12_S2048x116_S2048x12_S2048x116_S2048x8_S2048x120_S2048x384_d1) bitsLt_bf16_f32

/-- The biases: none for the gates. -/
def biasOf (f : Vec Ideal S1x8 .f32) : Vec Ideal S1x384 .f32 :=
  broadcastInDim S1x384 ![1] bcast_S384_S1x384_1 (concatenate S384 0
    [⟨S256, broadcastInDim S256 ![] bcast_S_S256 (constant (F := Ideal) S_ .f32 0x00000000#32)⟩,
     ⟨S8, shapeCast S8 f shapeCasts_S1x8_S8⟩,
     ⟨S120, broadcastInDim S120 ![] bcast_S_S120 (constant (F := Ideal) S_ .f32 0x00000000#32)⟩] concatenates_S256_S8_S120_S384_d0)

theorem V20_eq : (V m c main_v20 : Vec Ideal S16384x2048 .f32) = rowsOf (xArg m c) := by
  unfold rowsOf
  entry_read
  rfl

theorem V15_eq : @Eq (FVec Ideal S2048x384 .bf16) (V m c main_v15) (colsOf (wArg m c)) := by
  unfold colsOf
  entry_read
  rfl

theorem V19_eq : (V m c main_v19 : Vec Ideal S1x384 .f32) = biasOf (fArg m c) := by
  unfold biasOf
  entry_read
  rfl

/-- The array of gates. -/
def big (x : Vec Ideal S8x2048x2048 .f32) (w : Vec Ideal S1x2048x5664 .f32) (f : Vec Ideal S1x8 .f32) : Vec Ideal S16384x384 .f32 := fun i =>
  gates (rowsOf x) (colsOf w) (biasOf f) (i 0) (i 1)

/-! ## The index maps -/

section Maps
variable (i : grid0.Coords)

theorem i0_lt : (i 0).val < 32 := (i 0).isLt

theorem toNat_small {n : ℕ} (h : n < 64) : (BitVec.ofNat 32 n).toNat = n := by rw [BitVec.toNat_ofNat]; omega

theorem map0 : cc0_transform_0 i = ![(i 0).val, 0] := by
  show ![(BitVec.ofNat 32 (i 0).val).toNat, 0] = _
  rw [toNat_small (by have := i0_lt i; omega)]
theorem map1 : cc0_transform_1 i = ![0, 0] := rfl
theorem map2 : cc0_transform_2 i = ![0, 0] := rfl
theorem map3 : cc0_transform_3 i = ![(i 0).val, 0] := by
  show ![(BitVec.ofNat 32 (i 0).val).toNat, 0] = _
  rw [toNat_small (by have := i0_lt i; omega)]

end Maps

/-! ## A point's blocks -/

variable (t : Fin cfg0.N)

/-- Point `t`'s coordinate. -/
abbrev co : grid0.Coords := grid0.coords t

/-- The rows' block of point `t`. -/
abbrev b0 : Vec Ideal S512x2048 .f32 := iblk m c 0 t
/-- The weights, whole. -/
abbrev b1 : Vec Ideal S2048x384 .bf16 := iblk m c 1 t
/-- The biases, whole. -/
abbrev b2 : Vec Ideal S1x384 .f32 := iblk m c 2 t

/-- The array row of the block's row `r`. -/
abbrev row (r : Fin 512) : Fin 16384 := ⟨512 * (co t 0).val + r.val, by have := i0_lt (co t); omega⟩

theorem x_apply (r : Fin 512) (k : Fin 2048) : b0 m c t (ix2 r k) = rowsOf (xArg m c) (ix2 (row t r) k) := by
  have h := map0 (co t)
  refine Eq.trans ?_ (congrFun (V20_eq m c) (ix2 (row t r) k))
  refine congrArg (V m c main_v20 : Vec Ideal S16384x2048 .f32) (funext fun a => Fin.ext ?_)
  match a with
  | ⟨0, _⟩ => show cc0_transform_0 (co t) 0 * 512 + 1 * r.val = 512 * (co t 0).val + r.val
              rw [h]; show (co t 0).val * 512 + 1 * r.val = _; omega
  | ⟨1, _⟩ => show cc0_transform_0 (co t) 1 * 2048 + 1 * k.val = k.val; rw [h]; show 0 * 2048 + 1 * k.val = _; omega

theorem w_apply (k : Fin 2048) (j : Fin 384) : b1 m c t (ix2 k j) = colsOf (wArg m c) (ix2 k j) := by
  have h := map1 (co t)
  refine Eq.trans ?_ (congrFun (V15_eq m c) (ix2 k j))
  refine congrArg (V m c main_v15 : Vec Ideal S2048x384 .bf16) (funext fun a => Fin.ext ?_)
  match a with
  | ⟨0, _⟩ => show cc0_transform_1 (co t) 0 * 2048 + 1 * k.val = k.val; rw [h]; show 0 * 2048 + 1 * k.val = _; omega
  | ⟨1, _⟩ => show cc0_transform_1 (co t) 1 * 384 + 1 * j.val = j.val; rw [h]; show 0 * 384 + 1 * j.val = _; omega

theorem b_apply (j : Fin 384) : b2 m c t (ix2 0 j) = biasOf (fArg m c) (ix2 0 j) := by
  have h := map2 (co t)
  refine Eq.trans ?_ (congrFun (V19_eq m c) (ix2 0 j))
  refine congrArg (V m c main_v19 : Vec Ideal S1x384 .f32) (funext fun a => Fin.ext ?_)
  match a with
  | ⟨0, _⟩ => show cc0_transform_2 (co t) 0 * 1 + 1 * 0 = 0; rw [h]; rfl
  | ⟨1, _⟩ => show cc0_transform_2 (co t) 1 * 384 + 1 * j.val = j.val; rw [h]; show 0 * 384 + 1 * j.val = _; omega

theorem gates_apply (r : Fin 512) (j : Fin 384) : gates (b0 m c t) (b1 m c t) (b2 m c t) r j
    = gates (rowsOf (xArg m c)) (colsOf (wArg m c)) (biasOf (fArg m c)) (row t r) j := by
  unfold gates lin
  simp only [x_apply, w_apply, b_apply]

/-- What point `t` writes back is its block of the array. -/
theorem flushed_eq (hf : (cfg0.win 3).flush t = true) :
    (dats m 0 c).flushed 3 t = ((cfg0.win 3).blk t).view.read (Elt Ideal) (big (xArg m c) (wArg m c) (fArg m c)) := by
  show (cfg0.win 3).cut (grid0.coords t) ((dats m 0 c).after 3 t) = _
  rw [after0_3]
  unfold outsAt0
  funext y
  have hy : ∃ (r : Fin 512) (j : Fin 384), y = ix2 r j := ⟨y 0, y 1, by
    funext a
    match a with
    | ⟨0, _⟩ => rfl
    | ⟨1, _⟩ => rfl⟩
  obtain ⟨r, j, rfl⟩ := hy
  refine (out_apply c (grid0.coords t) (ms0_0 t) (hs0_0 t) (ms0_1 t) (hs0_1 t) (ms0_2 t) (hs0_2 t) (ms0_3 t) (hs0_3 t) (b0 m c t) (b1 m c t) (b2 m c t) r j).trans ?_
  refine (gates_apply m c t r j).trans ?_
  have h := map3 (co t)
  refine ((rfl : big (xArg m c) (wArg m c) (fArg m c) (ix2 (row t r) j) = _).symm.trans ?_ : _ = _)
  refine congrArg (big (xArg m c) (wArg m c) (fArg m c)) (funext fun a => Fin.ext ?_)
  match a with
  | ⟨0, _⟩ => show 512 * (co t 0).val + r.val = cc0_transform_3 (co t) 0 * 512 + 1 * r.val
              rw [h]; show _ = (co t 0).val * 512 + 1 * r.val; omega
  | ⟨1, _⟩ => show j.val = cc0_transform_3 (co t) 1 * 384 + 1 * j.val
              rw [h]; show _ = 0 * 384 + 1 * j.val; omega

/-- Every row block is some grid point's. -/
theorem point_of : ∀ (a : Fin 32), ∃ t : Fin grid0.N, grid0.coords t 0 = a := by
  have h : ∀ t : Fin grid0.N, (grid0.coords t 0).val = t.val := by
    decide +kernel
  intro a
  have hN : grid0.N = 32 := N_0
  have h0 := h ⟨a.val, by omega⟩
  exact ⟨_, Fin.ext h0⟩

/-- The result array after the run is the array of gates. -/
theorem final_eq : (dats m 0 c).arrAt 3 cfg0.N = big (xArg m c) (wArg m c) (fArg m c) :=
  (dats m 0 c).arrAt_eq_of_cover 3 (big (xArg m c) (wArg m c) (fArg m c)) (flushed_eq m c) fun i => by
    have h0 : (i 0 : Nat) < 16384 := (i 0).isLt
    have h1 : (i 1 : Nat) < 384 := (i 1).isLt
    obtain ⟨t, e0⟩ := point_of ⟨(i 0 : Nat) / 512, by omega⟩
    have e0 : (co t 0).val = (i 0 : Nat) / 512 := congrArg Fin.val e0
    have h := map3 (co t)
    refine ⟨t, flush0_3 t, ?_⟩
    show i ∈ ((View.whole main_v21).slice (win0_3.rect t)).set
    rw [View.set_slice_whole, Rect.mem_set_unit]
    intro a
    match a with
    | ⟨0, _⟩ => show cc0_transform_3 (co t) 0 * 512 ≤ (i 0 : Nat) ∧ (i 0 : Nat) < cc0_transform_3 (co t) 0 * 512 + 512
                rw [h]; show (co t 0).val * 512 ≤ (i 0 : Nat) ∧ (i 0 : Nat) < (co t 0).val * 512 + 512; omega
    | ⟨1, _⟩ => show cc0_transform_3 (co t) 1 * 384 ≤ (i 1 : Nat) ∧ (i 1 : Nat) < cc0_transform_3 (co t) 1 * 384 + 384
                rw [h]; show 0 * 384 ≤ (i 1 : Nat) ∧ (i 1 : Nat) < 0 * 384 + 384; omega

/-! ## The padded arrays at the columns that hold something -/

theorem rowsOf_apply (x : Vec Ideal S8x2048x2048 .f32) (b : Fin 8) (t : Fin 2048) (k : Fin 2048) :
    rowsOf x (ix2 ⟨b.val * 2048 + t.val, by omega⟩ k) = x (ix3 b t k) := by
  pointwise [rowsOf]

theorem colsOf_lo (w : Vec Ideal S1x2048x5664 .f32) (k : Fin 2048) (j : Fin 12) : colsOf w (ix2 k ⟨j.val, by omega⟩) = w (ix3 0 k ⟨2560 + j.val, by omega⟩) := by
  pointwise [colsOf]

theorem colsOf_mid (w : Vec Ideal S1x2048x5664 .f32) (k : Fin 2048) (j : Fin 12) : colsOf w (ix2 k ⟨128 + j.val, by omega⟩) = w (ix3 0 k ⟨2572 + j.val, by omega⟩) := by
  pointwise [colsOf]
  split_ifs <;> first | omega | exact congrArg w (congrArg (ix3 0 k) (Fin.ext (by dsimp only; omega)))

theorem colsOf_hi (w : Vec Ideal S1x2048x5664 .f32) (k : Fin 2048) (j : Fin 8) : colsOf w (ix2 k ⟨256 + j.val, by omega⟩) = w (ix3 0 k ⟨5656 + j.val, by omega⟩) := by
  pointwise [colsOf]
  split_ifs <;> first | omega | exact congrArg w (congrArg (ix3 0 k) (Fin.ext (by dsimp only; omega)))

theorem biasOf_lo (f : Vec Ideal S1x8 .f32) (j : Fin 384) (h : j.val < 256) : biasOf f (ix2 0 j) = 0 := by
  pointwise [biasOf]
  split_ifs <;> first | omega | rfl

theorem biasOf_hi (f : Vec Ideal S1x8 .f32) (j : Fin 8) : biasOf f (ix2 0 ⟨256 + j.val, by omega⟩) = f (ix2 0 j) := by
  pointwise [biasOf]

end Cert.Proof.SmallArray

end
-- ==== Proof.SmallTail.lean ====
/-
  The gates and log forget gates the host cuts from the array of gates of the prompt group (`tail_run`).
-/
module

public import proofs.«01_k».proof.Proof.SmallArray
public import Idealize.ShloMosaic.Lib.StableHlo.Run
public import Idealize.ShloMosaic.Lib.Pipeline.FrameSuffix

@[expose] public section

set_option maxRecDepth 16384

noncomputable section

namespace Cert.Proof.SmallTail

open Cert.SmallIdeal Cert.SmallIdeal.Gen Idealize.ShloMosaic Idealize.ShloMosaic.TcCoe Idealize.SL.Sem Idealize.ShloMosaic.StableHlo
open Cert.Proof.SmallArray

variable (m : (ℓ : Loc nD τ sig) → Buf (Elt Ideal) ℓ) (c : Dev nD)

/-- The array of gates by token. -/
abbrev y3 (y : Vec Ideal S16384x384 .f32) : Vec Ideal S8x2048x384 .f32 :=
  shapeCast S8x2048x384 y shapeCasts_S16384x384_S8x2048x384

/-- The gates' two groups of columns side by side. -/
abbrev flat (y : Vec Ideal S8x2048x384 .f32) : Vec Ideal S8x2048x24 .f32 :=
  concatenate S8x2048x24 2
    [⟨S8x2048x12, extractStridedSlice S8x2048x12 ![0, 0, 0] y slices_S8x2048x384_S8x2048x12_0_0_0⟩,
     ⟨S8x2048x12, extractStridedSlice S8x2048x12 ![0, 0, 128] y slices_S8x2048x384_S8x2048x12_0_0_128⟩] concatenates_S8x2048x12_S8x2048x12_S8x2048x24_d2

/-- The gates by head and branch. -/
abbrev heads (z : Vec Ideal S8x2048x24 .f32) : Vec Ideal S8x2048x8x3 .f32 :=
  shapeCast S8x2048x8x3 z shapeCasts_S8x2048x24_S8x2048x8x3

/-- The log forget gates' columns. -/
abbrev logs (y : Vec Ideal S8x2048x384 .f32) : Vec Ideal S8x2048x8 .f32 :=
  extractStridedSlice S8x2048x8 ![0, 0, 256] y slices_S8x2048x384_S8x2048x8_0_0_256

/-- The layer axis of the log forget gates. -/
abbrev layer (z : Vec Ideal S8x2048x8 .f32) : Vec Ideal S1x8x2048x8 .f32 :=
  broadcastInDim S1x8x2048x8 ![1, 2, 3] bcast_S8x2048x8_S1x8x2048x8_1_2_3 z

section
variable (W : Valuation τ sig (Elt Ideal)) (y : Vec Ideal S16384x384 .f32) (h : W (Proc.devRef .tc main_v21) = y)
include h

theorem after27 : after hostOps1 W (Proc.devRef .tc main_v27) = heads (flat (y3 y)) := by
  subst h; simp only [hostOps1]; after_results <;> rfl
theorem after28 : after hostOps1 W (Proc.devRef .tc main_v28) = layer (logs (y3 y)) := by
  subst h; simp only [hostOps1]; after_results <;> rfl

end

/-- The region leaves the array of gates in its array. -/
theorem exit_eq : Pipeline.withArrays (cfgs 0).spec c (V0 m c) (fun w => (dats m 0 c).arrAt w (cfgs 0).N) (Proc.devRef .tc main_v21)
    = big (xArg m c) (wArg m c) (fArg m c) :=
  (Pipeline.withArrays_arr spec0 launch0.win.arr_inj c (V0 m c) (fun w => (dats m 0 c).arrAt w (cfgs 0).N) 3).trans (final_eq m c)

/-- The kernel's results, of the array of gates. -/
theorem tail_run (ρ : Dev nD → PrngReg) : θ_run defs (onTc (τ := τ) (main (F := Ideal))) ⟨m, fun _ => 0, ρ⟩ (fun r => ∀ c : Dev nD,
    r.2.mem ((c.tc : Thread nD τ).loc main_v27) = heads (flat (y3 (big (xArg m c) (wArg m c) (fArg m c))))
    ∧ r.2.mem ((c.tc : Thread nD τ).loc main_v28) = layer (logs (y3 (big (xArg m c) (wArg m c) (fArg m c))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
    have g := fun b hb => (h c).2 b hb
    have e := exit_eq m c
    have l : ([hostOps1] : List (List (HloOp τ sig (Elt Ideal)))).flatten = hostOps1 := by simp only [List.flatten_cons, List.flatten_nil, List.append_nil]
    unfold Pipeline.afterTail₀ at g
    rw [l] at g
    exact ⟨(g main_v27 (Pipeline.mem_restRefs_of main_v27 (by decide) (by decide))).trans (after27 _ _ e),
      (g main_v28 (Pipeline.mem_restRefs_of main_v28 (by decide) (by decide))).trans (after28 _ _ e),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.SmallTail

end
-- ==== Proof.SmallRef.lean ====
/-
  The reference's gates and log forget gates over the prompt group read at an index; its results are the kernel's
  (`ref_run`).
-/
module

public import proofs.«01_k».proof.Proof.SmallTail
public import proofs.«01_k».proof.Proof.ProjSpec
public import proofs.«01_k».proof.Proof.Gen.SmallRefIdeal.Run
public import proofs.«01_k».proof.Proof.Gen.SmallRefIdeal.Read
public import Idealize.ShloMosaic.Lib.KernelVsHost

@[expose] public section

set_option maxRecDepth 16384

noncomputable section

namespace Cert.Proof.SmallRef

open Cert.SmallRefIdeal Cert.SmallRefIdeal.Gen Cert.SmallRefIdeal.Read Idealize.ShloMosaic Idealize.ShloMosaic.TcCoe Idealize.SL.Sem
open Cert.Proof.ProjSpec Cert.Proof.SmallSpec Cert.Proof.SmallBlock Cert.Proof.SmallArray Pointwise
open Cert.Proof.SmallTail (y3 flat heads logs layer)

variable (x : Vec Ideal S8x2048x2048 .f32) (w : Vec Ideal S1x2048x5664 .f32) (f : Vec Ideal S1x8 .f32)

/-- The kernel's array by token. -/
theorem y3_apply (b : Fin 8) (t : Fin 2048) (j : Fin 384) :
    y3 (big x w f) (ix3 b t j) = gates (rowsOf x) (colsOf w) (biasOf f) ⟨b.val * 2048 + t.val, by omega⟩ j := by
  refine Eq.trans (?_ : _ = big x w f (ix2 ⟨b.val * 2048 + t.val, by omega⟩ j)) rfl
  generalize big x w f = z
  pointwise [y3]

/-- The kernel's first group of gates. -/
theorem y3_lo (b : Fin 8) (t : Fin 2048) (j : Fin 12) :
    y3 (big x w f) (ix3 b t ⟨j.val, by omega⟩) = gate (prod x w b t ⟨2560 + j.val, by omega⟩) := by
  refine (y3_apply x w f b t ⟨j.val, by omega⟩).trans ?_
  unfold gates lin prod
  rw [if_pos (show j.val < 256 by omega), biasOf_lo f ⟨j.val, by omega⟩ (show j.val < 256 by omega)]
  refine congrArg gate ((add_zero _).trans (Finset.sum_congr rfl fun k _ => ?_))
  rw [rowsOf_apply, colsOf_lo]

/-- The kernel's second group of gates. -/
theorem y3_mid (b : Fin 8) (t : Fin 2048) (j : Fin 12) :
    y3 (big x w f) (ix3 b t ⟨128 + j.val, by omega⟩) = gate (prod x w b t ⟨2572 + j.val, by omega⟩) := by
  refine (y3_apply x w f b t ⟨128 + j.val, by omega⟩).trans ?_
  unfold gates lin prod
  rw [if_pos (show 128 + j.val < 256 by omega), biasOf_lo f ⟨128 + j.val, by omega⟩ (show 128 + j.val < 256 by omega)]
  refine congrArg gate ((add_zero _).trans (Finset.sum_congr rfl fun k _ => ?_))
  rw [rowsOf_apply, colsOf_mid]

/-- The kernel's log forget gates. -/
theorem y3_hi (b : Fin 8) (t : Fin 2048) (j : Fin 8) :
    y3 (big x w f) (ix3 b t ⟨256 + j.val, by omega⟩) = forget (prod x w b t ⟨5656 + j.val, by omega⟩ + f (ix2 0 j)) := by
  refine (y3_apply x w f b t ⟨256 + j.val, by omega⟩).trans ?_
  unfold gates lin prod
  rw [if_neg (show ¬ 256 + j.val < 256 by omega), biasOf_hi f j]
  refine congrArg forget (congrArg (· + f (ix2 0 j)) (Finset.sum_congr rfl fun k _ => ?_))
  rw [rowsOf_apply, colsOf_hi]

/-- The reference's product by token. -/
theorem v1_apply (b : Fin 8) (t : Fin 2048) (n : Fin 5664) : val_main_v1 (F := Ideal) x w (ix3 b t n) = prod x w b t n := by
  unfold prod
  pointwise [val_main_v1, val_main_v0]

/-- The reference's gates. -/
theorem gate_apply (b : Fin 8) (t : Fin 2048) (n : Fin 24) :
    val_main_v13 (F := Ideal) x w (ix3 b t n) = gate (prod x w b t ⟨2560 + n.val, by omega⟩) := by
  rw [← v1_apply]
  unfold val_main_v13 val_main_v12 val_main_cst_0 val_main_v11 val_main_v10 val_main_v9 val_main_v8 val_main_v4 val_main_cst gate
  generalize val_main_v1 (F := Ideal) x w = z
  pointwise

/-- The reference's log forget gates. -/
theorem log_apply (b : Fin 8) (t : Fin 2048) (n : Fin 8) :
    val_main_v19 (F := Ideal) x w f (ix3 b t n) = forget (prod x w b t ⟨5656 + n.val, by omega⟩ + f (ix2 0 n)) := by
  rw [← v1_apply]
  refine Eq.trans ?_ (forget_reference _)
  unfold val_main_v19 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v18 val_main_v17 val_main_v16 val_main_v15 val_main_v7
  generalize val_main_v1 (F := Ideal) x w = z
  pointwise

/-- The gates agree. -/
theorem flat_eq : flat (y3 (big x w f)) = val_main_v13 (F := Ideal) x w := by
  have h := y3_lo x w f
  have h' := y3_mid x w f
  generalize y3 (big x w f) = y at *
  funext i
  obtain ⟨b, t, n, rfl⟩ : ∃ (b : Fin 8) (t : Fin 2048) (n : Fin 24), i = ix3 b t n := ⟨i 0, i 1, i 2, eq_ix3 i⟩
  refine Eq.trans ?_ (gate_apply x w b t n).symm
  pointwise [flat]
  split_ifs with hn
  · exact h b t ⟨n.val, hn⟩
  · refine (h' b t ⟨n.val - 12, by omega⟩).trans ?_
    exact congrArg (fun q => gate (prod x w b t q)) (Fin.ext (by show 2572 + (n.val - 12) = 2560 + n.val; omega))
  · rename_i q; exact absurd rfl q

/-- The log forget gates agree. -/
theorem logs_eq : logs (y3 (big x w f)) = val_main_v19 (F := Ideal) x w f := by
  have h := y3_hi x w f
  generalize y3 (big x w f) = y at *
  funext i
  obtain ⟨b, t, n, rfl⟩ : ∃ (b : Fin 8) (t : Fin 2048) (n : Fin 8), i = ix3 b t n := ⟨i 0, i 1, i 2, eq_ix3 i⟩
  refine Eq.trans ?_ (log_apply x w f b t n).symm
  pointwise [logs]
  exact h b t n

/-- The reference's run leaves the kernel's results. -/
theorem ref_run (m : (ℓ : Loc nD τ sig) → Buf (Elt Ideal) ℓ) (ρ : Dev nD → PrngReg) (x : Dev nD → Vec Ideal S8x2048x2048 .f32)
    (w : Dev nD → Vec Ideal S1x2048x5664 .f32) (f : Dev nD → Vec Ideal S1x8 .f32)
    (hx : ∀ c : Dev nD, m ((c.tc : Thread nD τ).loc main_arg0) = x c) (hw : ∀ c : Dev nD, m ((c.tc : Thread nD τ).loc main_arg1) = w c)
    (hf : ∀ c : Dev nD, m ((c.tc : Thread nD τ).loc main_arg2) = f c) :
    θ_run defs (onTc (τ := τ) (main (F := Ideal))) ⟨m, fun _ => 0, ρ⟩ fun r => ∀ c : Dev nD,
      r.2.mem ((c.tc : Thread nD τ).loc main_v14) = heads (flat (y3 (big (x c) (w c) (f c))))
      ∧ r.2.mem ((c.tc : Thread nD τ).loc main_v20) = layer (logs (y3 (big (x c) (w c) (f c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h14, h20, ha, hb, hc⟩ := h c
    refine ⟨h14.trans ?_, h20.trans ?_, ha, hb, hc⟩
    · rw [val_main_v14_eq, hx, hw, flat_eq]; rfl
    · rw [val_main_v20_eq, hx, hw, hf, logs_eq]; rfl)
    (Cert.SmallRefIdeal.Value.run (F := Ideal) m ρ)

end Cert.Proof.SmallRef

end
-- ==== Proof.SmallSBlock.lean ====
/-
  The gates' call over the sample group: the block a grid point leaves is, by column, a logistic gate or a log forget gate
  of the point's product (`out_apply`).
-/
module

public import proofs.«01_k».proof.Proof.Gen.SmallSIdeal.Frame
public import Idealize.ShloMosaic.Lib.Pipeline.Value
public import Idealize.ShloMosaic.Lib.Pointwise
public import Idealize.ShloMosaic.Lib.ValueIdx
public import Idealize.ShloMosaic.Lib.VecWindow
public import proofs.«01_k».proof.Proof.SmallSpec

@[expose] public section

set_option maxRecDepth 16384

noncomputable section

namespace Cert.Proof.SmallSBlock

open Cert.SmallSIdeal Cert.SmallSIdeal.Gen Idealize.ShloMosaic Idealize.ShloMosaic.TcCoe Idealize.SL.Sem Idealize.ShloMosaic.Tactic
open Pointwise Cert.Proof.SmallSpec

/-- A point's block as its two stores leave it. -/
theorem out_canon (c : Dev nD) (i : grid0.Coords) (arg1 : Memref sig .tc .vmem S128x2048 .f32) (harg1 : arg1.IsWhole) (arg2 : Memref sig .tc .vmem S2048x384 .bf16) (harg2 : arg2.IsWhole) (arg3 : Memref sig .tc .vmem S1x384 .f32) (harg3 : arg3.IsWhole) (arg4 : Memref sig .tc .vmem S128x384 .f32) (harg4 : arg4.IsWhole)
    (x0 : Vec Ideal S128x2048 .f32) (x1 : Vec Ideal S2048x384 .bf16) (x2 : Vec Ideal S1x384 .f32) :
    out0_A_3 (F := Ideal) c i arg1 harg1 arg2 harg2 arg3 harg3 arg4 harg4 x0 x1 x2
      = View.canon [⟨Rect.unit (s := S128x384) ![0, 256] S128x128.size inb_S128x384_S128x128_0_256, k0_pay3 x0 x1 x2⟩,
          ⟨Rect.unit (s := S128x384) ![0, 0] S128x256.size inb_S128x384_S128x256_0_0, k0_pay2 x0 x1 x2⟩] := by
  unfold out0_A_3
  rw [View.read_writes_eq_canon _ _ _ (cover0_A_3 c i arg1 harg1 arg2 harg2 arg3 harg3 arg4 harg4 x0 x1 x2)]
  unfold kernelRun0_A
  dsimp only
  sl_unfold_words
  have e1 : ∀ h, View.readAt (Elt Ideal) arg1.view (Rect.unit ![0, 0] S128x2048.size h).toLoadRect (harg1.unread x0) = x0 :=
    fun h => (View.readAt_full _ _ _).trans (harg1.read_unread x0)
  have e2 : ∀ h, View.readAt (Elt Ideal) arg2.view (Rect.unit ![0, 0] S2048x384.size h).toLoadRect (harg2.unread x1) = x1 :=
    fun h => (View.readAt_full _ _ _).trans (harg2.read_unread x1)
  have e3 : ∀ h, View.readAt (Elt Ideal) arg3.view (Rect.unit ![0, 0] S1x384.size h).toLoadRect (harg3.unread x2) = x2 :=
    fun h => (View.readAt_full _ _ _).trans (harg3.read_unread x2)
  rw [e1, e2, e3]

/-- An entry of the block's product, the bias added. -/
def lin {R : Nat} (a : Vec Ideal (⟨2, ![R, 2048]⟩ : Shape) .f32) (v : Vec Ideal S2048x384 .bf16) (b : Vec Ideal S1x384 .f32) (r : Fin R) (j : Fin 384) : Ideal .f32 :=
  ∑ k : Fin 2048, a (ix2 r k) * v (ix2 k j) + b (ix2 0 j)

/-- The array of gates: logistic gates in the first 256 columns, log forget gates in the others. -/
def gates {R : Nat} (a : Vec Ideal (⟨2, ![R, 2048]⟩ : Shape) .f32) (v : Vec Ideal S2048x384 .bf16) (b : Vec Ideal S1x384 .f32) (r : Fin R) (j : Fin 384) : Ideal .f32 :=
  if j.val < 256 then gate (lin a v b r j) else forget (lin a v b r j)

/-- The first store's entries. -/
theorem pay2_apply (x0 : Vec Ideal S128x2048 .f32) (x1 : Vec Ideal S2048x384 .bf16) (x2 : Vec Ideal S1x384 .f32) (r : Fin 128) (j : Fin 256) :
    (k0_pay2 x0 x1 x2 : Vec Ideal S128x256 .f32) (ix2 r j) = gate (lin x0 x1 x2 r ⟨j.val, by omega⟩) := by
  refine Eq.trans ?_ (gate_kernel _)
  unfold lin
  pointwise [k0_pay2, k0_pay1]

/-- The second store's entries. -/
theorem pay3_apply (x0 : Vec Ideal S128x2048 .f32) (x1 : Vec Ideal S2048x384 .bf16) (x2 : Vec Ideal S1x384 .f32) (r : Fin 128) (j : Fin 128) :
    (k0_pay3 x0 x1 x2 : Vec Ideal S128x128 .f32) (ix2 r j) = forget (lin x0 x1 x2 r ⟨256 + j.val, by omega⟩) := by
  refine Eq.trans ?_ (forget_kernel _)
  unfold lin
  pointwise [k0_pay3, k0_pay1]

/-- What a point leaves, by row and column. -/
theorem out_apply (c : Dev nD) (i : grid0.Coords) (arg1 : Memref sig .tc .vmem S128x2048 .f32) (harg1 : arg1.IsWhole) (arg2 : Memref sig .tc .vmem S2048x384 .bf16) (harg2 : arg2.IsWhole) (arg3 : Memref sig .tc .vmem S1x384 .f32) (harg3 : arg3.IsWhole) (arg4 : Memref sig .tc .vmem S128x384 .f32) (harg4 : arg4.IsWhole)
    (x0 : Vec Ideal S128x2048 .f32) (x1 : Vec Ideal S2048x384 .bf16) (x2 : Vec Ideal S1x384 .f32) (r : Fin 128) (j : Fin 384) :
    out0_A_3 (F := Ideal) c i arg1 harg1 arg2 harg2 arg3 harg3 arg4 harg4 x0 x1 x2 (ix2 r j) = gates x0 x1 x2 r j := by
  rw [out_canon]
  unfold gates
  split_ifs with h
  · rw [View.canon_cons_of_not_mem _ _ (by
      rw [Rect.mem_set_unit]; intro g; have g := (g 1).1; have g : 256 ≤ j.val := g; omega)]
    have e : (ix2 r j : S128x384.Idx) = (Rect.unit (s := S128x384) ![0, 0] S128x256.size inb_S128x384_S128x256_0_0).emb (ix2 r ⟨j.val, h⟩) := by
      funext a
      match a with
      | ⟨0, _⟩ => exact Fin.ext (by show r.val = 0 + 1 * r.val; omega)
      | ⟨1, _⟩ => exact Fin.ext (by show j.val = 0 + 1 * j.val; omega)
    rw [e, View.canon_cons_emb]
    exact pay2_apply x0 x1 x2 r ⟨j.val, h⟩
  · have e : (ix2 r j : S128x384.Idx) = (Rect.unit (s := S128x384) ![0, 256] S128x128.size inb_S128x384_S128x128_0_256).emb (ix2 r ⟨j.val - 256, by omega⟩) := by
      funext a
      match a with
      | ⟨0, _⟩ => exact Fin.ext (by show r.val = 0 + 1 * r.val; omega)
      | ⟨1, _⟩ => exact Fin.ext (by show j.val = 256 + 1 * (j.val - 256); omega)
    rw [e, View.canon_cons_emb]
    refine (pay3_apply x0 x1 x2 r ⟨j.val - 256, by omega⟩).trans ?_
    exact congrArg (fun q => forget (lin x0 x1 x2 r q)) (Fin.ext (by show 256 + (j.val - 256) = j.val; omega))

end Cert.Proof.SmallSBlock

end
-- ==== Proof.SmallSArray.lean ====
/-
  The array of gates of the sample group: the weights and biases as the host pads them, each grid point's 128 rows, and the
  array they fill (`final_eq`).
-/
module

public import proofs.«01_k».proof.Proof.SmallSBlock
public import Idealize.ShloMosaic.Lib.Claim

@[expose] public section

set_option maxRecDepth 16384

noncomputable section

namespace Cert.Proof.SmallSArray

open Cert.SmallSIdeal Cert.SmallSIdeal.Gen Idealize.ShloMosaic Idealize.ShloMosaic.TcCoe Idealize.SL.Sem
open Cert.Proof.SmallSpec Cert.Proof.SmallSBlock Pointwise
open Idealize.ShloMosaic.Pipeline (Dat)

variable (m : (ℓ : Loc nD τ sig) → Buf (Elt Ideal) ℓ) (c : Dev nD)

/-- The tokens as launched. -/
abbrev xArg : Vec Ideal S32x4x2048 .f32 := m ((c : Thread nD τ).loc main_arg0)
/-- The weights as launched. -/
abbrev wArg : Vec Ideal S1x2048x5664 .f32 := m ((c : Thread nD τ).loc main_arg1)
/-- The forget biases as launched. -/
abbrev fArg : Vec Ideal S1x8 .f32 := m ((c : Thread nD τ).loc main_arg2)

/-- The rows, one a token. -/
def rowsOf (x : Vec Ideal S32x4x2048 .f32) : Vec Ideal S128x2048 .f32 := shapeCast S128x2048 x shapeCasts_S32x4x2048_S128x2048

/-- The weights' small columns in three groups of 128, zero columns between. -/
def colsOf (w : Vec Ideal S1x2048x5664 .f32) : FVec Ideal S2048x384 .bf16 :=
  truncf (F := Ideal) (φ := .f32) .bf16 (concatenate S2048x384 1
    [⟨S2048x12, extractStridedSlice S2048x12 ![0, 0] (extractStridedSlice S2048x24 ![0, 2560] (shapeCast S2048x5664 w shapeCasts_S1x2048x5664_S2048x5664) slices_S2048x5664_S2048x24_0_2560) slices_S2048x24_S2048x12_0_0⟩,
     ⟨S2048x116, broadcastInDim S2048x116 ![] bcast_S_S2048x116 (constant (F := Ideal) S_ .f32 0x00000000#32)⟩,
     ⟨S2048x12, extractStridedSlice S2048x12 ![0, 12] (extractStridedSlice S2048x24 ![0, 2560] (shapeCast S2048x5664 w shapeCasts_S1x2048x5664_S2048x5664) slices_S2048x5664_S2048x24_0_2560) slices_S2048x24_S2048x12_0_12⟩,
     ⟨S2048x116, broadcastInDim S2048x116 ![] bcast_S_S2048x116 (constant (F := Ideal) S_ .f32 0x00000000#32)⟩,
     ⟨S2048x8, extractStridedSlice S2048x8 ![0, 5656] (shapeCast S2048x5664 w shapeCasts_S1x2048x5664_S2048x5664) slices_S2048x5664_S2048x8_0_5656⟩,
     ⟨S2048x120, broadcastInDim S2048x120 ![] bcast_S_S2048x120 (constant (F := Ideal) S_ .f32 0x00000000#32)⟩]
    concatenates_S2048x12_S2048x116_S2048x12_S2048x116_S2048x8_S2048x120_S2048x384_d1) bitsLt_bf16_f32

/-- The biases: none for the gates. -/
def biasOf (f : Vec Ideal S1x8 .f32) : Vec Ideal S1x384 .f32 :=
  broadcastInDim S1x384 ![1] bcast_S384_S1x384_1 (concatenate S384 0
    [⟨S256, broadcastInDim S256 ![] bcast_S_S256 (constant (F := Ideal) S_ .f32 0x00000000#32)⟩,
     ⟨S8, shapeCast S8 f shapeCasts_S1x8_S8⟩,
     ⟨S120, broadcastInDim S120 ![] bcast_S_S120 (constant (F := Ideal) S_ .f32 0x00000000#32)⟩] concatenates_S256_S8_S120_S384_d0)

theorem V20_eq : (V m c main_v20 : Vec Ideal S128x2048 .f32) = rowsOf (xArg m c) := by
  unfold rowsOf
  entry_read
  rfl

theorem V15_eq : @Eq (FVec Ideal S2048x384 .bf16) (V m c main_v15) (colsOf (wArg m c)) := by
  unfold colsOf
  entry_read
  rfl

theorem V19_eq : (V m c main_v19 : Vec Ideal S1x384 .f32) = biasOf (fArg m c) := by
  unfold biasOf
  entry_read
  rfl

/-- The array of gates. -/
def big (x : Vec Ideal S32x4x2048 .f32) (w : Vec Ideal S1x2048x5664 .f32) (f : Vec Ideal S1x8 .f32) : Vec Ideal S128x384 .f32 := fun i =>
  gates (rowsOf x) (colsOf w) (biasOf f) (i 0) (i 1)

/-! ## The index maps -/

section Maps
variable (i : grid0.Coords)

theorem i0_lt : (i 0).val < 1 := (i 0).isLt

theorem toNat_small {n : ℕ} (h : n < 64) : (BitVec.ofNat 32 n).toNat = n := by rw [BitVec.toNat_ofNat]; omega

theorem map0 : cc0_transform_0 i = ![(i 0).val, 0] := by
  show ![(BitVec.ofNat 32 (i 0).val).toNat, 0] = _
  rw [toNat_small (by have := i0_lt i; omega)]
theorem map1 : cc0_transform_1 i = ![0, 0] := rfl
theorem map2 : cc0_transform_2 i = ![0, 0] := rfl
theorem map3 : cc0_transform_3 i = ![(i 0).val, 0] := by
  show ![(BitVec.ofNat 32 (i 0).val).toNat, 0] = _
  rw [toNat_small (by have := i0_lt i; omega)]

end Maps

/-! ## A point's blocks -/

variable (t : Fin cfg0.N)

/-- Point `t`'s coordinate. -/
abbrev co : grid0.Coords := grid0.coords t

/-- The rows' block of point `t`. -/
abbrev b0 : Vec Ideal S128x2048 .f32 := iblk m c 0 t
/-- The weights, whole. -/
abbrev b1 : Vec Ideal S2048x384 .bf16 := iblk m c 1 t
/-- The biases, whole. -/
abbrev b2 : Vec Ideal S1x384 .f32 := iblk m c 2 t

/-- The array row of the block's row `r`. -/
abbrev row (r : Fin 128) : Fin 128 := ⟨128 * (co t 0).val + r.val, by have := i0_lt (co t); omega⟩

theorem x_apply (r : Fin 128) (k : Fin 2048) : b0 m c t (ix2 r k) = rowsOf (xArg m c) (ix2 (row t r) k) := by
  have h := map0 (co t)
  refine Eq.trans ?_ (congrFun (V20_eq m c) (ix2 (row t r) k))
  refine congrArg (V m c main_v20 : Vec Ideal S128x2048 .f32) (funext fun a => Fin.ext ?_)
  match a with
  | ⟨0, _⟩ => show cc0_transform_0 (co t) 0 * 128 + 1 * r.val = 128 * (co t 0).val + r.val
              rw [h]; show (co t 0).val * 128 + 1 * r.val = _; omega
  | ⟨1, _⟩ => show cc0_transform_0 (co t) 1 * 2048 + 1 * k.val = k.val; rw [h]; show 0 * 2048 + 1 * k.val = _; omega

theorem w_apply (k : Fin 2048) (j : Fin 384) : b1 m c t (ix2 k j) = colsOf (wArg m c) (ix2 k j) := by
  have h := map1 (co t)
  refine Eq.trans ?_ (congrFun (V15_eq m c) (ix2 k j))
  refine congrArg (V m c main_v15 : Vec Ideal S2048x384 .bf16) (funext fun a => Fin.ext ?_)
  match a with
  | ⟨0, _⟩ => show cc0_transform_1 (co t) 0 * 2048 + 1 * k.val = k.val; rw [h]; show 0 * 2048 + 1 * k.val = _; omega
  | ⟨1, _⟩ => show cc0_transform_1 (co t) 1 * 384 + 1 * j.val = j.val; rw [h]; show 0 * 384 + 1 * j.val = _; omega

theorem b_apply (j : Fin 384) : b2 m c t (ix2 0 j) = biasOf (fArg m c) (ix2 0 j) := by
  have h := map2 (co t)
  refine Eq.trans ?_ (congrFun (V19_eq m c) (ix2 0 j))
  refine congrArg (V m c main_v19 : Vec Ideal S1x384 .f32) (funext fun a => Fin.ext ?_)
  match a with
  | ⟨0, _⟩ => show cc0_transform_2 (co t) 0 * 1 + 1 * 0 = 0; rw [h]; rfl
  | ⟨1, _⟩ => show cc0_transform_2 (co t) 1 * 384 + 1 * j.val = j.val; rw [h]; show 0 * 384 + 1 * j.val = _; omega

theorem gates_apply (r : Fin 128) (j : Fin 384) : gates (b0 m c t) (b1 m c t) (b2 m c t) r j
    = gates (rowsOf (xArg m c)) (colsOf (wArg m c)) (biasOf (fArg m c)) (row t r) j := by
  unfold gates lin
  simp only [x_apply, w_apply, b_apply]

/-- What point `t` writes back is its block of the array. -/
theorem flushed_eq (hf : (cfg0.win 3).flush t = true) :
    (dats m 0 c).flushed 3 t = ((cfg0.win 3).blk t).view.read (Elt Ideal) (big (xArg m c) (wArg m c) (fArg m c)) := by
  show (cfg0.win 3).cut (grid0.coords t) ((dats m 0 c).after 3 t) = _
  rw [after0_3]
  unfold outsAt0
  funext y
  have hy : ∃ (r : Fin 128) (j : Fin 384), y = ix2 r j := ⟨y 0, y 1, by
    funext a
    match a with
    | ⟨0, _⟩ => rfl
    | ⟨1, _⟩ => rfl⟩
  obtain ⟨r, j, rfl⟩ := hy
  refine (out_apply c (grid0.coords t) (ms0_0 t) (hs0_0 t) (ms0_1 t) (hs0_1 t) (ms0_2 t) (hs0_2 t) (ms0_3 t) (hs0_3 t) (b0 m c t) (b1 m c t) (b2 m c t) r j).trans ?_
  refine (gates_apply m c t r j).trans ?_
  have h := map3 (co t)
  refine ((rfl : big (xArg m c) (wArg m c) (fArg m c) (ix2 (row t r) j) = _).symm.trans ?_ : _ = _)
  refine congrArg (big (xArg m c) (wArg m c) (fArg m c)) (funext fun a => Fin.ext ?_)
  match a with
  | ⟨0, _⟩ => show 128 * (co t 0).val + r.val = cc0_transform_3 (co t) 0 * 128 + 1 * r.val
              rw [h]; show _ = (co t 0).val * 128 + 1 * r.val; omega
  | ⟨1, _⟩ => show j.val = cc0_transform_3 (co t) 1 * 384 + 1 * j.val
              rw [h]; show _ = 0 * 384 + 1 * j.val; omega

/-- Every row block is some grid point's. -/
theorem point_of : ∀ (a : Fin 1), ∃ t : Fin grid0.N, grid0.coords t 0 = a := by
  have h : ∀ t : Fin grid0.N, (grid0.coords t 0).val = t.val := by
    decide +kernel
  intro a
  have hN : grid0.N = 1 := N_0
  have h0 := h ⟨a.val, by omega⟩
  exact ⟨_, Fin.ext h0⟩

/-- The result array after the run is the array of gates. -/
theorem final_eq : (dats m 0 c).arrAt 3 cfg0.N = big (xArg m c) (wArg m c) (fArg m c) :=
  (dats m 0 c).arrAt_eq_of_cover 3 (big (xArg m c) (wArg m c) (fArg m c)) (flushed_eq m c) fun i => by
    have h0 : (i 0 : Nat) < 128 := (i 0).isLt
    have h1 : (i 1 : Nat) < 384 := (i 1).isLt
    obtain ⟨t, e0⟩ := point_of ⟨(i 0 : Nat) / 128, by omega⟩
    have e0 : (co t 0).val = (i 0 : Nat) / 128 := congrArg Fin.val e0
    have h := map3 (co t)
    refine ⟨t, flush0_3 t, ?_⟩
    show i ∈ ((View.whole main_v21).slice (win0_3.rect t)).set
    rw [View.set_slice_whole, Rect.mem_set_unit]
    intro a
    match a with
    | ⟨0, _⟩ => show cc0_transform_3 (co t) 0 * 128 ≤ (i 0 : Nat) ∧ (i 0 : Nat) < cc0_transform_3 (co t) 0 * 128 + 128
                rw [h]; show (co t 0).val * 128 ≤ (i 0 : Nat) ∧ (i 0 : Nat) < (co t 0).val * 128 + 128; omega
    | ⟨1, _⟩ => show cc0_transform_3 (co t) 1 * 384 ≤ (i 1 : Nat) ∧ (i 1 : Nat) < cc0_transform_3 (co t) 1 * 384 + 384
                rw [h]; show 0 * 384 ≤ (i 1 : Nat) ∧ (i 1 : Nat) < 0 * 384 + 384; omega

/-! ## The padded arrays at the columns that hold something -/

theorem rowsOf_apply (x : Vec Ideal S32x4x2048 .f32) (b : Fin 32) (t : Fin 4) (k : Fin 2048) :
    rowsOf x (ix2 ⟨b.val * 4 + t.val, by omega⟩ k) = x (ix3 b t k) := by
  pointwise [rowsOf]

theorem colsOf_lo (w : Vec Ideal S1x2048x5664 .f32) (k : Fin 2048) (j : Fin 12) : colsOf w (ix2 k ⟨j.val, by omega⟩) = w (ix3 0 k ⟨2560 + j.val, by omega⟩) := by
  pointwise [colsOf]

theorem colsOf_mid (w : Vec Ideal S1x2048x5664 .f32) (k : Fin 2048) (j : Fin 12) : colsOf w (ix2 k ⟨128 + j.val, by omega⟩) = w (ix3 0 k ⟨2572 + j.val, by omega⟩) := by
  pointwise [colsOf]
  split_ifs <;> first | omega | exact congrArg w (congrArg (ix3 0 k) (Fin.ext (by dsimp only; omega)))

theorem colsOf_hi (w : Vec Ideal S1x2048x5664 .f32) (k : Fin 2048) (j : Fin 8) : colsOf w (ix2 k ⟨256 + j.val, by omega⟩) = w (ix3 0 k ⟨5656 + j.val, by omega⟩) := by
  pointwise [colsOf]
  split_ifs <;> first | omega | exact congrArg w (congrArg (ix3 0 k) (Fin.ext (by dsimp only; omega)))

theorem biasOf_lo (f : Vec Ideal S1x8 .f32) (j : Fin 384) (h : j.val < 256) : biasOf f (ix2 0 j) = 0 := by
  pointwise [biasOf]
  split_ifs <;> first | omega | rfl

theorem biasOf_hi (f : Vec Ideal S1x8 .f32) (j : Fin 8) : biasOf f (ix2 0 ⟨256 + j.val, by omega⟩) = f (ix2 0 j) := by
  pointwise [biasOf]

end Cert.Proof.SmallSArray

end
-- ==== Proof.SmallSTail.lean ====
/-
  The gates and log forget gates the host cuts from the array of gates of the sample group (`tail_run`).
-/
module

public import proofs.«01_k».proof.Proof.SmallSArray
public import Idealize.ShloMosaic.Lib.StableHlo.Run
public import Idealize.ShloMosaic.Lib.Pipeline.FrameSuffix

@[expose] public section

set_option maxRecDepth 16384

noncomputable section

namespace Cert.Proof.SmallSTail

open Cert.SmallSIdeal Cert.SmallSIdeal.Gen Idealize.ShloMosaic Idealize.ShloMosaic.TcCoe Idealize.SL.Sem Idealize.ShloMosaic.StableHlo
open Cert.Proof.SmallSArray

variable (m : (ℓ : Loc nD τ sig) → Buf (Elt Ideal) ℓ) (c : Dev nD)

/-- The array of gates by token. -/
abbrev y3 (y : Vec Ideal S128x384 .f32) : Vec Ideal S32x4x384 .f32 :=
  shapeCast S32x4x384 y shapeCasts_S128x384_S32x4x384

/-- The gates' two groups of columns side by side. -/
abbrev flat (y : Vec Ideal S32x4x384 .f32) : Vec Ideal S32x4x24 .f32 :=
  concatenate S32x4x24 2
    [⟨S32x4x12, extractStridedSlice S32x4x12 ![0, 0, 0] y slices_S32x4x384_S32x4x12_0_0_0⟩,
     ⟨S32x4x12, extractStridedSlice S32x4x12 ![0, 0, 128] y slices_S32x4x384_S32x4x12_0_0_128⟩] concatenates_S32x4x12_S32x4x12_S32x4x24_d2

/-- The gates by head and branch. -/
abbrev heads (z : Vec Ideal S32x4x24 .f32) : Vec Ideal S32x4x8x3 .f32 :=
  shapeCast S32x4x8x3 z shapeCasts_S32x4x24_S32x4x8x3

/-- The log forget gates' columns. -/
abbrev logs (y : Vec Ideal S32x4x384 .f32) : Vec Ideal S32x4x8 .f32 :=
  extractStridedSlice S32x4x8 ![0, 0, 256] y slices_S32x4x384_S32x4x8_0_0_256

/-- The layer axis of the log forget gates. -/
abbrev layer (z : Vec Ideal S32x4x8 .f32) : Vec Ideal S1x32x4x8 .f32 :=
  broadcastInDim S1x32x4x8 ![1, 2, 3] bcast_S32x4x8_S1x32x4x8_1_2_3 z

section
variable (W : Valuation τ sig (Elt Ideal)) (y : Vec Ideal S128x384 .f32) (h : W (Proc.devRef .tc main_v21) = y)
include h

theorem after27 : after hostOps1 W (Proc.devRef .tc main_v27) = heads (flat (y3 y)) := by
  subst h; simp only [hostOps1]; after_results <;> rfl
theorem after28 : after hostOps1 W (Proc.devRef .tc main_v28) = layer (logs (y3 y)) := by
  subst h; simp only [hostOps1]; after_results <;> rfl

end

/-- The region leaves the array of gates in its array. -/
theorem exit_eq : Pipeline.withArrays (cfgs 0).spec c (V0 m c) (fun w => (dats m 0 c).arrAt w (cfgs 0).N) (Proc.devRef .tc main_v21)
    = big (xArg m c) (wArg m c) (fArg m c) :=
  (Pipeline.withArrays_arr spec0 launch0.win.arr_inj c (V0 m c) (fun w => (dats m 0 c).arrAt w (cfgs 0).N) 3).trans (final_eq m c)

/-- The kernel's results, of the array of gates. -/
theorem tail_run (ρ : Dev nD → PrngReg) : θ_run defs (onTc (τ := τ) (main (F := Ideal))) ⟨m, fun _ => 0, ρ⟩ (fun r => ∀ c : Dev nD,
    r.2.mem ((c.tc : Thread nD τ).loc main_v27) = heads (flat (y3 (big (xArg m c) (wArg m c) (fArg m c))))
    ∧ r.2.mem ((c.tc : Thread nD τ).loc main_v28) = layer (logs (y3 (big (xArg m c) (wArg m c) (fArg m c))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => by
    have g := fun b hb => (h c).2 b hb
    have e := exit_eq m c
    have l : ([hostOps1] : List (List (HloOp τ sig (Elt Ideal)))).flatten = hostOps1 := by simp only [List.flatten_cons, List.flatten_nil, List.append_nil]
    unfold Pipeline.afterTail₀ at g
    rw [l] at g
    exact ⟨(g main_v27 (Pipeline.mem_restRefs_of main_v27 (by decide) (by decide))).trans (after27 _ _ e),
      (g main_v28 (Pipeline.mem_restRefs_of main_v28 (by decide) (by decide))).trans (after28 _ _ e),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Proof.SmallSTail

end
-- ==== Proof.SmallSRef.lean ====
/-
  The reference's gates and log forget gates over the sample group read at an index; its results are the kernel's
  (`ref_run`).
-/
module

public import proofs.«01_k».proof.Proof.SmallSTail
public import proofs.«01_k».proof.Proof.ProjSpec
public import proofs.«01_k».proof.Proof.Gen.SmallSRefIdeal.Run
public import proofs.«01_k».proof.Proof.Gen.SmallSRefIdeal.Read
public import Idealize.ShloMosaic.Lib.KernelVsHost

@[expose] public section

set_option maxRecDepth 16384

noncomputable section

namespace Cert.Proof.SmallSRef

open Cert.SmallSRefIdeal Cert.SmallSRefIdeal.Gen Cert.SmallSRefIdeal.Read Idealize.ShloMosaic Idealize.ShloMosaic.TcCoe Idealize.SL.Sem
open Cert.Proof.ProjSpec Cert.Proof.SmallSpec Cert.Proof.SmallSBlock Cert.Proof.SmallSArray Pointwise
open Cert.Proof.SmallSTail (y3 flat heads logs layer)

variable (x : Vec Ideal S32x4x2048 .f32) (w : Vec Ideal S1x2048x5664 .f32) (f : Vec Ideal S1x8 .f32)

/-- The kernel's array by token. -/
theorem y3_apply (b : Fin 32) (t : Fin 4) (j : Fin 384) :
    y3 (big x w f) (ix3 b t j) = gates (rowsOf x) (colsOf w) (biasOf f) ⟨b.val * 4 + t.val, by omega⟩ j := by
  refine Eq.trans (?_ : _ = big x w f (ix2 ⟨b.val * 4 + t.val, by omega⟩ j)) rfl
  generalize big x w f = z
  pointwise [y3]

/-- The kernel's first group of gates. -/
theorem y3_lo (b : Fin 32) (t : Fin 4) (j : Fin 12) :
    y3 (big x w f) (ix3 b t ⟨j.val, by omega⟩) = gate (prod x w b t ⟨2560 + j.val, by omega⟩) := by
  refine (y3_apply x w f b t ⟨j.val, by omega⟩).trans ?_
  unfold gates lin prod
  rw [if_pos (show j.val < 256 by omega), biasOf_lo f ⟨j.val, by omega⟩ (show j.val < 256 by omega)]
  refine congrArg gate ((add_zero _).trans (Finset.sum_congr rfl fun k _ => ?_))
  rw [rowsOf_apply, colsOf_lo]

/-- The kernel's second group of gates. -/
theorem y3_mid (b : Fin 32) (t : Fin 4) (j : Fin 12) :
    y3 (big x w f) (ix3 b t ⟨128 + j.val, by omega⟩) = gate (prod x w b t ⟨2572 + j.val, by omega⟩) := by
  refine (y3_apply x w f b t ⟨128 + j.val, by omega⟩).trans ?_
  unfold gates lin prod
  rw [if_pos (show 128 + j.val < 256 by omega), biasOf_lo f ⟨128 + j.val, by omega⟩ (show 128 + j.val < 256 by omega)]
  refine congrArg gate ((add_zero _).trans (Finset.sum_congr rfl fun k _ => ?_))
  rw [rowsOf_apply, colsOf_mid]

/-- The kernel's log forget gates. -/
theorem y3_hi (b : Fin 32) (t : Fin 4) (j : Fin 8) :
    y3 (big x w f) (ix3 b t ⟨256 + j.val, by omega⟩) = forget (prod x w b t ⟨5656 + j.val, by omega⟩ + f (ix2 0 j)) := by
  refine (y3_apply x w f b t ⟨256 + j.val, by omega⟩).trans ?_
  unfold gates lin prod
  rw [if_neg (show ¬ 256 + j.val < 256 by omega), biasOf_hi f j]
  refine congrArg forget (congrArg (· + f (ix2 0 j)) (Finset.sum_congr rfl fun k _ => ?_))
  rw [rowsOf_apply, colsOf_hi]

/-- The reference's product by token. -/
theorem v1_apply (b : Fin 32) (t : Fin 4) (n : Fin 5664) : val_main_v1 (F := Ideal) x w (ix3 b t n) = prod x w b t n := by
  unfold prod
  pointwise [val_main_v1, val_main_v0]

/-- The reference's gates. -/
theorem gate_apply (b : Fin 32) (t : Fin 4) (n : Fin 24) :
    val_main_v13 (F := Ideal) x w (ix3 b t n) = gate (prod x w b t ⟨2560 + n.val, by omega⟩) := by
  rw [← v1_apply]
  unfold val_main_v13 val_main_v12 val_main_cst_0 val_main_v11 val_main_v10 val_main_v9 val_main_v8 val_main_v4 val_main_cst gate
  generalize val_main_v1 (F := Ideal) x w = z
  pointwise

/-- The reference's log forget gates. -/
theorem log_apply (b : Fin 32) (t : Fin 4) (n : Fin 8) :
    val_main_v19 (F := Ideal) x w f (ix3 b t n) = forget (prod x w b t ⟨5656 + n.val, by omega⟩ + f (ix2 0 n)) := by
  rw [← v1_apply]
  refine Eq.trans ?_ (forget_reference _)
  unfold val_main_v19 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v18 val_main_v17 val_main_v16 val_main_v15 val_main_v7
  generalize val_main_v1 (F := Ideal) x w = z
  pointwise

/-- The gates agree. -/
theorem flat_eq : flat (y3 (big x w f)) = val_main_v13 (F := Ideal) x w := by
  have h := y3_lo x w f
  have h' := y3_mid x w f
  generalize y3 (big x w f) = y at *
  funext i
  obtain ⟨b, t, n, rfl⟩ : ∃ (b : Fin 32) (t : Fin 4) (n : Fin 24), i = ix3 b t n := ⟨i 0, i 1, i 2, eq_ix3 i⟩
  refine Eq.trans ?_ (gate_apply x w b t n).symm
  pointwise [flat]
  split_ifs with hn
  · exact h b t ⟨n.val, hn⟩
  · refine (h' b t ⟨n.val - 12, by omega⟩).trans ?_
    exact congrArg (fun q => gate (prod x w b t q)) (Fin.ext (by show 2572 + (n.val - 12) = 2560 + n.val; omega))
  · rename_i q; exact absurd rfl q

/-- The log forget gates agree. -/
theorem logs_eq : logs (y3 (big x w f)) = val_main_v19 (F := Ideal) x w f := by
  have h := y3_hi x w f
  generalize y3 (big x w f) = y at *
  funext i
  obtain ⟨b, t, n, rfl⟩ : ∃ (b : Fin 32) (t : Fin 4) (n : Fin 8), i = ix3 b t n := ⟨i 0, i 1, i 2, eq_ix3 i⟩
  refine Eq.trans ?_ (log_apply x w f b t n).symm
  pointwise [logs]
  exact h b t n

/-- The reference's run leaves the kernel's results. -/
theorem ref_run (m : (ℓ : Loc nD τ sig) → Buf (Elt Ideal) ℓ) (ρ : Dev nD → PrngReg) (x : Dev nD → Vec Ideal S32x4x2048 .f32)
    (w : Dev nD → Vec Ideal S1x2048x5664 .f32) (f : Dev nD → Vec Ideal S1x8 .f32)
    (hx : ∀ c : Dev nD, m ((c.tc : Thread nD τ).loc main_arg0) = x c) (hw : ∀ c : Dev nD, m ((c.tc : Thread nD τ).loc main_arg1) = w c)
    (hf : ∀ c : Dev nD, m ((c.tc : Thread nD τ).loc main_arg2) = f c) :
    θ_run defs (onTc (τ := τ) (main (F := Ideal))) ⟨m, fun _ => 0, ρ⟩ fun r => ∀ c : Dev nD,
      r.2.mem ((c.tc : Thread nD τ).loc main_v14) = heads (flat (y3 (big (x c) (w c) (f c))))
      ∧ r.2.mem ((c.tc : Thread nD τ).loc main_v20) = layer (logs (y3 (big (x c) (w c) (f c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨h14, h20, ha, hb, hc⟩ := h c
    refine ⟨h14.trans ?_, h20.trans ?_, ha, hb, hc⟩
    · rw [val_main_v14_eq, hx, hw, flat_eq]; rfl
    · rw [val_main_v20_eq, hx, hw, hf, logs_eq]; rfl)
    (Cert.SmallSRefIdeal.Value.run (F := Ideal) m ρ)

end Cert.Proof.SmallSRef

end
-- ==== Proof.RouteFold.lean ====
/-
  One grid point of the router, layer by layer: a table's scores, sixteen rounds of "take the largest, note its first row,
  blank that row", the pairs of two shortlists, the same rounds over the pairs, and the stores the point leaves.
-/
module

public import proofs.«01_k».proof.Proof.Gen.RouteIdeal.Frame

@[expose] public section

set_option maxRecDepth 16384

noncomputable section

namespace Cert.Proof.RouteFold

open Cert.RouteIdeal Cert.RouteIdeal.Gen Idealize.ShloMosaic Idealize.ShloMosaic.TcCoe Idealize.SL.Sem Idealize.ShloMosaic.Tactic

variable {F : FTy → Type} [FloatOps F]

/-- The row numbers, as numbers. -/
def rid1 : FVec F S128x128 .f32 := sitofp .f32 (iota .tc S128x128 32 [0] iota_S128x128_d0_w32)

/-- Each token's largest score. -/
def mx1 (x : FVec F S128x128 .f32) : FVec F S1x128 .f32 :=
  shapeCast S1x128 (multiReduction .maximumf [0] S128 x 0xFF800000#32 reduces_S128x128_S128 (.inl rfl) rfl) shapeCasts_S128_S1x128

/-- The first row that holds it. -/
def win1 (x : FVec F S128x128 .f32) : FVec F S1x128 .f32 :=
  shapeCast S1x128 (multiReduction .minimumf [0] S128
    (select (cmpf .oeq x (broadcastTo S128x128 (mx1 x) broadcasts_S1x128_S128x128)) (rid1 (F := F)) (broadcast S128x128 (Scalar.ofBits .f32 0x43000000#32 : F .f32)))
    0x7F800000#32 reduces_S128x128_S128 (.inl rfl) rfl) shapeCasts_S128_S1x128

/-- Where that row is. -/
def hit1 (x : FVec F S128x128 .f32) : IVec S128x128 1 :=
  cmpf .oeq (rid1 (F := F)) (broadcastTo S128x128 (win1 x) broadcasts_S1x128_S128x128)

/-- The scores with that row blanked. -/
def nxt1 (x : FVec F S128x128 .f32) : FVec F S128x128 .f32 :=
  select (hit1 x) (broadcast S128x128 (Scalar.ofBits .f32 0xFF800000#32 : F .f32)) x

/-- The scores after 0 rounds. -/
def it1_0 (x : FVec F S128x128 .f32) : FVec F S128x128 .f32 := x

/-- The scores after 1 rounds. -/
def it1_1 (x : FVec F S128x128 .f32) : FVec F S128x128 .f32 := nxt1 (it1_0 x)

/-- The scores after 2 rounds. -/
def it1_2 (x : FVec F S128x128 .f32) : FVec F S128x128 .f32 := nxt1 (it1_1 x)

/-- The scores after 3 rounds. -/
def it1_3 (x : FVec F S128x128 .f32) : FVec F S128x128 .f32 := nxt1 (it1_2 x)

/-- The scores after 4 rounds. -/
def it1_4 (x : FVec F S128x128 .f32) : FVec F S128x128 .f32 := nxt1 (it1_3 x)

/-- The scores after 5 rounds. -/
def it1_5 (x : FVec F S128x128 .f32) : FVec F S128x128 .f32 := nxt1 (it1_4 x)

/-- The scores after 6 rounds. -/
def it1_6 (x : FVec F S128x128 .f32) : FVec F S128x128 .f32 := nxt1 (it1_5 x)

/-- The scores after 7 rounds. -/
def it1_7 (x : FVec F S128x128 .f32) : FVec F S128x128 .f32 := nxt1 (it1_6 x)

/-- The scores after 8 rounds. -/
def it1_8 (x : FVec F S128x128 .f32) : FVec F S128x128 .f32 := nxt1 (it1_7 x)

/-- The scores after 9 rounds. -/
def it1_9 (x : FVec F S128x128 .f32) : FVec F S128x128 .f32 := nxt1 (it1_8 x)

/-- The scores after 10 rounds. -/
def it1_10 (x : FVec F S128x128 .f32) : FVec F S128x128 .f32 := nxt1 (it1_9 x)

/-- The scores after 11 rounds. -/
def it1_11 (x : FVec F S128x128 .f32) : FVec F S128x128 .f32 := nxt1 (it1_10 x)

/-- The scores after 12 rounds. -/
def it1_12 (x : FVec F S128x128 .f32) : FVec F S128x128 .f32 := nxt1 (it1_11 x)

/-- The scores after 13 rounds. -/
def it1_13 (x : FVec F S128x128 .f32) : FVec F S128x128 .f32 := nxt1 (it1_12 x)

/-- The scores after 14 rounds. -/
def it1_14 (x : FVec F S128x128 .f32) : FVec F S128x128 .f32 := nxt1 (it1_13 x)

/-- The scores after 15 rounds. -/
def it1_15 (x : FVec F S128x128 .f32) : FVec F S128x128 .f32 := nxt1 (it1_14 x)

/-- The row numbers, as numbers. -/
def rid2 : FVec F S256x128 .f32 := sitofp .f32 (iota .tc S256x128 32 [0] iota_S256x128_d0_w32)

/-- Each token's largest score. -/
def mx2 (x : FVec F S256x128 .f32) : FVec F S1x128 .f32 :=
  shapeCast S1x128 (multiReduction .maximumf [0] S128 x 0xFF800000#32 reduces_S256x128_S128 (.inl rfl) rfl) shapeCasts_S128_S1x128

/-- The first row that holds it. -/
def win2 (x : FVec F S256x128 .f32) : FVec F S1x128 .f32 :=
  shapeCast S1x128 (multiReduction .minimumf [0] S128
    (select (cmpf .oeq x (broadcastTo S256x128 (mx2 x) broadcasts_S1x128_S256x128)) (rid2 (F := F)) (broadcast S256x128 (Scalar.ofBits .f32 0x43800000#32 : F .f32)))
    0x7F800000#32 reduces_S256x128_S128 (.inl rfl) rfl) shapeCasts_S128_S1x128

/-- Where that row is. -/
def hit2 (x : FVec F S256x128 .f32) : IVec S256x128 1 :=
  cmpf .oeq (rid2 (F := F)) (broadcastTo S256x128 (win2 x) broadcasts_S1x128_S256x128)

/-- The scores with that row blanked. -/
def nxt2 (x : FVec F S256x128 .f32) : FVec F S256x128 .f32 :=
  select (hit2 x) (broadcast S256x128 (Scalar.ofBits .f32 0xFF800000#32 : F .f32)) x

/-- The scores after 0 rounds. -/
def it2_0 (x : FVec F S256x128 .f32) : FVec F S256x128 .f32 := x

/-- The scores after 1 rounds. -/
def it2_1 (x : FVec F S256x128 .f32) : FVec F S256x128 .f32 := nxt2 (it2_0 x)

/-- The scores after 2 rounds. -/
def it2_2 (x : FVec F S256x128 .f32) : FVec F S256x128 .f32 := nxt2 (it2_1 x)

/-- The scores after 3 rounds. -/
def it2_3 (x : FVec F S256x128 .f32) : FVec F S256x128 .f32 := nxt2 (it2_2 x)

/-- The scores after 4 rounds. -/
def it2_4 (x : FVec F S256x128 .f32) : FVec F S256x128 .f32 := nxt2 (it2_3 x)

/-- The scores after 5 rounds. -/
def it2_5 (x : FVec F S256x128 .f32) : FVec F S256x128 .f32 := nxt2 (it2_4 x)

/-- The scores after 6 rounds. -/
def it2_6 (x : FVec F S256x128 .f32) : FVec F S256x128 .f32 := nxt2 (it2_5 x)

/-- The scores after 7 rounds. -/
def it2_7 (x : FVec F S256x128 .f32) : FVec F S256x128 .f32 := nxt2 (it2_6 x)

/-- The scores after 8 rounds. -/
def it2_8 (x : FVec F S256x128 .f32) : FVec F S256x128 .f32 := nxt2 (it2_7 x)

/-- The scores after 9 rounds. -/
def it2_9 (x : FVec F S256x128 .f32) : FVec F S256x128 .f32 := nxt2 (it2_8 x)

/-- The scores after 10 rounds. -/
def it2_10 (x : FVec F S256x128 .f32) : FVec F S256x128 .f32 := nxt2 (it2_9 x)

/-- The scores after 11 rounds. -/
def it2_11 (x : FVec F S256x128 .f32) : FVec F S256x128 .f32 := nxt2 (it2_10 x)

/-- The scores after 12 rounds. -/
def it2_12 (x : FVec F S256x128 .f32) : FVec F S256x128 .f32 := nxt2 (it2_11 x)

/-- The scores after 13 rounds. -/
def it2_13 (x : FVec F S256x128 .f32) : FVec F S256x128 .f32 := nxt2 (it2_12 x)

/-- The scores after 14 rounds. -/
def it2_14 (x : FVec F S256x128 .f32) : FVec F S256x128 .f32 := nxt2 (it2_13 x)

/-- The scores after 15 rounds. -/
def it2_15 (x : FVec F S256x128 .f32) : FVec F S256x128 .f32 := nxt2 (it2_14 x)

/-- The sixteen largest scores, largest first. -/
def topV (x : FVec F S128x128 .f32) : FVec F S16x128 .f32 :=
  concatenate S16x128 0 [⟨S1x128, mx1 (it1_0 x)⟩, ⟨S1x128, mx1 (it1_1 x)⟩, ⟨S1x128, mx1 (it1_2 x)⟩, ⟨S1x128, mx1 (it1_3 x)⟩, ⟨S1x128, mx1 (it1_4 x)⟩, ⟨S1x128, mx1 (it1_5 x)⟩, ⟨S1x128, mx1 (it1_6 x)⟩, ⟨S1x128, mx1 (it1_7 x)⟩, ⟨S1x128, mx1 (it1_8 x)⟩, ⟨S1x128, mx1 (it1_9 x)⟩, ⟨S1x128, mx1 (it1_10 x)⟩, ⟨S1x128, mx1 (it1_11 x)⟩, ⟨S1x128, mx1 (it1_12 x)⟩, ⟨S1x128, mx1 (it1_13 x)⟩, ⟨S1x128, mx1 (it1_14 x)⟩, ⟨S1x128, mx1 (it1_15 x)⟩] concatenates_S1x128_S1x128_S1x128_S1x128_S1x128_S1x128_S1x128_S1x128_S1x128_S1x128_S1x128_S1x128_S1x128_S1x128_S1x128_S1x128_S16x128_d0

/-- Their rows. -/
def topI (x : FVec F S128x128 .f32) : FVec F S16x128 .f32 :=
  concatenate S16x128 0 [⟨S1x128, win1 (it1_0 x)⟩, ⟨S1x128, win1 (it1_1 x)⟩, ⟨S1x128, win1 (it1_2 x)⟩, ⟨S1x128, win1 (it1_3 x)⟩, ⟨S1x128, win1 (it1_4 x)⟩, ⟨S1x128, win1 (it1_5 x)⟩, ⟨S1x128, win1 (it1_6 x)⟩, ⟨S1x128, win1 (it1_7 x)⟩, ⟨S1x128, win1 (it1_8 x)⟩, ⟨S1x128, win1 (it1_9 x)⟩, ⟨S1x128, win1 (it1_10 x)⟩, ⟨S1x128, win1 (it1_11 x)⟩, ⟨S1x128, win1 (it1_12 x)⟩, ⟨S1x128, win1 (it1_13 x)⟩, ⟨S1x128, win1 (it1_14 x)⟩, ⟨S1x128, win1 (it1_15 x)⟩] concatenates_S1x128_S1x128_S1x128_S1x128_S1x128_S1x128_S1x128_S1x128_S1x128_S1x128_S1x128_S1x128_S1x128_S1x128_S1x128_S1x128_S16x128_d0

/-- The sixteen largest pairs, largest first. -/
def best (x : FVec F S256x128 .f32) : FVec F S16x128 .f32 :=
  concatenate S16x128 0 [⟨S1x128, mx2 (it2_0 x)⟩, ⟨S1x128, mx2 (it2_1 x)⟩, ⟨S1x128, mx2 (it2_2 x)⟩, ⟨S1x128, mx2 (it2_3 x)⟩, ⟨S1x128, mx2 (it2_4 x)⟩, ⟨S1x128, mx2 (it2_5 x)⟩, ⟨S1x128, mx2 (it2_6 x)⟩, ⟨S1x128, mx2 (it2_7 x)⟩, ⟨S1x128, mx2 (it2_8 x)⟩, ⟨S1x128, mx2 (it2_9 x)⟩, ⟨S1x128, mx2 (it2_10 x)⟩, ⟨S1x128, mx2 (it2_11 x)⟩, ⟨S1x128, mx2 (it2_12 x)⟩, ⟨S1x128, mx2 (it2_13 x)⟩, ⟨S1x128, mx2 (it2_14 x)⟩, ⟨S1x128, mx2 (it2_15 x)⟩] concatenates_S1x128_S1x128_S1x128_S1x128_S1x128_S1x128_S1x128_S1x128_S1x128_S1x128_S1x128_S1x128_S1x128_S1x128_S1x128_S1x128_S16x128_d0

/-- The payload at the pair a round takes. -/
def pick (p : FVec F S256x128 .f32) (x : FVec F S256x128 .f32) : FVec F S1x128 .f32 :=
  shapeCast S1x128 (multiReduction .add [0] S128
    (select (hit2 x) p (broadcast S256x128 (Scalar.ofBits .f32 0x00000000#32 : F .f32))) 0x00000000#32 reduces_S256x128_S128 (.inl rfl) rfl) shapeCasts_S128_S1x128

/-- The payloads at the pairs the rounds take. -/
def picks (p : FVec F S256x128 .f32) (x : FVec F S256x128 .f32) : FVec F S16x128 .f32 :=
  concatenate S16x128 0 [⟨S1x128, pick p (it2_0 x)⟩, ⟨S1x128, pick p (it2_1 x)⟩, ⟨S1x128, pick p (it2_2 x)⟩, ⟨S1x128, pick p (it2_3 x)⟩, ⟨S1x128, pick p (it2_4 x)⟩, ⟨S1x128, pick p (it2_5 x)⟩, ⟨S1x128, pick p (it2_6 x)⟩, ⟨S1x128, pick p (it2_7 x)⟩, ⟨S1x128, pick p (it2_8 x)⟩, ⟨S1x128, pick p (it2_9 x)⟩, ⟨S1x128, pick p (it2_10 x)⟩, ⟨S1x128, pick p (it2_11 x)⟩, ⟨S1x128, pick p (it2_12 x)⟩, ⟨S1x128, pick p (it2_13 x)⟩, ⟨S1x128, pick p (it2_14 x)⟩, ⟨S1x128, pick p (it2_15 x)⟩] concatenates_S1x128_S1x128_S1x128_S1x128_S1x128_S1x128_S1x128_S1x128_S1x128_S1x128_S1x128_S1x128_S1x128_S1x128_S1x128_S1x128_S16x128_d0

/-- The queries of a point's tokens. -/
def qry (x0 : Vec F S128x2048 .f32) (x1 : Vec F S2048x2048 .bf16) : FVec F S128x2048 .bf16 := k0_pay2 x0 x1

/-- Scores of table 0 by key and token. -/
def sc_0 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 0] q slices_S128x2048_o0_0_S128x128) (constant S128x128 .f32 0x00000000#32)

/-- Scores of table 1 by key and token. -/
def sc_1 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 128] q slices_S128x2048_o0_128_S128x128) (constant S128x128 .f32 0x00000000#32)

/-- Scores of table 2 by key and token. -/
def sc_2 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 256] q slices_S128x2048_o0_256_S128x128) (constant S128x128 .f32 0x00000000#32)

/-- Scores of table 3 by key and token. -/
def sc_3 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 384] q slices_S128x2048_o0_384_S128x128) (constant S128x128 .f32 0x00000000#32)

/-- Scores of table 4 by key and token. -/
def sc_4 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 512] q slices_S128x2048_o0_512_S128x128) (constant S128x128 .f32 0x00000000#32)

/-- Scores of table 5 by key and token. -/
def sc_5 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 640] q slices_S128x2048_o0_640_S128x128) (constant S128x128 .f32 0x00000000#32)

/-- Scores of table 6 by key and token. -/
def sc_6 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 768] q slices_S128x2048_o0_768_S128x128) (constant S128x128 .f32 0x00000000#32)

/-- Scores of table 7 by key and token. -/
def sc_7 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 896] q slices_S128x2048_o0_896_S128x128) (constant S128x128 .f32 0x00000000#32)

/-- Scores of table 8 by key and token. -/
def sc_8 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1024] q slices_S128x2048_o0_1024_S128x128) (constant S128x128 .f32 0x00000000#32)

/-- Scores of table 9 by key and token. -/
def sc_9 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1152] q slices_S128x2048_o0_1152_S128x128) (constant S128x128 .f32 0x00000000#32)

/-- Scores of table 10 by key and token. -/
def sc_10 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1280] q slices_S128x2048_o0_1280_S128x128) (constant S128x128 .f32 0x00000000#32)

/-- Scores of table 11 by key and token. -/
def sc_11 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1408] q slices_S128x2048_o0_1408_S128x128) (constant S128x128 .f32 0x00000000#32)

/-- Scores of table 12 by key and token. -/
def sc_12 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1536] q slices_S128x2048_o0_1536_S128x128) (constant S128x128 .f32 0x00000000#32)

/-- Scores of table 13 by key and token. -/
def sc_13 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1664] q slices_S128x2048_o0_1664_S128x128) (constant S128x128 .f32 0x00000000#32)

/-- Scores of table 14 by key and token. -/
def sc_14 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1792] q slices_S128x2048_o0_1792_S128x128) (constant S128x128 .f32 0x00000000#32)

/-- Scores of table 15 by key and token. -/
def sc_15 (q : FVec F S128x2048 .bf16) (k : Vec F S1x128x128 .bf16) : FVec F S128x128 .f32 :=
  matmul dot_S128x128_S128x128_S128x128_1_1_0_0_n_n none (shapeCast S128x128 k shapeCasts_S1x128x128_S128x128)
    (extractStridedSlice S128x128 ![0, 1920] q slices_S128x2048_o0_1920_S128x128) (constant S128x128 .f32 0x00000000#32)

/-- The sums over the pairs of two shortlists. -/
def cand (a b : FVec F S16x128 .f32) : FVec F S256x128 .f32 :=
  concatenate S256x128 0 [⟨S16x128, addf (broadcastTo S16x128 (extractStridedSlice S1x128 ![0, 0] a slices_S16x128_o0_0_S1x128) broadcasts_S1x128_S16x128) b⟩, ⟨S16x128, addf (broadcastTo S16x128 (extractStridedSlice S1x128 ![1, 0] a slices_S16x128_o1_0_S1x128) broadcasts_S1x128_S16x128) b⟩, ⟨S16x128, addf (broadcastTo S16x128 (extractStridedSlice S1x128 ![2, 0] a slices_S16x128_o2_0_S1x128) broadcasts_S1x128_S16x128) b⟩, ⟨S16x128, addf (broadcastTo S16x128 (extractStridedSlice S1x128 ![3, 0] a slices_S16x128_o3_0_S1x128) broadcasts_S1x128_S16x128) b⟩, ⟨S16x128, addf (broadcastTo S16x128 (extractStridedSlice S1x128 ![4, 0] a slices_S16x128_o4_0_S1x128) broadcasts_S1x128_S16x128) b⟩, ⟨S16x128, addf (broadcastTo S16x128 (extractStridedSlice S1x128 ![5, 0] a slices_S16x128_o5_0_S1x128) broadcasts_S1x128_S16x128) b⟩, ⟨S16x128, addf (broadcastTo S16x128 (extractStridedSlice S1x128 ![6, 0] a slices_S16x128_o6_0_S1x128) broadcasts_S1x128_S16x128) b⟩, ⟨S16x128, addf (broadcastTo S16x128 (extractStridedSlice S1x128 ![7, 0] a slices_S16x128_o7_0_S1x128) broadcasts_S1x128_S16x128) b⟩, ⟨S16x128, addf (broadcastTo S16x128 (extractStridedSlice S1x128 ![8, 0] a slices_S16x128_o8_0_S1x128) broadcasts_S1x128_S16x128) b⟩, ⟨S16x128, addf (broadcastTo S16x128 (extractStridedSlice S1x128 ![9, 0] a slices_S16x128_o9_0_S1x128) broadcasts_S1x128_S16x128) b⟩, ⟨S16x128, addf (broadcastTo S16x128 (extractStridedSlice S1x128 ![10, 0] a slices_S16x128_o10_0_S1x128) broadcasts_S1x128_S16x128) b⟩, ⟨S16x128, addf (broadcastTo S16x128 (extractStridedSlice S1x128 ![11, 0] a slices_S16x128_o11_0_S1x128) broadcasts_S1x128_S16x128) b⟩, ⟨S16x128, addf (broadcastTo S16x128 (extractStridedSlice S1x128 ![12, 0] a slices_S16x128_o12_0_S1x128) broadcasts_S1x128_S16x128) b⟩, ⟨S16x128, addf (broadcastTo S16x128 (extractStridedSlice S1x128 ![13, 0] a slices_S16x128_o13_0_S1x128) broadcasts_S1x128_S16x128) b⟩, ⟨S16x128, addf (broadcastTo S16x128 (extractStridedSlice S1x128 ![14, 0] a slices_S16x128_o14_0_S1x128) broadcasts_S1x128_S16x128) b⟩, ⟨S16x128, addf (broadcastTo S16x128 (extractStridedSlice S1x128 ![15, 0] a slices_S16x128_o15_0_S1x128) broadcasts_S1x128_S16x128) b⟩] concatenates_S16x128_S16x128_S16x128_S16x128_S16x128_S16x128_S16x128_S16x128_S16x128_S16x128_S16x128_S16x128_S16x128_S16x128_S16x128_S16x128_S256x128_d0

/-- The expert numbers of the pairs of two shortlists. -/
def expert (a b : FVec F S16x128 .f32) : FVec F S256x128 .f32 :=
  concatenate S256x128 0 [⟨S16x128, addf (broadcastTo S16x128 (mulf (extractStridedSlice S1x128 ![0, 0] a slices_S16x128_o0_0_S1x128) (broadcast S1x128 (Scalar.ofBits .f32 0x43000000#32 : F .f32))) broadcasts_S1x128_S16x128) b⟩, ⟨S16x128, addf (broadcastTo S16x128 (mulf (extractStridedSlice S1x128 ![1, 0] a slices_S16x128_o1_0_S1x128) (broadcast S1x128 (Scalar.ofBits .f32 0x43000000#32 : F .f32))) broadcasts_S1x128_S16x128) b⟩, ⟨S16x128, addf (broadcastTo S16x128 (mulf (extractStridedSlice S1x128 ![2, 0] a slices_S16x128_o2_0_S1x128) (broadcast S1x128 (Scalar.ofBits .f32 0x43000000#32 : F .f32))) broadcasts_S1x128_S16x128) b⟩, ⟨S16x128, addf (broadcastTo S16x128 (mulf (extractStridedSlice S1x128 ![3, 0] a slices_S16x128_o3_0_S1x128) (broadcast S1x128 (Scalar.ofBits .f32 0x43000000#32 : F .f32))) broadcasts_S1x128_S16x128) b⟩, ⟨S16x128, addf (broadcastTo S16x128 (mulf (extractStridedSlice S1x128 ![4, 0] a slices_S16x128_o4_0_S1x128) (broadcast S1x128 (Scalar.ofBits .f32 0x43000000#32 : F .f32))) broadcasts_S1x128_S16x128) b⟩, ⟨S16x128, addf (broadcastTo S16x128 (mulf (extractStridedSlice S1x128 ![5, 0] a slices_S16x128_o5_0_S1x128) (broadcast S1x128 (Scalar.ofBits .f32 0x43000000#32 : F .f32))) broadcasts_S1x128_S16x128) b⟩, ⟨S16x128, addf (broadcastTo S16x128 (mulf (extractStridedSlice S1x128 ![6, 0] a slices_S16x128_o6_0_S1x128) (broadcast S1x128 (Scalar.ofBits .f32 0x43000000#32 : F .f32))) broadcasts_S1x128_S16x128) b⟩, ⟨S16x128, addf (broadcastTo S16x128 (mulf (extractStridedSlice S1x128 ![7, 0] a slices_S16x128_o7_0_S1x128) (broadcast S1x128 (Scalar.ofBits .f32 0x43000000#32 : F .f32))) broadcasts_S1x128_S16x128) b⟩, ⟨S16x128, addf (broadcastTo S16x128 (mulf (extractStridedSlice S1x128 ![8, 0] a slices_S16x128_o8_0_S1x128) (broadcast S1x128 (Scalar.ofBits .f32 0x43000000#32 : F .f32))) broadcasts_S1x128_S16x128) b⟩, ⟨S16x128, addf (broadcastTo S16x128 (mulf (extractStridedSlice S1x128 ![9, 0] a slices_S16x128_o9_0_S1x128) (broadcast S1x128 (Scalar.ofBits .f32 0x43000000#32 : F .f32))) broadcasts_S1x128_S16x128) b⟩, ⟨S16x128, addf (broadcastTo S16x128 (mulf (extractStridedSlice S1x128 ![10, 0] a slices_S16x128_o10_0_S1x128) (broadcast S1x128 (Scalar.ofBits .f32 0x43000000#32 : F .f32))) broadcasts_S1x128_S16x128) b⟩, ⟨S16x128, addf (broadcastTo S16x128 (mulf (extractStridedSlice S1x128 ![11, 0] a slices_S16x128_o11_0_S1x128) (broadcast S1x128 (Scalar.ofBits .f32 0x43000000#32 : F .f32))) broadcasts_S1x128_S16x128) b⟩, ⟨S16x128, addf (broadcastTo S16x128 (mulf (extractStridedSlice S1x128 ![12, 0] a slices_S16x128_o12_0_S1x128) (broadcast S1x128 (Scalar.ofBits .f32 0x43000000#32 : F .f32))) broadcasts_S1x128_S16x128) b⟩, ⟨S16x128, addf (broadcastTo S16x128 (mulf (extractStridedSlice S1x128 ![13, 0] a slices_S16x128_o13_0_S1x128) (broadcast S1x128 (Scalar.ofBits .f32 0x43000000#32 : F .f32))) broadcasts_S1x128_S16x128) b⟩, ⟨S16x128, addf (broadcastTo S16x128 (mulf (extractStridedSlice S1x128 ![14, 0] a slices_S16x128_o14_0_S1x128) (broadcast S1x128 (Scalar.ofBits .f32 0x43000000#32 : F .f32))) broadcasts_S1x128_S16x128) b⟩, ⟨S16x128, addf (broadcastTo S16x128 (mulf (extractStridedSlice S1x128 ![15, 0] a slices_S16x128_o15_0_S1x128) (broadcast S1x128 (Scalar.ofBits .f32 0x43000000#32 : F .f32))) broadcasts_S1x128_S16x128) b⟩] concatenates_S16x128_S16x128_S16x128_S16x128_S16x128_S16x128_S16x128_S16x128_S16x128_S16x128_S16x128_S16x128_S16x128_S16x128_S16x128_S16x128_S256x128_d0

/-- Softmax over the sixteen best sums. -/
def gate (v : FVec F S16x128 .f32) : FVec F S1x16x128 .f32 :=
  shapeCast S1x16x128 (divf (exp (subf v (broadcastTo S16x128 (extractStridedSlice S1x128 ![0, 0] v slices_S16x128_o0_0_S1x128) broadcasts_S1x128_S16x128)))
    (broadcastTo S16x128 (shapeCast S1x128 (multiReduction .add [0] S128
      (exp (subf v (broadcastTo S16x128 (extractStridedSlice S1x128 ![0, 0] v slices_S16x128_o0_0_S1x128) broadcasts_S1x128_S16x128)))
      0x00000000#32 reduces_S16x128_S128 (.inl rfl) rfl) shapeCasts_S128_S1x128) broadcasts_S1x128_S16x128)) shapeCasts_S16x128_S1x16x128

/-- A shortlist as it is stored. -/
def st (v : FVec F S16x128 .f32) : FVec F S1x16x128 .f32 := shapeCast S1x16x128 v shapeCasts_S16x128_S1x16x128

/-- A shortlist as it is read back. -/
def ld (v : Vec F S1x16x128 .f32) : FVec F S16x128 .f32 := shapeCast S16x128 v shapeCasts_S1x16x128_S16x128

/-- Table 0's part of the scratch. -/
def rs_0 : Rect S16x16x128 := Rect.unit (s := S16x16x128) ![0, 0, 0] S1x16x128.size inb_S16x16x128_S1x16x128_0_0_0

/-- Table 0's part of the keys. -/
def rk_0 : Rect S16x128x128 := Rect.unit (s := S16x128x128) ![0, 0, 0] S1x128x128.size inb_S16x128x128_S1x128x128_0_0_0

/-- Table 1's part of the scratch. -/
def rs_1 : Rect S16x16x128 := Rect.unit (s := S16x16x128) ![1, 0, 0] S1x16x128.size inb_S16x16x128_S1x16x128_1_0_0

/-- Table 1's part of the keys. -/
def rk_1 : Rect S16x128x128 := Rect.unit (s := S16x128x128) ![1, 0, 0] S1x128x128.size inb_S16x128x128_S1x128x128_1_0_0

/-- Table 2's part of the scratch. -/
def rs_2 : Rect S16x16x128 := Rect.unit (s := S16x16x128) ![2, 0, 0] S1x16x128.size inb_S16x16x128_S1x16x128_2_0_0

/-- Table 2's part of the keys. -/
def rk_2 : Rect S16x128x128 := Rect.unit (s := S16x128x128) ![2, 0, 0] S1x128x128.size inb_S16x128x128_S1x128x128_2_0_0

/-- Table 3's part of the scratch. -/
def rs_3 : Rect S16x16x128 := Rect.unit (s := S16x16x128) ![3, 0, 0] S1x16x128.size inb_S16x16x128_S1x16x128_3_0_0

/-- Table 3's part of the keys. -/
def rk_3 : Rect S16x128x128 := Rect.unit (s := S16x128x128) ![3, 0, 0] S1x128x128.size inb_S16x128x128_S1x128x128_3_0_0

/-- Table 4's part of the scratch. -/
def rs_4 : Rect S16x16x128 := Rect.unit (s := S16x16x128) ![4, 0, 0] S1x16x128.size inb_S16x16x128_S1x16x128_4_0_0

/-- Table 4's part of the keys. -/
def rk_4 : Rect S16x128x128 := Rect.unit (s := S16x128x128) ![4, 0, 0] S1x128x128.size inb_S16x128x128_S1x128x128_4_0_0

/-- Table 5's part of the scratch. -/
def rs_5 : Rect S16x16x128 := Rect.unit (s := S16x16x128) ![5, 0, 0] S1x16x128.size inb_S16x16x128_S1x16x128_5_0_0

/-- Table 5's part of the keys. -/
def rk_5 : Rect S16x128x128 := Rect.unit (s := S16x128x128) ![5, 0, 0] S1x128x128.size inb_S16x128x128_S1x128x128_5_0_0

/-- Table 6's part of the scratch. -/
def rs_6 : Rect S16x16x128 := Rect.unit (s := S16x16x128) ![6, 0, 0] S1x16x128.size inb_S16x16x128_S1x16x128_6_0_0

/-- Table 6's part of the keys. -/
def rk_6 : Rect S16x128x128 := Rect.unit (s := S16x128x128) ![6, 0, 0] S1x128x128.size inb_S16x128x128_S1x128x128_6_0_0

/-- Table 7's part of the scratch. -/
def rs_7 : Rect S16x16x128 := Rect.unit (s := S16x16x128) ![7, 0, 0] S1x16x128.size inb_S16x16x128_S1x16x128_7_0_0

/-- Table 7's part of the keys. -/
def rk_7 : Rect S16x128x128 := Rect.unit (s := S16x128x128) ![7, 0, 0] S1x128x128.size inb_S16x128x128_S1x128x128_7_0_0

/-- Table 8's part of the scratch. -/
def rs_8 : Rect S16x16x128 := Rect.unit (s := S16x16x128) ![8, 0, 0] S1x16x128.size inb_S16x16x128_S1x16x128_8_0_0

/-- Table 8's part of the keys. -/
def rk_8 : Rect S16x128x128 := Rect.unit (s := S16x128x128) ![8, 0, 0] S1x128x128.size inb_S16x128x128_S1x128x128_8_0_0

/-- Table 9's part of the scratch. -/
def rs_9 : Rect S16x16x128 := Rect.unit (s := S16x16x128) ![9, 0, 0] S1x16x128.size inb_S16x16x128_S1x16x128_9_0_0

/-- Table 9's part of the keys. -/
def rk_9 : Rect S16x128x128 := Rect.unit (s := S16x128x128) ![9, 0, 0] S1x128x128.size inb_S16x128x128_S1x128x128_9_0_0

/-- Table 10's part of the scratch. -/
def rs_10 : Rect S16x16x128 := Rect.unit (s := S16x16x128) ![10, 0, 0] S1x16x128.size inb_S16x16x128_S1x16x128_10_0_0

/-- Table 10's part of the keys. -/
def rk_10 : Rect S16x128x128 := Rect.unit (s := S16x128x128) ![10, 0, 0] S1x128x128.size inb_S16x128x128_S1x128x128_10_0_0

/-- Table 11's part of the scratch. -/
def rs_11 : Rect S16x16x128 := Rect.unit (s := S16x16x128) ![11, 0, 0] S1x16x128.size inb_S16x16x128_S1x16x128_11_0_0

/-- Table 11's part of the keys. -/
def rk_11 : Rect S16x128x128 := Rect.unit (s := S16x128x128) ![11, 0, 0] S1x128x128.size inb_S16x128x128_S1x128x128_11_0_0

/-- Table 12's part of the scratch. -/
def rs_12 : Rect S16x16x128 := Rect.unit (s := S16x16x128) ![12, 0, 0] S1x16x128.size inb_S16x16x128_S1x16x128_12_0_0

/-- Table 12's part of the keys. -/
def rk_12 : Rect S16x128x128 := Rect.unit (s := S16x128x128) ![12, 0, 0] S1x128x128.size inb_S16x128x128_S1x128x128_12_0_0

/-- Table 13's part of the scratch. -/
def rs_13 : Rect S16x16x128 := Rect.unit (s := S16x16x128) ![13, 0, 0] S1x16x128.size inb_S16x16x128_S1x16x128_13_0_0

/-- Table 13's part of the keys. -/
def rk_13 : Rect S16x128x128 := Rect.unit (s := S16x128x128) ![13, 0, 0] S1x128x128.size inb_S16x128x128_S1x128x128_13_0_0

/-- Table 14's part of the scratch. -/
def rs_14 : Rect S16x16x128 := Rect.unit (s := S16x16x128) ![14, 0, 0] S1x16x128.size inb_S16x16x128_S1x16x128_14_0_0

/-- Table 14's part of the keys. -/
def rk_14 : Rect S16x128x128 := Rect.unit (s := S16x128x128) ![14, 0, 0] S1x128x128.size inb_S16x128x128_S1x128x128_14_0_0

/-- Table 15's part of the scratch. -/
def rs_15 : Rect S16x16x128 := Rect.unit (s := S16x16x128) ![15, 0, 0] S1x16x128.size inb_S16x16x128_S1x16x128_15_0_0

/-- Table 15's part of the keys. -/
def rk_15 : Rect S16x128x128 := Rect.unit (s := S16x128x128) ![15, 0, 0] S1x128x128.size inb_S16x128x128_S1x128x128_15_0_0

/-- Head 0's part of a result. -/
def ro_0 : Rect S1x128x128 := Rect.unit (s := S1x128x128) ![0, 0, 0] S1x16x128.size inb_S1x128x128_S1x16x128_0_0_0

/-- Head 1's part of a result. -/
def ro_1 : Rect S1x128x128 := Rect.unit (s := S1x128x128) ![0, 16, 0] S1x16x128.size inb_S1x128x128_S1x16x128_0_16_0

/-- Head 2's part of a result. -/
def ro_2 : Rect S1x128x128 := Rect.unit (s := S1x128x128) ![0, 32, 0] S1x16x128.size inb_S1x128x128_S1x16x128_0_32_0

/-- Head 3's part of a result. -/
def ro_3 : Rect S1x128x128 := Rect.unit (s := S1x128x128) ![0, 48, 0] S1x16x128.size inb_S1x128x128_S1x16x128_0_48_0

/-- Head 4's part of a result. -/
def ro_4 : Rect S1x128x128 := Rect.unit (s := S1x128x128) ![0, 64, 0] S1x16x128.size inb_S1x128x128_S1x16x128_0_64_0

/-- Head 5's part of a result. -/
def ro_5 : Rect S1x128x128 := Rect.unit (s := S1x128x128) ![0, 80, 0] S1x16x128.size inb_S1x128x128_S1x16x128_0_80_0

/-- Head 6's part of a result. -/
def ro_6 : Rect S1x128x128 := Rect.unit (s := S1x128x128) ![0, 96, 0] S1x16x128.size inb_S1x128x128_S1x16x128_0_96_0

/-- Head 7's part of a result. -/
def ro_7 : Rect S1x128x128 := Rect.unit (s := S1x128x128) ![0, 112, 0] S1x16x128.size inb_S1x128x128_S1x16x128_0_112_0

/-- The best scores' stores, last first. -/
def svL (s : Fin 16 → FVec F S128x128 .f32) : List (View.Piece (Elt F) S16x16x128 .f32) :=
  [⟨rs_15, st (topV (s 15))⟩,
    ⟨rs_14, st (topV (s 14))⟩,
    ⟨rs_13, st (topV (s 13))⟩,
    ⟨rs_12, st (topV (s 12))⟩,
    ⟨rs_11, st (topV (s 11))⟩,
    ⟨rs_10, st (topV (s 10))⟩,
    ⟨rs_9, st (topV (s 9))⟩,
    ⟨rs_8, st (topV (s 8))⟩,
    ⟨rs_7, st (topV (s 7))⟩,
    ⟨rs_6, st (topV (s 6))⟩,
    ⟨rs_5, st (topV (s 5))⟩,
    ⟨rs_4, st (topV (s 4))⟩,
    ⟨rs_3, st (topV (s 3))⟩,
    ⟨rs_2, st (topV (s 2))⟩,
    ⟨rs_1, st (topV (s 1))⟩,
    ⟨rs_0, st (topV (s 0))⟩]

/-- The best rows' stores, last first. -/
def siL (s : Fin 16 → FVec F S128x128 .f32) : List (View.Piece (Elt F) S16x16x128 .f32) :=
  [⟨rs_15, st (topI (s 15))⟩,
    ⟨rs_14, st (topI (s 14))⟩,
    ⟨rs_13, st (topI (s 13))⟩,
    ⟨rs_12, st (topI (s 12))⟩,
    ⟨rs_11, st (topI (s 11))⟩,
    ⟨rs_10, st (topI (s 10))⟩,
    ⟨rs_9, st (topI (s 9))⟩,
    ⟨rs_8, st (topI (s 8))⟩,
    ⟨rs_7, st (topI (s 7))⟩,
    ⟨rs_6, st (topI (s 6))⟩,
    ⟨rs_5, st (topI (s 5))⟩,
    ⟨rs_4, st (topI (s 4))⟩,
    ⟨rs_3, st (topI (s 3))⟩,
    ⟨rs_2, st (topI (s 2))⟩,
    ⟨rs_1, st (topI (s 1))⟩,
    ⟨rs_0, st (topI (s 0))⟩]

/-- The tables' scores at a point, from its three blocks as they are read. -/
def scr (q : FVec F S128x2048 .bf16) (arg3 : Memref sig .tc .vmem S16x128x128 .bf16) (harg3 : arg3.IsWhole) (x2 : Vec F S16x128x128 .bf16) : Fin 16 → FVec F S128x128 .f32 :=
  ![sc_0 q (View.readAt (Elt F) arg3.view rk_0.toLoadRect (harg3.unread x2)),
    sc_1 q (View.readAt (Elt F) arg3.view rk_1.toLoadRect (harg3.unread x2)),
    sc_2 q (View.readAt (Elt F) arg3.view rk_2.toLoadRect (harg3.unread x2)),
    sc_3 q (View.readAt (Elt F) arg3.view rk_3.toLoadRect (harg3.unread x2)),
    sc_4 q (View.readAt (Elt F) arg3.view rk_4.toLoadRect (harg3.unread x2)),
    sc_5 q (View.readAt (Elt F) arg3.view rk_5.toLoadRect (harg3.unread x2)),
    sc_6 q (View.readAt (Elt F) arg3.view rk_6.toLoadRect (harg3.unread x2)),
    sc_7 q (View.readAt (Elt F) arg3.view rk_7.toLoadRect (harg3.unread x2)),
    sc_8 q (View.readAt (Elt F) arg3.view rk_8.toLoadRect (harg3.unread x2)),
    sc_9 q (View.readAt (Elt F) arg3.view rk_9.toLoadRect (harg3.unread x2)),
    sc_10 q (View.readAt (Elt F) arg3.view rk_10.toLoadRect (harg3.unread x2)),
    sc_11 q (View.readAt (Elt F) arg3.view rk_11.toLoadRect (harg3.unread x2)),
    sc_12 q (View.readAt (Elt F) arg3.view rk_12.toLoadRect (harg3.unread x2)),
    sc_13 q (View.readAt (Elt F) arg3.view rk_13.toLoadRect (harg3.unread x2)),
    sc_14 q (View.readAt (Elt F) arg3.view rk_14.toLoadRect (harg3.unread x2)),
    sc_15 q (View.readAt (Elt F) arg3.view rk_15.toLoadRect (harg3.unread x2))]

/-- The point's queries as they are read. -/
def qr (arg1 : Memref sig .tc .vmem S128x2048 .f32) (harg1 : arg1.IsWhole) (arg2 : Memref sig .tc .vmem S2048x2048 .bf16) (harg2 : arg2.IsWhole)
    (x0 : Vec F S128x2048 .f32) (x1 : Vec F S2048x2048 .bf16) : FVec F S128x2048 .bf16 :=
  qry (View.readAt (Elt F) arg1.view (Rect.unit (s := S128x2048) ![0, 0] S128x2048.size inb_S128x2048_S128x2048_0_0).toLoadRect (harg1.unread x0))
    (View.readAt (Elt F) arg2.view (Rect.unit (s := S2048x2048) ![0, 0] S2048x2048.size inb_S2048x2048_S2048x2048_0_0).toLoadRect (harg2.unread x1))

/-- Head 0's sums over pairs. -/
def cd_0 (arg6 : Memref sig .tc .vmem S16x16x128 .f32) (s : Fin 16 → FVec F S128x128 .f32) : FVec F S256x128 .f32 :=
  cand (ld (arg6.view.readCov (svL s) rs_0.toLoadRect)) (ld (arg6.view.readCov (svL s) rs_1.toLoadRect))

/-- Head 0's experts over pairs. -/
def ex_0 (arg7 : Memref sig .tc .vmem S16x16x128 .f32) (s : Fin 16 → FVec F S128x128 .f32) : FVec F S256x128 .f32 :=
  expert (ld (arg7.view.readCov (siL s) rs_0.toLoadRect)) (ld (arg7.view.readCov (siL s) rs_1.toLoadRect))

/-- Head 1's sums over pairs. -/
def cd_1 (arg6 : Memref sig .tc .vmem S16x16x128 .f32) (s : Fin 16 → FVec F S128x128 .f32) : FVec F S256x128 .f32 :=
  cand (ld (arg6.view.readCov (svL s) rs_2.toLoadRect)) (ld (arg6.view.readCov (svL s) rs_3.toLoadRect))

/-- Head 1's experts over pairs. -/
def ex_1 (arg7 : Memref sig .tc .vmem S16x16x128 .f32) (s : Fin 16 → FVec F S128x128 .f32) : FVec F S256x128 .f32 :=
  expert (ld (arg7.view.readCov (siL s) rs_2.toLoadRect)) (ld (arg7.view.readCov (siL s) rs_3.toLoadRect))

/-- Head 2's sums over pairs. -/
def cd_2 (arg6 : Memref sig .tc .vmem S16x16x128 .f32) (s : Fin 16 → FVec F S128x128 .f32) : FVec F S256x128 .f32 :=
  cand (ld (arg6.view.readCov (svL s) rs_4.toLoadRect)) (ld (arg6.view.readCov (svL s) rs_5.toLoadRect))

/-- Head 2's experts over pairs. -/
def ex_2 (arg7 : Memref sig .tc .vmem S16x16x128 .f32) (s : Fin 16 → FVec F S128x128 .f32) : FVec F S256x128 .f32 :=
  expert (ld (arg7.view.readCov (siL s) rs_4.toLoadRect)) (ld (arg7.view.readCov (siL s) rs_5.toLoadRect))

/-- Head 3's sums over pairs. -/
def cd_3 (arg6 : Memref sig .tc .vmem S16x16x128 .f32) (s : Fin 16 → FVec F S128x128 .f32) : FVec F S256x128 .f32 :=
  cand (ld (arg6.view.readCov (svL s) rs_6.toLoadRect)) (ld (arg6.view.readCov (svL s) rs_7.toLoadRect))

/-- Head 3's experts over pairs. -/
def ex_3 (arg7 : Memref sig .tc .vmem S16x16x128 .f32) (s : Fin 16 → FVec F S128x128 .f32) : FVec F S256x128 .f32 :=
  expert (ld (arg7.view.readCov (siL s) rs_6.toLoadRect)) (ld (arg7.view.readCov (siL s) rs_7.toLoadRect))

/-- Head 4's sums over pairs. -/
def cd_4 (arg6 : Memref sig .tc .vmem S16x16x128 .f32) (s : Fin 16 → FVec F S128x128 .f32) : FVec F S256x128 .f32 :=
  cand (ld (arg6.view.readCov (svL s) rs_8.toLoadRect)) (ld (arg6.view.readCov (svL s) rs_9.toLoadRect))

/-- Head 4's experts over pairs. -/
def ex_4 (arg7 : Memref sig .tc .vmem S16x16x128 .f32) (s : Fin 16 → FVec F S128x128 .f32) : FVec F S256x128 .f32 :=
  expert (ld (arg7.view.readCov (siL s) rs_8.toLoadRect)) (ld (arg7.view.readCov (siL s) rs_9.toLoadRect))

/-- Head 5's sums over pairs. -/
def cd_5 (arg6 : Memref sig .tc .vmem S16x16x128 .f32) (s : Fin 16 → FVec F S128x128 .f32) : FVec F S256x128 .f32 :=
  cand (ld (arg6.view.readCov (svL s) rs_10.toLoadRect)) (ld (arg6.view.readCov (svL s) rs_11.toLoadRect))

/-- Head 5's experts over pairs. -/
def ex_5 (arg7 : Memref sig .tc .vmem S16x16x128 .f32) (s : Fin 16 → FVec F S128x128 .f32) : FVec F S256x128 .f32 :=
  expert (ld (arg7.view.readCov (siL s) rs_10.toLoadRect)) (ld (arg7.view.readCov (siL s) rs_11.toLoadRect))

/-- Head 6's sums over pairs. -/
def cd_6 (arg6 : Memref sig .tc .vmem S16x16x128 .f32) (s : Fin 16 → FVec F S128x128 .f32) : FVec F S256x128 .f32 :=
  cand (ld (arg6.view.readCov (svL s) rs_12.toLoadRect)) (ld (arg6.view.readCov (svL s) rs_13.toLoadRect))

/-- Head 6's experts over pairs. -/
def ex_6 (arg7 : Memref sig .tc .vmem S16x16x128 .f32) (s : Fin 16 → FVec F S128x128 .f32) : FVec F S256x128 .f32 :=
  expert (ld (arg7.view.readCov (siL s) rs_12.toLoadRect)) (ld (arg7.view.readCov (siL s) rs_13.toLoadRect))

/-- Head 7's sums over pairs. -/
def cd_7 (arg6 : Memref sig .tc .vmem S16x16x128 .f32) (s : Fin 16 → FVec F S128x128 .f32) : FVec F S256x128 .f32 :=
  cand (ld (arg6.view.readCov (svL s) rs_14.toLoadRect)) (ld (arg6.view.readCov (svL s) rs_15.toLoadRect))

/-- Head 7's experts over pairs. -/
def ex_7 (arg7 : Memref sig .tc .vmem S16x16x128 .f32) (s : Fin 16 → FVec F S128x128 .f32) : FVec F S256x128 .f32 :=
  expert (ld (arg7.view.readCov (siL s) rs_14.toLoadRect)) (ld (arg7.view.readCov (siL s) rs_15.toLoadRect))

/-- The gates' stores of a point. -/
theorem run_fst (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec F S128x2048 .f32) (x1 : Vec F S2048x2048 .bf16) (x2 : Vec F S16x128x128 .bf16) :
    (kernelRun0_A (F := F) c i arg1 harg1 arg2 harg2 arg3 harg3 arg4 harg4 arg5 harg5 arg6 harg6 arg7 harg7 x0 x1 x2).1 =
      [⟨ro_7, gate (best (cd_7 arg6 (scr (qr arg1 harg1 arg2 harg2 x0 x1) arg3 harg3 x2)))⟩,
        ⟨ro_6, gate (best (cd_6 arg6 (scr (qr arg1 harg1 arg2 harg2 x0 x1) arg3 harg3 x2)))⟩,
        ⟨ro_5, gate (best (cd_5 arg6 (scr (qr arg1 harg1 arg2 harg2 x0 x1) arg3 harg3 x2)))⟩,
        ⟨ro_4, gate (best (cd_4 arg6 (scr (qr arg1 harg1 arg2 harg2 x0 x1) arg3 harg3 x2)))⟩,
        ⟨ro_3, gate (best (cd_3 arg6 (scr (qr arg1 harg1 arg2 harg2 x0 x1) arg3 harg3 x2)))⟩,
        ⟨ro_2, gate (best (cd_2 arg6 (scr (qr arg1 harg1 arg2 harg2 x0 x1) arg3 harg3 x2)))⟩,
        ⟨ro_1, gate (best (cd_1 arg6 (scr (qr arg1 harg1 arg2 harg2 x0 x1) arg3 harg3 x2)))⟩,
        ⟨ro_0, gate (best (cd_0 arg6 (scr (qr arg1 harg1 arg2 harg2 x0 x1) arg3 harg3 x2)))⟩] := by
  sl_kernel_rfl

/-- The experts' stores of a point. -/
theorem run_snd (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec F S128x2048 .f32) (x1 : Vec F S2048x2048 .bf16) (x2 : Vec F S16x128x128 .bf16) :
    (kernelRun0_A (F := F) c i arg1 harg1 arg2 harg2 arg3 harg3 arg4 harg4 arg5 harg5 arg6 harg6 arg7 harg7 x0 x1 x2).2.1 =
      [⟨ro_7, k0_pay1 (picks (ex_7 arg7 (scr (qr arg1 harg1 arg2 harg2 x0 x1) arg3 harg3 x2)) (cd_7 arg6 (scr (qr arg1 harg1 arg2 harg2 x0 x1) arg3 harg3 x2)))⟩,
        ⟨ro_6, k0_pay1 (picks (ex_6 arg7 (scr (qr arg1 harg1 arg2 harg2 x0 x1) arg3 harg3 x2)) (cd_6 arg6 (scr (qr arg1 harg1 arg2 harg2 x0 x1) arg3 harg3 x2)))⟩,
        ⟨ro_5, k0_pay1 (picks (ex_5 arg7 (scr (qr arg1 harg1 arg2 harg2 x0 x1) arg3 harg3 x2)) (cd_5 arg6 (scr (qr arg1 harg1 arg2 harg2 x0 x1) arg3 harg3 x2)))⟩,
        ⟨ro_4, k0_pay1 (picks (ex_4 arg7 (scr (qr arg1 harg1 arg2 harg2 x0 x1) arg3 harg3 x2)) (cd_4 arg6 (scr (qr arg1 harg1 arg2 harg2 x0 x1) arg3 harg3 x2)))⟩,
        ⟨ro_3, k0_pay1 (picks (ex_3 arg7 (scr (qr arg1 harg1 arg2 harg2 x0 x1) arg3 harg3 x2)) (cd_3 arg6 (scr (qr arg1 harg1 arg2 harg2 x0 x1) arg3 harg3 x2)))⟩,
        ⟨ro_2, k0_pay1 (picks (ex_2 arg7 (scr (qr arg1 harg1 arg2 harg2 x0 x1) arg3 harg3 x2)) (cd_2 arg6 (scr (qr arg1 harg1 arg2 harg2 x0 x1) arg3 harg3 x2)))⟩,
        ⟨ro_1, k0_pay1 (picks (ex_1 arg7 (scr (qr arg1 harg1 arg2 harg2 x0 x1) arg3 harg3 x2)) (cd_1 arg6 (scr (qr arg1 harg1 arg2 harg2 x0 x1) arg3 harg3 x2)))⟩,
        ⟨ro_0, k0_pay1 (picks (ex_0 arg7 (scr (qr arg1 harg1 arg2 harg2 x0 x1) arg3 harg3 x2)) (cd_0 arg6 (scr (qr arg1 harg1 arg2 harg2 x0 x1) arg3 harg3 x2)))⟩] := by
  sl_kernel_rfl

end Cert.Proof.RouteFold

end
-- ==== Proof.RouteRounds.lean ====
/-
  Choosing the largest entries one by one: a round takes the largest entry, notes the first position that holds it and
  blanks that position; the rounds list the entries in the order a stable sort puts them (`top_rnd`, `first_rnd`).
-/
module

public import Idealize.ShloMosaic.Lib.Pointwise
public import Idealize.ShloMosaic.Lib.SortFacts

@[expose] public section

noncomputable section

namespace Cert.Proof.RouteRounds

variable {n : Nat}

/-- The largest entry. -/
def top (f : Fin n → EReal) : EReal := Finset.fold max ⊥ f Finset.univ

/-- The first position holding it, as a number; `n` stands for the other positions. -/
def first (f : Fin n → EReal) : EReal :=
  Finset.fold min ⊤ (fun i => if f i = top f then (((i.val : ℕ) : ℝ) : EReal) else ((n : ℝ) : EReal)) Finset.univ

/-- The entries with that position blanked. -/
def blank (f : Fin n → EReal) : Fin n → EReal := fun i => if (((i.val : ℕ) : ℝ) : EReal) = first f then ⊥ else f i

/-- The entries after some rounds. -/
def rnd : Nat → (Fin n → EReal) → Fin n → EReal
  | 0, f => f
  | r + 1, f => blank (rnd r f)

/-- The order a stable sort by decreasing value puts the positions in. -/
structure Sorts (f : Fin n → EReal) (σ : Fin n → Fin n) : Prop where
  inj : Function.Injective σ
  ord : ∀ a b, a < b → f (σ b) < f (σ a) ∨ f (σ b) = f (σ a) ∧ σ a < σ b

theorem fold_max_eq (f : Fin n → EReal) (v : EReal) (h : ∀ i, f i ≤ v) (i : Fin n) (hi : f i = v) :
    Finset.fold max ⊥ f Finset.univ = v := by
  apply le_antisymm
  · rw [Finset.fold_max_le]; exact ⟨bot_le, fun i _ => h i⟩
  · rw [Finset.le_fold_max]; exact Or.inr ⟨i, Finset.mem_univ _, hi.ge⟩

theorem fold_min_eq (f : Fin n → EReal) (v : EReal) (h : ∀ i, v ≤ f i) (i : Fin n) (hi : f i = v) :
    Finset.fold min ⊤ f Finset.univ = v := by
  apply le_antisymm
  · rw [Finset.fold_min_le]; exact Or.inr ⟨i, Finset.mem_univ _, hi.le⟩
  · rw [Finset.le_fold_min]; exact ⟨le_top, fun i _ => h i⟩

theorem Sorts.surj {f : Fin n → EReal} {σ : Fin n → Fin n} (h : Sorts f σ) : Function.Surjective σ :=
  Finite.surjective_of_injective h.inj

/-- A round's largest entry and its first position, once the earlier positions are blanked. -/
theorem round {f : Fin n → EReal} {σ : Fin n → Fin n} (h : Sorts f σ) (hf : ∀ i, f i ≠ ⊥) (r : Fin n) (g : Fin n → EReal)
    (hg : ∀ b, g (σ b) = if b < r then ⊥ else f (σ b)) : top g = f (σ r) ∧ first g = (((σ r).val : ℝ) : EReal) := by
  have ht : top g = f (σ r) := by
    refine fold_max_eq _ _ (fun i => ?_) (σ r) (by rw [hg]; simp)
    obtain ⟨b, rfl⟩ := h.surj i
    rw [hg]
    split_ifs with hb
    · exact bot_le
    · rcases eq_or_lt_of_le (not_lt.mp hb) with e | e
      · rw [e]
      · rcases h.ord _ _ e with h1 | h1
        · exact h1.le
        · exact h1.1.le
  refine ⟨ht, ?_⟩
  unfold first
  refine fold_min_eq _ _ (fun i => ?_) (σ r) (by rw [ht, hg]; simp)
  obtain ⟨b, rfl⟩ := h.surj i
  rw [ht]
  split_ifs with hi
  · rw [hg] at hi
    split_ifs at hi with hb
    · exact absurd hi.symm (hf _)
    · rcases eq_or_lt_of_le (not_lt.mp hb) with e | e
      · rw [e]
      · rcases h.ord _ _ e with h1 | h1
        · exact absurd hi h1.ne
        · exact_mod_cast h1.2.le
  · exact_mod_cast (σ r).isLt.le

/-- After `r` rounds the first `r` positions of the order are blank and the others untouched. -/
theorem rnd_apply {f : Fin n → EReal} {σ : Fin n → Fin n} (h : Sorts f σ) (hf : ∀ i, f i ≠ ⊥) (r : Nat) (hr : r ≤ n) (b : Fin n) :
    rnd r f (σ b) = if b.val < r then ⊥ else f (σ b) := by
  induction r generalizing b with
  | zero => simp [rnd]
  | succ r ih =>
    have hrn : r < n := hr
    obtain ⟨_, h2⟩ := round h hf ⟨r, hrn⟩ (rnd r f) (fun b => ih hrn.le b)
    show (if ((((σ b).val : ℕ) : ℝ) : EReal) = first (rnd r f) then ⊥ else rnd r f (σ b)) = _
    rw [h2, ih hrn.le]
    by_cases hb : b = ⟨r, hrn⟩
    · subst hb; simp
    · have h3 : (((σ b).val : ℝ) : EReal) ≠ (((σ ⟨r, hrn⟩).val : ℝ) : EReal) := by
        intro e
        apply hb
        apply h.inj
        apply Fin.ext
        exact_mod_cast e
      rw [if_neg h3]
      have h4 : b.val ≠ r := fun e => hb (Fin.ext e)
      by_cases h5 : b.val < r
      · rw [if_pos h5, if_pos (by omega)]
      · rw [if_neg h5, if_neg (by omega)]

/-- Round `r` finds the entry the order puts at `r`. -/
theorem top_rnd {f : Fin n → EReal} {σ : Fin n → Fin n} (h : Sorts f σ) (hf : ∀ i, f i ≠ ⊥) (r : Fin n) : top (rnd r f) = f (σ r) :=
  (round h hf r _ (rnd_apply h hf r r.isLt.le)).1

/-- And its position. -/
theorem first_rnd {f : Fin n → EReal} {σ : Fin n → Fin n} (h : Sorts f σ) (hf : ∀ i, f i ≠ ⊥) (r : Fin n) :
    first (rnd r f) = (((σ r).val : ℝ) : EReal) :=
  (round h hf r _ (rnd_apply h hf r r.isLt.le)).2

end Cert.Proof.RouteRounds

end
-- ==== Proof.RouteSort.lean ====
/-
  The stable order of a row by decreasing value, and the host's `top_k` read by it.
-/
module

public import proofs.«01_k».proof.Proof.RouteRounds
public import Idealize.ShloMosaic.Lib.ValueIdx

@[expose] public section

set_option maxRecDepth 16384

noncomputable section

namespace Cert.Proof.RouteSort

open Idealize.ShloMosaic Idealize.ShloMosaic.TcCoe Pointwise Cert.Proof.RouteRounds

variable {n : Nat}

/-- The stable order of a row by decreasing value. -/
def ord (f : Fin n → EReal) : Fin n → Fin n :=
  sortedFrom (fun k k' => Ideal.cmp .ogt (f k) (f k') == 1#1)

/-- What a sorted row's earlier and later positions satisfy. -/
def Before (f : Fin n → EReal) (a b : Fin n) : Prop := f b < f a ∨ f b = f a ∧ a < b

theorem Before.trans {f : Fin n → EReal} {a b c : Fin n} (h1 : Before f a b) (h2 : Before f b c) : Before f a c := by
  unfold Before at *
  rcases h1 with h1 | h1 <;> rcases h2 with h2 | h2
  · exact Or.inl (h2.trans h1)
  · exact Or.inl (h2.1 ▸ h1)
  · exact Or.inl (h1.1 ▸ h2)
  · exact Or.inr ⟨h2.1.trans h1.1, h1.2.trans h2.2⟩

theorem gt_iff (x y : EReal) : (Ideal.cmp .ogt x y == 1#1) = decide (y < x) := by
  unfold Ideal.cmp
  by_cases h : y < x
  · simp [h]
  · simp [h]

theorem pairwise_insert (f : Fin n → EReal) (a : Fin n) (l : List (Fin n)) (ha : ∀ b ∈ l, a < b) (hl : l.Pairwise (Before f)) :
    (insertBefore (fun k k' => Ideal.cmp .ogt (f k) (f k') == 1#1) a l).Pairwise (Before f) := by
  induction l with
  | nil => exact List.pairwise_singleton _ _
  | cons b l ih =>
    unfold insertBefore
    rw [gt_iff]
    rw [List.pairwise_cons] at hl
    split_ifs with h
    · rw [List.pairwise_cons]
      refine ⟨fun c hc => ?_, ih (fun c hc => ha c (List.mem_cons_of_mem _ hc)) hl.2⟩
      have hc' := (perm_insertBefore _ a l).mem_iff.mp hc
      rcases List.mem_cons.mp hc' with rfl | hc'
      · exact Or.inl (of_decide_eq_true h)
      · exact hl.1 c hc'
    · have hab : Before f a b := by
        have h1 : ¬ f a < f b := fun e => h (decide_eq_true e)
        rcases lt_or_eq_of_le (not_lt.mp h1) with h2 | h2
        · exact Or.inl h2
        · exact Or.inr ⟨h2, ha b List.mem_cons_self⟩
      rw [List.pairwise_cons]
      refine ⟨fun c hc => ?_, List.pairwise_cons.mpr hl⟩
      rcases List.mem_cons.mp hc with rfl | hc
      · exact hab
      · exact hab.trans (hl.1 c hc)

theorem pairwise_sort (f : Fin n → EReal) (l : List (Fin n)) (hl : l.Pairwise (· < ·)) :
    (stableSort (fun k k' => Ideal.cmp .ogt (f k) (f k') == 1#1) l).Pairwise (Before f) := by
  induction l with
  | nil => exact List.Pairwise.nil
  | cons a l ih =>
    rw [List.pairwise_cons] at hl
    unfold stableSort
    refine pairwise_insert f a _ (fun b hb => hl.1 b ((perm_stableSort _ l).mem_iff.mp hb)) (ih hl.2)

/-- The order sorts. -/
theorem sorts_ord (f : Fin n → EReal) : Sorts f (ord f) := by
  refine ⟨sortedFrom_injective _, fun a b hab => ?_⟩
  have hp := pairwise_sort f (List.finRange n) (List.pairwise_lt_finRange n)
  rw [List.pairwise_iff_get] at hp
  exact hp (a.cast (length_sortPositions n _).symm) (b.cast (length_sortPositions n _).symm) hab

/-- Moving along the last axis of four. -/
theorem along4 {A B C n : Nat} (a : Fin A) (b : Fin B) (c : Fin C) (i k : Fin n) :
    Shape.Idx.along (s := (⟨4, ![A, B, C, n]⟩ : Shape)) (ix4 a b c i) 3 k = ix4 a b c k := by
  funext d
  unfold Shape.Idx.along
  match d with
  | ⟨0, _⟩ => rfl
  | ⟨1, _⟩ => rfl
  | ⟨2, _⟩ => rfl
  | ⟨3, _⟩ => rfl

/-- Moving along the last axis of three. -/
theorem along3 {A B n : Nat} (a : Fin A) (b : Fin B) (i k : Fin n) :
    Shape.Idx.along (s := (⟨3, ![A, B, n]⟩ : Shape)) (ix3 a b i) 2 k = ix3 a b k := by
  funext d
  unfold Shape.Idx.along
  match d with
  | ⟨0, _⟩ => rfl
  | ⟨1, _⟩ => rfl
  | ⟨2, _⟩ => rfl

theorem slice4 {α : Type} {A B C n k : Nat} (x : (⟨4, ![A, B, C, n]⟩ : Shape).Idx → α)
    (h : (⟨4, ![A, B, C, n]⟩ : Shape).Slices (fun _ => 0) (⟨4, ![A, B, C, k]⟩ : Shape)) (hk : k ≤ n)
    (a : Fin A) (b : Fin B) (c : Fin C) (r : Fin k) :
    extractStridedSlice (⟨4, ![A, B, C, k]⟩ : Shape) (fun _ => 0) x h (ix4 a b c r) = x (ix4 a b c ⟨r.val, r.isLt.trans_le hk⟩) := by
  unfold extractStridedSlice
  congr 1
  funext d
  apply Fin.ext
  match d with
  | ⟨0, _⟩ => exact Nat.zero_add _
  | ⟨1, _⟩ => exact Nat.zero_add _
  | ⟨2, _⟩ => exact Nat.zero_add _
  | ⟨3, _⟩ => exact Nat.zero_add _

theorem slice3 {α : Type} {A B n k : Nat} (x : (⟨3, ![A, B, n]⟩ : Shape).Idx → α)
    (h : (⟨3, ![A, B, n]⟩ : Shape).Slices (fun _ => 0) (⟨3, ![A, B, k]⟩ : Shape)) (hk : k ≤ n)
    (a : Fin A) (b : Fin B) (r : Fin k) :
    extractStridedSlice (⟨3, ![A, B, k]⟩ : Shape) (fun _ => 0) x h (ix3 a b r) = x (ix3 a b ⟨r.val, r.isLt.trans_le hk⟩) := by
  unfold extractStridedSlice
  congr 1
  funext d
  apply Fin.ext
  match d with
  | ⟨0, _⟩ => exact Nat.zero_add _
  | ⟨1, _⟩ => exact Nat.zero_add _
  | ⟨2, _⟩ => exact Nat.zero_add _

/-- `top_k` over the last axis of four: the values and the positions, by the row's order. -/
theorem topK4 {A B C n k : Nat} (x : FVec Ideal (⟨4, ![A, B, C, n]⟩ : Shape) .f32)
    (h : (⟨4, ![A, B, C, n]⟩ : Shape).Slices (fun _ => 0) (⟨4, ![A, B, C, k]⟩ : Shape)) (hk : k ≤ n)
    (a : Fin A) (b : Fin B) (c : Fin C) (r : Fin k) :
    (Host.topK (⟨4, ![A, B, C, k]⟩ : Shape) 3 (FloatOps.cmpfTotal (F := Ideal) (φ := .f32) .gt) x h).1 (ix4 a b c r)
        = x (ix4 a b c (ord (fun i => x (ix4 a b c i)) ⟨r.val, r.isLt.trans_le hk⟩))
      ∧ (Host.topK (⟨4, ![A, B, C, k]⟩ : Shape) 3 (FloatOps.cmpfTotal (F := Ideal) (φ := .f32) .gt) x h).2 (ix4 a b c r)
        = BitVec.ofNat 32 (ord (fun i => x (ix4 a b c i)) ⟨r.val, r.isLt.trans_le hk⟩).val := by
  have hd : 3 < (⟨4, ![A, B, C, n]⟩ : Shape).rank := Nat.lt_succ_self 3
  have ha : ∀ i k : Fin n, Shape.Idx.along (s := (⟨4, ![A, B, C, n]⟩ : Shape)) (ix4 a b c i) ⟨3, hd⟩ k = ix4 a b c k :=
    fun i k => along4 a b c i k
  unfold Host.topK
  dsimp only
  rw [slice4 _ h hk, slice4 _ h hk]
  unfold Host.sort2
  rw [dif_pos hd]
  dsimp only
  constructor
  · erw [ha]
    refine congrArg (fun q => x (ix4 a b c q)) ?_
    unfold ord
    refine congrFun (congrArg sortedFrom ?_) _
    funext i i'
    erw [ha, ha]
    rfl
  · erw [ha]
    rw [dif_pos hd]
    refine congrArg (fun q : Fin n => BitVec.ofNat 32 q.val) ?_
    unfold ord
    refine congrFun (congrArg sortedFrom ?_) _
    funext i i'
    erw [ha, ha]
    rfl

/-- `top_k` over the last axis of three. -/
theorem topK3 {A B n k : Nat} (x : FVec Ideal (⟨3, ![A, B, n]⟩ : Shape) .f32)
    (h : (⟨3, ![A, B, n]⟩ : Shape).Slices (fun _ => 0) (⟨3, ![A, B, k]⟩ : Shape)) (hk : k ≤ n)
    (a : Fin A) (b : Fin B) (r : Fin k) :
    (Host.topK (⟨3, ![A, B, k]⟩ : Shape) 2 (FloatOps.cmpfTotal (F := Ideal) (φ := .f32) .gt) x h).1 (ix3 a b r)
        = x (ix3 a b (ord (fun i => x (ix3 a b i)) ⟨r.val, r.isLt.trans_le hk⟩))
      ∧ (Host.topK (⟨3, ![A, B, k]⟩ : Shape) 2 (FloatOps.cmpfTotal (F := Ideal) (φ := .f32) .gt) x h).2 (ix3 a b r)
        = BitVec.ofNat 32 (ord (fun i => x (ix3 a b i)) ⟨r.val, r.isLt.trans_le hk⟩).val := by
  have hd : 2 < (⟨3, ![A, B, n]⟩ : Shape).rank := Nat.lt_succ_self 2
  have ha : ∀ i k : Fin n, Shape.Idx.along (s := (⟨3, ![A, B, n]⟩ : Shape)) (ix3 a b i) ⟨2, hd⟩ k = ix3 a b k :=
    fun i k => along3 a b i k
  unfold Host.topK
  dsimp only
  rw [slice3 _ h hk, slice3 _ h hk]
  unfold Host.sort2
  rw [dif_pos hd]
  dsimp only
  constructor
  · erw [ha]
    refine congrArg (fun q => x (ix3 a b q)) ?_
    unfold ord
    refine congrFun (congrArg sortedFrom ?_) _
    funext i i'
    erw [ha, ha]
    rfl
  · erw [ha]
    rw [dif_pos hd]
    refine congrArg (fun q : Fin n => BitVec.ofNat 32 q.val) ?_
    unfold ord
    refine congrFun (congrArg sortedFrom ?_) _
    funext i i'
    erw [ha, ha]
    rfl

end Cert.Proof.RouteSort

end
-- ==== Proof.RouteRead.lean ====
/-
  The router's point read entry by entry: the rounds are `RouteRounds`' rounds down a column, so a shortlist lists the column
  by its stable order.
-/
module

public import proofs.«01_k».proof.Proof.RouteFold
public import proofs.«01_k».proof.Proof.RouteSort
public import Idealize.ShloMosaic.Lib.Pipeline.Value

@[expose] public section

set_option maxRecDepth 16384

noncomputable section

namespace Cert.Proof.RouteRead

open Cert.RouteIdeal Cert.RouteIdeal.Gen Idealize.ShloMosaic Idealize.ShloMosaic.TcCoe Idealize.SL.Sem Idealize.ShloMosaic.Tactic
open Pointwise Cert.Proof.RouteFold Cert.Proof.RouteRounds Cert.Proof.RouteSort

theorem c_bot : Ideal.ofBits FTy.f32 4286578688#32 = ⊥ := by simp [Ideal.ofBits, Ideal.ieee]

theorem c_top : Ideal.ofBits FTy.f32 2139095040#32 = ⊤ := by simp [Ideal.ofBits, Ideal.ieee]

theorem c_128 : Ideal.ofBits FTy.f32 1124073472#32 = (((128 : ℕ) : ℝ) : EReal) := by
  simp [Ideal.ofBits, Ideal.ieee]
  rw [← EReal.coe_mul]
  norm_num

theorem c_256 : Ideal.ofBits FTy.f32 1132462080#32 = (((256 : ℕ) : ℝ) : EReal) := by
  simp [Ideal.ofBits, Ideal.ieee]
  rw [← EReal.coe_mul]
  norm_num

theorem nat_word (k : ℕ) (hk : k < 256) : (FloatOps.sitofp (F := Ideal) FTy.f32 (BitVec.ofNat 32 k)) = ((k : ℝ) : EReal) := by
  show (((BitVec.ofNat 32 k).toInt : ℝ) : EReal) = _
  have : (BitVec.ofNat 32 k).toInt = (k : Int) := by
    rw [BitVec.toInt_eq_toNat_of_lt]
    · rw [BitVec.toNat_ofNat, Nat.mod_eq_of_lt (by omega)]
    · rw [BitVec.toNat_ofNat, Nat.mod_eq_of_lt (by omega)]; omega
  rw [this]
  norm_num

/-- A column. -/
def col1 (x : FVec Ideal S128x128 .f32) (t : Fin 128) : Fin 128 → EReal := fun k => x (ix2 k t)

theorem rid1_apply (k : Fin 128) (t : Fin 128) : (rid1 (F := Ideal)) (ix2 k t) = (((k.val : ℕ) : ℝ) : EReal) := by
  refine Eq.trans ?_ (nat_word k.val (by omega))
  unfold rid1
  pointwise

theorem mx1_apply (x : FVec Ideal S128x128 .f32) (t : Fin 128) : (mx1 (F := Ideal) x) (ix2 0 t) = top (col1 x t) := by
  unfold mx1 top col1
  rw [← c_bot]
  pointwise

theorem win1_apply (x : FVec Ideal S128x128 .f32) (t : Fin 128) : (win1 (F := Ideal) x) (ix2 0 t) = first (col1 x t) := by
  unfold win1 first
  rw [← mx1_apply, ← c_128, ← c_top, ← funext fun k : Fin 128 => congrArg (fun z => ite (col1 x t k = mx1 (F := Ideal) x (ix2 0 t)) z (Ideal.ofBits FTy.f32 1124073472#32)) (rid1_apply k t)]
  unfold col1
  generalize mx1 (F := Ideal) x = w
  generalize rid1 (F := Ideal) = i
  pointwise

theorem hit1_apply (x : FVec Ideal S128x128 .f32) (k : Fin 128) (t : Fin 128) :
    (hit1 (F := Ideal) x) (ix2 k t) = BitVec.ofBool (decide ((((k.val : ℕ) : ℝ) : EReal) = first (col1 x t))) := by
  rw [← win1_apply, ← rid1_apply k t]
  unfold hit1
  generalize win1 (F := Ideal) x = w
  generalize rid1 (F := Ideal) = i
  pointwise

theorem nxt1_apply (x : FVec Ideal S128x128 .f32) (t : Fin 128) : col1 (nxt1 (F := Ideal) x) t = blank (col1 x t) := by
  funext k
  have h := hit1_apply x k t
  unfold blank
  rw [← c_bot]
  have e : col1 (nxt1 (F := Ideal) x) t k = Scalar.select (hit1 (F := Ideal) x (ix2 k t)) (Ideal.ofBits FTy.f32 4286578688#32) (x (ix2 k t)) := by
    unfold col1 nxt1
    generalize hit1 (F := Ideal) x = w
    pointwise
  rw [e, h]
  by_cases hc : (((k.val : ℕ) : ℝ) : EReal) = first (col1 x t)
  · rw [if_pos hc, decide_eq_true hc]; rfl
  · rw [if_neg hc, decide_eq_false hc]; rfl

/-- The scores after a number of rounds. -/
def itn1 (x : FVec Ideal S128x128 .f32) : Nat → FVec Ideal S128x128 .f32
  | 0 => x
  | r + 1 => nxt1 (itn1 x r)

theorem itn1_apply (x : FVec Ideal S128x128 .f32) (t : Fin 128) (r : Nat) : col1 (itn1 x r) t = rnd r (col1 x t) := by
  induction r with
  | zero => rfl
  | succ r ih =>
    show col1 (nxt1 (F := Ideal) (itn1 x r)) t = blank (rnd r (col1 x t))
    rw [nxt1_apply, ih]

/-- A round of the order, as a position. -/
def pos1 (r : Fin 16) : Fin 128 := ⟨r.val, by omega⟩

theorem itn1_mx (x : FVec Ideal S128x128 .f32) (t : Fin 128) (hx : ∀ k, x (ix2 k t) ≠ ⊥) (r : Fin 16) :
    (mx1 (F := Ideal) (itn1 x r.val)) (ix2 0 t) = x (ix2 (ord (col1 x t) (pos1 r)) t) := by
  rw [mx1_apply, itn1_apply]
  exact top_rnd (sorts_ord (col1 x t)) hx (pos1 r)

theorem itn1_first (x : FVec Ideal S128x128 .f32) (t : Fin 128) (hx : ∀ k, x (ix2 k t) ≠ ⊥) (r : Fin 16) :
    first (col1 (itn1 x r.val) t) = ((((ord (col1 x t) (pos1 r)).val : ℕ) : ℝ) : EReal) := by
  rw [itn1_apply]
  exact first_rnd (sorts_ord (col1 x t)) hx (pos1 r)

/-- A column. -/
def col2 (x : FVec Ideal S256x128 .f32) (t : Fin 128) : Fin 256 → EReal := fun k => x (ix2 k t)

theorem rid2_apply (k : Fin 256) (t : Fin 128) : (rid2 (F := Ideal)) (ix2 k t) = (((k.val : ℕ) : ℝ) : EReal) := by
  refine Eq.trans ?_ (nat_word k.val (by omega))
  unfold rid2
  pointwise

theorem mx2_apply (x : FVec Ideal S256x128 .f32) (t : Fin 128) : (mx2 (F := Ideal) x) (ix2 0 t) = top (col2 x t) := by
  unfold mx2 top col2
  rw [← c_bot]
  pointwise

theorem win2_apply (x : FVec Ideal S256x128 .f32) (t : Fin 128) : (win2 (F := Ideal) x) (ix2 0 t) = first (col2 x t) := by
  unfold win2 first
  rw [← mx2_apply, ← c_256, ← c_top, ← funext fun k : Fin 256 => congrArg (fun z => ite (col2 x t k = mx2 (F := Ideal) x (ix2 0 t)) z (Ideal.ofBits FTy.f32 1132462080#32)) (rid2_apply k t)]
  unfold col2
  generalize mx2 (F := Ideal) x = w
  generalize rid2 (F := Ideal) = i
  pointwise

theorem hit2_apply (x : FVec Ideal S256x128 .f32) (k : Fin 256) (t : Fin 128) :
    (hit2 (F := Ideal) x) (ix2 k t) = BitVec.ofBool (decide ((((k.val : ℕ) : ℝ) : EReal) = first (col2 x t))) := by
  rw [← win2_apply, ← rid2_apply k t]
  unfold hit2
  generalize win2 (F := Ideal) x = w
  generalize rid2 (F := Ideal) = i
  pointwise

theorem nxt2_apply (x : FVec Ideal S256x128 .f32) (t : Fin 128) : col2 (nxt2 (F := Ideal) x) t = blank (col2 x t) := by
  funext k
  have h := hit2_apply x k t
  unfold blank
  rw [← c_bot]
  have e : col2 (nxt2 (F := Ideal) x) t k = Scalar.select (hit2 (F := Ideal) x (ix2 k t)) (Ideal.ofBits FTy.f32 4286578688#32) (x (ix2 k t)) := by
    unfold col2 nxt2
    generalize hit2 (F := Ideal) x = w
    pointwise
  rw [e, h]
  by_cases hc : (((k.val : ℕ) : ℝ) : EReal) = first (col2 x t)
  · rw [if_pos hc, decide_eq_true hc]; rfl
  · rw [if_neg hc, decide_eq_false hc]; rfl

/-- The scores after a number of rounds. -/
def itn2 (x : FVec Ideal S256x128 .f32) : Nat → FVec Ideal S256x128 .f32
  | 0 => x
  | r + 1 => nxt2 (itn2 x r)

theorem itn2_apply (x : FVec Ideal S256x128 .f32) (t : Fin 128) (r : Nat) : col2 (itn2 x r) t = rnd r (col2 x t) := by
  induction r with
  | zero => rfl
  | succ r ih =>
    show col2 (nxt2 (F := Ideal) (itn2 x r)) t = blank (rnd r (col2 x t))
    rw [nxt2_apply, ih]

/-- A round of the order, as a position. -/
def pos2 (r : Fin 16) : Fin 256 := ⟨r.val, by omega⟩

theorem itn2_mx (x : FVec Ideal S256x128 .f32) (t : Fin 128) (hx : ∀ k, x (ix2 k t) ≠ ⊥) (r : Fin 16) :
    (mx2 (F := Ideal) (itn2 x r.val)) (ix2 0 t) = x (ix2 (ord (col2 x t) (pos2 r)) t) := by
  rw [mx2_apply, itn2_apply]
  exact top_rnd (sorts_ord (col2 x t)) hx (pos2 r)

theorem itn2_first (x : FVec Ideal S256x128 .f32) (t : Fin 128) (hx : ∀ k, x (ix2 k t) ≠ ⊥) (r : Fin 16) :
    first (col2 (itn2 x r.val) t) = ((((ord (col2 x t) (pos2 r)).val : ℕ) : ℝ) : EReal) := by
  rw [itn2_apply]
  exact first_rnd (sorts_ord (col2 x t)) hx (pos2 r)

/-- Sixteen rows stacked. -/
theorem rows16 (f : Fin 16 → FVec Ideal S1x128 .f32) (h : Shape.Concatenates ((List.ofFn fun n : Fin 16 => (⟨S1x128, f n⟩ : (s : Shape) × (s.Idx → EReal))).map (·.1)) S16x128 0)
    (r : Fin 16) (t : Fin 128) :
    concatenate S16x128 0 (List.ofFn fun n : Fin 16 => (⟨S1x128, f n⟩ : (s : Shape) × (s.Idx → EReal))) h (ix2 r t) = f r (ix2 0 t) :=
  concatenate_ofFn_unit_apply 0 f h rfl rfl (ix2 r t) r rfl (ix2 0 t) fun b hb => by
    match b with
    | ⟨0, _⟩ => exact absurd rfl hb
    | ⟨1, _⟩ => rfl

/-- Sixteen blocks of sixteen rows stacked. -/
theorem rows256 (f : Fin 16 → FVec Ideal S16x128 .f32) (h : Shape.Concatenates ((List.ofFn fun n : Fin 16 => (⟨S16x128, f n⟩ : (s : Shape) × (s.Idx → EReal))).map (·.1)) S256x128 0)
    (i : Fin 256) (t : Fin 128) :
    concatenate S256x128 0 (List.ofFn fun n : Fin 16 => (⟨S16x128, f n⟩ : (s : Shape) × (s.Idx → EReal))) h (ix2 i t)
      = f ⟨i.val / 16, by omega⟩ (ix2 ⟨i.val % 16, by omega⟩ t) :=
  concatenate_ofFn_apply 0 f h rfl 16 rfl (ix2 i t) ⟨i.val / 16, by omega⟩ rfl (ix2 ⟨i.val % 16, by omega⟩ t) rfl fun b hb => by
    match b with
    | ⟨0, _⟩ => exact absurd rfl hb
    | ⟨1, _⟩ => rfl

/-- The shortlist's scores. -/
theorem topV_apply (x : FVec Ideal S128x128 .f32) (t : Fin 128) (hx : ∀ k, x (ix2 k t) ≠ ⊥) (r : Fin 16) :
    (topV (F := Ideal) x) (ix2 r t) = x (ix2 (ord (col1 x t) (pos1 r)) t) :=
  (rows16 (fun n => mx1 (itn1 x n.val)) _ r t).trans (itn1_mx x t hx r)

/-- The shortlist's rows. -/
theorem topI_apply (x : FVec Ideal S128x128 .f32) (t : Fin 128) (hx : ∀ k, x (ix2 k t) ≠ ⊥) (r : Fin 16) :
    (topI (F := Ideal) x) (ix2 r t) = ((((ord (col1 x t) (pos1 r)).val : ℕ) : ℝ) : EReal) :=
  (rows16 (fun n => win1 (itn1 x n.val)) _ r t).trans ((win1_apply _ t).trans (itn1_first x t hx r))

/-- The best pairs' sums. -/
theorem best_apply (x : FVec Ideal S256x128 .f32) (t : Fin 128) (hx : ∀ k, x (ix2 k t) ≠ ⊥) (r : Fin 16) :
    (best (F := Ideal) x) (ix2 r t) = x (ix2 (ord (col2 x t) (pos2 r)) t) :=
  (rows16 (fun n => mx2 (itn2 x n.val)) _ r t).trans (itn2_mx x t hx r)

/-- A payload at the hit. -/
theorem pick_apply (p x : FVec Ideal S256x128 .f32) (t : Fin 128) (i : Fin 256) (hi : first (col2 x t) = (((i.val : ℕ) : ℝ) : EReal)) :
    (pick (F := Ideal) p x) (ix2 0 t) = p (ix2 i t) := by
  have e : (pick (F := Ideal) p x) (ix2 0 t) = ∑ k : Fin 256, Scalar.select (hit2 (F := Ideal) x (ix2 k t)) (p (ix2 k t)) (0 : EReal) := by
    unfold pick
    generalize hit2 (F := Ideal) x = w
    pointwise
  rw [e, Finset.sum_eq_single i]
  · rw [hit2_apply, hi, decide_eq_true rfl]; rfl
  · intro k _ hk
    have hc : ¬ (((k.val : ℕ) : ℝ) : EReal) = (((i.val : ℕ) : ℝ) : EReal) := fun e => hk (Fin.ext (by exact_mod_cast e))
    rw [hit2_apply, hi, decide_eq_false hc]; rfl
  · intro h; exact absurd (Finset.mem_univ i) h

/-- The payloads at the best pairs. -/
theorem picks_apply (p x : FVec Ideal S256x128 .f32) (t : Fin 128) (hx : ∀ k, x (ix2 k t) ≠ ⊥) (r : Fin 16) :
    (picks (F := Ideal) p x) (ix2 r t) = p (ix2 (ord (col2 x t) (pos2 r)) t) :=
  (rows16 (fun n => pick p (itn2 x n.val)) _ r t).trans (pick_apply p _ t _ (itn2_first x t hx r))

theorem cand_row_0 (a b : FVec Ideal S16x128 .f32) (j : Fin 16) (t : Fin 128) :
    (addf (broadcastTo S16x128 (extractStridedSlice S1x128 ![0, 0] a slices_S16x128_o0_0_S1x128) broadcasts_S1x128_S16x128) b : FVec Ideal S16x128 .f32) (ix2 j t) = a (ix2 0 t) + b (ix2 j t) := by
  skip
  pointwise

theorem cand_row_1 (a b : FVec Ideal S16x128 .f32) (j : Fin 16) (t : Fin 128) :
    (addf (broadcastTo S16x128 (extractStridedSlice S1x128 ![1, 0] a slices_S16x128_o1_0_S1x128) broadcasts_S1x128_S16x128) b : FVec Ideal S16x128 .f32) (ix2 j t) = a (ix2 1 t) + b (ix2 j t) := by
  skip
  pointwise

theorem cand_row_2 (a b : FVec Ideal S16x128 .f32) (j : Fin 16) (t : Fin 128) :
    (addf (broadcastTo S16x128 (extractStridedSlice S1x128 ![2, 0] a slices_S16x128_o2_0_S1x128) broadcasts_S1x128_S16x128) b : FVec Ideal S16x128 .f32) (ix2 j t) = a (ix2 2 t) + b (ix2 j t) := by
  skip
  pointwise

theorem cand_row_3 (a b : FVec Ideal S16x128 .f32) (j : Fin 16) (t : Fin 128) :
    (addf (broadcastTo S16x128 (extractStridedSlice S1x128 ![3, 0] a slices_S16x128_o3_0_S1x128) broadcasts_S1x128_S16x128) b : FVec Ideal S16x128 .f32) (ix2 j t) = a (ix2 3 t) + b (ix2 j t) := by
  skip
  pointwise

theorem cand_row_4 (a b : FVec Ideal S16x128 .f32) (j : Fin 16) (t : Fin 128) :
    (addf (broadcastTo S16x128 (extractStridedSlice S1x128 ![4, 0] a slices_S16x128_o4_0_S1x128) broadcasts_S1x128_S16x128) b : FVec Ideal S16x128 .f32) (ix2 j t) = a (ix2 4 t) + b (ix2 j t) := by
  skip
  pointwise

theorem cand_row_5 (a b : FVec Ideal S16x128 .f32) (j : Fin 16) (t : Fin 128) :
    (addf (broadcastTo S16x128 (extractStridedSlice S1x128 ![5, 0] a slices_S16x128_o5_0_S1x128) broadcasts_S1x128_S16x128) b : FVec Ideal S16x128 .f32) (ix2 j t) = a (ix2 5 t) + b (ix2 j t) := by
  skip
  pointwise

theorem cand_row_6 (a b : FVec Ideal S16x128 .f32) (j : Fin 16) (t : Fin 128) :
    (addf (broadcastTo S16x128 (extractStridedSlice S1x128 ![6, 0] a slices_S16x128_o6_0_S1x128) broadcasts_S1x128_S16x128) b : FVec Ideal S16x128 .f32) (ix2 j t) = a (ix2 6 t) + b (ix2 j t) := by
  skip
  pointwise

theorem cand_row_7 (a b : FVec Ideal S16x128 .f32) (j : Fin 16) (t : Fin 128) :
    (addf (broadcastTo S16x128 (extractStridedSlice S1x128 ![7, 0] a slices_S16x128_o7_0_S1x128) broadcasts_S1x128_S16x128) b : FVec Ideal S16x128 .f32) (ix2 j t) = a (ix2 7 t) + b (ix2 j t) := by
  skip
  pointwise

theorem cand_row_8 (a b : FVec Ideal S16x128 .f32) (j : Fin 16) (t : Fin 128) :
    (addf (broadcastTo S16x128 (extractStridedSlice S1x128 ![8, 0] a slices_S16x128_o8_0_S1x128) broadcasts_S1x128_S16x128) b : FVec Ideal S16x128 .f32) (ix2 j t) = a (ix2 8 t) + b (ix2 j t) := by
  skip
  pointwise

theorem cand_row_9 (a b : FVec Ideal S16x128 .f32) (j : Fin 16) (t : Fin 128) :
    (addf (broadcastTo S16x128 (extractStridedSlice S1x128 ![9, 0] a slices_S16x128_o9_0_S1x128) broadcasts_S1x128_S16x128) b : FVec Ideal S16x128 .f32) (ix2 j t) = a (ix2 9 t) + b (ix2 j t) := by
  skip
  pointwise

theorem cand_row_10 (a b : FVec Ideal S16x128 .f32) (j : Fin 16) (t : Fin 128) :
    (addf (broadcastTo S16x128 (extractStridedSlice S1x128 ![10, 0] a slices_S16x128_o10_0_S1x128) broadcasts_S1x128_S16x128) b : FVec Ideal S16x128 .f32) (ix2 j t) = a (ix2 10 t) + b (ix2 j t) := by
  skip
  pointwise

theorem cand_row_11 (a b : FVec Ideal S16x128 .f32) (j : Fin 16) (t : Fin 128) :
    (addf (broadcastTo S16x128 (extractStridedSlice S1x128 ![11, 0] a slices_S16x128_o11_0_S1x128) broadcasts_S1x128_S16x128) b : FVec Ideal S16x128 .f32) (ix2 j t) = a (ix2 11 t) + b (ix2 j t) := by
  skip
  pointwise

theorem cand_row_12 (a b : FVec Ideal S16x128 .f32) (j : Fin 16) (t : Fin 128) :
    (addf (broadcastTo S16x128 (extractStridedSlice S1x128 ![12, 0] a slices_S16x128_o12_0_S1x128) broadcasts_S1x128_S16x128) b : FVec Ideal S16x128 .f32) (ix2 j t) = a (ix2 12 t) + b (ix2 j t) := by
  skip
  pointwise

theorem cand_row_13 (a b : FVec Ideal S16x128 .f32) (j : Fin 16) (t : Fin 128) :
    (addf (broadcastTo S16x128 (extractStridedSlice S1x128 ![13, 0] a slices_S16x128_o13_0_S1x128) broadcasts_S1x128_S16x128) b : FVec Ideal S16x128 .f32) (ix2 j t) = a (ix2 13 t) + b (ix2 j t) := by
  skip
  pointwise

theorem cand_row_14 (a b : FVec Ideal S16x128 .f32) (j : Fin 16) (t : Fin 128) :
    (addf (broadcastTo S16x128 (extractStridedSlice S1x128 ![14, 0] a slices_S16x128_o14_0_S1x128) broadcasts_S1x128_S16x128) b : FVec Ideal S16x128 .f32) (ix2 j t) = a (ix2 14 t) + b (ix2 j t) := by
  skip
  pointwise

theorem cand_row_15 (a b : FVec Ideal S16x128 .f32) (j : Fin 16) (t : Fin 128) :
    (addf (broadcastTo S16x128 (extractStridedSlice S1x128 ![15, 0] a slices_S16x128_o15_0_S1x128) broadcasts_S1x128_S16x128) b : FVec Ideal S16x128 .f32) (ix2 j t) = a (ix2 15 t) + b (ix2 j t) := by
  skip
  pointwise

/-- The sixteen blocks of `cand`. -/
def candR (a b : FVec Ideal S16x128 .f32) : Fin 16 → FVec Ideal S16x128 .f32 :=
  ![addf (broadcastTo S16x128 (extractStridedSlice S1x128 ![0, 0] a slices_S16x128_o0_0_S1x128) broadcasts_S1x128_S16x128) b,
    addf (broadcastTo S16x128 (extractStridedSlice S1x128 ![1, 0] a slices_S16x128_o1_0_S1x128) broadcasts_S1x128_S16x128) b,
    addf (broadcastTo S16x128 (extractStridedSlice S1x128 ![2, 0] a slices_S16x128_o2_0_S1x128) broadcasts_S1x128_S16x128) b,
    addf (broadcastTo S16x128 (extractStridedSlice S1x128 ![3, 0] a slices_S16x128_o3_0_S1x128) broadcasts_S1x128_S16x128) b,
    addf (broadcastTo S16x128 (extractStridedSlice S1x128 ![4, 0] a slices_S16x128_o4_0_S1x128) broadcasts_S1x128_S16x128) b,
    addf (broadcastTo S16x128 (extractStridedSlice S1x128 ![5, 0] a slices_S16x128_o5_0_S1x128) broadcasts_S1x128_S16x128) b,
    addf (broadcastTo S16x128 (extractStridedSlice S1x128 ![6, 0] a slices_S16x128_o6_0_S1x128) broadcasts_S1x128_S16x128) b,
    addf (broadcastTo S16x128 (extractStridedSlice S1x128 ![7, 0] a slices_S16x128_o7_0_S1x128) broadcasts_S1x128_S16x128) b,
    addf (broadcastTo S16x128 (extractStridedSlice S1x128 ![8, 0] a slices_S16x128_o8_0_S1x128) broadcasts_S1x128_S16x128) b,
    addf (broadcastTo S16x128 (extractStridedSlice S1x128 ![9, 0] a slices_S16x128_o9_0_S1x128) broadcasts_S1x128_S16x128) b,
    addf (broadcastTo S16x128 (extractStridedSlice S1x128 ![10, 0] a slices_S16x128_o10_0_S1x128) broadcasts_S1x128_S16x128) b,
    addf (broadcastTo S16x128 (extractStridedSlice S1x128 ![11, 0] a slices_S16x128_o11_0_S1x128) broadcasts_S1x128_S16x128) b,
    addf (broadcastTo S16x128 (extractStridedSlice S1x128 ![12, 0] a slices_S16x128_o12_0_S1x128) broadcasts_S1x128_S16x128) b,
    addf (broadcastTo S16x128 (extractStridedSlice S1x128 ![13, 0] a slices_S16x128_o13_0_S1x128) broadcasts_S1x128_S16x128) b,
    addf (broadcastTo S16x128 (extractStridedSlice S1x128 ![14, 0] a slices_S16x128_o14_0_S1x128) broadcasts_S1x128_S16x128) b,
    addf (broadcastTo S16x128 (extractStridedSlice S1x128 ![15, 0] a slices_S16x128_o15_0_S1x128) broadcasts_S1x128_S16x128) b]

theorem candR_apply (a b : FVec Ideal S16x128 .f32) (r j : Fin 16) (t : Fin 128) : candR a b r (ix2 j t) = a (ix2 r t) + b (ix2 j t) := by
  match r with
  | ⟨0, _⟩ => exact cand_row_0 a b j t
  | ⟨1, _⟩ => exact cand_row_1 a b j t
  | ⟨2, _⟩ => exact cand_row_2 a b j t
  | ⟨3, _⟩ => exact cand_row_3 a b j t
  | ⟨4, _⟩ => exact cand_row_4 a b j t
  | ⟨5, _⟩ => exact cand_row_5 a b j t
  | ⟨6, _⟩ => exact cand_row_6 a b j t
  | ⟨7, _⟩ => exact cand_row_7 a b j t
  | ⟨8, _⟩ => exact cand_row_8 a b j t
  | ⟨9, _⟩ => exact cand_row_9 a b j t
  | ⟨10, _⟩ => exact cand_row_10 a b j t
  | ⟨11, _⟩ => exact cand_row_11 a b j t
  | ⟨12, _⟩ => exact cand_row_12 a b j t
  | ⟨13, _⟩ => exact cand_row_13 a b j t
  | ⟨14, _⟩ => exact cand_row_14 a b j t
  | ⟨15, _⟩ => exact cand_row_15 a b j t
  | ⟨n + 16, h⟩ => exact absurd h (by omega)

/-- Entries of `cand`. -/
theorem cand_apply (a b : FVec Ideal S16x128 .f32) (i : Fin 256) (t : Fin 128) :
    cand (F := Ideal) a b (ix2 i t) = a (ix2 ⟨i.val / 16, by omega⟩ t) + b (ix2 ⟨i.val % 16, by omega⟩ t) :=
  (rows256 (candR a b) _ i t).trans (candR_apply a b ⟨i.val / 16, by omega⟩ ⟨i.val % 16, by omega⟩ t)

theorem expert_row_0 (a b : FVec Ideal S16x128 .f32) (j : Fin 16) (t : Fin 128) :
    (addf (broadcastTo S16x128 (mulf (extractStridedSlice S1x128 ![0, 0] a slices_S16x128_o0_0_S1x128) (broadcast S1x128 (Scalar.ofBits .f32 0x43000000#32 : Ideal .f32))) broadcasts_S1x128_S16x128) b : FVec Ideal S16x128 .f32) (ix2 j t) = a (ix2 0 t) * (((128 : ℕ) : ℝ) : EReal) + b (ix2 j t) := by
  rw [← c_128]
  pointwise

theorem expert_row_1 (a b : FVec Ideal S16x128 .f32) (j : Fin 16) (t : Fin 128) :
    (addf (broadcastTo S16x128 (mulf (extractStridedSlice S1x128 ![1, 0] a slices_S16x128_o1_0_S1x128) (broadcast S1x128 (Scalar.ofBits .f32 0x43000000#32 : Ideal .f32))) broadcasts_S1x128_S16x128) b : FVec Ideal S16x128 .f32) (ix2 j t) = a (ix2 1 t) * (((128 : ℕ) : ℝ) : EReal) + b (ix2 j t) := by
  rw [← c_128]
  pointwise

theorem expert_row_2 (a b : FVec Ideal S16x128 .f32) (j : Fin 16) (t : Fin 128) :
    (addf (broadcastTo S16x128 (mulf (extractStridedSlice S1x128 ![2, 0] a slices_S16x128_o2_0_S1x128) (broadcast S1x128 (Scalar.ofBits .f32 0x43000000#32 : Ideal .f32))) broadcasts_S1x128_S16x128) b : FVec Ideal S16x128 .f32) (ix2 j t) = a (ix2 2 t) * (((128 : ℕ) : ℝ) : EReal) + b (ix2 j t) := by
  rw [← c_128]
  pointwise

theorem expert_row_3 (a b : FVec Ideal S16x128 .f32) (j : Fin 16) (t : Fin 128) :
    (addf (broadcastTo S16x128 (mulf (extractStridedSlice S1x128 ![3, 0] a slices_S16x128_o3_0_S1x128) (broadcast S1x128 (Scalar.ofBits .f32 0x43000000#32 : Ideal .f32))) broadcasts_S1x128_S16x128) b : FVec Ideal S16x128 .f32) (ix2 j t) = a (ix2 3 t) * (((128 : ℕ) : ℝ) : EReal) + b (ix2 j t) := by
  rw [← c_128]
  pointwise

theorem expert_row_4 (a b : FVec Ideal S16x128 .f32) (j : Fin 16) (t : Fin 128) :
    (addf (broadcastTo S16x128 (mulf (extractStridedSlice S1x128 ![4, 0] a slices_S16x128_o4_0_S1x128) (broadcast S1x128 (Scalar.ofBits .f32 0x43000000#32 : Ideal .f32))) broadcasts_S1x128_S16x128) b : FVec Ideal S16x128 .f32) (ix2 j t) = a (ix2 4 t) * (((128 : ℕ) : ℝ) : EReal) + b (ix2 j t) := by
  rw [← c_128]
  pointwise

theorem expert_row_5 (a b : FVec Ideal S16x128 .f32) (j : Fin 16) (t : Fin 128) :
    (addf (broadcastTo S16x128 (mulf (extractStridedSlice S1x128 ![5, 0] a slices_S16x128_o5_0_S1x128) (broadcast S1x128 (Scalar.ofBits .f32 0x43000000#32 : Ideal .f32))) broadcasts_S1x128_S16x128) b : FVec Ideal S16x128 .f32) (ix2 j t) = a (ix2 5 t) * (((128 : ℕ) : ℝ) : EReal) + b (ix2 j t) := by
  rw [← c_128]
  pointwise

theorem expert_row_6 (a b : FVec Ideal S16x128 .f32) (j : Fin 16) (t : Fin 128) :
    (addf (broadcastTo S16x128 (mulf (extractStridedSlice S1x128 ![6, 0] a slices_S16x128_o6_0_S1x128) (broadcast S1x128 (Scalar.ofBits .f32 0x43000000#32 : Ideal .f32))) broadcasts_S1x128_S16x128) b : FVec Ideal S16x128 .f32) (ix2 j t) = a (ix2 6 t) * (((128 : ℕ) : ℝ) : EReal) + b (ix2 j t) := by
  rw [← c_128]
  pointwise

theorem expert_row_7 (a b : FVec Ideal S16x128 .f32) (j : Fin 16) (t : Fin 128) :
    (addf (broadcastTo S16x128 (mulf (extractStridedSlice S1x128 ![7, 0] a slices_S16x128_o7_0_S1x128) (broadcast S1x128 (Scalar.ofBits .f32 0x43000000#32 : Ideal .f32))) broadcasts_S1x128_S16x128) b : FVec Ideal S16x128 .f32) (ix2 j t) = a (ix2 7 t) * (((128 : ℕ) : ℝ) : EReal) + b (ix2 j t) := by
  rw [← c_128]
  pointwise

theorem expert_row_8 (a b : FVec Ideal S16x128 .f32) (j : Fin 16) (t : Fin 128) :
    (addf (broadcastTo S16x128 (mulf (extractStridedSlice S1x128 ![8, 0] a slices_S16x128_o8_0_S1x128) (broadcast S1x128 (Scalar.ofBits .f32 0x43000000#32 : Ideal .f32))) broadcasts_S1x128_S16x128) b : FVec Ideal S16x128 .f32) (ix2 j t) = a (ix2 8 t) * (((128 : ℕ) : ℝ) : EReal) + b (ix2 j t) := by
  rw [← c_128]
  pointwise

theorem expert_row_9 (a b : FVec Ideal S16x128 .f32) (j : Fin 16) (t : Fin 128) :
    (addf (broadcastTo S16x128 (mulf (extractStridedSlice S1x128 ![9, 0] a slices_S16x128_o9_0_S1x128) (broadcast S1x128 (Scalar.ofBits .f32 0x43000000#32 : Ideal .f32))) broadcasts_S1x128_S16x128) b : FVec Ideal S16x128 .f32) (ix2 j t) = a (ix2 9 t) * (((128 : ℕ) : ℝ) : EReal) + b (ix2 j t) := by
  rw [← c_128]
  pointwise

theorem expert_row_10 (a b : FVec Ideal S16x128 .f32) (j : Fin 16) (t : Fin 128) :
    (addf (broadcastTo S16x128 (mulf (extractStridedSlice S1x128 ![10, 0] a slices_S16x128_o10_0_S1x128) (broadcast S1x128 (Scalar.ofBits .f32 0x43000000#32 : Ideal .f32))) broadcasts_S1x128_S16x128) b : FVec Ideal S16x128 .f32) (ix2 j t) = a (ix2 10 t) * (((128 : ℕ) : ℝ) : EReal) + b (ix2 j t) := by
  rw [← c_128]
  pointwise

theorem expert_row_11 (a b : FVec Ideal S16x128 .f32) (j : Fin 16) (t : Fin 128) :
    (addf (broadcastTo S16x128 (mulf (extractStridedSlice S1x128 ![11, 0] a slices_S16x128_o11_0_S1x128) (broadcast S1x128 (Scalar.ofBits .f32 0x43000000#32 : Ideal .f32))) broadcasts_S1x128_S16x128) b : FVec Ideal S16x128 .f32) (ix2 j t) = a (ix2 11 t) * (((128 : ℕ) : ℝ) : EReal) + b (ix2 j t) := by
  rw [← c_128]
  pointwise

theorem expert_row_12 (a b : FVec Ideal S16x128 .f32) (j : Fin 16) (t : Fin 128) :
    (addf (broadcastTo S16x128 (mulf (extractStridedSlice S1x128 ![12, 0] a slices_S16x128_o12_0_S1x128) (broadcast S1x128 (Scalar.ofBits .f32 0x43000000#32 : Ideal .f32))) broadcasts_S1x128_S16x128) b : FVec Ideal S16x128 .f32) (ix2 j t) = a (ix2 12 t) * (((128 : ℕ) : ℝ) : EReal) + b (ix2 j t) := by
  rw [← c_128]
  pointwise

theorem expert_row_13 (a b : FVec Ideal S16x128 .f32) (j : Fin 16) (t : Fin 128) :
    (addf (broadcastTo S16x128 (mulf (extractStridedSlice S1x128 ![13, 0] a slices_S16x128_o13_0_S1x128) (broadcast S1x128 (Scalar.ofBits .f32 0x43000000#32 : Ideal .f32))) broadcasts_S1x128_S16x128) b : FVec Ideal S16x128 .f32) (ix2 j t) = a (ix2 13 t) * (((128 : ℕ) : ℝ) : EReal) + b (ix2 j t) := by
  rw [← c_128]
  pointwise

theorem expert_row_14 (a b : FVec Ideal S16x128 .f32) (j : Fin 16) (t : Fin 128) :
    (addf (broadcastTo S16x128 (mulf (extractStridedSlice S1x128 ![14, 0] a slices_S16x128_o14_0_S1x128) (broadcast S1x128 (Scalar.ofBits .f32 0x43000000#32 : Ideal .f32))) broadcasts_S1x128_S16x128) b : FVec Ideal S16x128 .f32) (ix2 j t) = a (ix2 14 t) * (((128 : ℕ) : ℝ) : EReal) + b (ix2 j t) := by
  rw [← c_128]
  pointwise

theorem expert_row_15 (a b : FVec Ideal S16x128 .f32) (j : Fin 16) (t : Fin 128) :
    (addf (broadcastTo S16x128 (mulf (extractStridedSlice S1x128 ![15, 0] a slices_S16x128_o15_0_S1x128) (broadcast S1x128 (Scalar.ofBits .f32 0x43000000#32 : Ideal .f32))) broadcasts_S1x128_S16x128) b : FVec Ideal S16x128 .f32) (ix2 j t) = a (ix2 15 t) * (((128 : ℕ) : ℝ) : EReal) + b (ix2 j t) := by
  rw [← c_128]
  pointwise

/-- The sixteen blocks of `expert`. -/
def expertR (a b : FVec Ideal S16x128 .f32) : Fin 16 → FVec Ideal S16x128 .f32 :=
  ![addf (broadcastTo S16x128 (mulf (extractStridedSlice S1x128 ![0, 0] a slices_S16x128_o0_0_S1x128) (broadcast S1x128 (Scalar.ofBits .f32 0x43000000#32 : Ideal .f32))) broadcasts_S1x128_S16x128) b,
    addf (broadcastTo S16x128 (mulf (extractStridedSlice S1x128 ![1, 0] a slices_S16x128_o1_0_S1x128) (broadcast S1x128 (Scalar.ofBits .f32 0x43000000#32 : Ideal .f32))) broadcasts_S1x128_S16x128) b,
    addf (broadcastTo S16x128 (mulf (extractStridedSlice S1x128 ![2, 0] a slices_S16x128_o2_0_S1x128) (broadcast S1x128 (Scalar.ofBits .f32 0x43000000#32 : Ideal .f32))) broadcasts_S1x128_S16x128) b,
    addf (broadcastTo S16x128 (mulf (extractStridedSlice S1x128 ![3, 0] a slices_S16x128_o3_0_S1x128) (broadcast S1x128 (Scalar.ofBits .f32 0x43000000#32 : Ideal .f32))) broadcasts_S1x128_S16x128) b,
    addf (broadcastTo S16x128 (mulf (extractStridedSlice S1x128 ![4, 0] a slices_S16x128_o4_0_S1x128) (broadcast S1x128 (Scalar.ofBits .f32 0x43000000#32 : Ideal .f32))) broadcasts_S1x128_S16x128) b,
    addf (broadcastTo S16x128 (mulf (extractStridedSlice S1x128 ![5, 0] a slices_S16x128_o5_0_S1x128) (broadcast S1x128 (Scalar.ofBits .f32 0x43000000#32 : Ideal .f32))) broadcasts_S1x128_S16x128) b,
    addf (broadcastTo S16x128 (mulf (extractStridedSlice S1x128 ![6, 0] a slices_S16x128_o6_0_S1x128) (broadcast S1x128 (Scalar.ofBits .f32 0x43000000#32 : Ideal .f32))) broadcasts_S1x128_S16x128) b,
    addf (broadcastTo S16x128 (mulf (extractStridedSlice S1x128 ![7, 0] a slices_S16x128_o7_0_S1x128) (broadcast S1x128 (Scalar.ofBits .f32 0x43000000#32 : Ideal .f32))) broadcasts_S1x128_S16x128) b,
    addf (broadcastTo S16x128 (mulf (extractStridedSlice S1x128 ![8, 0] a slices_S16x128_o8_0_S1x128) (broadcast S1x128 (Scalar.ofBits .f32 0x43000000#32 : Ideal .f32))) broadcasts_S1x128_S16x128) b,
    addf (broadcastTo S16x128 (mulf (extractStridedSlice S1x128 ![9, 0] a slices_S16x128_o9_0_S1x128) (broadcast S1x128 (Scalar.ofBits .f32 0x43000000#32 : Ideal .f32))) broadcasts_S1x128_S16x128) b,
    addf (broadcastTo S16x128 (mulf (extractStridedSlice S1x128 ![10, 0] a slices_S16x128_o10_0_S1x128) (broadcast S1x128 (Scalar.ofBits .f32 0x43000000#32 : Ideal .f32))) broadcasts_S1x128_S16x128) b,
    addf (broadcastTo S16x128 (mulf (extractStridedSlice S1x128 ![11, 0] a slices_S16x128_o11_0_S1x128) (broadcast S1x128 (Scalar.ofBits .f32 0x43000000#32 : Ideal .f32))) broadcasts_S1x128_S16x128) b,
    addf (broadcastTo S16x128 (mulf (extractStridedSlice S1x128 ![12, 0] a slices_S16x128_o12_0_S1x128) (broadcast S1x128 (Scalar.ofBits .f32 0x43000000#32 : Ideal .f32))) broadcasts_S1x128_S16x128) b,
    addf (broadcastTo S16x128 (mulf (extractStridedSlice S1x128 ![13, 0] a slices_S16x128_o13_0_S1x128) (broadcast S1x128 (Scalar.ofBits .f32 0x43000000#32 : Ideal .f32))) broadcasts_S1x128_S16x128) b,
    addf (broadcastTo S16x128 (mulf (extractStridedSlice S1x128 ![14, 0] a slices_S16x128_o14_0_S1x128) (broadcast S1x128 (Scalar.ofBits .f32 0x43000000#32 : Ideal .f32))) broadcasts_S1x128_S16x128) b,
    addf (broadcastTo S16x128 (mulf (extractStridedSlice S1x128 ![15, 0] a slices_S16x128_o15_0_S1x128) (broadcast S1x128 (Scalar.ofBits .f32 0x43000000#32 : Ideal .f32))) broadcasts_S1x128_S16x128) b]

theorem expertR_apply (a b : FVec Ideal S16x128 .f32) (r j : Fin 16) (t : Fin 128) : expertR a b r (ix2 j t) = a (ix2 r t) * (((128 : ℕ) : ℝ) : EReal) + b (ix2 j t) := by
  match r with
  | ⟨0, _⟩ => exact expert_row_0 a b j t
  | ⟨1, _⟩ => exact expert_row_1 a b j t
  | ⟨2, _⟩ => exact expert_row_2 a b j t
  | ⟨3, _⟩ => exact expert_row_3 a b j t
  | ⟨4, _⟩ => exact expert_row_4 a b j t
  | ⟨5, _⟩ => exact expert_row_5 a b j t
  | ⟨6, _⟩ => exact expert_row_6 a b j t
  | ⟨7, _⟩ => exact expert_row_7 a b j t
  | ⟨8, _⟩ => exact expert_row_8 a b j t
  | ⟨9, _⟩ => exact expert_row_9 a b j t
  | ⟨10, _⟩ => exact expert_row_10 a b j t
  | ⟨11, _⟩ => exact expert_row_11 a b j t
  | ⟨12, _⟩ => exact expert_row_12 a b j t
  | ⟨13, _⟩ => exact expert_row_13 a b j t
  | ⟨14, _⟩ => exact expert_row_14 a b j t
  | ⟨15, _⟩ => exact expert_row_15 a b j t
  | ⟨n + 16, h⟩ => exact absurd h (by omega)

/-- Entries of `expert`. -/
theorem expert_apply (a b : FVec Ideal S16x128 .f32) (i : Fin 256) (t : Fin 128) :
    expert (F := Ideal) a b (ix2 i t) = a (ix2 ⟨i.val / 16, by omega⟩ t) * (((128 : ℕ) : ℝ) : EReal) + b (ix2 ⟨i.val % 16, by omega⟩ t) :=
  (rows256 (expertR a b) _ i t).trans (expertR_apply a b ⟨i.val / 16, by omega⟩ ⟨i.val % 16, by omega⟩ t)

/-- The gates. -/
theorem gate_apply (v : FVec Ideal S16x128 .f32) (k : Fin 16) (t : Fin 128) : (gate (F := Ideal) v) (ix3 0 k t)
    = Ideal.div (Ideal.exp (v (ix2 k t) - v (ix2 0 t))) (∑ x : Fin 16, Ideal.exp (v (ix2 x t) - v (ix2 0 t))) := by
  unfold gate
  pointwise

/-- The queries. -/
theorem qry_apply (a : Vec Ideal S128x2048 .f32) (b : Vec Ideal S2048x2048 .bf16) (k : Fin 128) (t : Fin 2048) :
    (qry (F := Ideal) a b) (ix2 k t) = ∑ x : Fin 2048, a (ix2 k x) * b (ix2 x t) := by
  unfold qry k0_pay2
  pointwise

/-- The experts' numbers as words. -/
theorem pay1_apply (x : FVec Ideal S16x128 .f32) (k : Fin 16) (t : Fin 128) :
    (k0_pay1 (F := Ideal) x) (ix3 0 k t) = Ideal.fptosi 32 (x (ix2 k t)) := by
  unfold k0_pay1
  pointwise
  try rfl

/-- A shortlist stored and read back. -/
theorem ld_st (x : FVec Ideal S16x128 .f32) : ld (F := Ideal) (st (F := Ideal) x) = x := by
  funext j
  obtain ⟨r, t, rfl⟩ : ∃ r t, j = ix2 r t := ⟨_, _, eq_ix2 j⟩
  unfold ld st
  pointwise

theorem sc_0_apply (q : FVec Ideal S128x2048 .bf16) (x : Vec Ideal S1x128x128 .bf16) (k t : Fin 128) :
    (sc_0 (F := Ideal) q x) (ix2 k t) = ∑ d : Fin 128, x (ix3 0 k d) * q (ix2 t ⟨0 + d.val, by omega⟩) := by
  unfold sc_0
  pointwise

theorem sc_1_apply (q : FVec Ideal S128x2048 .bf16) (x : Vec Ideal S1x128x128 .bf16) (k t : Fin 128) :
    (sc_1 (F := Ideal) q x) (ix2 k t) = ∑ d : Fin 128, x (ix3 0 k d) * q (ix2 t ⟨128 + d.val, by omega⟩) := by
  unfold sc_1
  pointwise

theorem sc_2_apply (q : FVec Ideal S128x2048 .bf16) (x : Vec Ideal S1x128x128 .bf16) (k t : Fin 128) :
    (sc_2 (F := Ideal) q x) (ix2 k t) = ∑ d : Fin 128, x (ix3 0 k d) * q (ix2 t ⟨256 + d.val, by omega⟩) := by
  unfold sc_2
  pointwise

theorem sc_3_apply (q : FVec Ideal S128x2048 .bf16) (x : Vec Ideal S1x128x128 .bf16) (k t : Fin 128) :
    (sc_3 (F := Ideal) q x) (ix2 k t) = ∑ d : Fin 128, x (ix3 0 k d) * q (ix2 t ⟨384 + d.val, by omega⟩) := by
  unfold sc_3
  pointwise

theorem sc_4_apply (q : FVec Ideal S128x2048 .bf16) (x : Vec Ideal S1x128x128 .bf16) (k t : Fin 128) :
    (sc_4 (F := Ideal) q x) (ix2 k t) = ∑ d : Fin 128, x (ix3 0 k d) * q (ix2 t ⟨512 + d.val, by omega⟩) := by
  unfold sc_4
  pointwise

theorem sc_5_apply (q : FVec Ideal S128x2048 .bf16) (x : Vec Ideal S1x128x128 .bf16) (k t : Fin 128) :
    (sc_5 (F := Ideal) q x) (ix2 k t) = ∑ d : Fin 128, x (ix3 0 k d) * q (ix2 t ⟨640 + d.val, by omega⟩) := by
  unfold sc_5
  pointwise

theorem sc_6_apply (q : FVec Ideal S128x2048 .bf16) (x : Vec Ideal S1x128x128 .bf16) (k t : Fin 128) :
    (sc_6 (F := Ideal) q x) (ix2 k t) = ∑ d : Fin 128, x (ix3 0 k d) * q (ix2 t ⟨768 + d.val, by omega⟩) := by
  unfold sc_6
  pointwise

theorem sc_7_apply (q : FVec Ideal S128x2048 .bf16) (x : Vec Ideal S1x128x128 .bf16) (k t : Fin 128) :
    (sc_7 (F := Ideal) q x) (ix2 k t) = ∑ d : Fin 128, x (ix3 0 k d) * q (ix2 t ⟨896 + d.val, by omega⟩) := by
  unfold sc_7
  pointwise

theorem sc_8_apply (q : FVec Ideal S128x2048 .bf16) (x : Vec Ideal S1x128x128 .bf16) (k t : Fin 128) :
    (sc_8 (F := Ideal) q x) (ix2 k t) = ∑ d : Fin 128, x (ix3 0 k d) * q (ix2 t ⟨1024 + d.val, by omega⟩) := by
  unfold sc_8
  pointwise

theorem sc_9_apply (q : FVec Ideal S128x2048 .bf16) (x : Vec Ideal S1x128x128 .bf16) (k t : Fin 128) :
    (sc_9 (F := Ideal) q x) (ix2 k t) = ∑ d : Fin 128, x (ix3 0 k d) * q (ix2 t ⟨1152 + d.val, by omega⟩) := by
  unfold sc_9
  pointwise

theorem sc_10_apply (q : FVec Ideal S128x2048 .bf16) (x : Vec Ideal S1x128x128 .bf16) (k t : Fin 128) :
    (sc_10 (F := Ideal) q x) (ix2 k t) = ∑ d : Fin 128, x (ix3 0 k d) * q (ix2 t ⟨1280 + d.val, by omega⟩) := by
  unfold sc_10
  pointwise

theorem sc_11_apply (q : FVec Ideal S128x2048 .bf16) (x : Vec Ideal S1x128x128 .bf16) (k t : Fin 128) :
    (sc_11 (F := Ideal) q x) (ix2 k t) = ∑ d : Fin 128, x (ix3 0 k d) * q (ix2 t ⟨1408 + d.val, by omega⟩) := by
  unfold sc_11
  pointwise

theorem sc_12_apply (q : FVec Ideal S128x2048 .bf16) (x : Vec Ideal S1x128x128 .bf16) (k t : Fin 128) :
    (sc_12 (F := Ideal) q x) (ix2 k t) = ∑ d : Fin 128, x (ix3 0 k d) * q (ix2 t ⟨1536 + d.val, by omega⟩) := by
  unfold sc_12
  pointwise

theorem sc_13_apply (q : FVec Ideal S128x2048 .bf16) (x : Vec Ideal S1x128x128 .bf16) (k t : Fin 128) :
    (sc_13 (F := Ideal) q x) (ix2 k t) = ∑ d : Fin 128, x (ix3 0 k d) * q (ix2 t ⟨1664 + d.val, by omega⟩) := by
  unfold sc_13
  pointwise

theorem sc_14_apply (q : FVec Ideal S128x2048 .bf16) (x : Vec Ideal S1x128x128 .bf16) (k t : Fin 128) :
    (sc_14 (F := Ideal) q x) (ix2 k t) = ∑ d : Fin 128, x (ix3 0 k d) * q (ix2 t ⟨1792 + d.val, by omega⟩) := by
  unfold sc_14
  pointwise

theorem sc_15_apply (q : FVec Ideal S128x2048 .bf16) (x : Vec Ideal S1x128x128 .bf16) (k t : Fin 128) :
    (sc_15 (F := Ideal) q x) (ix2 k t) = ∑ d : Fin 128, x (ix3 0 k d) * q (ix2 t ⟨1920 + d.val, by omega⟩) := by
  unfold sc_15
  pointwise

end Cert.Proof.RouteRead

end
-- ==== Proof.RouteSpec.lean ====
/-
  What the router gives a token, on its score columns: two shortlists of sixteen keys, the sixteen best pairs of them, the
  softmax over those and the numbers of the experts they name.
-/
module

public import proofs.«01_k».proof.Proof.RouteSort

@[expose] public section

noncomputable section

namespace Cert.Proof.RouteSpec

open Idealize.ShloMosaic Cert.Proof.RouteRounds Cert.Proof.RouteSort

/-- A token's score of a table's key: the key against the table's slice of the token's query. -/
def score (a : Fin 2048 → EReal) (w : Fin 2048 → Fin 2048 → EReal) (key : Fin 16 → Fin 128 → Fin 128 → EReal) (p : Fin 16) (k : Fin 128) : EReal :=
  ∑ d : Fin 128, key p k d * ∑ x : Fin 2048, a x * w x ⟨128 * p.val + d.val, by omega⟩

/-- The key a shortlist holds at a place. -/
def key (s : Fin 128 → EReal) (r : Fin 16) : Fin 128 := ord s ⟨r.val, by omega⟩

/-- The sum of a pair, by the pair's number. -/
def pairs (s0 s1 : Fin 128 → EReal) (i : Fin 256) : EReal :=
  s0 (key s0 ⟨i.val / 16, by omega⟩) + s1 (key s1 ⟨i.val % 16, by omega⟩)

/-- The pair at a place among the best. -/
def pair (s0 s1 : Fin 128 → EReal) (r : Fin 16) : Fin 256 := ord (pairs s0 s1) ⟨r.val, by omega⟩

/-- Its sum. -/
def bestS (s0 s1 : Fin 128 → EReal) (r : Fin 16) : EReal := pairs s0 s1 (pair s0 s1 r)

/-- Softmax over the best sums. -/
def gateS (s0 s1 : Fin 128 → EReal) (r : Fin 16) : EReal :=
  Ideal.div (Ideal.exp (bestS s0 s1 r - bestS s0 s1 0)) (∑ x : Fin 16, Ideal.exp (bestS s0 s1 x - bestS s0 s1 0))

/-- The first key of the pair at a place. -/
def row0 (s0 s1 : Fin 128 → EReal) (r : Fin 16) : Fin 128 := key s0 ⟨(pair s0 s1 r).val / 16, by omega⟩

/-- The second. -/
def row1 (s0 s1 : Fin 128 → EReal) (r : Fin 16) : Fin 128 := key s1 ⟨(pair s0 s1 r).val % 16, by omega⟩

/-- The expert at a place. -/
def expertS (s0 s1 : Fin 128 → EReal) (r : Fin 16) : BitVec 32 := BitVec.ofNat 32 ((row0 s0 s1 r).val * 128 + (row1 s0 s1 r).val)

end Cert.Proof.RouteSpec

end
-- ==== Proof.RouteBlock.lean ====
/-
  What a point of the router leaves: by head, place and token, the gates and the experts of the token's scores (`out3_apply`,
  `out4_apply`).
-/
module

public import proofs.«01_k».proof.Proof.RouteRead
public import proofs.«01_k».proof.Proof.RouteSpec
public import Idealize.ShloMosaic.Lib.VecWindow

@[expose] public section

set_option maxRecDepth 16384

noncomputable section

namespace Cert.Proof.RouteBlock

open Cert.RouteIdeal Cert.RouteIdeal.Gen Idealize.ShloMosaic Idealize.ShloMosaic.TcCoe Idealize.SL.Sem Idealize.ShloMosaic.Tactic
open Pointwise Cert.Proof.RouteFold Cert.Proof.RouteRounds Cert.Proof.RouteSort Cert.Proof.RouteRead Cert.Proof.RouteSpec

/-! ## A head, on its two tables' score columns -/

theorem cand_col (a b : FVec Ideal S128x128 .f32) (t : Fin 128) (ha : ∀ k, a (ix2 k t) ≠ ⊥) (hb : ∀ k, b (ix2 k t) ≠ ⊥) :
    col2 (cand (F := Ideal) (topV a) (topV b)) t = pairs (col1 a t) (col1 b t) := by
  funext i
  show cand (F := Ideal) (topV a) (topV b) (ix2 i t) = _
  rw [cand_apply, topV_apply a t ha, topV_apply b t hb]
  rfl

theorem pairs_ne_bot (s0 s1 : Fin 128 → EReal) (h0 : ∀ k, s0 k ≠ ⊥) (h1 : ∀ k, s1 k ≠ ⊥) (i : Fin 256) : pairs s0 s1 i ≠ ⊥ := by
  unfold pairs
  rw [Ne, EReal.add_eq_bot_iff, not_or]
  exact ⟨h0 _, h1 _⟩

theorem cand_ne_bot (a b : FVec Ideal S128x128 .f32) (t : Fin 128) (ha : ∀ k, a (ix2 k t) ≠ ⊥) (hb : ∀ k, b (ix2 k t) ≠ ⊥) (i : Fin 256) :
    cand (F := Ideal) (topV a) (topV b) (ix2 i t) ≠ ⊥ := by
  have h := congrFun (cand_col a b t ha hb) i
  rw [show cand (F := Ideal) (topV a) (topV b) (ix2 i t) = pairs (col1 a t) (col1 b t) i from h]
  exact pairs_ne_bot _ _ ha hb i

theorem best_head (a b : FVec Ideal S128x128 .f32) (t : Fin 128) (ha : ∀ k, a (ix2 k t) ≠ ⊥) (hb : ∀ k, b (ix2 k t) ≠ ⊥) (r : Fin 16) :
    best (F := Ideal) (cand (topV a) (topV b)) (ix2 r t) = bestS (col1 a t) (col1 b t) r := by
  rw [best_apply _ t (cand_ne_bot a b t ha hb), cand_col a b t ha hb]
  exact congrFun (cand_col a b t ha hb) _

/-- A head's gates. -/
theorem gate_head (a b : FVec Ideal S128x128 .f32) (t : Fin 128) (ha : ∀ k, a (ix2 k t) ≠ ⊥) (hb : ∀ k, b (ix2 k t) ≠ ⊥) (r : Fin 16) :
    gate (F := Ideal) (best (cand (topV a) (topV b))) (ix3 0 r t) = gateS (col1 a t) (col1 b t) r := by
  rw [gate_apply]
  simp only [best_head a b t ha hb]
  rfl

/-- A whole number below 2³¹ through the conversion. -/
theorem fptosi_nat (n : ℕ) (hn : n < 2 ^ 31) : Ideal.fptosi 32 ((n : ℝ) : EReal) = BitVec.ofNat 32 n := by
  unfold Ideal.fptosi
  have h : Ideal.toIntClamped (-(2 ^ (32 - 1) : Nat)) ((2 ^ (32 - 1) : Nat) - 1) ((n : ℝ) : EReal) = (n : Int) := by
    show max _ (min _ (if (0 : ℝ) ≤ (n : ℝ) then ⌊(n : ℝ)⌋ else ⌈(n : ℝ)⌉)) = (n : Int)
    rw [if_pos (Nat.cast_nonneg n), Int.floor_natCast]
    have : (n : Int) < 2 ^ 31 := by exact_mod_cast hn
    norm_num
    omega
  rw [h, BitVec.ofInt_natCast]

/-- A head's experts. -/
theorem expert_head (a b : FVec Ideal S128x128 .f32) (t : Fin 128) (ha : ∀ k, a (ix2 k t) ≠ ⊥) (hb : ∀ k, b (ix2 k t) ≠ ⊥) (r : Fin 16) :
    k0_pay1 (F := Ideal) (picks (expert (topI a) (topI b)) (cand (topV a) (topV b))) (ix3 0 r t) = expertS (col1 a t) (col1 b t) r := by
  rw [pay1_apply, picks_apply _ _ t (cand_ne_bot a b t ha hb), cand_col a b t ha hb, expert_apply, topI_apply a t ha, topI_apply b t hb]
  have h0 := (row0 (col1 a t) (col1 b t) r).isLt
  have h1 := (row1 (col1 a t) (col1 b t) r).isLt
  unfold expertS
  refine Eq.trans ?_ (fptosi_nat _ (by omega))
  refine congrArg (Ideal.fptosi 32) ?_
  push_cast
  rfl

/-! ## The reads of the scratch -/

theorem scr_skip (v : View sig .tc .vmem S16x16x128 .f32) (a b : ℕ) (ha) (hb) (hab : a ≠ b)
    (w : (Rect.unit (s := S16x16x128) ![a, 0, 0] S1x16x128.size ha).shape.Idx → Elt Ideal .f32) (L : List (View.Piece (Elt Ideal) S16x16x128 .f32)) :
    v.readCov (⟨Rect.unit (s := S16x16x128) ![a, 0, 0] S1x16x128.size ha, w⟩ :: L) (Rect.unit (s := S16x16x128) ![b, 0, 0] S1x16x128.size hb).toLoadRect
      = v.readCov L (Rect.unit (s := S16x16x128) ![b, 0, 0] S1x16x128.size hb).toLoadRect := by
  rw [View.readCov_eq_canon', View.readCov_eq_canon']
  funext j
  refine View.canon_cons_of_not_mem _ _ ?_
  rw [Rect.mem_set_unit]
  intro g
  have g := g 0
  have hj : (j 0).val < 1 := (j 0).isLt
  have g1 : a ≤ b + 1 * (j 0).val := g.1
  have g2 : b + 1 * (j 0).val < a + 1 := g.2
  omega

/-- A table's part of the scratch, by number. -/
def rsn (a : Fin 16) : Rect S16x16x128 := Rect.unit (s := S16x16x128) ![a.val, 0, 0] S1x16x128.size (by
  intro d
  have := a.isLt
  match d with
  | ⟨0, _⟩ => show a.val + 1 ≤ 16; omega
  | ⟨1, _⟩ => show 0 + 16 ≤ 16; omega
  | ⟨2, _⟩ => show 0 + 128 ≤ 128; omega)

theorem rsn_skip (v : View sig .tc .vmem S16x16x128 .f32) (a b : Fin 16) (hab : a ≠ b) (w : FVec Ideal S1x16x128 .f32)
    (L : List (View.Piece (Elt Ideal) S16x16x128 .f32)) :
    v.readCov (⟨rsn a, w⟩ :: L) (rsn b).toLoadRect = v.readCov L (rsn b).toLoadRect :=
  scr_skip v a.val b.val _ _ (fun h => hab (Fin.ext h)) w L

theorem rsn_hit (v : View sig .tc .vmem S16x16x128 .f32) (a : Fin 16) (w : (rsn a).shape.Idx → Elt Ideal .f32)
    (L : List (View.Piece (Elt Ideal) S16x16x128 .f32)) :
    v.readCov (⟨rsn a, w⟩ :: L) (rsn a).toLoadRect = w :=
  View.readCov_cons_toLoadRect v (rsn a) w L

/-- The stores of the first tables, last first. -/
def stk (w : Fin 16 → FVec Ideal S1x16x128 .f32) : (n : ℕ) → n ≤ 16 → List (View.Piece (Elt Ideal) S16x16x128 .f32)
  | 0, _ => []
  | n + 1, h => ⟨rsn ⟨n, h⟩, w ⟨n, h⟩⟩ :: stk w n (Nat.le_of_succ_le h)

/-- A table's part reads back what was stored there. -/
theorem stk_read (v : View sig .tc .vmem S16x16x128 .f32) (w : Fin 16 → FVec Ideal S1x16x128 .f32) (n : ℕ) (hn : n ≤ 16) (b : Fin 16) (hb : b.val < n) :
    v.readCov (stk w n hn) (rsn b).toLoadRect = w b := by
  induction n with
  | zero => exact absurd hb (Nat.not_lt_zero _)
  | succ n ih =>
    by_cases e : b.val = n
    · have hb' : b = ⟨n, hn⟩ := Fin.ext e
      subst hb'
      exact rsn_hit v ⟨n, hn⟩ (w ⟨n, hn⟩) (stk w n (Nat.le_of_succ_le hn))
    · exact (rsn_skip v ⟨n, hn⟩ b (fun h => e (congrArg Fin.val h.symm)) (w ⟨n, hn⟩) (stk w n (Nat.le_of_succ_le hn))).trans (ih (Nat.le_of_succ_le hn) (by omega))

theorem svL_stk (s : Fin 16 → FVec Ideal S128x128 .f32) : svL (F := Ideal) s = stk (fun t => st (topV (s t))) 16 (le_refl _) := by
  sl_kernel_rfl

theorem svL_read_0 (v : View sig .tc .vmem S16x16x128 .f32) (s : Fin 16 → FVec Ideal S128x128 .f32) :
    ld (F := Ideal) (v.readCov (svL s) rs_0.toLoadRect) = topV (s 0) := by
  refine Eq.trans (congrArg (ld (F := Ideal)) ?_) (ld_st _)
  rw [svL_stk]
  exact stk_read v _ 16 (le_refl _) 0 (by decide)

theorem svL_read_1 (v : View sig .tc .vmem S16x16x128 .f32) (s : Fin 16 → FVec Ideal S128x128 .f32) :
    ld (F := Ideal) (v.readCov (svL s) rs_1.toLoadRect) = topV (s 1) := by
  refine Eq.trans (congrArg (ld (F := Ideal)) ?_) (ld_st _)
  rw [svL_stk]
  exact stk_read v _ 16 (le_refl _) 1 (by decide)

theorem svL_read_2 (v : View sig .tc .vmem S16x16x128 .f32) (s : Fin 16 → FVec Ideal S128x128 .f32) :
    ld (F := Ideal) (v.readCov (svL s) rs_2.toLoadRect) = topV (s 2) := by
  refine Eq.trans (congrArg (ld (F := Ideal)) ?_) (ld_st _)
  rw [svL_stk]
  exact stk_read v _ 16 (le_refl _) 2 (by decide)

theorem svL_read_3 (v : View sig .tc .vmem S16x16x128 .f32) (s : Fin 16 → FVec Ideal S128x128 .f32) :
    ld (F := Ideal) (v.readCov (svL s) rs_3.toLoadRect) = topV (s 3) := by
  refine Eq.trans (congrArg (ld (F := Ideal)) ?_) (ld_st _)
  rw [svL_stk]
  exact stk_read v _ 16 (le_refl _) 3 (by decide)

theorem svL_read_4 (v : View sig .tc .vmem S16x16x128 .f32) (s : Fin 16 → FVec Ideal S128x128 .f32) :
    ld (F := Ideal) (v.readCov (svL s) rs_4.toLoadRect) = topV (s 4) := by
  refine Eq.trans (congrArg (ld (F := Ideal)) ?_) (ld_st _)
  rw [svL_stk]
  exact stk_read v _ 16 (le_refl _) 4 (by decide)

theorem svL_read_5 (v : View sig .tc .vmem S16x16x128 .f32) (s : Fin 16 → FVec Ideal S128x128 .f32) :
    ld (F := Ideal) (v.readCov (svL s) rs_5.toLoadRect) = topV (s 5) := by
  refine Eq.trans (congrArg (ld (F := Ideal)) ?_) (ld_st _)
  rw [svL_stk]
  exact stk_read v _ 16 (le_refl _) 5 (by decide)

theorem svL_read_6 (v : View sig .tc .vmem S16x16x128 .f32) (s : Fin 16 → FVec Ideal S128x128 .f32) :
    ld (F := Ideal) (v.readCov (svL s) rs_6.toLoadRect) = topV (s 6) := by
  refine Eq.trans (congrArg (ld (F := Ideal)) ?_) (ld_st _)
  rw [svL_stk]
  exact stk_read v _ 16 (le_refl _) 6 (by decide)

theorem svL_read_7 (v : View sig .tc .vmem S16x16x128 .f32) (s : Fin 16 → FVec Ideal S128x128 .f32) :
    ld (F := Ideal) (v.readCov (svL s) rs_7.toLoadRect) = topV (s 7) := by
  refine Eq.trans (congrArg (ld (F := Ideal)) ?_) (ld_st _)
  rw [svL_stk]
  exact stk_read v _ 16 (le_refl _) 7 (by decide)

theorem svL_read_8 (v : View sig .tc .vmem S16x16x128 .f32) (s : Fin 16 → FVec Ideal S128x128 .f32) :
    ld (F := Ideal) (v.readCov (svL s) rs_8.toLoadRect) = topV (s 8) := by
  refine Eq.trans (congrArg (ld (F := Ideal)) ?_) (ld_st _)
  rw [svL_stk]
  exact stk_read v _ 16 (le_refl _) 8 (by decide)

theorem svL_read_9 (v : View sig .tc .vmem S16x16x128 .f32) (s : Fin 16 → FVec Ideal S128x128 .f32) :
    ld (F := Ideal) (v.readCov (svL s) rs_9.toLoadRect) = topV (s 9) := by
  refine Eq.trans (congrArg (ld (F := Ideal)) ?_) (ld_st _)
  rw [svL_stk]
  exact stk_read v _ 16 (le_refl _) 9 (by decide)

theorem svL_read_10 (v : View sig .tc .vmem S16x16x128 .f32) (s : Fin 16 → FVec Ideal S128x128 .f32) :
    ld (F := Ideal) (v.readCov (svL s) rs_10.toLoadRect) = topV (s 10) := by
  refine Eq.trans (congrArg (ld (F := Ideal)) ?_) (ld_st _)
  rw [svL_stk]
  exact stk_read v _ 16 (le_refl _) 10 (by decide)

theorem svL_read_11 (v : View sig .tc .vmem S16x16x128 .f32) (s : Fin 16 → FVec Ideal S128x128 .f32) :
    ld (F := Ideal) (v.readCov (svL s) rs_11.toLoadRect) = topV (s 11) := by
  refine Eq.trans (congrArg (ld (F := Ideal)) ?_) (ld_st _)
  rw [svL_stk]
  exact stk_read v _ 16 (le_refl _) 11 (by decide)

theorem svL_read_12 (v : View sig .tc .vmem S16x16x128 .f32) (s : Fin 16 → FVec Ideal S128x128 .f32) :
    ld (F := Ideal) (v.readCov (svL s) rs_12.toLoadRect) = topV (s 12) := by
  refine Eq.trans (congrArg (ld (F := Ideal)) ?_) (ld_st _)
  rw [svL_stk]
  exact stk_read v _ 16 (le_refl _) 12 (by decide)

theorem svL_read_13 (v : View sig .tc .vmem S16x16x128 .f32) (s : Fin 16 → FVec Ideal S128x128 .f32) :
    ld (F := Ideal) (v.readCov (svL s) rs_13.toLoadRect) = topV (s 13) := by
  refine Eq.trans (congrArg (ld (F := Ideal)) ?_) (ld_st _)
  rw [svL_stk]
  exact stk_read v _ 16 (le_refl _) 13 (by decide)

theorem svL_read_14 (v : View sig .tc .vmem S16x16x128 .f32) (s : Fin 16 → FVec Ideal S128x128 .f32) :
    ld (F := Ideal) (v.readCov (svL s) rs_14.toLoadRect) = topV (s 14) := by
  refine Eq.trans (congrArg (ld (F := Ideal)) ?_) (ld_st _)
  rw [svL_stk]
  exact stk_read v _ 16 (le_refl _) 14 (by decide)

theorem svL_read_15 (v : View sig .tc .vmem S16x16x128 .f32) (s : Fin 16 → FVec Ideal S128x128 .f32) :
    ld (F := Ideal) (v.readCov (svL s) rs_15.toLoadRect) = topV (s 15) := by
  refine Eq.trans (congrArg (ld (F := Ideal)) ?_) (ld_st _)
  rw [svL_stk]
  exact stk_read v _ 16 (le_refl _) 15 (by decide)

theorem siL_stk (s : Fin 16 → FVec Ideal S128x128 .f32) : siL (F := Ideal) s = stk (fun t => st (topI (s t))) 16 (le_refl _) := by
  sl_kernel_rfl

theorem siL_read_0 (v : View sig .tc .vmem S16x16x128 .f32) (s : Fin 16 → FVec Ideal S128x128 .f32) :
    ld (F := Ideal) (v.readCov (siL s) rs_0.toLoadRect) = topI (s 0) := by
  refine Eq.trans (congrArg (ld (F := Ideal)) ?_) (ld_st _)
  rw [siL_stk]
  exact stk_read v _ 16 (le_refl _) 0 (by decide)

theorem siL_read_1 (v : View sig .tc .vmem S16x16x128 .f32) (s : Fin 16 → FVec Ideal S128x128 .f32) :
    ld (F := Ideal) (v.readCov (siL s) rs_1.toLoadRect) = topI (s 1) := by
  refine Eq.trans (congrArg (ld (F := Ideal)) ?_) (ld_st _)
  rw [siL_stk]
  exact stk_read v _ 16 (le_refl _) 1 (by decide)

theorem siL_read_2 (v : View sig .tc .vmem S16x16x128 .f32) (s : Fin 16 → FVec Ideal S128x128 .f32) :
    ld (F := Ideal) (v.readCov (siL s) rs_2.toLoadRect) = topI (s 2) := by
  refine Eq.trans (congrArg (ld (F := Ideal)) ?_) (ld_st _)
  rw [siL_stk]
  exact stk_read v _ 16 (le_refl _) 2 (by decide)

theorem siL_read_3 (v : View sig .tc .vmem S16x16x128 .f32) (s : Fin 16 → FVec Ideal S128x128 .f32) :
    ld (F := Ideal) (v.readCov (siL s) rs_3.toLoadRect) = topI (s 3) := by
  refine Eq.trans (congrArg (ld (F := Ideal)) ?_) (ld_st _)
  rw [siL_stk]
  exact stk_read v _ 16 (le_refl _) 3 (by decide)

theorem siL_read_4 (v : View sig .tc .vmem S16x16x128 .f32) (s : Fin 16 → FVec Ideal S128x128 .f32) :
    ld (F := Ideal) (v.readCov (siL s) rs_4.toLoadRect) = topI (s 4) := by
  refine Eq.trans (congrArg (ld (F := Ideal)) ?_) (ld_st _)
  rw [siL_stk]
  exact stk_read v _ 16 (le_refl _) 4 (by decide)

theorem siL_read_5 (v : View sig .tc .vmem S16x16x128 .f32) (s : Fin 16 → FVec Ideal S128x128 .f32) :
    ld (F := Ideal) (v.readCov (siL s) rs_5.toLoadRect) = topI (s 5) := by
  refine Eq.trans (congrArg (ld (F := Ideal)) ?_) (ld_st _)
  rw [siL_stk]
  exact stk_read v _ 16 (le_refl _) 5 (by decide)

theorem siL_read_6 (v : View sig .tc .vmem S16x16x128 .f32) (s : Fin 16 → FVec Ideal S128x128 .f32) :
    ld (F := Ideal) (v.readCov (siL s) rs_6.toLoadRect) = topI (s 6) := by
  refine Eq.trans (congrArg (ld (F := Ideal)) ?_) (ld_st _)
  rw [siL_stk]
  exact stk_read v _ 16 (le_refl _) 6 (by decide)

theorem siL_read_7 (v : View sig .tc .vmem S16x16x128 .f32) (s : Fin 16 → FVec Ideal S128x128 .f32) :
    ld (F := Ideal) (v.readCov (siL s) rs_7.toLoadRect) = topI (s 7) := by
  refine Eq.trans (congrArg (ld (F := Ideal)) ?_) (ld_st _)
  rw [siL_stk]
  exact stk_read v _ 16 (le_refl _) 7 (by decide)

theorem siL_read_8 (v : View sig .tc .vmem S16x16x128 .f32) (s : Fin 16 → FVec Ideal S128x128 .f32) :
    ld (F := Ideal) (v.readCov (siL s) rs_8.toLoadRect) = topI (s 8) := by
  refine Eq.trans (congrArg (ld (F := Ideal)) ?_) (ld_st _)
  rw [siL_stk]
  exact stk_read v _ 16 (le_refl _) 8 (by decide)

theorem siL_read_9 (v : View sig .tc .vmem S16x16x128 .f32) (s : Fin 16 → FVec Ideal S128x128 .f32) :
    ld (F := Ideal) (v.readCov (siL s) rs_9.toLoadRect) = topI (s 9) := by
  refine Eq.trans (congrArg (ld (F := Ideal)) ?_) (ld_st _)
  rw [siL_stk]
  exact stk_read v _ 16 (le_refl _) 9 (by decide)

theorem siL_read_10 (v : View sig .tc .vmem S16x16x128 .f32) (s : Fin 16 → FVec Ideal S128x128 .f32) :
    ld (F := Ideal) (v.readCov (siL s) rs_10.toLoadRect) = topI (s 10) := by
  refine Eq.trans (congrArg (ld (F := Ideal)) ?_) (ld_st _)
  rw [siL_stk]
  exact stk_read v _ 16 (le_refl _) 10 (by decide)

theorem siL_read_11 (v : View sig .tc .vmem S16x16x128 .f32) (s : Fin 16 → FVec Ideal S128x128 .f32) :
    ld (F := Ideal) (v.readCov (siL s) rs_11.toLoadRect) = topI (s 11) := by
  refine Eq.trans (congrArg (ld (F := Ideal)) ?_) (ld_st _)
  rw [siL_stk]
  exact stk_read v _ 16 (le_refl _) 11 (by decide)

theorem siL_read_12 (v : View sig .tc .vmem S16x16x128 .f32) (s : Fin 16 → FVec Ideal S128x128 .f32) :
    ld (F := Ideal) (v.readCov (siL s) rs_12.toLoadRect) = topI (s 12) := by
  refine Eq.trans (congrArg (ld (F := Ideal)) ?_) (ld_st _)
  rw [siL_stk]
  exact stk_read v _ 16 (le_refl _) 12 (by decide)

theorem siL_read_13 (v : View sig .tc .vmem S16x16x128 .f32) (s : Fin 16 → FVec Ideal S128x128 .f32) :
    ld (F := Ideal) (v.readCov (siL s) rs_13.toLoadRect) = topI (s 13) := by
  refine Eq.trans (congrArg (ld (F := Ideal)) ?_) (ld_st _)
  rw [siL_stk]
  exact stk_read v _ 16 (le_refl _) 13 (by decide)

theorem siL_read_14 (v : View sig .tc .vmem S16x16x128 .f32) (s : Fin 16 → FVec Ideal S128x128 .f32) :
    ld (F := Ideal) (v.readCov (siL s) rs_14.toLoadRect) = topI (s 14) := by
  refine Eq.trans (congrArg (ld (F := Ideal)) ?_) (ld_st _)
  rw [siL_stk]
  exact stk_read v _ 16 (le_refl _) 14 (by decide)

theorem siL_read_15 (v : View sig .tc .vmem S16x16x128 .f32) (s : Fin 16 → FVec Ideal S128x128 .f32) :
    ld (F := Ideal) (v.readCov (siL s) rs_15.toLoadRect) = topI (s 15) := by
  refine Eq.trans (congrArg (ld (F := Ideal)) ?_) (ld_st _)
  rw [siL_stk]
  exact stk_read v _ 16 (le_refl _) 15 (by decide)

theorem cd_0_eq (arg6 : Memref sig .tc .vmem S16x16x128 .f32) (s : Fin 16 → FVec Ideal S128x128 .f32) :
    cd_0 (F := Ideal) arg6 s = cand (topV (s 0)) (topV (s 1)) := by
  unfold cd_0
  rw [svL_read_0, svL_read_1]

theorem ex_0_eq (arg7 : Memref sig .tc .vmem S16x16x128 .f32) (s : Fin 16 → FVec Ideal S128x128 .f32) :
    ex_0 (F := Ideal) arg7 s = expert (topI (s 0)) (topI (s 1)) := by
  unfold ex_0
  rw [siL_read_0, siL_read_1]

theorem cd_1_eq (arg6 : Memref sig .tc .vmem S16x16x128 .f32) (s : Fin 16 → FVec Ideal S128x128 .f32) :
    cd_1 (F := Ideal) arg6 s = cand (topV (s 2)) (topV (s 3)) := by
  unfold cd_1
  rw [svL_read_2, svL_read_3]

theorem ex_1_eq (arg7 : Memref sig .tc .vmem S16x16x128 .f32) (s : Fin 16 → FVec Ideal S128x128 .f32) :
    ex_1 (F := Ideal) arg7 s = expert (topI (s 2)) (topI (s 3)) := by
  unfold ex_1
  rw [siL_read_2, siL_read_3]

theorem cd_2_eq (arg6 : Memref sig .tc .vmem S16x16x128 .f32) (s : Fin 16 → FVec Ideal S128x128 .f32) :
    cd_2 (F := Ideal) arg6 s = cand (topV (s 4)) (topV (s 5)) := by
  unfold cd_2
  rw [svL_read_4, svL_read_5]

theorem ex_2_eq (arg7 : Memref sig .tc .vmem S16x16x128 .f32) (s : Fin 16 → FVec Ideal S128x128 .f32) :
    ex_2 (F := Ideal) arg7 s = expert (topI (s 4)) (topI (s 5)) := by
  unfold ex_2
  rw [siL_read_4, siL_read_5]

theorem cd_3_eq (arg6 : Memref sig .tc .vmem S16x16x128 .f32) (s : Fin 16 → FVec Ideal S128x128 .f32) :
    cd_3 (F := Ideal) arg6 s = cand (topV (s 6)) (topV (s 7)) := by
  unfold cd_3
  rw [svL_read_6, svL_read_7]

theorem ex_3_eq (arg7 : Memref sig .tc .vmem S16x16x128 .f32) (s : Fin 16 → FVec Ideal S128x128 .f32) :
    ex_3 (F := Ideal) arg7 s = expert (topI (s 6)) (topI (s 7)) := by
  unfold ex_3
  rw [siL_read_6, siL_read_7]

theorem cd_4_eq (arg6 : Memref sig .tc .vmem S16x16x128 .f32) (s : Fin 16 → FVec Ideal S128x128 .f32) :
    cd_4 (F := Ideal) arg6 s = cand (topV (s 8)) (topV (s 9)) := by
  unfold cd_4
  rw [svL_read_8, svL_read_9]

theorem ex_4_eq (arg7 : Memref sig .tc .vmem S16x16x128 .f32) (s : Fin 16 → FVec Ideal S128x128 .f32) :
    ex_4 (F := Ideal) arg7 s = expert (topI (s 8)) (topI (s 9)) := by
  unfold ex_4
  rw [siL_read_8, siL_read_9]

theorem cd_5_eq (arg6 : Memref sig .tc .vmem S16x16x128 .f32) (s : Fin 16 → FVec Ideal S128x128 .f32) :
    cd_5 (F := Ideal) arg6 s = cand (topV (s 10)) (topV (s 11)) := by
  unfold cd_5
  rw [svL_read_10, svL_read_11]

theorem ex_5_eq (arg7 : Memref sig .tc .vmem S16x16x128 .f32) (s : Fin 16 → FVec Ideal S128x128 .f32) :
    ex_5 (F := Ideal) arg7 s = expert (topI (s 10)) (topI (s 11)) := by
  unfold ex_5
  rw [siL_read_10, siL_read_11]

theorem cd_6_eq (arg6 : Memref sig .tc .vmem S16x16x128 .f32) (s : Fin 16 → FVec Ideal S128x128 .f32) :
    cd_6 (F := Ideal) arg6 s = cand (topV (s 12)) (topV (s 13)) := by
  unfold cd_6
  rw [svL_read_12, svL_read_13]

theorem ex_6_eq (arg7 : Memref sig .tc .vmem S16x16x128 .f32) (s : Fin 16 → FVec Ideal S128x128 .f32) :
    ex_6 (F := Ideal) arg7 s = expert (topI (s 12)) (topI (s 13)) := by
  unfold ex_6
  rw [siL_read_12, siL_read_13]

theorem cd_7_eq (arg6 : Memref sig .tc .vmem S16x16x128 .f32) (s : Fin 16 → FVec Ideal S128x128 .f32) :
    cd_7 (F := Ideal) arg6 s = cand (topV (s 14)) (topV (s 15)) := by
  unfold cd_7
  rw [svL_read_14, svL_read_15]

theorem ex_7_eq (arg7 : Memref sig .tc .vmem S16x16x128 .f32) (s : Fin 16 → FVec Ideal S128x128 .f32) :
    ex_7 (F := Ideal) arg7 s = expert (topI (s 14)) (topI (s 15)) := by
  unfold ex_7
  rw [siL_read_14, siL_read_15]

/-! ## The scores of a point -/

/-- The scores of a point's token. -/
def scores (x0 : Vec Ideal S128x2048 .f32) (x1 : Vec Ideal S2048x2048 .bf16) (x2 : Vec Ideal S16x128x128 .bf16) (t : Fin 128) : Fin 16 → Fin 128 → EReal :=
  score (fun x => x0 (ix2 t x)) (fun x j => x1 (ix2 x j)) (fun p k d => x2 (ix3 p k d))

theorem qr_eq (arg1 : Memref sig .tc .vmem S128x2048 .f32) (harg1 : arg1.IsWhole) (arg2 : Memref sig .tc .vmem S2048x2048 .bf16) (harg2 : arg2.IsWhole)
    (x0 : Vec Ideal S128x2048 .f32) (x1 : Vec Ideal S2048x2048 .bf16) : qr (F := Ideal) arg1 harg1 arg2 harg2 x0 x1 = qry x0 x1 := by
  have e1 : ∀ h, View.readAt (Elt Ideal) arg1.view (Rect.unit ![0, 0] S128x2048.size h).toLoadRect (harg1.unread x0) = x0 :=
    fun h => (View.readAt_full _ _ _).trans (harg1.read_unread x0)
  have e2 : ∀ h, View.readAt (Elt Ideal) arg2.view (Rect.unit ![0, 0] S2048x2048.size h).toLoadRect (harg2.unread x1) = x1 :=
    fun h => (View.readAt_full _ _ _).trans (harg2.read_unread x1)
  unfold qr
  rw [e1, e2]

theorem scr_0 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 0) t = scores x0 x1 x2 t 0 := by
  funext k
  refine (sc_0_apply (qry x0 x1) (View.readAt (Elt Ideal) arg3.view rk_0.toLoadRect (harg3.unread x2)) k t).trans ?_
  unfold scores score
  refine Finset.sum_congr rfl fun d _ => ?_
  have e : (View.readAt (Elt Ideal) arg3.view rk_0.toLoadRect (harg3.unread x2) : Vec Ideal S1x128x128 .bf16) (ix3 0 k d) = x2 (ix3 0 k d) := by
    refine (congrFun ((View.readAt_eq_ld arg3.view (harg3.unread x2) rk_0).trans (congrArg (fun z => View.ld z rk_0) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_1 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 1) t = scores x0 x1 x2 t 1 := by
  funext k
  refine (sc_1_apply (qry x0 x1) (View.readAt (Elt Ideal) arg3.view rk_1.toLoadRect (harg3.unread x2)) k t).trans ?_
  unfold scores score
  refine Finset.sum_congr rfl fun d _ => ?_
  have e : (View.readAt (Elt Ideal) arg3.view rk_1.toLoadRect (harg3.unread x2) : Vec Ideal S1x128x128 .bf16) (ix3 0 k d) = x2 (ix3 1 k d) := by
    refine (congrFun ((View.readAt_eq_ld arg3.view (harg3.unread x2) rk_1).trans (congrArg (fun z => View.ld z rk_1) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_2 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 2) t = scores x0 x1 x2 t 2 := by
  funext k
  refine (sc_2_apply (qry x0 x1) (View.readAt (Elt Ideal) arg3.view rk_2.toLoadRect (harg3.unread x2)) k t).trans ?_
  unfold scores score
  refine Finset.sum_congr rfl fun d _ => ?_
  have e : (View.readAt (Elt Ideal) arg3.view rk_2.toLoadRect (harg3.unread x2) : Vec Ideal S1x128x128 .bf16) (ix3 0 k d) = x2 (ix3 2 k d) := by
    refine (congrFun ((View.readAt_eq_ld arg3.view (harg3.unread x2) rk_2).trans (congrArg (fun z => View.ld z rk_2) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_3 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 3) t = scores x0 x1 x2 t 3 := by
  funext k
  refine (sc_3_apply (qry x0 x1) (View.readAt (Elt Ideal) arg3.view rk_3.toLoadRect (harg3.unread x2)) k t).trans ?_
  unfold scores score
  refine Finset.sum_congr rfl fun d _ => ?_
  have e : (View.readAt (Elt Ideal) arg3.view rk_3.toLoadRect (harg3.unread x2) : Vec Ideal S1x128x128 .bf16) (ix3 0 k d) = x2 (ix3 3 k d) := by
    refine (congrFun ((View.readAt_eq_ld arg3.view (harg3.unread x2) rk_3).trans (congrArg (fun z => View.ld z rk_3) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_4 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 4) t = scores x0 x1 x2 t 4 := by
  funext k
  refine (sc_4_apply (qry x0 x1) (View.readAt (Elt Ideal) arg3.view rk_4.toLoadRect (harg3.unread x2)) k t).trans ?_
  unfold scores score
  refine Finset.sum_congr rfl fun d _ => ?_
  have e : (View.readAt (Elt Ideal) arg3.view rk_4.toLoadRect (harg3.unread x2) : Vec Ideal S1x128x128 .bf16) (ix3 0 k d) = x2 (ix3 4 k d) := by
    refine (congrFun ((View.readAt_eq_ld arg3.view (harg3.unread x2) rk_4).trans (congrArg (fun z => View.ld z rk_4) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_5 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 5) t = scores x0 x1 x2 t 5 := by
  funext k
  refine (sc_5_apply (qry x0 x1) (View.readAt (Elt Ideal) arg3.view rk_5.toLoadRect (harg3.unread x2)) k t).trans ?_
  unfold scores score
  refine Finset.sum_congr rfl fun d _ => ?_
  have e : (View.readAt (Elt Ideal) arg3.view rk_5.toLoadRect (harg3.unread x2) : Vec Ideal S1x128x128 .bf16) (ix3 0 k d) = x2 (ix3 5 k d) := by
    refine (congrFun ((View.readAt_eq_ld arg3.view (harg3.unread x2) rk_5).trans (congrArg (fun z => View.ld z rk_5) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_6 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 6) t = scores x0 x1 x2 t 6 := by
  funext k
  refine (sc_6_apply (qry x0 x1) (View.readAt (Elt Ideal) arg3.view rk_6.toLoadRect (harg3.unread x2)) k t).trans ?_
  unfold scores score
  refine Finset.sum_congr rfl fun d _ => ?_
  have e : (View.readAt (Elt Ideal) arg3.view rk_6.toLoadRect (harg3.unread x2) : Vec Ideal S1x128x128 .bf16) (ix3 0 k d) = x2 (ix3 6 k d) := by
    refine (congrFun ((View.readAt_eq_ld arg3.view (harg3.unread x2) rk_6).trans (congrArg (fun z => View.ld z rk_6) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_7 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 7) t = scores x0 x1 x2 t 7 := by
  funext k
  refine (sc_7_apply (qry x0 x1) (View.readAt (Elt Ideal) arg3.view rk_7.toLoadRect (harg3.unread x2)) k t).trans ?_
  unfold scores score
  refine Finset.sum_congr rfl fun d _ => ?_
  have e : (View.readAt (Elt Ideal) arg3.view rk_7.toLoadRect (harg3.unread x2) : Vec Ideal S1x128x128 .bf16) (ix3 0 k d) = x2 (ix3 7 k d) := by
    refine (congrFun ((View.readAt_eq_ld arg3.view (harg3.unread x2) rk_7).trans (congrArg (fun z => View.ld z rk_7) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_8 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 8) t = scores x0 x1 x2 t 8 := by
  funext k
  refine (sc_8_apply (qry x0 x1) (View.readAt (Elt Ideal) arg3.view rk_8.toLoadRect (harg3.unread x2)) k t).trans ?_
  unfold scores score
  refine Finset.sum_congr rfl fun d _ => ?_
  have e : (View.readAt (Elt Ideal) arg3.view rk_8.toLoadRect (harg3.unread x2) : Vec Ideal S1x128x128 .bf16) (ix3 0 k d) = x2 (ix3 8 k d) := by
    refine (congrFun ((View.readAt_eq_ld arg3.view (harg3.unread x2) rk_8).trans (congrArg (fun z => View.ld z rk_8) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_9 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 9) t = scores x0 x1 x2 t 9 := by
  funext k
  refine (sc_9_apply (qry x0 x1) (View.readAt (Elt Ideal) arg3.view rk_9.toLoadRect (harg3.unread x2)) k t).trans ?_
  unfold scores score
  refine Finset.sum_congr rfl fun d _ => ?_
  have e : (View.readAt (Elt Ideal) arg3.view rk_9.toLoadRect (harg3.unread x2) : Vec Ideal S1x128x128 .bf16) (ix3 0 k d) = x2 (ix3 9 k d) := by
    refine (congrFun ((View.readAt_eq_ld arg3.view (harg3.unread x2) rk_9).trans (congrArg (fun z => View.ld z rk_9) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_10 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 10) t = scores x0 x1 x2 t 10 := by
  funext k
  refine (sc_10_apply (qry x0 x1) (View.readAt (Elt Ideal) arg3.view rk_10.toLoadRect (harg3.unread x2)) k t).trans ?_
  unfold scores score
  refine Finset.sum_congr rfl fun d _ => ?_
  have e : (View.readAt (Elt Ideal) arg3.view rk_10.toLoadRect (harg3.unread x2) : Vec Ideal S1x128x128 .bf16) (ix3 0 k d) = x2 (ix3 10 k d) := by
    refine (congrFun ((View.readAt_eq_ld arg3.view (harg3.unread x2) rk_10).trans (congrArg (fun z => View.ld z rk_10) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_11 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 11) t = scores x0 x1 x2 t 11 := by
  funext k
  refine (sc_11_apply (qry x0 x1) (View.readAt (Elt Ideal) arg3.view rk_11.toLoadRect (harg3.unread x2)) k t).trans ?_
  unfold scores score
  refine Finset.sum_congr rfl fun d _ => ?_
  have e : (View.readAt (Elt Ideal) arg3.view rk_11.toLoadRect (harg3.unread x2) : Vec Ideal S1x128x128 .bf16) (ix3 0 k d) = x2 (ix3 11 k d) := by
    refine (congrFun ((View.readAt_eq_ld arg3.view (harg3.unread x2) rk_11).trans (congrArg (fun z => View.ld z rk_11) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_12 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 12) t = scores x0 x1 x2 t 12 := by
  funext k
  refine (sc_12_apply (qry x0 x1) (View.readAt (Elt Ideal) arg3.view rk_12.toLoadRect (harg3.unread x2)) k t).trans ?_
  unfold scores score
  refine Finset.sum_congr rfl fun d _ => ?_
  have e : (View.readAt (Elt Ideal) arg3.view rk_12.toLoadRect (harg3.unread x2) : Vec Ideal S1x128x128 .bf16) (ix3 0 k d) = x2 (ix3 12 k d) := by
    refine (congrFun ((View.readAt_eq_ld arg3.view (harg3.unread x2) rk_12).trans (congrArg (fun z => View.ld z rk_12) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_13 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 13) t = scores x0 x1 x2 t 13 := by
  funext k
  refine (sc_13_apply (qry x0 x1) (View.readAt (Elt Ideal) arg3.view rk_13.toLoadRect (harg3.unread x2)) k t).trans ?_
  unfold scores score
  refine Finset.sum_congr rfl fun d _ => ?_
  have e : (View.readAt (Elt Ideal) arg3.view rk_13.toLoadRect (harg3.unread x2) : Vec Ideal S1x128x128 .bf16) (ix3 0 k d) = x2 (ix3 13 k d) := by
    refine (congrFun ((View.readAt_eq_ld arg3.view (harg3.unread x2) rk_13).trans (congrArg (fun z => View.ld z rk_13) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_14 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 14) t = scores x0 x1 x2 t 14 := by
  funext k
  refine (sc_14_apply (qry x0 x1) (View.readAt (Elt Ideal) arg3.view rk_14.toLoadRect (harg3.unread x2)) k t).trans ?_
  unfold scores score
  refine Finset.sum_congr rfl fun d _ => ?_
  have e : (View.readAt (Elt Ideal) arg3.view rk_14.toLoadRect (harg3.unread x2) : Vec Ideal S1x128x128 .bf16) (ix3 0 k d) = x2 (ix3 14 k d) := by
    refine (congrFun ((View.readAt_eq_ld arg3.view (harg3.unread x2) rk_14).trans (congrArg (fun z => View.ld z rk_14) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

theorem scr_15 (arg3 : Memref sig .tc .vmem S16x128x128 .bf16) (harg3 : arg3.IsWhole)
    (x0 : Vec Ideal S128x2048 .f32) (x1 : Vec Ideal S2048x2048 .bf16) (x2 : Vec Ideal S16x128x128 .bf16) (t : Fin 128) :
    col1 (scr (F := Ideal) (qry x0 x1) arg3 harg3 x2 15) t = scores x0 x1 x2 t 15 := by
  funext k
  refine (sc_15_apply (qry x0 x1) (View.readAt (Elt Ideal) arg3.view rk_15.toLoadRect (harg3.unread x2)) k t).trans ?_
  unfold scores score
  refine Finset.sum_congr rfl fun d _ => ?_
  have e : (View.readAt (Elt Ideal) arg3.view rk_15.toLoadRect (harg3.unread x2) : Vec Ideal S1x128x128 .bf16) (ix3 0 k d) = x2 (ix3 15 k d) := by
    refine (congrFun ((View.readAt_eq_ld arg3.view (harg3.unread x2) rk_15).trans (congrArg (fun z => View.ld z rk_15) (harg3.read_unread x2))) (ix3 0 k d)).trans ?_
    refine congrArg x2 (funext fun a => Fin.ext ?_)
    match a with
    | ⟨0, _⟩ => rfl
    | ⟨1, _⟩ => show 0 + 1 * k.val = k.val; omega
    | ⟨2, _⟩ => show 0 + 1 * d.val = d.val; omega
  exact congrArg₂ (· * ·) e (qry_apply x0 x1 t _)

/-! ## The two results' blocks -/

theorem blk_skip {e : EltTy} (o : ℕ) (ho) (p t : Fin 128) (hp : p.val < o ∨ o + 16 ≤ p.val)
    (w : (Rect.unit (s := S1x128x128) ![0, o, 0] S1x16x128.size ho).shape.Idx → Elt Ideal e) (L : List (View.Piece (Elt Ideal) S1x128x128 e)) :
    View.canon (⟨Rect.unit (s := S1x128x128) ![0, o, 0] S1x16x128.size ho, w⟩ :: L) (ix3 0 p t) = View.canon L (ix3 0 p t) := by
  refine View.canon_cons_of_not_mem _ _ ?_
  rw [Rect.mem_set_unit]
  intro g
  have g := g 1
  have g1 : o ≤ p.val := g.1
  have g2 : p.val < o + 16 := g.2
  omega

theorem blk_hit {e : EltTy} (o : ℕ) (ho) (p t : Fin 128) (r : Fin 16) (hp : p.val = o + r.val)
    (w : (Rect.unit (s := S1x128x128) ![0, o, 0] S1x16x128.size ho).shape.Idx → Elt Ideal e) (L : List (View.Piece (Elt Ideal) S1x128x128 e)) :
    View.canon (⟨Rect.unit (s := S1x128x128) ![0, o, 0] S1x16x128.size ho, w⟩ :: L) (ix3 0 p t) = w (ix3 0 r t) := by
  have h : (ix3 0 p t : S1x128x128.Idx) = (Rect.unit (s := S1x128x128) ![0, o, 0] S1x16x128.size ho).emb (ix3 0 r t) := by
    funext a
    match a with
    | ⟨0, _⟩ => rfl
    | ⟨1, _⟩ => exact Fin.ext (by show p.val = o + 1 * r.val; omega)
    | ⟨2, _⟩ => exact Fin.ext (by show t.val = 0 + 1 * t.val; omega)
  rw [h, View.canon_cons_emb]

/-- The table of a head's first or second half. -/
def tb (h : Fin 8) (j : Fin 2) : Fin 16 := ⟨2 * h.val + j.val, by omega⟩

theorem out3_canon (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16) :
    out0_A_3 (F := Ideal) c i arg1 harg1 arg2 harg2 arg3 harg3 arg4 harg4 arg5 harg5 arg6 harg6 arg7 harg7 x0 x1 x2
      = View.canon [⟨ro_7, gate (best (cd_7 arg6 (scr (qry x0 x1) arg3 harg3 x2)))⟩,
        ⟨ro_6, gate (best (cd_6 arg6 (scr (qry x0 x1) arg3 harg3 x2)))⟩,
        ⟨ro_5, gate (best (cd_5 arg6 (scr (qry x0 x1) arg3 harg3 x2)))⟩,
        ⟨ro_4, gate (best (cd_4 arg6 (scr (qry x0 x1) arg3 harg3 x2)))⟩,
        ⟨ro_3, gate (best (cd_3 arg6 (scr (qry x0 x1) arg3 harg3 x2)))⟩,
        ⟨ro_2, gate (best (cd_2 arg6 (scr (qry x0 x1) arg3 harg3 x2)))⟩,
        ⟨ro_1, gate (best (cd_1 arg6 (scr (qry x0 x1) arg3 harg3 x2)))⟩,
        ⟨ro_0, gate (best (cd_0 arg6 (scr (qry x0 x1) arg3 harg3 x2)))⟩] := by
  unfold out0_A_3
  rw [View.read_writes_eq_canon _ _ _ (cover0_A_3 c i arg1 harg1 arg2 harg2 arg3 harg3 arg4 harg4 arg5 harg5 arg6 harg6 arg7 harg7 x0 x1 x2), run_fst, qr_eq]

theorem out3_head_0 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 0 + r.val) :
    out0_A_3 (F := Ideal) c i arg1 harg1 arg2 harg2 arg3 harg3 arg4 harg4 arg5 harg5 arg6 harg6 arg7 harg7 x0 x1 x2 (ix3 0 p t)
      = gateS (scores x0 x1 x2 t 0) (scores x0 x1 x2 t 1) r := by
  have h0 : ∀ k, scr (F := Ideal) (qry x0 x1) arg3 harg3 x2 0 (ix2 k t) ≠ ⊥ := fun k => by
    rw [show scr (F := Ideal) (qry x0 x1) arg3 harg3 x2 0 (ix2 k t) = _ from congrFun (scr_0 arg3 harg3 x0 x1 x2 t) k]; exact hs _ k
  have h1 : ∀ k, scr (F := Ideal) (qry x0 x1) arg3 harg3 x2 1 (ix2 k t) ≠ ⊥ := fun k => by
    rw [show scr (F := Ideal) (qry x0 x1) arg3 harg3 x2 1 (ix2 k t) = _ from congrFun (scr_1 arg3 harg3 x0 x1 x2 t) k]; exact hs _ k
  rw [out3_canon, ← scr_0 arg3 harg3, ← scr_1 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_skip 32 _ p t (by omega) _ _).trans ?_
  refine (blk_skip 16 _ p t (by omega) _ _).trans ?_
  refine (blk_hit 0 _ p t r hp _ _).trans ?_
  rw [cd_0_eq]
  exact gate_head _ _ t h0 h1 r

theorem out3_head_1 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 16 + r.val) :
    out0_A_3 (F := Ideal) c i arg1 harg1 arg2 harg2 arg3 harg3 arg4 harg4 arg5 harg5 arg6 harg6 arg7 harg7 x0 x1 x2 (ix3 0 p t)
      = gateS (scores x0 x1 x2 t 2) (scores x0 x1 x2 t 3) r := by
  have h0 : ∀ k, scr (F := Ideal) (qry x0 x1) arg3 harg3 x2 2 (ix2 k t) ≠ ⊥ := fun k => by
    rw [show scr (F := Ideal) (qry x0 x1) arg3 harg3 x2 2 (ix2 k t) = _ from congrFun (scr_2 arg3 harg3 x0 x1 x2 t) k]; exact hs _ k
  have h1 : ∀ k, scr (F := Ideal) (qry x0 x1) arg3 harg3 x2 3 (ix2 k t) ≠ ⊥ := fun k => by
    rw [show scr (F := Ideal) (qry x0 x1) arg3 harg3 x2 3 (ix2 k t) = _ from congrFun (scr_3 arg3 harg3 x0 x1 x2 t) k]; exact hs _ k
  rw [out3_canon, ← scr_2 arg3 harg3, ← scr_3 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_skip 32 _ p t (by omega) _ _).trans ?_
  refine (blk_hit 16 _ p t r hp _ _).trans ?_
  rw [cd_1_eq]
  exact gate_head _ _ t h0 h1 r

theorem out3_head_2 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 32 + r.val) :
    out0_A_3 (F := Ideal) c i arg1 harg1 arg2 harg2 arg3 harg3 arg4 harg4 arg5 harg5 arg6 harg6 arg7 harg7 x0 x1 x2 (ix3 0 p t)
      = gateS (scores x0 x1 x2 t 4) (scores x0 x1 x2 t 5) r := by
  have h0 : ∀ k, scr (F := Ideal) (qry x0 x1) arg3 harg3 x2 4 (ix2 k t) ≠ ⊥ := fun k => by
    rw [show scr (F := Ideal) (qry x0 x1) arg3 harg3 x2 4 (ix2 k t) = _ from congrFun (scr_4 arg3 harg3 x0 x1 x2 t) k]; exact hs _ k
  have h1 : ∀ k, scr (F := Ideal) (qry x0 x1) arg3 harg3 x2 5 (ix2 k t) ≠ ⊥ := fun k => by
    rw [show scr (F := Ideal) (qry x0 x1) arg3 harg3 x2 5 (ix2 k t) = _ from congrFun (scr_5 arg3 harg3 x0 x1 x2 t) k]; exact hs _ k
  rw [out3_canon, ← scr_4 arg3 harg3, ← scr_5 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_hit 32 _ p t r hp _ _).trans ?_
  rw [cd_2_eq]
  exact gate_head _ _ t h0 h1 r

theorem out3_head_3 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 48 + r.val) :
    out0_A_3 (F := Ideal) c i arg1 harg1 arg2 harg2 arg3 harg3 arg4 harg4 arg5 harg5 arg6 harg6 arg7 harg7 x0 x1 x2 (ix3 0 p t)
      = gateS (scores x0 x1 x2 t 6) (scores x0 x1 x2 t 7) r := by
  have h0 : ∀ k, scr (F := Ideal) (qry x0 x1) arg3 harg3 x2 6 (ix2 k t) ≠ ⊥ := fun k => by
    rw [show scr (F := Ideal) (qry x0 x1) arg3 harg3 x2 6 (ix2 k t) = _ from congrFun (scr_6 arg3 harg3 x0 x1 x2 t) k]; exact hs _ k
  have h1 : ∀ k, scr (F := Ideal) (qry x0 x1) arg3 harg3 x2 7 (ix2 k t) ≠ ⊥ := fun k => by
    rw [show scr (F := Ideal) (qry x0 x1) arg3 harg3 x2 7 (ix2 k t) = _ from congrFun (scr_7 arg3 harg3 x0 x1 x2 t) k]; exact hs _ k
  rw [out3_canon, ← scr_6 arg3 harg3, ← scr_7 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_hit 48 _ p t r hp _ _).trans ?_
  rw [cd_3_eq]
  exact gate_head _ _ t h0 h1 r

theorem out3_head_4 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 64 + r.val) :
    out0_A_3 (F := Ideal) c i arg1 harg1 arg2 harg2 arg3 harg3 arg4 harg4 arg5 harg5 arg6 harg6 arg7 harg7 x0 x1 x2 (ix3 0 p t)
      = gateS (scores x0 x1 x2 t 8) (scores x0 x1 x2 t 9) r := by
  have h0 : ∀ k, scr (F := Ideal) (qry x0 x1) arg3 harg3 x2 8 (ix2 k t) ≠ ⊥ := fun k => by
    rw [show scr (F := Ideal) (qry x0 x1) arg3 harg3 x2 8 (ix2 k t) = _ from congrFun (scr_8 arg3 harg3 x0 x1 x2 t) k]; exact hs _ k
  have h1 : ∀ k, scr (F := Ideal) (qry x0 x1) arg3 harg3 x2 9 (ix2 k t) ≠ ⊥ := fun k => by
    rw [show scr (F := Ideal) (qry x0 x1) arg3 harg3 x2 9 (ix2 k t) = _ from congrFun (scr_9 arg3 harg3 x0 x1 x2 t) k]; exact hs _ k
  rw [out3_canon, ← scr_8 arg3 harg3, ← scr_9 arg3 harg3]
  refine (blk_skip 112 _ p t (by omega) _ _).trans ?_
  refine (blk_skip 96 _ p t (by omega) _ _).trans ?_
  refine (blk_skip 80 _ p t (by omega) _ _).trans ?_
  refine (blk_hit 64 _ p t r hp _ _).trans ?_
  rw [cd_4_eq]
  exact gate_head _ _ t h0 h1 r

theorem out3_head_5 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 80 + r.val) :
    out0_A_3 (F := Ideal) c i arg1 harg1 arg2 harg2 arg3 harg3 arg4 harg4 arg5 harg5 arg6 harg6 arg7 harg7 x0 x1 x2 (ix3 0 p t)
      = gateS (scores x0 x1 x2 t 10) (scores x0 x1 x2 t 11) r := by
  have h0 : ∀ k, scr (F := Ideal) (qry x0 x1) arg3 harg3 x2 10 (ix2 k t) ≠ ⊥ := fun k => by
    rw [show scr (F := Ideal) (qry x0 x1) arg3 harg3 x2 10 (ix2 k t) = _ from congrFun (scr_10 arg3 harg3 x0 x1 x2 t) k]; exact hs _ k
  have h1 : ∀ k, scr (F := Ideal) (qry x0 x1) arg3 harg3 x2 11 (ix2 k t) ≠ ⊥ := fun k => by
    rw [show scr (F := Ideal) (qry x0 x1) arg3 harg3 x2 11 (ix2 k t) = _ from congrFun (scr_11 arg3 harg3 x0 x1 x2 t) k]; exact hs _ k
  rw [out3_canon, ← scr_10 arg3 harg3, ← scr_11 arg3 harg3]
  refine (blk_skip 112 _ p t (by omega) _ _).trans ?_
  refine (blk_skip 96 _ p t (by omega) _ _).trans ?_
  refine (blk_hit 80 _ p t r hp _ _).trans ?_
  rw [cd_5_eq]
  exact gate_head _ _ t h0 h1 r

theorem out3_head_6 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 96 + r.val) :
    out0_A_3 (F := Ideal) c i arg1 harg1 arg2 harg2 arg3 harg3 arg4 harg4 arg5 harg5 arg6 harg6 arg7 harg7 x0 x1 x2 (ix3 0 p t)
      = gateS (scores x0 x1 x2 t 12) (scores x0 x1 x2 t 13) r := by
  have h0 : ∀ k, scr (F := Ideal) (qry x0 x1) arg3 harg3 x2 12 (ix2 k t) ≠ ⊥ := fun k => by
    rw [show scr (F := Ideal) (qry x0 x1) arg3 harg3 x2 12 (ix2 k t) = _ from congrFun (scr_12 arg3 harg3 x0 x1 x2 t) k]; exact hs _ k
  have h1 : ∀ k, scr (F := Ideal) (qry x0 x1) arg3 harg3 x2 13 (ix2 k t) ≠ ⊥ := fun k => by
    rw [show scr (F := Ideal) (qry x0 x1) arg3 harg3 x2 13 (ix2 k t) = _ from congrFun (scr_13 arg3 harg3 x0 x1 x2 t) k]; exact hs _ k
  rw [out3_canon, ← scr_12 arg3 harg3, ← scr_13 arg3 harg3]
  refine (blk_skip 112 _ p t (by omega) _ _).trans ?_
  refine (blk_hit 96 _ p t r hp _ _).trans ?_
  rw [cd_6_eq]
  exact gate_head _ _ t h0 h1 r

theorem out3_head_7 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 112 + r.val) :
    out0_A_3 (F := Ideal) c i arg1 harg1 arg2 harg2 arg3 harg3 arg4 harg4 arg5 harg5 arg6 harg6 arg7 harg7 x0 x1 x2 (ix3 0 p t)
      = gateS (scores x0 x1 x2 t 14) (scores x0 x1 x2 t 15) r := by
  have h0 : ∀ k, scr (F := Ideal) (qry x0 x1) arg3 harg3 x2 14 (ix2 k t) ≠ ⊥ := fun k => by
    rw [show scr (F := Ideal) (qry x0 x1) arg3 harg3 x2 14 (ix2 k t) = _ from congrFun (scr_14 arg3 harg3 x0 x1 x2 t) k]; exact hs _ k
  have h1 : ∀ k, scr (F := Ideal) (qry x0 x1) arg3 harg3 x2 15 (ix2 k t) ≠ ⊥ := fun k => by
    rw [show scr (F := Ideal) (qry x0 x1) arg3 harg3 x2 15 (ix2 k t) = _ from congrFun (scr_15 arg3 harg3 x0 x1 x2 t) k]; exact hs _ k
  rw [out3_canon, ← scr_14 arg3 harg3, ← scr_15 arg3 harg3]
  refine (blk_hit 112 _ p t r hp _ _).trans ?_
  rw [cd_7_eq]
  exact gate_head _ _ t h0 h1 r

/-- What a point leaves, by head, place and token. -/
theorem out3_apply (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) :
    out0_A_3 (F := Ideal) c i arg1 harg1 arg2 harg2 arg3 harg3 arg4 harg4 arg5 harg5 arg6 harg6 arg7 harg7 x0 x1 x2 (ix3 0 p t)
      = gateS (scores x0 x1 x2 t (tb ⟨p.val / 16, by omega⟩ 0)) (scores x0 x1 x2 t (tb ⟨p.val / 16, by omega⟩ 1)) ⟨p.val % 16, by omega⟩ := by
  have key : ∀ h : Fin 8, p.val / 16 = h.val → out0_A_3 (F := Ideal) c i arg1 harg1 arg2 harg2 arg3 harg3 arg4 harg4 arg5 harg5 arg6 harg6 arg7 harg7 x0 x1 x2 (ix3 0 p t)
      = gateS (scores x0 x1 x2 t (tb h 0)) (scores x0 x1 x2 t (tb h 1)) ⟨p.val % 16, by omega⟩ := fun h hh => by
    match h with
    | ⟨0, _⟩ => exact out3_head_0 c i arg1 harg1 arg2 harg2 arg3 harg3 arg4 harg4 arg5 harg5 arg6 harg6 arg7 harg7 x0 x1 x2 t hs p ⟨p.val % 16, by omega⟩ (by have hh : p.val / 16 = 0 := hh; show p.val = 0 + p.val % 16; omega)
    | ⟨1, _⟩ => exact out3_head_1 c i arg1 harg1 arg2 harg2 arg3 harg3 arg4 harg4 arg5 harg5 arg6 harg6 arg7 harg7 x0 x1 x2 t hs p ⟨p.val % 16, by omega⟩ (by have hh : p.val / 16 = 1 := hh; show p.val = 16 + p.val % 16; omega)
    | ⟨2, _⟩ => exact out3_head_2 c i arg1 harg1 arg2 harg2 arg3 harg3 arg4 harg4 arg5 harg5 arg6 harg6 arg7 harg7 x0 x1 x2 t hs p ⟨p.val % 16, by omega⟩ (by have hh : p.val / 16 = 2 := hh; show p.val = 32 + p.val % 16; omega)
    | ⟨3, _⟩ => exact out3_head_3 c i arg1 harg1 arg2 harg2 arg3 harg3 arg4 harg4 arg5 harg5 arg6 harg6 arg7 harg7 x0 x1 x2 t hs p ⟨p.val % 16, by omega⟩ (by have hh : p.val / 16 = 3 := hh; show p.val = 48 + p.val % 16; omega)
    | ⟨4, _⟩ => exact out3_head_4 c i arg1 harg1 arg2 harg2 arg3 harg3 arg4 harg4 arg5 harg5 arg6 harg6 arg7 harg7 x0 x1 x2 t hs p ⟨p.val % 16, by omega⟩ (by have hh : p.val / 16 = 4 := hh; show p.val = 64 + p.val % 16; omega)
    | ⟨5, _⟩ => exact out3_head_5 c i arg1 harg1 arg2 harg2 arg3 harg3 arg4 harg4 arg5 harg5 arg6 harg6 arg7 harg7 x0 x1 x2 t hs p ⟨p.val % 16, by omega⟩ (by have hh : p.val / 16 = 5 := hh; show p.val = 80 + p.val % 16; omega)
    | ⟨6, _⟩ => exact out3_head_6 c i arg1 harg1 arg2 harg2 arg3 harg3 arg4 harg4 arg5 harg5 arg6 harg6 arg7 harg7 x0 x1 x2 t hs p ⟨p.val % 16, by omega⟩ (by have hh : p.val / 16 = 6 := hh; show p.val = 96 + p.val % 16; omega)
    | ⟨7, _⟩ => exact out3_head_7 c i arg1 harg1 arg2 harg2 arg3 harg3 arg4 harg4 arg5 harg5 arg6 harg6 arg7 harg7 x0 x1 x2 t hs p ⟨p.val % 16, by omega⟩ (by have hh : p.val / 16 = 7 := hh; show p.val = 112 + p.val % 16; omega)
    | ⟨n + 8, hn⟩ => exact absurd hn (by omega)
  exact key ⟨p.val / 16, by omega⟩ rfl

theorem out4_canon (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16) :
    out0_A_4 (F := Ideal) c i arg1 harg1 arg2 harg2 arg3 harg3 arg4 harg4 arg5 harg5 arg6 harg6 arg7 harg7 x0 x1 x2
      = View.canon [⟨ro_7, k0_pay1 (picks (ex_7 arg7 (scr (qry x0 x1) arg3 harg3 x2)) (cd_7 arg6 (scr (qry x0 x1) arg3 harg3 x2)))⟩,
        ⟨ro_6, k0_pay1 (picks (ex_6 arg7 (scr (qry x0 x1) arg3 harg3 x2)) (cd_6 arg6 (scr (qry x0 x1) arg3 harg3 x2)))⟩,
        ⟨ro_5, k0_pay1 (picks (ex_5 arg7 (scr (qry x0 x1) arg3 harg3 x2)) (cd_5 arg6 (scr (qry x0 x1) arg3 harg3 x2)))⟩,
        ⟨ro_4, k0_pay1 (picks (ex_4 arg7 (scr (qry x0 x1) arg3 harg3 x2)) (cd_4 arg6 (scr (qry x0 x1) arg3 harg3 x2)))⟩,
        ⟨ro_3, k0_pay1 (picks (ex_3 arg7 (scr (qry x0 x1) arg3 harg3 x2)) (cd_3 arg6 (scr (qry x0 x1) arg3 harg3 x2)))⟩,
        ⟨ro_2, k0_pay1 (picks (ex_2 arg7 (scr (qry x0 x1) arg3 harg3 x2)) (cd_2 arg6 (scr (qry x0 x1) arg3 harg3 x2)))⟩,
        ⟨ro_1, k0_pay1 (picks (ex_1 arg7 (scr (qry x0 x1) arg3 harg3 x2)) (cd_1 arg6 (scr (qry x0 x1) arg3 harg3 x2)))⟩,
        ⟨ro_0, k0_pay1 (picks (ex_0 arg7 (scr (qry x0 x1) arg3 harg3 x2)) (cd_0 arg6 (scr (qry x0 x1) arg3 harg3 x2)))⟩] := by
  unfold out0_A_4
  rw [View.read_writes_eq_canon _ _ _ (cover0_A_4 c i arg1 harg1 arg2 harg2 arg3 harg3 arg4 harg4 arg5 harg5 arg6 harg6 arg7 harg7 x0 x1 x2), run_snd, qr_eq]

theorem out4_head_0 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 0 + r.val) :
    out0_A_4 (F := Ideal) c i arg1 harg1 arg2 harg2 arg3 harg3 arg4 harg4 arg5 harg5 arg6 harg6 arg7 harg7 x0 x1 x2 (ix3 0 p t)
      = expertS (scores x0 x1 x2 t 0) (scores x0 x1 x2 t 1) r := by
  have h0 : ∀ k, scr (F := Ideal) (qry x0 x1) arg3 harg3 x2 0 (ix2 k t) ≠ ⊥ := fun k => by
    rw [show scr (F := Ideal) (qry x0 x1) arg3 harg3 x2 0 (ix2 k t) = _ from congrFun (scr_0 arg3 harg3 x0 x1 x2 t) k]; exact hs _ k
  have h1 : ∀ k, scr (F := Ideal) (qry x0 x1) arg3 harg3 x2 1 (ix2 k t) ≠ ⊥ := fun k => by
    rw [show scr (F := Ideal) (qry x0 x1) arg3 harg3 x2 1 (ix2 k t) = _ from congrFun (scr_1 arg3 harg3 x0 x1 x2 t) k]; exact hs _ k
  rw [out4_canon, ← scr_0 arg3 harg3, ← scr_1 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_skip 32 _ p t (by omega) _ _).trans ?_
  refine (blk_skip 16 _ p t (by omega) _ _).trans ?_
  refine (blk_hit 0 _ p t r hp _ _).trans ?_
  rw [cd_0_eq, ex_0_eq]
  exact expert_head _ _ t h0 h1 r

theorem out4_head_1 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 16 + r.val) :
    out0_A_4 (F := Ideal) c i arg1 harg1 arg2 harg2 arg3 harg3 arg4 harg4 arg5 harg5 arg6 harg6 arg7 harg7 x0 x1 x2 (ix3 0 p t)
      = expertS (scores x0 x1 x2 t 2) (scores x0 x1 x2 t 3) r := by
  have h0 : ∀ k, scr (F := Ideal) (qry x0 x1) arg3 harg3 x2 2 (ix2 k t) ≠ ⊥ := fun k => by
    rw [show scr (F := Ideal) (qry x0 x1) arg3 harg3 x2 2 (ix2 k t) = _ from congrFun (scr_2 arg3 harg3 x0 x1 x2 t) k]; exact hs _ k
  have h1 : ∀ k, scr (F := Ideal) (qry x0 x1) arg3 harg3 x2 3 (ix2 k t) ≠ ⊥ := fun k => by
    rw [show scr (F := Ideal) (qry x0 x1) arg3 harg3 x2 3 (ix2 k t) = _ from congrFun (scr_3 arg3 harg3 x0 x1 x2 t) k]; exact hs _ k
  rw [out4_canon, ← scr_2 arg3 harg3, ← scr_3 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_skip 32 _ p t (by omega) _ _).trans ?_
  refine (blk_hit 16 _ p t r hp _ _).trans ?_
  rw [cd_1_eq, ex_1_eq]
  exact expert_head _ _ t h0 h1 r

theorem out4_head_2 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 32 + r.val) :
    out0_A_4 (F := Ideal) c i arg1 harg1 arg2 harg2 arg3 harg3 arg4 harg4 arg5 harg5 arg6 harg6 arg7 harg7 x0 x1 x2 (ix3 0 p t)
      = expertS (scores x0 x1 x2 t 4) (scores x0 x1 x2 t 5) r := by
  have h0 : ∀ k, scr (F := Ideal) (qry x0 x1) arg3 harg3 x2 4 (ix2 k t) ≠ ⊥ := fun k => by
    rw [show scr (F := Ideal) (qry x0 x1) arg3 harg3 x2 4 (ix2 k t) = _ from congrFun (scr_4 arg3 harg3 x0 x1 x2 t) k]; exact hs _ k
  have h1 : ∀ k, scr (F := Ideal) (qry x0 x1) arg3 harg3 x2 5 (ix2 k t) ≠ ⊥ := fun k => by
    rw [show scr (F := Ideal) (qry x0 x1) arg3 harg3 x2 5 (ix2 k t) = _ from congrFun (scr_5 arg3 harg3 x0 x1 x2 t) k]; exact hs _ k
  rw [out4_canon, ← scr_4 arg3 harg3, ← scr_5 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_skip 48 _ p t (by omega) _ _).trans ?_
  refine (blk_hit 32 _ p t r hp _ _).trans ?_
  rw [cd_2_eq, ex_2_eq]
  exact expert_head _ _ t h0 h1 r

theorem out4_head_3 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 48 + r.val) :
    out0_A_4 (F := Ideal) c i arg1 harg1 arg2 harg2 arg3 harg3 arg4 harg4 arg5 harg5 arg6 harg6 arg7 harg7 x0 x1 x2 (ix3 0 p t)
      = expertS (scores x0 x1 x2 t 6) (scores x0 x1 x2 t 7) r := by
  have h0 : ∀ k, scr (F := Ideal) (qry x0 x1) arg3 harg3 x2 6 (ix2 k t) ≠ ⊥ := fun k => by
    rw [show scr (F := Ideal) (qry x0 x1) arg3 harg3 x2 6 (ix2 k t) = _ from congrFun (scr_6 arg3 harg3 x0 x1 x2 t) k]; exact hs _ k
  have h1 : ∀ k, scr (F := Ideal) (qry x0 x1) arg3 harg3 x2 7 (ix2 k t) ≠ ⊥ := fun k => by
    rw [show scr (F := Ideal) (qry x0 x1) arg3 harg3 x2 7 (ix2 k t) = _ from congrFun (scr_7 arg3 harg3 x0 x1 x2 t) k]; exact hs _ k
  rw [out4_canon, ← scr_6 arg3 harg3, ← scr_7 arg3 harg3]
  refine (blk_skip 112 _ p t (by omega) _ _).trans ?_
  refine (blk_skip 96 _ p t (by omega) _ _).trans ?_
  refine (blk_skip 80 _ p t (by omega) _ _).trans ?_
  refine (blk_skip 64 _ p t (by omega) _ _).trans ?_
  refine (blk_hit 48 _ p t r hp _ _).trans ?_
  rw [cd_3_eq, ex_3_eq]
  exact expert_head _ _ t h0 h1 r

theorem out4_head_4 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 64 + r.val) :
    out0_A_4 (F := Ideal) c i arg1 harg1 arg2 harg2 arg3 harg3 arg4 harg4 arg5 harg5 arg6 harg6 arg7 harg7 x0 x1 x2 (ix3 0 p t)
      = expertS (scores x0 x1 x2 t 8) (scores x0 x1 x2 t 9) r := by
  have h0 : ∀ k, scr (F := Ideal) (qry x0 x1) arg3 harg3 x2 8 (ix2 k t) ≠ ⊥ := fun k => by
    rw [show scr (F := Ideal) (qry x0 x1) arg3 harg3 x2 8 (ix2 k t) = _ from congrFun (scr_8 arg3 harg3 x0 x1 x2 t) k]; exact hs _ k
  have h1 : ∀ k, scr (F := Ideal) (qry x0 x1) arg3 harg3 x2 9 (ix2 k t) ≠ ⊥ := fun k => by
    rw [show scr (F := Ideal) (qry x0 x1) arg3 harg3 x2 9 (ix2 k t) = _ from congrFun (scr_9 arg3 harg3 x0 x1 x2 t) k]; exact hs _ k
  rw [out4_canon, ← scr_8 arg3 harg3, ← scr_9 arg3 harg3]
  refine (blk_skip 112 _ p t (by omega) _ _).trans ?_
  refine (blk_skip 96 _ p t (by omega) _ _).trans ?_
  refine (blk_skip 80 _ p t (by omega) _ _).trans ?_
  refine (blk_hit 64 _ p t r hp _ _).trans ?_
  rw [cd_4_eq, ex_4_eq]
  exact expert_head _ _ t h0 h1 r

theorem out4_head_5 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 80 + r.val) :
    out0_A_4 (F := Ideal) c i arg1 harg1 arg2 harg2 arg3 harg3 arg4 harg4 arg5 harg5 arg6 harg6 arg7 harg7 x0 x1 x2 (ix3 0 p t)
      = expertS (scores x0 x1 x2 t 10) (scores x0 x1 x2 t 11) r := by
  have h0 : ∀ k, scr (F := Ideal) (qry x0 x1) arg3 harg3 x2 10 (ix2 k t) ≠ ⊥ := fun k => by
    rw [show scr (F := Ideal) (qry x0 x1) arg3 harg3 x2 10 (ix2 k t) = _ from congrFun (scr_10 arg3 harg3 x0 x1 x2 t) k]; exact hs _ k
  have h1 : ∀ k, scr (F := Ideal) (qry x0 x1) arg3 harg3 x2 11 (ix2 k t) ≠ ⊥ := fun k => by
    rw [show scr (F := Ideal) (qry x0 x1) arg3 harg3 x2 11 (ix2 k t) = _ from congrFun (scr_11 arg3 harg3 x0 x1 x2 t) k]; exact hs _ k
  rw [out4_canon, ← scr_10 arg3 harg3, ← scr_11 arg3 harg3]
  refine (blk_skip 112 _ p t (by omega) _ _).trans ?_
  refine (blk_skip 96 _ p t (by omega) _ _).trans ?_
  refine (blk_hit 80 _ p t r hp _ _).trans ?_
  rw [cd_5_eq, ex_5_eq]
  exact expert_head _ _ t h0 h1 r

theorem out4_head_6 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 96 + r.val) :
    out0_A_4 (F := Ideal) c i arg1 harg1 arg2 harg2 arg3 harg3 arg4 harg4 arg5 harg5 arg6 harg6 arg7 harg7 x0 x1 x2 (ix3 0 p t)
      = expertS (scores x0 x1 x2 t 12) (scores x0 x1 x2 t 13) r := by
  have h0 : ∀ k, scr (F := Ideal) (qry x0 x1) arg3 harg3 x2 12 (ix2 k t) ≠ ⊥ := fun k => by
    rw [show scr (F := Ideal) (qry x0 x1) arg3 harg3 x2 12 (ix2 k t) = _ from congrFun (scr_12 arg3 harg3 x0 x1 x2 t) k]; exact hs _ k
  have h1 : ∀ k, scr (F := Ideal) (qry x0 x1) arg3 harg3 x2 13 (ix2 k t) ≠ ⊥ := fun k => by
    rw [show scr (F := Ideal) (qry x0 x1) arg3 harg3 x2 13 (ix2 k t) = _ from congrFun (scr_13 arg3 harg3 x0 x1 x2 t) k]; exact hs _ k
  rw [out4_canon, ← scr_12 arg3 harg3, ← scr_13 arg3 harg3]
  refine (blk_skip 112 _ p t (by omega) _ _).trans ?_
  refine (blk_hit 96 _ p t r hp _ _).trans ?_
  rw [cd_6_eq, ex_6_eq]
  exact expert_head _ _ t h0 h1 r

theorem out4_head_7 (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) (r : Fin 16) (hp : p.val = 112 + r.val) :
    out0_A_4 (F := Ideal) c i arg1 harg1 arg2 harg2 arg3 harg3 arg4 harg4 arg5 harg5 arg6 harg6 arg7 harg7 x0 x1 x2 (ix3 0 p t)
      = expertS (scores x0 x1 x2 t 14) (scores x0 x1 x2 t 15) r := by
  have h0 : ∀ k, scr (F := Ideal) (qry x0 x1) arg3 harg3 x2 14 (ix2 k t) ≠ ⊥ := fun k => by
    rw [show scr (F := Ideal) (qry x0 x1) arg3 harg3 x2 14 (ix2 k t) = _ from congrFun (scr_14 arg3 harg3 x0 x1 x2 t) k]; exact hs _ k
  have h1 : ∀ k, scr (F := Ideal) (qry x0 x1) arg3 harg3 x2 15 (ix2 k t) ≠ ⊥ := fun k => by
    rw [show scr (F := Ideal) (qry x0 x1) arg3 harg3 x2 15 (ix2 k t) = _ from congrFun (scr_15 arg3 harg3 x0 x1 x2 t) k]; exact hs _ k
  rw [out4_canon, ← scr_14 arg3 harg3, ← scr_15 arg3 harg3]
  refine (blk_hit 112 _ p t r hp _ _).trans ?_
  rw [cd_7_eq, ex_7_eq]
  exact expert_head _ _ t h0 h1 r

/-- What a point leaves, by head, place and token. -/
theorem out4_apply (c : Dev nD) (i : grid0.Coords) (arg1 : Memref sig .tc .vmem S128x2048 .f32) (harg1 : arg1.IsWhole) (arg2 : Memref sig .tc .vmem S2048x2048 .bf16) (harg2 : arg2.IsWhole) (arg3 : Memref sig .tc .vmem S16x128x128 .bf16) (harg3 : arg3.IsWhole) (arg4 : Memref sig .tc .vmem S1x128x128 .f32) (harg4 : arg4.IsWhole) (arg5 : Memref sig .tc .vmem S1x128x128 .i32) (harg5 : arg5.IsWhole) (arg6 : Memref sig .tc .vmem S16x16x128 .f32) (harg6 : arg6.IsWhole) (arg7 : Memref sig .tc .vmem S16x16x128 .f32) (harg7 : arg7.IsWhole)
    (x0 : Vec Ideal S128x2048 .f32) (x1 : Vec Ideal S2048x2048 .bf16) (x2 : Vec Ideal S16x128x128 .bf16)
    (t : Fin 128) (hs : ∀ p k, scores x0 x1 x2 t p k ≠ ⊥) (p : Fin 128) :
    out0_A_4 (F := Ideal) c i arg1 harg1 arg2 harg2 arg3 harg3 arg4 harg4 arg5 harg5 arg6 harg6 arg7 harg7 x0 x1 x2 (ix3 0 p t)
      = expertS (scores x0 x1 x2 t (tb ⟨p.val / 16, by omega⟩ 0)) (scores x0 x1 x2 t (tb ⟨p.val / 16, by omega⟩ 1)) ⟨p.val % 16, by omega⟩ := by
  have key : ∀ h : Fin 8, p.val / 16 = h.val → out0_A_4 (F := Ideal) c i arg1 harg1 arg2 harg2 arg3 harg3 arg4 harg4 arg5 harg5 arg6 harg6 arg7 harg7 x0 x1 x2 (ix3 0 p t)
      = expertS (scores x0 x1 x2 t (tb h 0)) (scores x0 x1 x2 t (tb h 1)) ⟨p.val % 16, by omega⟩ := fun h hh => by
    match h with
    | ⟨0, _⟩ => exact out4_head_0 c i arg1 harg1 arg2 harg2 arg3 harg3 arg4 harg4 arg5 harg5 arg6 harg6 arg7 harg7 x0 x1 x2 t hs p ⟨p.val % 16, by omega⟩ (by have hh : p.val / 16 = 0 := hh; show p.val = 0 + p.val % 16; omega)
    | ⟨1, _⟩ => exact out4_head_1 c i arg1 harg1 arg2 harg2 arg3 harg3 arg4 harg4 arg5 harg5 arg6 harg6 arg7 harg7 x0 x1 x2 t hs p ⟨p.val % 16, by omega⟩ (by have hh : p.val / 16 = 1 := hh; show p.val = 16 + p.val % 16; omega)
    | ⟨2, _⟩ => exact out4_head_2 c i arg1 harg1 arg2 harg2 arg3 harg3 arg4 harg4 arg5 harg5 arg6 harg6 arg7 harg7 x0 x1 x2 t hs p ⟨p.val % 16, by omega⟩ (by have hh : p.val / 16 = 2 := hh; show p.val = 32 + p.val % 16; omega)
    | ⟨3, _⟩ => exact out4_head_3 c i arg1 harg1 arg2 harg2 arg3 harg3 arg4 harg4 arg5 harg5 arg6 harg6 arg7 harg7 x0 x1 x2 t hs p ⟨p.val % 16, by omega⟩ (by have hh : p.val / 16 = 3 := hh; show p.val = 48 + p.val % 16; omega)
    | ⟨4, _⟩ => exact out4_head_4 c i arg1 harg1 arg2 harg2 arg3 harg3 arg4 harg4 arg5 harg5 arg6 harg6 arg7 harg7 x0 x1 x2 t hs p ⟨p.val % 16, by omega⟩ (by have hh : p.val / 16 = 4 := hh; show p.val = 64 + p.val % 16; omega)
    | ⟨5, _⟩ => exact out4_head_5 c i arg1 harg1 arg2 harg2 arg3 harg3 arg4 harg4 arg5 harg5 arg6 harg6 arg7 harg7 x0 x1 x2 t hs p ⟨p.val % 16, by omega⟩ (by have hh : p.val / 16 = 5 := hh; show p.val = 80 + p.val % 16; omega)
    | ⟨6, _⟩ => exact out4_head_6 c i arg1 harg1 arg2 harg2 arg3 harg3 arg4 harg4 arg5 harg5 arg6 harg6 arg7 harg7 x0 x1 x2 t hs p ⟨p.val % 16, by omega⟩ (by have hh : p.val / 16 = 6 := hh; show p.val = 96 + p.val % 16; omega)
    | ⟨7, _⟩ => exact out4_head_7 c i arg1 harg1 arg2 harg2 arg3 harg3 arg4 harg4 arg5 harg5 arg6 harg6 arg7 harg7 x0 x1 x2 t hs p ⟨p.val % 16, by omega⟩ (by have hh : p.val / 16 = 7 := hh; show p.val = 112 + p.val % 16; omega)
    | ⟨n + 8, hn⟩ => exact absurd hn (by omega)
  exact key ⟨p.val / 16, by omega⟩ rfl

end Cert.Proof.RouteBlock

end
-- ==== Proof.RouteArray.lean ====
/-
  The router's two arrays: the tables of keys as the host lays them out, each grid point's 128 tokens, and the arrays of
  gates and experts the points fill (`final3_eq`, `final4_eq`), whatever the scores so long as none is −∞.
-/
module

public import proofs.«01_k».proof.Proof.RouteBlock
public import proofs.«01_k».proof.Proof.Gen.RouteIdeal.Value
public import Idealize.ShloMosaic.Lib.Pipeline.Value
public import Idealize.ShloMosaic.Lib.Pointwise
public import Idealize.ShloMosaic.Lib.ValueIdx
public import Idealize.ShloMosaic.Lib.Claim

@[expose] public section

set_option maxRecDepth 16384

noncomputable section

namespace Cert.Proof.RouteArray

open Cert.RouteIdeal Cert.RouteIdeal.Gen Idealize.ShloMosaic Idealize.ShloMosaic.TcCoe Idealize.SL.Sem
open Cert.Proof.RouteSpec Cert.Proof.RouteBlock Pointwise
open Idealize.ShloMosaic.Pipeline (Dat)

/-! ## The arrays as the region finds them -/

variable (m : (ℓ : Loc nD τ sig) → Buf (Elt Ideal) ℓ) (c : Dev nD)

/-- The tokens as launched. -/
abbrev hArg : Vec Ideal S16384x2048 .f32 := m ((c : Thread nD τ).loc main_arg0)
/-- The query's weights. -/
abbrev wArg : Vec Ideal S2048x2048 .f32 := m ((c : Thread nD τ).loc main_arg1)
/-- The tables of keys. -/
abbrev kArg : Vec Ideal S8x2x128x128 .f32 := m ((c : Thread nD τ).loc main_arg2)

/-- The tables in one row of sixteen. -/
def tables (k : Vec Ideal S8x2x128x128 .f32) : FVec Ideal S16x128x128 .bf16 :=
  truncf (F := Ideal) (φ := .f32) .bf16 (shapeCast S16x128x128 k shapeCasts_S8x2x128x128_S16x128x128) bitsLt_bf16_f32

theorem V0_eq : @Eq (FVec Ideal S2048x2048 .bf16) (V m c main_v0) (truncf (F := Ideal) (φ := .f32) .bf16 (wArg m c) bitsLt_bf16_f32) := by
  entry_read
  rfl

theorem V2_eq : @Eq (FVec Ideal S16x128x128 .bf16) (V m c main_v2) (tables (kArg m c)) := by
  unfold tables
  entry_read
  rfl

theorem tables_apply (k : Vec Ideal S8x2x128x128 .f32) (p : Fin 16) (i j : Fin 128) :
    tables k (ix3 p i j) = k (ix4 ⟨p.val / 2, by omega⟩ ⟨p.val % 2, by omega⟩ i j) := by
  pointwise [tables]

/-- A token's scores, from the arrays as launched. -/
def scoresOf (h : Vec Ideal S16384x2048 .f32) (w : Vec Ideal S2048x2048 .f32) (k : Vec Ideal S8x2x128x128 .f32) (n : Fin 16384) : Fin 16 → Fin 128 → EReal :=
  score (fun x => h (ix2 n x)) (fun x j => w (ix2 x j)) (fun p i d => k (ix4 ⟨p.val / 2, by omega⟩ ⟨p.val % 2, by omega⟩ i d))

/-- The array of gates: by block of tokens, place and token. -/
def gatesOf (h : Vec Ideal S16384x2048 .f32) (w : Vec Ideal S2048x2048 .f32) (k : Vec Ideal S8x2x128x128 .f32) : Vec Ideal S128x128x128 .f32 := fun i =>
  have h0 : (i 0).val < 128 := (i 0).isLt
  have h1 : (i 1).val < 128 := (i 1).isLt
  have h2 : (i 2).val < 128 := (i 2).isLt
  gateS (scoresOf h w k ⟨128 * (i 0).val + (i 2).val, by omega⟩ (tb ⟨(i 1).val / 16, by omega⟩ 0))
    (scoresOf h w k ⟨128 * (i 0).val + (i 2).val, by omega⟩ (tb ⟨(i 1).val / 16, by omega⟩ 1)) ⟨(i 1).val % 16, by omega⟩

/-- The array of experts. -/
def expertsOf (h : Vec Ideal S16384x2048 .f32) (w : Vec Ideal S2048x2048 .f32) (k : Vec Ideal S8x2x128x128 .f32) : Vec Ideal S128x128x128 .i32 := fun i =>
  have h0 : (i 0).val < 128 := (i 0).isLt
  have h1 : (i 1).val < 128 := (i 1).isLt
  have h2 : (i 2).val < 128 := (i 2).isLt
  expertS (scoresOf h w k ⟨128 * (i 0).val + (i 2).val, by omega⟩ (tb ⟨(i 1).val / 16, by omega⟩ 0))
    (scoresOf h w k ⟨128 * (i 0).val + (i 2).val, by omega⟩ (tb ⟨(i 1).val / 16, by omega⟩ 1)) ⟨(i 1).val % 16, by omega⟩

/-! ## The index maps -/

section Maps
variable (i : grid0.Coords)

theorem i0_lt : (i 0).val < 128 := (i 0).isLt

theorem toNat_small {n : ℕ} (h : n < 128) : (BitVec.ofNat 32 n).toNat = n := by rw [BitVec.toNat_ofNat]; omega

theorem map0 : cc0_transform_0 i = ![(i 0).val, 0] := by
  show ![(BitVec.ofNat 32 (i 0).val).toNat, 0] = _
  rw [toNat_small (i0_lt i)]
theorem map1 : cc0_transform_1 i = ![0, 0] := rfl
theorem map2 : cc0_transform_2 i = ![0, 0, 0] := rfl
theorem map3 : cc0_transform_3 i = ![(i 0).val, 0, 0] := by
  show ![(BitVec.ofNat 32 (i 0).val).toNat, 0, 0] = _
  rw [toNat_small (i0_lt i)]
theorem map4 : cc0_transform_4 i = ![(i 0).val, 0, 0] := by
  show ![(BitVec.ofNat 32 (i 0).val).toNat, 0, 0] = _
  rw [toNat_small (i0_lt i)]

end Maps

/-! ## A point's blocks -/

variable (t : Fin cfg0.N)

/-- Point `t`'s coordinate. -/
abbrev co : grid0.Coords := grid0.coords t

/-- The tokens' block of point `t`. -/
abbrev b0 : Vec Ideal S128x2048 .f32 := iblk m c 0 t
/-- The weights, whole. -/
abbrev b1 : Vec Ideal S2048x2048 .bf16 := iblk m c 1 t
/-- The tables, whole. -/
abbrev b2 : Vec Ideal S16x128x128 .bf16 := iblk m c 2 t

/-- The token of the block's row `r`. -/
abbrev row (r : Fin 128) : Fin 16384 := ⟨128 * (co t 0).val + r.val, by have := i0_lt (co t); omega⟩

theorem h_apply (r : Fin 128) (k : Fin 2048) : b0 m c t (ix2 r k) = hArg m c (ix2 (row t r) k) := by
  have h := map0 (co t)
  refine Eq.trans ?_ (congrFun (V_main_arg0 m c) (ix2 (row t r) k))
  refine congrArg (V m c main_arg0 : Vec Ideal S16384x2048 .f32) (funext fun a => Fin.ext ?_)
  match a with
  | ⟨0, _⟩ => show cc0_transform_0 (co t) 0 * 128 + 1 * r.val = 128 * (co t 0).val + r.val
              rw [h]; show (co t 0).val * 128 + 1 * r.val = _; omega
  | ⟨1, _⟩ => show cc0_transform_0 (co t) 1 * 2048 + 1 * k.val = k.val; rw [h]; show 0 * 2048 + 1 * k.val = _; omega

theorem w_apply (k j : Fin 2048) : b1 m c t (ix2 k j) = wArg m c (ix2 k j) := by
  have h := map1 (co t)
  refine Eq.trans ?_ (congrFun (V0_eq m c) (ix2 k j))
  refine congrArg (V m c main_v0 : Vec Ideal S2048x2048 .bf16) (funext fun a => Fin.ext ?_)
  match a with
  | ⟨0, _⟩ => show cc0_transform_1 (co t) 0 * 2048 + 1 * k.val = k.val; rw [h]; show 0 * 2048 + 1 * k.val = _; omega
  | ⟨1, _⟩ => show cc0_transform_1 (co t) 1 * 2048 + 1 * j.val = j.val; rw [h]; show 0 * 2048 + 1 * j.val = _; omega

theorem k_apply (p : Fin 16) (i j : Fin 128) : b2 m c t (ix3 p i j) = kArg m c (ix4 ⟨p.val / 2, by omega⟩ ⟨p.val % 2, by omega⟩ i j) := by
  have h := map2 (co t)
  refine Eq.trans ?_ ((congrFun (V2_eq m c) (ix3 p i j)).trans (tables_apply (kArg m c) p i j))
  refine congrArg (V m c main_v2 : Vec Ideal S16x128x128 .bf16) (funext fun a => Fin.ext ?_)
  match a with
  | ⟨0, _⟩ => show cc0_transform_2 (co t) 0 * 16 + 1 * p.val = p.val; rw [h]; show 0 * 16 + 1 * p.val = _; omega
  | ⟨1, _⟩ => show cc0_transform_2 (co t) 1 * 128 + 1 * i.val = i.val; rw [h]; show 0 * 128 + 1 * i.val = _; omega
  | ⟨2, _⟩ => show cc0_transform_2 (co t) 2 * 128 + 1 * j.val = j.val; rw [h]; show 0 * 128 + 1 * j.val = _; omega

theorem scores_eq (r : Fin 128) : scores (b0 m c t) (b1 m c t) (b2 m c t) r = scoresOf (hArg m c) (wArg m c) (kArg m c) (row t r) := by
  funext p k
  unfold scores scoresOf score
  simp only [h_apply, w_apply, k_apply]

variable (hs : ∀ n p k, scoresOf (hArg m c) (wArg m c) (kArg m c) n p k ≠ ⊥)

/-- An index of a written block. -/
theorem block_idx (y : S1x128x128.Idx) : ∃ p r : Fin 128, y = ix3 0 p r := ⟨y 1, y 2, by
  refine (eq_ix3 y).trans ?_
  have h0 : (y 0).val < 1 := (y 0).isLt
  exact congrArg (fun z => ix3 z (y 1) (y 2)) (Fin.ext (by show (y 0).val = 0; omega))⟩

include hs in
/-- What point `t` writes back of the gates. -/
theorem flushed3_eq (hf : (cfg0.win 3).flush t = true) :
    (dats m 0 c).flushed 3 t = ((cfg0.win 3).blk t).view.read (Elt Ideal) (gatesOf (hArg m c) (wArg m c) (kArg m c)) := by
  rw [Value.flushed3_A]
  funext y
  obtain ⟨p, r, rfl⟩ := block_idx y
  refine (out3_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (b0 m c t) (b1 m c t) (b2 m c t) r
    (fun p k => by rw [scores_eq]; exact hs _ p k) p).trans ?_
  rw [scores_eq]
  have h := map3 (co t)
  refine ((rfl : gatesOf (hArg m c) (wArg m c) (kArg m c) (ix3 (co t 0) p r) = _).symm.trans ?_ : _ = _)
  refine congrArg (gatesOf (hArg m c) (wArg m c) (kArg m c)) (funext fun a => Fin.ext ?_)
  match a with
  | ⟨0, _⟩ => show (co t 0).val = cc0_transform_3 (co t) 0 * 1 + 1 * 0
              rw [h]; show _ = (co t 0).val * 1 + 1 * 0; omega
  | ⟨1, _⟩ => show p.val = cc0_transform_3 (co t) 1 * 128 + 1 * p.val
              rw [h]; show _ = 0 * 128 + 1 * p.val; omega
  | ⟨2, _⟩ => show r.val = cc0_transform_3 (co t) 2 * 128 + 1 * r.val
              rw [h]; show _ = 0 * 128 + 1 * r.val; omega

include hs in
/-- What point `t` writes back of the experts. -/
theorem flushed4_eq (hf : (cfg0.win 4).flush t = true) :
    (dats m 0 c).flushed 4 t = ((cfg0.win 4).blk t).view.read (Elt Ideal) (expertsOf (hArg m c) (wArg m c) (kArg m c)) := by
  rw [Value.flushed4_A]
  funext y
  obtain ⟨p, r, rfl⟩ := block_idx y
  refine (out4_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (b0 m c t) (b1 m c t) (b2 m c t) r
    (fun p k => by rw [scores_eq]; exact hs _ p k) p).trans ?_
  rw [scores_eq]
  have h := map4 (co t)
  refine ((rfl : expertsOf (hArg m c) (wArg m c) (kArg m c) (ix3 (co t 0) p r) = _).symm.trans ?_ : _ = _)
  refine congrArg (expertsOf (hArg m c) (wArg m c) (kArg m c)) (funext fun a => Fin.ext ?_)
  match a with
  | ⟨0, _⟩ => show (co t 0).val = cc0_transform_4 (co t) 0 * 1 + 1 * 0
              rw [h]; show _ = (co t 0).val * 1 + 1 * 0; omega
  | ⟨1, _⟩ => show p.val = cc0_transform_4 (co t) 1 * 128 + 1 * p.val
              rw [h]; show _ = 0 * 128 + 1 * p.val; omega
  | ⟨2, _⟩ => show r.val = cc0_transform_4 (co t) 2 * 128 + 1 * r.val
              rw [h]; show _ = 0 * 128 + 1 * r.val; omega

/-- Every block of tokens is some grid point's. -/
theorem point_of : ∀ (a : Fin 128), ∃ t : Fin grid0.N, grid0.coords t 0 = a := by
  have h : ∀ t : Fin grid0.N, (grid0.coords t 0).val = t.val := by
    decide +kernel
  intro a
  have hN : grid0.N = 128 := N_0
  have h0 := h ⟨a.val, by omega⟩
  exact ⟨_, Fin.ext h0⟩

include hs in
/-- The array of gates after the run. -/
theorem final3_eq : (dats m 0 c).arrAt 3 cfg0.N = gatesOf (hArg m c) (wArg m c) (kArg m c) :=
  (dats m 0 c).arrAt_eq_of_cover 3 (gatesOf (hArg m c) (wArg m c) (kArg m c)) (fun t => flushed3_eq m c t hs) fun i => by
    have h0 : (i 0 : Nat) < 128 := (i 0).isLt
    have h1 : (i 1 : Nat) < 128 := (i 1).isLt
    have h2 : (i 2 : Nat) < 128 := (i 2).isLt
    obtain ⟨t, e0⟩ := point_of ⟨(i 0 : Nat), h0⟩
    have e0 : (co t 0).val = (i 0 : Nat) := congrArg Fin.val e0
    have h := map3 (co t)
    refine ⟨t, flush0_3 t, ?_⟩
    show i ∈ ((View.whole main_v3_0).slice (win0_3.rect t)).set
    rw [View.set_slice_whole, Rect.mem_set_unit]
    intro a
    match a with
    | ⟨0, _⟩ => show cc0_transform_3 (co t) 0 * 1 ≤ (i 0 : Nat) ∧ (i 0 : Nat) < cc0_transform_3 (co t) 0 * 1 + 1
                rw [h]; show (co t 0).val * 1 ≤ (i 0 : Nat) ∧ (i 0 : Nat) < (co t 0).val * 1 + 1; omega
    | ⟨1, _⟩ => show cc0_transform_3 (co t) 1 * 128 ≤ (i 1 : Nat) ∧ (i 1 : Nat) < cc0_transform_3 (co t) 1 * 128 + 128
                rw [h]; show 0 * 128 ≤ (i 1 : Nat) ∧ (i 1 : Nat) < 0 * 128 + 128; omega
    | ⟨2, _⟩ => show cc0_transform_3 (co t) 2 * 128 ≤ (i 2 : Nat) ∧ (i 2 : Nat) < cc0_transform_3 (co t) 2 * 128 + 128
                rw [h]; show 0 * 128 ≤ (i 2 : Nat) ∧ (i 2 : Nat) < 0 * 128 + 128; omega

include hs in
/-- The array of experts after the run. -/
theorem final4_eq : (dats m 0 c).arrAt 4 cfg0.N = expertsOf (hArg m c) (wArg m c) (kArg m c) :=
  (dats m 0 c).arrAt_eq_of_cover 4 (expertsOf (hArg m c) (wArg m c) (kArg m c)) (fun t => flushed4_eq m c t hs) fun i => by
    have h0 : (i 0 : Nat) < 128 := (i 0).isLt
    have h1 : (i 1 : Nat) < 128 := (i 1).isLt
    have h2 : (i 2 : Nat) < 128 := (i 2).isLt
    obtain ⟨t, e0⟩ := point_of ⟨(i 0 : Nat), h0⟩
    have e0 : (co t 0).val = (i 0 : Nat) := congrArg Fin.val e0
    have h := map4 (co t)
    refine ⟨t, flush0_4 t, ?_⟩
    show i ∈ ((View.whole main_v3_1).slice (win0_4.rect t)).set
    rw [View.set_slice_whole, Rect.mem_set_unit]
    intro a
    match a with
    | ⟨0, _⟩ => show cc0_transform_4 (co t) 0 * 1 ≤ (i 0 : Nat) ∧ (i 0 : Nat) < cc0_transform_4 (co t) 0 * 1 + 1
                rw [h]; show (co t 0).val * 1 ≤ (i 0 : Nat) ∧ (i 0 : Nat) < (co t 0).val * 1 + 1; omega
    | ⟨1, _⟩ => show cc0_transform_4 (co t) 1 * 128 ≤ (i 1 : Nat) ∧ (i 1 : Nat) < cc0_transform_4 (co t) 1 * 128 + 128
                rw [h]; show 0 * 128 ≤ (i 1 : Nat) ∧ (i 1 : Nat) < 0 * 128 + 128; omega
    | ⟨2, _⟩ => show cc0_transform_4 (co t) 2 * 128 ≤ (i 2 : Nat) ∧ (i 2 : Nat) < cc0_transform_4 (co t) 2 * 128 + 128
                rw [h]; show 0 * 128 ≤ (i 2 : Nat) ∧ (i 2 : Nat) < 0 * 128 + 128; omega

/-- The kernel's run, where no score is −∞, leaves the gates, the experts and its arguments. -/
theorem kernel_run (ρ : Dev nD → PrngReg) (hs : ∀ c n p k, scoresOf (hArg m c) (wArg m c) (kArg m c) n p k ≠ ⊥) :
    θ_run defs (onTc (τ := τ) (main (F := Ideal))) ⟨m, fun _ => 0, ρ⟩ fun r => ∀ c : Dev nD,
      r.2.mem ((c : Thread nD τ).loc main_v3_0) = gatesOf (hArg m c) (wArg m c) (kArg m c)
      ∧ r.2.mem ((c : Thread nD τ).loc main_v3_1) = expertsOf (hArg m c) (wArg m c) (kArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3_eq m c (hs c)), (h c).2.1.trans (final4_eq m c (hs c)), (h c).2.2⟩) (Value.run_blocks m ρ)

end Cert.Proof.RouteArray

end
-- ==== Proof.RouteRef.lean ====
/-
  The router's plain reference: its two sorted shortlists, its sixteen best pairs, the keys it takes along them and its
  softmax, entry by entry, are the kernel's (`ref_run`). This side needs no condition on the scores.
-/
module

public import proofs.«01_k».proof.Proof.RouteArray
public import proofs.«01_k».proof.Proof.Gen.RouteRefIdeal.Run
public import proofs.«01_k».proof.Proof.Gen.RouteRefIdeal.Read
public import proofs.«01_k».proof.Proof.Gen.Pre_scores_above_neg_inf
public import Idealize.ShloMosaic.Lib.KernelVsHost

@[expose] public section

set_option maxRecDepth 16384

noncomputable section

namespace Cert.Proof.RouteRef

open Cert.RouteRefIdeal Cert.RouteRefIdeal.Gen Cert.RouteRefIdeal.Read Idealize.ShloMosaic Idealize.ShloMosaic.TcCoe Idealize.SL.Sem
open Cert.Proof.RouteSpec Cert.Proof.RouteSort Cert.Proof.RouteRounds Pointwise
open Cert.Proof.RouteBlock (tb)
open Cert.Proof.RouteArray (scoresOf gatesOf expertsOf)

variable (x0 : Vec Ideal S16384x2048 .f32) (x1 : Vec Ideal S2048x2048 .f32) (x2 : Vec Ideal S8x2x128x128 .f32)

/-! ## The scores and the two sorts -/

/-- The reference's scores. -/
theorem v3_apply (n : Fin 16384) (h : Fin 8) (p : Fin 2) (k : Fin 128) :
    val_main_v3 (F := Ideal) x0 x1 x2 (ix4 n h p k) = scoresOf x0 x1 x2 n (tb h p) k := by
  rw [val_main_v3_apply, val_main_v2_apply]
  unfold scoresOf score
  refine Finset.sum_congr rfl fun d _ => ?_
  rw [val_main_v1_apply, val_main_v0_apply]
  refine congrArg₂ (· * ·) (congrArg x2 (funext fun a => Fin.ext ?_)) (Finset.sum_congr rfl fun x _ => ?_)
  · match a with
    | ⟨0, _⟩ => show h.val = (2 * h.val + p.val) / 2; omega
    | ⟨1, _⟩ => show p.val = (2 * h.val + p.val) % 2; omega
    | ⟨2, _⟩ => rfl
    | ⟨3, _⟩ => rfl
  · refine congrArg₂ (· * ·) (congrArg x0 (funext fun a => Fin.ext ?_)) (congrArg x1 (funext fun a => Fin.ext ?_))
    · match a with
      | ⟨0, _⟩ => show (((n.val * 8 + h.val) * 2 + p.val) * 128 + d.val) / 2048 = n.val; omega
      | ⟨1, _⟩ => rfl
    · match a with
      | ⟨0, _⟩ => rfl
      | ⟨1, _⟩ => show (((n.val * 8 + h.val) * 2 + p.val) * 128 + d.val) % 2048 = 128 * (2 * h.val + p.val) + d.val; omega

/-- The shortlists' scores. -/
theorem values_apply (n : Fin 16384) (h : Fin 8) (p : Fin 2) (r : Fin 16) :
    val_main_values (F := Ideal) x0 x1 x2 (ix4 n h p r) = scoresOf x0 x1 x2 n (tb h p) (key (scoresOf x0 x1 x2 n (tb h p)) r) := by
  refine (topK4 (val_main_v3 (F := Ideal) x0 x1 x2) _ (by decide) n h p r).1.trans ?_
  rw [funext fun k => v3_apply x0 x1 x2 n h p k, v3_apply]
  rfl

/-- And their keys. -/
theorem indices_apply (n : Fin 16384) (h : Fin 8) (p : Fin 2) (r : Fin 16) :
    val_main_indices (F := Ideal) x0 x1 x2 (ix4 n h p r) = BitVec.ofNat 32 (key (scoresOf x0 x1 x2 n (tb h p)) r).val := by
  refine (topK4 (val_main_v3 (F := Ideal) x0 x1 x2) _ (by decide) n h p r).2.trans ?_
  rw [funext fun k => v3_apply x0 x1 x2 n h p k]
  rfl

/-- The pairs' sums. -/
theorem v13_apply (n : Fin 16384) (h : Fin 8) (i : Fin 256) :
    val_main_v13 (F := Ideal) x0 x1 x2 (ix3 n h i) = pairs (scoresOf x0 x1 x2 n (tb h 0)) (scoresOf x0 x1 x2 n (tb h 1)) i := by
  unfold pairs
  rw [← values_apply, ← values_apply]
  unfold val_main_v13 val_main_v12 val_main_v11 val_main_v10 val_main_v9 val_main_v8 val_main_v7 val_main_v6 val_main_v5 val_main_v4
  generalize val_main_values (F := Ideal) x0 x1 x2 = z
  pointwise

/-- The sixteen best sums. -/
theorem values0_apply (n : Fin 16384) (h : Fin 8) (r : Fin 16) :
    val_main_values_0 (F := Ideal) x0 x1 x2 (ix3 n h r) = bestS (scoresOf x0 x1 x2 n (tb h 0)) (scoresOf x0 x1 x2 n (tb h 1)) r := by
  refine (topK3 (val_main_v13 (F := Ideal) x0 x1 x2) _ (by decide) n h r).1.trans ?_
  rw [funext fun i => v13_apply x0 x1 x2 n h i, v13_apply]
  rfl

/-- The numbers of their pairs. -/
theorem indices1_apply (n : Fin 16384) (h : Fin 8) (r : Fin 16) :
    val_main_indices_1 (F := Ideal) x0 x1 x2 (ix3 n h r) = BitVec.ofNat 32 (pair (scoresOf x0 x1 x2 n (tb h 0)) (scoresOf x0 x1 x2 n (tb h 1)) r).val := by
  refine (topK3 (val_main_v13 (F := Ideal) x0 x1 x2) _ (by decide) n h r).2.trans ?_
  rw [funext fun i => v13_apply x0 x1 x2 n h i]
  rfl

/-! ## The pair's two places -/

/-- A sign. -/
def sgn (b : BitVec 32) : BitVec 32 := if b = 0 then 0 else if b.msb then -1 else 1

/-- Division by sixteen, rounded down. -/
def floorW (b : BitVec 32) : BitVec 32 :=
  Scalar.select (IntOp.andi (IntOp.cmpi .ne (sgn b) (sgn 16#32)) (IntOp.cmpi .ne (IntOp.remsi .host b 16#32) 0#32))
    (IntOp.subi (IntOp.divsi .host b 16#32) 1#32) (IntOp.divsi .host b 16#32)

/-- The divisor, made one where it is zero. -/
def sixteen : BitVec 32 := Scalar.select (IntOp.cmpi .eq 16#32 0#32) 1#32 16#32

/-- The remainder with the divisor's sign. -/
def modW (b : BitVec 32) : BitVec 32 :=
  Scalar.select (IntOp.andi (IntOp.cmpi .ne (IntOp.cmpi .slt (IntOp.remsi .host b sixteen) 0#32) (IntOp.cmpi .slt sixteen 0#32))
      (IntOp.cmpi .ne (IntOp.remsi .host b sixteen) 0#32))
    (IntOp.addi (IntOp.remsi .host b sixteen) sixteen) (IntOp.remsi .host b sixteen)

theorem floorW_eq : ∀ i : Fin 256, floorW (BitVec.ofNat 32 i.val) = BitVec.ofNat 32 (i.val / 16) := by decide +kernel

theorem modW_eq : ∀ i : Fin 256, modW (BitVec.ofNat 32 i.val) = BitVec.ofNat 32 (i.val % 16) := by decide +kernel

theorem v16_eq (j : S16384x8x16.Idx) : val_main_v16 (F := Ideal) x0 x1 x2 j = floorW (val_main_indices_1 (F := Ideal) x0 x1 x2 j) := by
  unfold val_main_v16 val_main_call0_v13 val_main_call0_v11 val_main_call0_v10 val_main_call0_v8 val_main_call0_v6 val_main_call0_v3 val_main_call0_v2
  generalize val_main_indices_1 (F := Ideal) x0 x1 x2 = z
  rfl

theorem v20_eq (j : S16384x8x16.Idx) : val_main_v20 (F := Ideal) x0 x1 x2 j = modW (val_main_indices_1 (F := Ideal) x0 x1 x2 j) := by
  unfold val_main_v20 val_main_call2_v14 val_main_call2_v12 val_main_call2_v11 val_main_call2_v8 val_main_call2_v6 val_main_call2_v4
  generalize val_main_indices_1 (F := Ideal) x0 x1 x2 = z
  rfl

/-! ## Taking along the last axis -/

/-- A take's read: along the last axis at the start index's place. -/
theorem gather_apply (x : IVec S16384x8x16 32) (idx : IVec S16384x8x16x1 32) (n : Fin 16384) (h : Fin 8) (r q : Fin 16)
    (hq : idx (ix4 n h r 0) = BitVec.ofNat 32 q.val) :
    Host.gather gather_S16384x8x16_S16384x8x16x1_S16384x8x16_n_2_01_01_2_3_111 x idx (ix3 n h r) = x (ix3 n h q) := by
  have c0 : GatherDims.start gather_S16384x8x16_S16384x8x16x1_S16384x8x16_n_2_01_01_2_3_111 (ix3 n h r) idx 0 + GatherDims.batchCoord gather_S16384x8x16_S16384x8x16x1_S16384x8x16_n_2_01_01_2_3_111 (ix3 n h r) 0 + GatherDims.offCoord gather_S16384x8x16_S16384x8x16x1_S16384x8x16_n_2_01_01_2_3_111 (ix3 n h r) 0 = n.val := by
    rw [GatherDims.start_batching _ _ _ _ (by decide), GatherDims.offCoord_eq_zero _ _ _ (by decide), Nat.zero_add, Nat.add_zero]
    unfold GatherDims.batchCoord
    rw [dif_pos (by decide)]
    rfl
  have c1 : GatherDims.start gather_S16384x8x16_S16384x8x16x1_S16384x8x16_n_2_01_01_2_3_111 (ix3 n h r) idx 1 + GatherDims.batchCoord gather_S16384x8x16_S16384x8x16x1_S16384x8x16_n_2_01_01_2_3_111 (ix3 n h r) 1 + GatherDims.offCoord gather_S16384x8x16_S16384x8x16x1_S16384x8x16_n_2_01_01_2_3_111 (ix3 n h r) 1 = h.val := by
    rw [GatherDims.start_batching _ _ _ _ (by decide), GatherDims.offCoord_eq_zero _ _ _ (by decide), Nat.zero_add, Nat.add_zero]
    unfold GatherDims.batchCoord
    rw [dif_pos (by decide)]
    rfl
  have c2 : GatherDims.start gather_S16384x8x16_S16384x8x16x1_S16384x8x16_n_2_01_01_2_3_111 (ix3 n h r) idx 2 + GatherDims.batchCoord gather_S16384x8x16_S16384x8x16x1_S16384x8x16_n_2_01_01_2_3_111 (ix3 n h r) 2 + GatherDims.offCoord gather_S16384x8x16_S16384x8x16x1_S16384x8x16_n_2_01_01_2_3_111 (ix3 n h r) 2 = q.val := by
    rw [GatherDims.batchCoord_eq_zero _ _ _ (by decide), GatherDims.offCoord_eq_zero _ _ _ (by decide), Nat.add_zero]
    unfold GatherDims.start
    rw [dif_pos (by decide)]
    have e : idx (GatherDims.siIdx gather_S16384x8x16_S16384x8x16x1_S16384x8x16_n_2_01_01_2_3_111 (ix3 n h r) ⟨0, by decide⟩) = BitVec.ofNat 32 q.val := by
      refine Eq.trans (congrArg idx (funext fun b => Fin.ext ?_)) hq
      match b with
      | ⟨0, _⟩ => rfl
      | ⟨1, _⟩ => rfl
      | ⟨2, _⟩ => rfl
      | ⟨3, _⟩ => rfl
    refine (congrArg (fun w : BitVec 32 => min w.toInt.toNat 15) e).trans ?_
    show min (BitVec.ofNat 32 q.val).toInt.toNat 15 = q.val
    have hq := q.isLt
    rw [BitVec.toInt_eq_toNat_of_lt (by rw [BitVec.toNat_ofNat]; omega), BitVec.toNat_ofNat]
    omega
  refine congrArg x (funext fun a => Fin.ext ?_)
  match a with
  | ⟨0, _⟩ => exact c0
  | ⟨1, _⟩ => exact c1
  | ⟨2, _⟩ => exact c2

/-- A conjunction over an axis of ones. -/
theorem all_ones (x : IVec S16384x8x16x1 1) (init : IVec S_ 1) (hx : ∀ i, x i = 1#1) (hi : ∀ i, init i = 1#1) (j : S16384x8x16.Idx) :
    Host.reduce IntOp.andi x init reducesTo_S16384x8x16x1_S16384x8x16_d3 h_S_ j = 1#1 := by
  have key : ∀ L : List S16384x8x16x1.Idx, L.foldl (fun a i => IntOp.andi a (x i)) 1#1 = 1#1 := by
    intro L
    induction L with
    | nil => rfl
    | cons a L ih => rw [List.foldl_cons, hx]; exact ih
  rw [Host.reduce_eq_foldl, hi]
  exact key _

/-- A negative place counts from the end. -/
def wrap (b : BitVec 32) : BitVec 32 := Scalar.select (IntOp.cmpi .slt b 0#32) (IntOp.addi b 16#32) b

theorem wrap_eq : ∀ i : Fin 16, wrap (BitVec.ofNat 32 i.val) = BitVec.ofNat 32 i.val := by decide +kernel

theorem inside_eq : ∀ i : Fin 16, IntOp.andi (IntOp.cmpi .sge (BitVec.ofNat 32 i.val) 0#32) (IntOp.cmpi .sle (BitVec.ofNat 32 i.val) 15#32) = 1#1 := by
  decide +kernel

/-- The places with a last axis of one. -/
def places (z : IVec S16384x8x16 32) : IVec S16384x8x16x1 32 := shapeCast _ (fun j => wrap (z j)) shapeCasts_S16384x8x16_S16384x8x16x1

/-- The take, as the reference prints it. -/
def take (x z : IVec S16384x8x16 32) : IVec S16384x8x16 32 :=
  fun j => Scalar.select
    (Host.reduce IntOp.andi (fun i => IntOp.andi (IntOp.cmpi .sge (places z i) 0#32) (IntOp.cmpi .sle (places z i) 15#32)) (constantI S_ 1 1#1)
      reducesTo_S16384x8x16x1_S16384x8x16_d3 h_S_ j)
    (Host.gather gather_S16384x8x16_S16384x8x16x1_S16384x8x16_n_2_01_01_2_3_111 x (places z) j) 2147483648#32

theorem places_apply (z : IVec S16384x8x16 32) (i : S16384x8x16x1.Idx) : places z i = wrap (z (ix3 (i 0) (i 1) (i 2))) := by
  unfold places
  refine shapeCast_apply (fun j => wrap (z j)) shapeCasts_S16384x8x16_S16384x8x16x1 i (ix3 (i 0) (i 1) (i 2)) ?_
  rw [Shape.rowMajor_val_three, Shape.rowMajor_val_four]
  have h3 : (i 3).val < 1 := (i 3).isLt
  show ((i 0).val * 8 + (i 1).val) * 16 + (i 2).val = (((i 0).val * 8 + (i 1).val) * 16 + (i 2).val) * 1 + (i 3).val
  omega

theorem sel_one (a b : BitVec 32) : Scalar.select 1#1 a b = a := rfl

theorem take_apply (x z : IVec S16384x8x16 32) (q : Fin 16384 → Fin 8 → Fin 16 → Fin 16) (hz : ∀ n h r, z (ix3 n h r) = BitVec.ofNat 32 (q n h r).val)
    (n : Fin 16384) (h : Fin 8) (r : Fin 16) : take x z (ix3 n h r) = x (ix3 n h (q n h r)) := by
  have hp : ∀ i, places z i = BitVec.ofNat 32 (q (i 0) (i 1) (i 2)).val := fun i => (places_apply z i).trans ((congrArg wrap (hz (i 0) (i 1) (i 2))).trans (wrap_eq _))
  have hm := all_ones (fun i => IntOp.andi (IntOp.cmpi .sge (places z i) 0#32) (IntOp.cmpi .sle (places z i) 15#32)) (constantI S_ 1 1#1)
    (fun i => by rw [hp]; exact inside_eq _) (fun _ => rfl) (ix3 n h r)
  unfold take
  rw [hm]
  exact (sel_one _ _).trans (gather_apply x (places z) n h r (q n h r) (hp _))

theorem v17_eq : val_main_v17 (F := Ideal) x0 x1 x2 = take (val_main_v15 (F := Ideal) x0 x1 x2) (val_main_v16 (F := Ideal) x0 x1 x2) := by
  unfold val_main_v17 val_main_call1_v13 val_main_call1_v12 val_main_call1_v11 val_main_call1_v10 val_main_call1_v7 val_main_call1_v5 val_main_call1_v4 val_main_call1_v3 val_main_call1_v1
  generalize val_main_v15 (F := Ideal) x0 x1 x2 = x
  generalize val_main_v16 (F := Ideal) x0 x1 x2 = z
  rfl

theorem v21_eq : val_main_v21 (F := Ideal) x0 x1 x2 = take (val_main_v19 (F := Ideal) x0 x1 x2) (val_main_v20 (F := Ideal) x0 x1 x2) := by
  unfold val_main_v21 val_main_call3_v13 val_main_call3_v12 val_main_call3_v11 val_main_call3_v10 val_main_call3_v7 val_main_call3_v5 val_main_call3_v4 val_main_call3_v3 val_main_call3_v1
  generalize val_main_v19 (F := Ideal) x0 x1 x2 = x
  generalize val_main_v20 (F := Ideal) x0 x1 x2 = z
  rfl

theorem v15_apply (n : Fin 16384) (h : Fin 8) (r : Fin 16) :
    val_main_v15 (F := Ideal) x0 x1 x2 (ix3 n h r) = BitVec.ofNat 32 (key (scoresOf x0 x1 x2 n (tb h 0)) r).val := by
  rw [← indices_apply]
  unfold val_main_v15 val_main_v14
  generalize val_main_indices (F := Ideal) x0 x1 x2 = z
  pointwise

theorem v19_apply (n : Fin 16384) (h : Fin 8) (r : Fin 16) :
    val_main_v19 (F := Ideal) x0 x1 x2 (ix3 n h r) = BitVec.ofNat 32 (key (scoresOf x0 x1 x2 n (tb h 1)) r).val := by
  rw [← indices_apply]
  unfold val_main_v19 val_main_v18
  generalize val_main_indices (F := Ideal) x0 x1 x2 = z
  pointwise

/-- The experts. -/
theorem v24_apply (n : Fin 16384) (h : Fin 8) (r : Fin 16) :
    val_main_v24 (F := Ideal) x0 x1 x2 (ix3 n h r) = expertS (scoresOf x0 x1 x2 n (tb h 0)) (scoresOf x0 x1 x2 n (tb h 1)) r := by
  have e0 := take_apply (val_main_v15 (F := Ideal) x0 x1 x2) (val_main_v16 (F := Ideal) x0 x1 x2)
    (fun n h r => ⟨(pair (scoresOf x0 x1 x2 n (tb h 0)) (scoresOf x0 x1 x2 n (tb h 1)) r).val / 16, by omega⟩)
    (fun n h r => by rw [v16_eq, indices1_apply, floorW_eq]) n h r
  have e1 := take_apply (val_main_v19 (F := Ideal) x0 x1 x2) (val_main_v20 (F := Ideal) x0 x1 x2)
    (fun n h r => ⟨(pair (scoresOf x0 x1 x2 n (tb h 0)) (scoresOf x0 x1 x2 n (tb h 1)) r).val % 16, by omega⟩)
    (fun n h r => by rw [v20_eq, indices1_apply, modW_eq]) n h r
  rw [← v17_eq, v15_apply] at e0
  rw [← v21_eq, v19_apply] at e1
  show val_main_v17 (F := Ideal) x0 x1 x2 (ix3 n h r) * 128#32 + val_main_v21 (F := Ideal) x0 x1 x2 (ix3 n h r) = _
  rw [e0, e1]
  unfold expertS row0 row1
  rw [BitVec.ofNat_add, BitVec.ofNat_mul]

/-! ## The gates -/

/-- The best of the best sums is the first. -/
theorem best_max (s0 s1 : Fin 128 → EReal) : Finset.fold max ⊥ (bestS s0 s1) Finset.univ = bestS s0 s1 0 := by
  refine fold_max_eq _ _ (fun r => ?_) 0 rfl
  by_cases e : r = 0
  · rw [e]
  · have lt : (⟨(0 : Fin 16).val, by omega⟩ : Fin 256) < ⟨r.val, by omega⟩ := by
      show 0 < r.val
      exact Nat.pos_of_ne_zero fun h => e (Fin.ext h)
    rcases (sorts_ord (pairs s0 s1)).ord _ _ lt with h | h
    · exact h.le
    · exact h.1.le

/-- A maximum along the last axis. -/
theorem max_apply (z : FVec Ideal S16384x8x16 .f32) (c : FVec Ideal S_ .f32) (n : Fin 16384) (h : Fin 8) :
    Host.reduce FloatOps.maximumf z c reducesTo_S16384x8x16_S16384x8_d2 h_S_ (ix2 n h)
      = Finset.univ.fold max (c (Shape.Idx.first h_S_)) (fun r : Fin 16 => z (ix3 n h r)) := by
  have e := Host.reduce_eq_fold (max : EReal → EReal → EReal) z c reducesTo_S16384x8x16_S16384x8_d2 h_S_ (ix2 n h)
  exact e.trans (reducesTo_S16384x8x16_S16384x8_d2.fold_fiber_r3_a2 (ix2 n h) (max : EReal → EReal → EReal) (c (Shape.Idx.first h_S_)) z)

/-- The softmax's maximum. -/
theorem v27_apply (n : Fin 16384) (h : Fin 8) :
    val_main_v27 (F := Ideal) x0 x1 x2 (ix2 n h) = bestS (scoresOf x0 x1 x2 n (tb h 0)) (scoresOf x0 x1 x2 n (tb h 1)) 0 := by
  have e : val_main_v25 (F := Ideal) x0 x1 x2 (ix2 n h) = bestS (scoresOf x0 x1 x2 n (tb h 0)) (scoresOf x0 x1 x2 n (tb h 1)) 0 := by
    unfold val_main_v25
    rw [max_apply, val_main_cst_apply, funext fun r => values0_apply x0 x1 x2 n h r]
    refine Eq.trans ?_ (best_max _ _)
    exact congrArg (fun b => Finset.fold max b (bestS (scoresOf x0 x1 x2 n (tb h 0)) (scoresOf x0 x1 x2 n (tb h 1))) Finset.univ)
      Cert.Proof.RouteRead.c_bot
  rw [val_main_v27_apply, e, val_main_v26_apply, val_main_cst_4_apply]
  refine (congrArg (fun b : EReal => max b (bestS (scoresOf x0 x1 x2 n (tb h 0)) (scoresOf x0 x1 x2 n (tb h 1)) 0))
    Cert.Proof.RouteRead.c_bot).trans ?_
  exact max_eq_right bot_le

/-- The softmax's numerators. -/
theorem v31_apply (n : Fin 16384) (h : Fin 8) (r : Fin 16) :
    val_main_v31 (F := Ideal) x0 x1 x2 (ix3 n h r) = Ideal.exp (bestS (scoresOf x0 x1 x2 n (tb h 0)) (scoresOf x0 x1 x2 n (tb h 1)) r
      - bestS (scoresOf x0 x1 x2 n (tb h 0)) (scoresOf x0 x1 x2 n (tb h 1)) 0) := by
  rw [val_main_v31_apply, val_main_v30_apply, values0_apply, val_main_v29_apply, val_main_v28_apply]
  have e : idx_main_v28 (idx_main_v29 (ix3 n h r)) = ix2 n h := funext fun a => match a with
    | ⟨0, _⟩ => rfl
    | ⟨1, _⟩ => rfl
  rw [e, v27_apply]
  rfl

/-- The gates. -/
theorem v35_apply (n : Fin 16384) (h : Fin 8) (r : Fin 16) :
    val_main_v35 (F := Ideal) x0 x1 x2 (ix3 n h r) = gateS (scoresOf x0 x1 x2 n (tb h 0)) (scoresOf x0 x1 x2 n (tb h 1)) r := by
  rw [val_main_v35_apply, v31_apply, val_main_v34_apply, val_main_v33_apply, val_main_v32_apply]
  have e : ∀ k : Fin 16, idx_main_v32 (idx_main_v33 (idx_main_v34 (ix3 n h r))) k = ix3 n h k := fun k => funext fun a => match a with
    | ⟨0, _⟩ => rfl
    | ⟨1, _⟩ => rfl
    | ⟨2, _⟩ => rfl
  have z : val_main_cst_5 (F := Ideal) (Shape.Idx.first h_S_) = 0 := by
    show Ideal.ofBits FTy.f32 0#32 = 0
    simp [Ideal.ofBits, Ideal.ieee]
  rw [z, zero_add, Finset.sum_congr rfl fun k _ => (congrArg (val_main_v31 (F := Ideal) x0 x1 x2) (e k)).trans (v31_apply x0 x1 x2 n h k)]
  rfl

/-! ## The results -/

theorem gates_eq : val_main_v37 (F := Ideal) x0 x1 x2 = gatesOf x0 x1 x2 := by
  funext i
  obtain ⟨g, p, t, rfl⟩ : ∃ g p t : Fin 128, i = ix3 g p t := ⟨i 0, i 1, i 2, eq_ix3 i⟩
  rw [val_main_v37_apply, val_main_v36_apply]
  refine Eq.trans (congrArg (val_main_v35 (F := Ideal) x0 x1 x2) (funext fun a => Fin.ext ?_))
    (v35_apply x0 x1 x2 ⟨128 * g.val + t.val, by omega⟩ ⟨p.val / 16, by omega⟩ ⟨p.val % 16, by omega⟩)
  match a with
  | ⟨0, _⟩ => show ((g.val * 128 + t.val) * 128 + p.val) / 128 = 128 * g.val + t.val; omega
  | ⟨1, _⟩ => show ((g.val * 128 + t.val) * 128 + p.val) / 16 % 8 = p.val / 16; omega
  | ⟨2, _⟩ => show ((g.val * 128 + t.val) * 128 + p.val) % 16 = p.val % 16; omega

theorem experts_eq : val_main_v39 (F := Ideal) x0 x1 x2 = expertsOf x0 x1 x2 := by
  funext i
  obtain ⟨g, p, t, rfl⟩ : ∃ g p t : Fin 128, i = ix3 g p t := ⟨i 0, i 1, i 2, eq_ix3 i⟩
  rw [val_main_v39_apply, val_main_v38_apply]
  refine Eq.trans (congrArg (val_main_v24 (F := Ideal) x0 x1 x2) (funext fun a => Fin.ext ?_))
    (v24_apply x0 x1 x2 ⟨128 * g.val + t.val, by omega⟩ ⟨p.val / 16, by omega⟩ ⟨p.val % 16, by omega⟩)
  match a with
  | ⟨0, _⟩ => show ((g.val * 128 + t.val) * 128 + p.val) / 128 = 128 * g.val + t.val; omega
  | ⟨1, _⟩ => show ((g.val * 128 + t.val) * 128 + p.val) / 16 % 8 = p.val / 16; omega
  | ⟨2, _⟩ => show ((g.val * 128 + t.val) * 128 + p.val) % 16 = p.val % 16; omega

/-- Under the condition every score is above minus infinity. -/
theorem scores_ne_bot (hp : Cert.Pre_scores_above_neg_inf.fn (F := Ideal) x0 x1 x2 = fun _ => 1#1) (n : Fin 16384) (t : Fin 16) (k : Fin 128) :
    scoresOf x0 x1 x2 n t k ≠ ⊥ := by
  have e : Cert.Pre_scores_above_neg_inf.fn (F := Ideal) x0 x1 x2
      = fun i => FloatOps.cmpf (F := Ideal) (φ := .f32) .ogt (val_main_v3 (F := Ideal) x0 x1 x2 i) (Ideal.ofBits .f32 4286578688#32) := by
    unfold val_main_v3 val_main_v2 val_main_v1 val_main_v0
    rfl
  have q := congrFun (e.symm.trans hp) (ix4 n ⟨t.val / 2, by omega⟩ ⟨t.val % 2, by omega⟩ k)
  have ht : tb ⟨t.val / 2, by omega⟩ ⟨t.val % 2, by omega⟩ = t := Fin.ext (by show 2 * (t.val / 2) + t.val % 2 = t.val; omega)
  rw [v3_apply, ht, Cert.Proof.RouteRead.c_bot] at q
  intro h
  rw [h] at q
  revert q
  simp [FloatOps.cmpf, Ideal.cmp]

/-- The reference's run leaves the kernel's results. -/
theorem ref_run (m : (ℓ : Loc nD τ sig) → Buf (Elt Ideal) ℓ) (ρ : Dev nD → PrngReg) (h : Dev nD → Vec Ideal S16384x2048 .f32) (w : Dev nD → Vec Ideal S2048x2048 .f32)
    (k : Dev nD → Vec Ideal S8x2x128x128 .f32)
    (h0 : ∀ c : Dev nD, m ((c.tc : Thread nD τ).loc main_arg0) = h c) (h1 : ∀ c : Dev nD, m ((c.tc : Thread nD τ).loc main_arg1) = w c)
    (h2 : ∀ c : Dev nD, m ((c.tc : Thread nD τ).loc main_arg2) = k c) :
    θ_run defs (onTc (τ := τ) (main (F := Ideal))) ⟨m, fun _ => 0, ρ⟩ fun r => ∀ c : Dev nD,
      r.2.mem ((c.tc : Thread nD τ).loc main_v37) = gatesOf (h c) (w c) (k c)
      ∧ r.2.mem ((c.tc : Thread nD τ).loc main_v39) = expertsOf (h c) (w c) (k c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r q c => by
    obtain ⟨hr, hr', hk⟩ := q c
    have a0 : StableHlo.launchContents m c (Proc.devRef .tc main_arg0) = h c := h0 c
    have a1 : StableHlo.launchContents m c (Proc.devRef .tc main_arg1) = w c := h1 c
    have a2 : StableHlo.launchContents m c (Proc.devRef .tc main_arg2) = k c := h2 c
    refine ⟨hr.trans ((val_main_v37_eq _).trans ?_), hr'.trans ((val_main_v39_eq _).trans ?_), hk⟩
    · rw [a0, a1, a2]
      exact gates_eq (h c) (w c) (k c)
    · rw [a0, a1, a2]
      exact experts_eq (h c) (w c) (k c))
    (Cert.RouteRefIdeal.Value.run (F := Ideal) m ρ)

end Cert.Proof.RouteRef

end
-- ==== Proof.CmpSpec.lean ====
/-
  The compression of the keys and values of the compressed branch, entry by entry: a summary reads thirty-two
  consecutive tokens, sixteen from each of two consecutive strides, multiplies each token's channels (shifted by the
  position's embedding) by the position's weights, adds the products up, and passes the sum through a gelu and a second
  layer.
-/
module

public import Idealize.ShloMosaic.Lib.Pointwise

@[expose] public section

noncomputable section

namespace Cert.Proof.CmpSpec

open Idealize.ShloMosaic Pointwise

/-- The channel of the projected tokens that channel `d` of table `c` is. -/
def colOf (c : Fin 4) (d : Fin 128) : Fin 5632 := ⟨1024 + 128 * c.val + d.val, by omega⟩
/-- The `s`-th token of stride `n`. -/
def rowOf (n : Fin 128) (s : Fin 16) : Fin 2048 := ⟨16 * n.val + s.val, by omega⟩
/-- The stride after stride `n`, the first after the last. -/
def nxt (n : Fin 128) : Fin 128 := ⟨(n.val + 1) % 128, by omega⟩
/-- Table `c`'s kind: keys (0) or values (1). -/
def kind (c : Fin 4) : Fin 2 := ⟨c.val / 2, by omega⟩
/-- The position in the summary of the `s`-th token of its half `o`. -/
def posOf (o : Fin 2) (s : Fin 16) : Fin 32 := ⟨16 * o.val + s.val, by omega⟩

variable (y : Vec Ideal (⟨3, ![8, 2048, 5632]⟩ : Shape) .f32) (pe : Vec Ideal (⟨3, ![2, 32, 128]⟩ : Shape) .f32)
  (w1 : Vec Ideal (⟨4, ![2, 32, 128, 128]⟩ : Shape) .f32) (w2 : Vec Ideal (⟨3, ![2, 128, 128]⟩ : Shape) .f32)

/-- What stride `n` contributes to a summary as its half `o`. -/
def part (o : Fin 2) (b : Fin 8) (c : Fin 4) (n j : Fin 128) : Ideal .f32 :=
  ∑ s : Fin 16, ∑ d : Fin 128,
    (y (ix3 b (rowOf n s) (colOf c d)) + pe (ix3 (kind c) (posOf o s) d)) * w1 (ix4 (kind c) (posOf o s) d j)

/-- The hidden layer of summary `n`. -/
def hid (b : Fin 8) (c : Fin 4) (n j : Fin 128) : Ideal .f32 :=
  part y pe w1 0 b c n j + part y pe w1 1 b c (nxt n) j

/-- The tanh form of the gelu. -/
def gelu (h : Ideal .f32) : Ideal .f32 :=
  FloatOps.mulf (FloatOps.mulf (Scalar.ofBits (F := Ideal) .f32 0x3F000000#32) h)
    (FloatOps.addf (Scalar.ofBits (F := Ideal) .f32 0x3F800000#32)
      (FloatOps.tanh (FloatOps.mulf (Scalar.ofBits (F := Ideal) .f32 0x3F4C422A#32)
        (FloatOps.addf h (FloatOps.mulf (Scalar.ofBits (F := Ideal) .f32 0x3D372713#32) (FloatOps.mulf (FloatOps.mulf h h) h))))))

/-- One entry of a summary. -/
def res (b : Fin 8) (c : Fin 4) (n k : Fin 128) : Ideal .f32 :=
  ∑ j : Fin 128, gelu (hid y pe w1 b c n j) * w2 (ix3 (kind c) j k)

end Cert.Proof.CmpSpec

end
-- ==== Proof.CmpBlock.lean ====
/-
  A point of the compression: the block it writes back, as sums over the strides of its blocks (`out_apply`).
-/
module

public import proofs.«01_k».proof.Proof.CmpSpec
public import proofs.«01_k».proof.Proof.Gen.CmpIdeal.Frame
public import Idealize.ShloMosaic.Lib.Pipeline.Value
public import Idealize.ShloMosaic.Lib.Pointwise
public import Idealize.ShloMosaic.Lib.ValueIdx
public import Idealize.ShloMosaic.Lib.KernelVsHost
public import Idealize.ShloMosaic.Lib.VecWindow

@[expose] public section

set_option maxRecDepth 16384

noncomputable section

namespace Cert.Proof.CmpBlock

open Cert.CmpIdeal Cert.CmpIdeal.Gen Idealize.ShloMosaic Idealize.ShloMosaic.TcCoe Idealize.ShloMosaic.Tactic Idealize.SL.Sem
open Cert.Proof.CmpSpec Pointwise

/-- The accumulator before the first stride. -/
def zer : FVec Ideal S128x128 .f32 := broadcast S128x128 (Scalar.ofBits .f32 0x00000000#32)

/-- The accumulator after one more position: the position's tokens, shifted by its embedding, times its weights. -/
def stp (a : FVec Ideal S128x128 .f32) (r : Vec Ideal S1x128x128 .f32) (p : Vec Ideal S1x1x128 .f32) (w : Vec Ideal S1x1x128x128 .bf16) :
    FVec Ideal S128x128 .f32 :=
  addf a (matmul (φ₂ := .bf16) dot_S128x128_S128x128_S128x128_1_0_0_1_n_n none
    (truncf .bf16 (addf (shapeCast S128x128 r shapeCasts_S1x128x128_S128x128)
      (broadcastTo S128x128 (shapeCast S1x128 p shapeCasts_S1x1x128_S1x128) broadcasts_S1x128_S128x128)) bitsLt_bf16_f32)
    (shapeCast S128x128 w shapeCasts_S1x1x128x128_S128x128) (constant S128x128 .f32 0x00000000#32))

/-- The accumulator after sixteen positions. -/
def half (r : Fin 16 → Vec Ideal S1x128x128 .f32) (p : Fin 16 → Vec Ideal S1x1x128 .f32) (w : Fin 16 → Vec Ideal S1x1x128x128 .bf16) :
    FVec Ideal S128x128 .f32 :=
  stp (stp (stp (stp (stp (stp (stp (stp (stp (stp (stp (stp (stp (stp (stp (stp zer (r 0) (p 0) (w 0)) (r 1) (p 1) (w 1)) (r 2) (p 2) (w 2)) (r 3) (p 3) (w 3)) (r 4) (p 4) (w 4)) (r 5) (p 5) (w 5)) (r 6) (p 6) (w 6)) (r 7) (p 7) (w 7)) (r 8) (p 8) (w 8)) (r 9) (p 9) (w 9)) (r 10) (p 10) (w 10)) (r 11) (p 11) (w 11)) (r 12) (p 12) (w 12)) (r 13) (p 13) (w 13)) (r 14) (p 14) (w 14)) (r 15) (p 15) (w 15)

/-- The first half of each summary and the second half of the one before. -/
def tot (a b : FVec Ideal S128x128 .f32) : FVec Ideal S128x128 .f32 :=
  addf a (dynamicRotate 0 127#32 none b rotates_S128x128_d0)

/-- The gelu and the second layer. -/
def fin (h : FVec Ideal S128x128 .f32) (w : Vec Ideal S1x128x128 .bf16) : FVec Ideal S1x1x128x128 .f32 :=
  k0_pay1 h (mulf (broadcast S128x128 (Scalar.ofBits .f32 0x3F000000#32)) h) (mulf (mulf h h) h) k0_pay26 w

/-- The starting sum is zero everywhere. -/
theorem zer_apply (n j : Fin 128) : zer (ix2 n j) = 0 := by
  pointwise [zer]

/-- One step adds the product of a row of the block, moved by its position, with the matrix of that position. -/
theorem stp_apply (a : FVec Ideal S128x128 .f32) (r : Vec Ideal S1x128x128 .f32) (p : Vec Ideal S1x1x128 .f32) (w : Vec Ideal S1x1x128x128 .bf16)
    (n j : Fin 128) : stp a r p w (ix2 n j)
      = a (ix2 n j) + ∑ d : Fin 128, (r (ix3 0 n d) + p (ix3 0 0 d)) * w (ix4 0 0 d j) := by
  pointwise [stp]

/-- A sum of sixteen terms, written out. -/
theorem sum16 (f : Fin 16 → Ideal .f32) : ∑ s, f s = 0 + f 0 + f 1 + f 2 + f 3 + f 4 + f 5 + f 6 + f 7 + f 8 + f 9 + f 10 + f 11 + f 12 + f 13 + f 14 + f 15 := by
  simp only [Fin.sum_univ_castSucc, Fin.sum_univ_zero]
  rfl

/-- Sixteen steps give the sum over sixteen positions. -/
theorem half_apply (r : Fin 16 → Vec Ideal S1x128x128 .f32) (p : Fin 16 → Vec Ideal S1x1x128 .f32) (w : Fin 16 → Vec Ideal S1x1x128x128 .bf16)
    (n j : Fin 128) : half r p w (ix2 n j)
      = ∑ s : Fin 16, ∑ d : Fin 128, (r s (ix3 0 n d) + p s (ix3 0 0 d)) * w s (ix4 0 0 d j) := by
  rw [sum16]
  unfold half
  simp only [stp_apply, zer_apply]

/-- The two halves meet with the second shifted by one row, around the end. -/
theorem tot_apply (a b : FVec Ideal S128x128 .f32) (n j : Fin 128) : tot a b (ix2 n j) = a (ix2 n j) + b (ix2 (nxt n) j) := by
  refine congrArg (fun z : Ideal .f32 => a (ix2 n j) + z) ?_
  refine dynamicRotate_apply 0 127#32 b _ (ix2 n j) (ix2 (nxt n) j) fun k => ?_
  match k with
  | ⟨0, _⟩ => show (n.val + 1) % 128 = (n.val + 128 - 127 % 128) % 128; omega
  | ⟨1, _⟩ => rfl

/-- The activation and the last product, entry by entry. -/
theorem fin_apply (h : FVec Ideal S128x128 .f32) (w : Vec Ideal S1x128x128 .bf16) (n k : Fin 128) :
    fin h w (ix4 0 0 n k) = ∑ j : Fin 128, gelu (h (ix2 n j)) * w (ix3 0 j k) := by
  pointwise [fin, k0_pay1, k0_pay26, gelu]

section Run
variable (c : Dev nD) (i : grid0.Coords) (arg2 : Memref sig .tc .vmem S1x2048x128 .f32) (harg2 : arg2.IsWhole) (arg3 : Memref sig .tc .vmem S1x32x128 .f32) (harg3 : arg3.IsWhole) (arg4 : Memref sig .tc .vmem S1x32x128x128 .bf16) (harg4 : arg4.IsWhole) (arg5 : Memref sig .tc .vmem S1x128x128 .bf16) (harg5 : arg5.IsWhole) (arg6 : Memref sig .tc .vmem S1x1x128x128 .f32) (harg6 : arg6.IsWhole)
    (x0 : Vec Ideal S1x2048x128 .f32) (x1 : Vec Ideal S1x32x128 .f32) (x2 : Vec Ideal S1x32x128x128 .bf16) (x3 : Vec Ideal S1x128x128 .bf16)

/-- The tokens at position `s` of every stride. -/
def rd (s : Fin 16) : Vec Ideal S1x128x128 .f32 :=
  View.readAt (Elt Ideal) arg2.view (⟨![0, s.val, 0], S1x128x128.size, ![1, 16, 1], fun a => by
    have := s.isLt
    match a with
    | ⟨0, _⟩ => exact .inr (by show 0 + 1 * (1 - 1) < 1; omega)
    | ⟨1, _⟩ => exact .inr (by show s.val + 16 * (128 - 1) < 2048; omega)
    | ⟨2, _⟩ => exact .inr (by show 0 + 1 * (128 - 1) < 128; omega)⟩ : LoadRect S1x2048x128) (harg2.unread x0)

/-- The embedding of position `s`. -/
def rp (s : Fin 32) : Vec Ideal S1x1x128 .f32 :=
  View.readAt (Elt Ideal) arg3.view (Rect.unit (s := S1x32x128) ![0, s.val, 0] S1x1x128.size fun a => by
    have := s.isLt
    match a with
    | ⟨0, _⟩ => show 0 + 1 ≤ 1; omega
    | ⟨1, _⟩ => show s.val + 1 ≤ 32; omega
    | ⟨2, _⟩ => show 0 + 128 ≤ 128; omega).toLoadRect (harg3.unread x1)

/-- The weights of position `s`. -/
def rw1 (s : Fin 32) : Vec Ideal S1x1x128x128 .bf16 :=
  View.readAt (Elt Ideal) arg4.view (Rect.unit (s := S1x32x128x128) ![0, s.val, 0, 0] S1x1x128x128.size fun a => by
    have := s.isLt
    match a with
    | ⟨0, _⟩ => show 0 + 1 ≤ 1; omega
    | ⟨1, _⟩ => show s.val + 1 ≤ 32; omega
    | ⟨2, _⟩ => show 0 + 128 ≤ 128; omega
    | ⟨3, _⟩ => show 0 + 128 ≤ 128; omega).toLoadRect (harg4.unread x2)

/-- The strided reading of the activations takes every sixteenth row. -/
theorem rd_apply (s : Fin 16) (n d : Fin 128) : rd arg2 harg2 x0 s (ix3 0 n d) = x0 (ix3 0 (rowOf n s) d) := by
  refine (congrFun (harg2.read_unread x0) _).trans (congrArg x0 (funext fun a => Fin.ext ?_))
  match a with
  | ⟨0, _⟩ => rfl
  | ⟨1, _⟩ => show s.val + 16 * n.val = 16 * n.val + s.val; omega
  | ⟨2, _⟩ => show 0 + 1 * d.val = d.val; omega

/-- The reading of one position vector. -/
theorem rp_apply (s : Fin 32) (d : Fin 128) : rp arg3 harg3 x1 s (ix3 0 0 d) = x1 (ix3 0 s d) := by
  refine (congrFun (harg3.read_unread x1) _).trans (congrArg x1 (funext fun a => Fin.ext ?_))
  match a with
  | ⟨0, _⟩ => rfl
  | ⟨1, _⟩ => show s.val + 1 * 0 = s.val; omega
  | ⟨2, _⟩ => show 0 + 1 * d.val = d.val; omega

/-- The reading of the matrix of one position. -/
theorem rw1_apply (s : Fin 32) (d j : Fin 128) : rw1 arg4 harg4 x2 s (ix4 0 0 d j) = x2 (ix4 0 s d j) := by
  refine (congrFun (harg4.read_unread x2) _).trans (congrArg x2 (funext fun a => Fin.ext ?_))
  match a with
  | ⟨0, _⟩ => rfl
  | ⟨1, _⟩ => show s.val + 1 * 0 = s.val; omega
  | ⟨2, _⟩ => show 0 + 1 * d.val = d.val; omega
  | ⟨3, _⟩ => show 0 + 1 * j.val = j.val; omega

/-- The block a point writes back, as its loads leave it. -/
theorem out_eq : out0_A_4 c i arg2 harg2 arg3 harg3 arg4 harg4 arg5 harg5 arg6 harg6 x0 x1 x2 x3
    = fin (tot
        (half (rd arg2 harg2 x0) (fun s => rp arg3 harg3 x1 (posOf 0 s)) fun s => rw1 arg4 harg4 x2 (posOf 0 s))
        (half (rd arg2 harg2 x0) (fun s => rp arg3 harg3 x1 (posOf 1 s)) fun s => rw1 arg4 harg4 x2 (posOf 1 s))) x3 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_cons_unit_zero (by funext a; fin_cases a <;> rfl)]
  sl_unfold_words
  have e5 : ∀ h, View.readAt (Elt Ideal) arg5.view (Rect.unit ![0, 0, 0] S1x128x128.size h).toLoadRect (harg5.unread x3) = x3 :=
    fun h => (View.readAt_full _ _ _).trans (harg5.read_unread x3)
  rw [e5]
  rfl

/-- The block a point writes back, entry by entry. -/
theorem out_apply (n k : Fin 128) : out0_A_4 c i arg2 harg2 arg3 harg3 arg4 harg4 arg5 harg5 arg6 harg6 x0 x1 x2 x3 (ix4 0 0 n k)
    = ∑ j : Fin 128, gelu ((∑ s : Fin 16, ∑ d : Fin 128, (x0 (ix3 0 (rowOf n s) d) + x1 (ix3 0 (posOf 0 s) d)) * x2 (ix4 0 (posOf 0 s) d j))
        + ∑ s : Fin 16, ∑ d : Fin 128, (x0 (ix3 0 (rowOf (nxt n) s) d) + x1 (ix3 0 (posOf 1 s) d)) * x2 (ix4 0 (posOf 1 s) d j))
      * x3 (ix3 0 j k) := by
  rw [out_eq, fin_apply]
  simp only [tot_apply, half_apply, rd_apply, rp_apply, rw1_apply]

end Run

end Cert.Proof.CmpBlock

end
-- ==== Proof.CmpArray.lean ====
/-
  The compression over the prompt group: each grid point summarizes the strides of one table of one sequence, and the
  blocks fill the array (`final_eq`).
-/
module

public import proofs.«01_k».proof.Proof.CmpBlock
public import Idealize.ShloMosaic.Lib.Claim

@[expose] public section

set_option maxRecDepth 16384

noncomputable section

namespace Cert.Proof.CmpArray

open Cert.CmpIdeal Cert.CmpIdeal.Gen Idealize.ShloMosaic Idealize.ShloMosaic.TcCoe Idealize.SL.Sem
open Cert.Proof.CmpSpec Pointwise
open Idealize.ShloMosaic.Pipeline (Dat)

variable (m : (ℓ : Loc nD τ sig) → Buf (Elt Ideal) ℓ) (c : Dev nD)

/-- The projected tokens as launched. -/
abbrev yArg : Vec Ideal S8x2048x5632 .f32 := m ((c : Thread nD τ).loc main_arg0)
/-- The positions' embeddings as launched. -/
abbrev peArg : Vec Ideal S2x32x128 .f32 := m ((c : Thread nD τ).loc main_arg1)
/-- The first layer's weights as launched. -/
abbrev w1Arg : Vec Ideal S2x32x128x128 .f32 := m ((c : Thread nD τ).loc main_arg2)
/-- The second layer's weights as launched. -/
abbrev w2Arg : Vec Ideal S2x128x128 .f32 := m ((c : Thread nD τ).loc main_arg3)

/-- The array of summaries. -/
def big (y : Vec Ideal S8x2048x5632 .f32) (pe : Vec Ideal S2x32x128 .f32) (w1 : Vec Ideal S2x32x128x128 .f32) (w2 : Vec Ideal S2x128x128 .f32) :
    Vec Ideal S8x4x128x128 .f32 := fun i => res y pe w1 w2 (i 0) (i 1) (i 2) (i 3)

/-- The first layer's weights as the region finds them. -/
theorem V0_eq : (V m c main_v0 : Vec Ideal S2x32x128x128 .bf16) = w1Arg m c := by
  entry_read
  rfl

/-- The second layer's weights as the region finds them. -/
theorem V1_eq : (V m c main_v1 : Vec Ideal S2x128x128 .bf16) = w2Arg m c := by
  entry_read
  rfl

/-! ## The index maps -/

variable (t : Fin cfg0.N)

/-- Point `t`'s coordinates: sequence, table. -/
abbrev co : grid0.Coords := grid0.coords t
/-- Point `t`'s sequence. -/
abbrev sq : Fin 8 := grid0.coords t 0
/-- Point `t`'s table. -/
abbrev tb : Fin 4 := grid0.coords t 1

/-- Where the block of the activations lies at each point. -/
theorem map0 : ∀ t : Fin cfg0.N, cc0_transform_0 (grid0.coords t) 0 = (grid0.coords t 0).val ∧ cc0_transform_0 (grid0.coords t) 1 = 0
    ∧ cc0_transform_0 (grid0.coords t) 2 = 8 + (grid0.coords t 1).val := by decide +kernel
/-- Where the block of the positions lies at each point. -/
theorem map1 : ∀ t : Fin cfg0.N, cc0_transform_1 (grid0.coords t) 0 = (grid0.coords t 1).val / 2 ∧ cc0_transform_1 (grid0.coords t) 1 = 0
    ∧ cc0_transform_1 (grid0.coords t) 2 = 0 := by decide +kernel
/-- Where the block of the first matrices lies at each point. -/
theorem map2 : ∀ t : Fin cfg0.N, cc0_transform_2 (grid0.coords t) 0 = (grid0.coords t 1).val / 2 ∧ cc0_transform_2 (grid0.coords t) 1 = 0
    ∧ cc0_transform_2 (grid0.coords t) 2 = 0 ∧ cc0_transform_2 (grid0.coords t) 3 = 0 := by decide +kernel
/-- Where the block of the second matrix lies at each point. -/
theorem map3 : ∀ t : Fin cfg0.N, cc0_transform_3 (grid0.coords t) 0 = (grid0.coords t 1).val / 2 ∧ cc0_transform_3 (grid0.coords t) 1 = 0
    ∧ cc0_transform_3 (grid0.coords t) 2 = 0 := by decide +kernel
/-- Where the block of the result lies at each point. -/
theorem map4 : ∀ t : Fin cfg0.N, cc0_transform_4 (grid0.coords t) 0 = (grid0.coords t 0).val ∧ cc0_transform_4 (grid0.coords t) 1 = (grid0.coords t 1).val
    ∧ cc0_transform_4 (grid0.coords t) 2 = 0 ∧ cc0_transform_4 (grid0.coords t) 3 = 0 := by decide +kernel

/-! ## A point's blocks -/

/-- The tokens' block of point `t`. -/
abbrev b0 : Vec Ideal S1x2048x128 .f32 := iblk m c 0 t
/-- The embeddings' block. -/
abbrev b1 : Vec Ideal S1x32x128 .f32 := iblk m c 1 t
/-- The first layer's block. -/
abbrev b2 : Vec Ideal S1x32x128x128 .bf16 := iblk m c 2 t
/-- The second layer's block. -/
abbrev b3 : Vec Ideal S1x128x128 .bf16 := iblk m c 3 t

/-- The block of activations read at an entry. -/
theorem y_apply (r : Fin 2048) (d : Fin 128) : b0 m c t (ix3 0 r d) = yArg m c (ix3 (sq t) r (colOf (tb t) d)) := by
  obtain ⟨h0, h1, h2⟩ := map0 t
  refine (congrFun (V_main_arg0 m c) _).trans ?_
  refine congrArg (yArg m c) (funext fun a => Fin.ext ?_)
  match a with
  | ⟨0, _⟩ => show cc0_transform_0 (grid0.coords t) 0 * 1 + 1 * 0 = (grid0.coords t 0).val; rw [h0]; omega
  | ⟨1, _⟩ => show cc0_transform_0 (grid0.coords t) 1 * 2048 + 1 * r.val = r.val; rw [h1]; omega
  | ⟨2, _⟩ => show cc0_transform_0 (grid0.coords t) 2 * 128 + 1 * d.val = 1024 + 128 * (grid0.coords t 1).val + d.val; rw [h2]; omega

/-- The block of positions read at an entry. -/
theorem pe_apply (s : Fin 32) (d : Fin 128) : b1 m c t (ix3 0 s d) = peArg m c (ix3 (kind (tb t)) s d) := by
  obtain ⟨h0, h1, h2⟩ := map1 t
  refine (congrFun (V_main_arg1 m c) _).trans ?_
  refine congrArg (peArg m c) (funext fun a => Fin.ext ?_)
  match a with
  | ⟨0, _⟩ => show cc0_transform_1 (grid0.coords t) 0 * 1 + 1 * 0 = (grid0.coords t 1).val / 2; rw [h0]; omega
  | ⟨1, _⟩ => show cc0_transform_1 (grid0.coords t) 1 * 32 + 1 * s.val = s.val; rw [h1]; omega
  | ⟨2, _⟩ => show cc0_transform_1 (grid0.coords t) 2 * 128 + 1 * d.val = d.val; rw [h2]; omega

/-- The block of first matrices read at an entry. -/
theorem w1_apply (s : Fin 32) (d j : Fin 128) : b2 m c t (ix4 0 s d j) = w1Arg m c (ix4 (kind (tb t)) s d j) := by
  obtain ⟨h0, h1, h2, h3⟩ := map2 t
  refine (congrFun (V0_eq m c) _).trans ?_
  refine congrArg (w1Arg m c) (funext fun a => Fin.ext ?_)
  match a with
  | ⟨0, _⟩ => show cc0_transform_2 (grid0.coords t) 0 * 1 + 1 * 0 = (grid0.coords t 1).val / 2; rw [h0]; omega
  | ⟨1, _⟩ => show cc0_transform_2 (grid0.coords t) 1 * 32 + 1 * s.val = s.val; rw [h1]; omega
  | ⟨2, _⟩ => show cc0_transform_2 (grid0.coords t) 2 * 128 + 1 * d.val = d.val; rw [h2]; omega
  | ⟨3, _⟩ => show cc0_transform_2 (grid0.coords t) 3 * 128 + 1 * j.val = j.val; rw [h3]; omega

/-- The block of the second matrix read at an entry. -/
theorem w2_apply (j k : Fin 128) : b3 m c t (ix3 0 j k) = w2Arg m c (ix3 (kind (tb t)) j k) := by
  obtain ⟨h0, h1, h2⟩ := map3 t
  refine (congrFun (V1_eq m c) _).trans ?_
  refine congrArg (w2Arg m c) (funext fun a => Fin.ext ?_)
  match a with
  | ⟨0, _⟩ => show cc0_transform_3 (grid0.coords t) 0 * 1 + 1 * 0 = (grid0.coords t 1).val / 2; rw [h0]; omega
  | ⟨1, _⟩ => show cc0_transform_3 (grid0.coords t) 1 * 128 + 1 * j.val = j.val; rw [h1]; omega
  | ⟨2, _⟩ => show cc0_transform_3 (grid0.coords t) 2 * 128 + 1 * k.val = k.val; rw [h2]; omega

/-- Point `t`'s block, entry by entry, is its table of its sequence. -/
theorem block_apply (n k : Fin 128) : outsAt0 m c t (ix4 0 0 n k)
    = res (yArg m c) (peArg m c) (w1Arg m c) (w2Arg m c) (sq t) (tb t) n k := by
  unfold outsAt0
  refine (CmpBlock.out_apply c _ _ _ _ _ _ _ _ _ _ _ (b0 m c t) (b1 m c t) (b2 m c t) (b3 m c t) n k).trans ?_
  simp only [y_apply, pe_apply, w1_apply, w2_apply]
  rfl

/-- What point `t` writes back is its block of the array of summaries. -/
theorem flushed_eq (hf : (cfg0.win 4).flush t = true) :
    (dats m 0 c).flushed 4 t = ((cfg0.win 4).blk t).view.read (Elt Ideal) (big (yArg m c) (peArg m c) (w1Arg m c) (w2Arg m c)) := by
  show (cfg0.win 4).cut (grid0.coords t) ((dats m 0 c).after 4 t) = _
  rw [after0_4]
  funext y
  have hy : ∃ n k : Fin 128, y = ix4 0 0 n k := ⟨y 2, y 3, by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
    | ⟨3, _⟩ => rfl⟩
  obtain ⟨n, k, rfl⟩ := hy
  refine (block_apply m c t n k).trans ?_
  obtain ⟨h0, h1, h2, h3⟩ := map4 t
  refine ((rfl : big (yArg m c) (peArg m c) (w1Arg m c) (w2Arg m c) (ix4 (sq t) (tb t) n k) = _).symm.trans ?_ : _ = _)
  refine congrArg (big (yArg m c) (peArg m c) (w1Arg m c) (w2Arg m c)) (funext fun a => Fin.ext ?_)
  match a with
  | ⟨0, _⟩ => show (grid0.coords t 0).val = cc0_transform_4 (grid0.coords t) 0 * 1 + 1 * 0; rw [h0]; omega
  | ⟨1, _⟩ => show (grid0.coords t 1).val = cc0_transform_4 (grid0.coords t) 1 * 1 + 1 * 0; rw [h1]; omega
  | ⟨2, _⟩ => show n.val = cc0_transform_4 (grid0.coords t) 2 * 128 + 1 * n.val; rw [h2]; omega
  | ⟨3, _⟩ => show k.val = cc0_transform_4 (grid0.coords t) 3 * 128 + 1 * k.val; rw [h3]; omega

/-- Every table of every sequence is some grid point's. -/
theorem point_of : ∀ (a : Fin 8) (b : Fin 4), ∃ t : Fin grid0.N, grid0.coords t 0 = a ∧ grid0.coords t 1 = b := by
  have h : ∀ t : Fin grid0.N, (grid0.coords t 0).val = t.val / 4 ∧ (grid0.coords t 1).val = t.val % 4 := by
    decide +kernel
  intro a b
  have hN : grid0.N = 32 := N_0
  obtain ⟨h0, h1⟩ := h ⟨a.val * 4 + b.val, by omega⟩
  dsimp only at h0 h1
  exact ⟨_, Fin.ext (h0.trans (by omega)), Fin.ext (h1.trans (by omega))⟩

/-- The result array after the run is the array of summaries. -/
theorem final_eq : (dats m 0 c).arrAt 4 cfg0.N = big (yArg m c) (peArg m c) (w1Arg m c) (w2Arg m c) :=
  (dats m 0 c).arrAt_eq_of_cover 4 (big (yArg m c) (peArg m c) (w1Arg m c) (w2Arg m c)) (flushed_eq m c) fun i => by
    have l2 : (i 2 : Nat) < 128 := (i 2).isLt
    have l3 : (i 3 : Nat) < 128 := (i 3).isLt
    obtain ⟨t, e0, e1⟩ := point_of (i 0) (i 1)
    have e0 : (grid0.coords t 0).val = (i 0 : Nat) := congrArg Fin.val e0
    have e1 : (grid0.coords t 1).val = (i 1 : Nat) := congrArg Fin.val e1
    obtain ⟨h0, h1, h2, h3⟩ := map4 t
    refine ⟨t, flush0_4 t, ?_⟩
    show i ∈ ((View.whole main_v2).slice (win0_4.rect t)).set
    rw [View.set_slice_whole, Rect.mem_set_unit]
    intro a
    match a with
    | ⟨0, _⟩ => show cc0_transform_4 (grid0.coords t) 0 * 1 ≤ (i 0 : Nat) ∧ (i 0 : Nat) < cc0_transform_4 (grid0.coords t) 0 * 1 + 1
                rw [h0]; omega
    | ⟨1, _⟩ => show cc0_transform_4 (grid0.coords t) 1 * 1 ≤ (i 1 : Nat) ∧ (i 1 : Nat) < cc0_transform_4 (grid0.coords t) 1 * 1 + 1
                rw [h1]; omega
    | ⟨2, _⟩ => show cc0_transform_4 (grid0.coords t) 2 * 128 ≤ (i 2 : Nat) ∧ (i 2 : Nat) < cc0_transform_4 (grid0.coords t) 2 * 128 + 128
                rw [h2]; omega
    | ⟨3, _⟩ => show cc0_transform_4 (grid0.coords t) 3 * 128 ≤ (i 3 : Nat) ∧ (i 3 : Nat) < cc0_transform_4 (grid0.coords t) 3 * 128 + 128
                rw [h3]; omega

end Cert.Proof.CmpArray

end
-- ==== Proof.CmpTail.lean ====
/-
  The summaries the host keeps of the array of the prompt group's: all but the last of each table (`tail_run`).
-/
module

public import proofs.«01_k».proof.Proof.CmpArray
public import Idealize.ShloMosaic.Lib.StableHlo.Run
public import Idealize.ShloMosaic.Lib.Pipeline.FrameSuffix

@[expose] public section

set_option maxRecDepth 16384

noncomputable section

namespace Cert.Proof.CmpTail

open Cert.CmpIdeal Cert.CmpIdeal.Gen Idealize.ShloMosaic Idealize.ShloMosaic.TcCoe Idealize.SL.Sem Idealize.ShloMosaic.StableHlo
open Cert.Proof.CmpArray

variable (m : (ℓ : Loc nD τ sig) → Buf (Elt Ideal) ℓ) (c : Dev nD)

/-- The summaries kept. -/
abbrev kept (y : Vec Ideal S8x4x128x128 .f32) : Vec Ideal S8x4x127x128 .f32 :=
  extractStridedSlice S8x4x127x128 ![0, 0, 0, 0] y slices_S8x4x128x128_S8x4x127x128_0_0_0_0

/-- The host's cut reads the region's array. -/
theorem after3 (W : Valuation τ sig (Elt Ideal)) (y : Vec Ideal S8x4x128x128 .f32) (h : W (Proc.devRef .tc main_v2) = y) :
    after hostOps1 W (Proc.devRef .tc main_v3) = kept y := by
  subst h; simp only [hostOps1]; after_results <;> rfl

/-- The region leaves the array of summaries in its array. -/
theorem exit_eq : Pipeline.withArrays (cfgs 0).spec c (V0 m c) (fun w => (dats m 0 c).arrAt w (cfgs 0).N) (Proc.devRef .tc main_v2)
    = big (yArg m c) (peArg m c) (w1Arg m c) (w2Arg m c) :=
  (Pipeline.withArrays_arr spec0 launch0.win.arr_inj c (V0 m c) (fun w => (dats m 0 c).arrAt w (cfgs 0).N) 4).trans (final_eq m c)

/-- The result's buffer after the run. -/
theorem tail_result (ρ : Dev nD → PrngReg) : θ_run defs (onTc (τ := τ) (main (F := Ideal))) ⟨m, fun _ => 0, ρ⟩ (fun r => ∀ c : Dev nD,
    r.2.mem ((c.tc : Thread nD τ).loc main_v3) = kept (big (yArg m c) (peArg m c) (w1Arg m c) (w2Arg m c))) :=
  (θ_run defs _ _).mono (fun r h c => by
    have g := fun b hb => (h c).2 b hb
    have e := exit_eq m c
    have l : ([hostOps1] : List (List (HloOp τ sig (Elt Ideal)))).flatten = hostOps1 := by simp only [List.flatten_cons, List.flatten_nil, List.append_nil]
    unfold Pipeline.afterTail₀ at g
    rw [l] at g
    exact (g main_v3 (Pipeline.mem_restRefs_of main_v3 (by decide) (by decide))).trans (after3 _ _ e))
    (run_main m ρ)

/-- The kernel's result, of the array of summaries. -/
theorem tail_run (ρ : Dev nD → PrngReg) : θ_run defs (onTc (τ := τ) (main (F := Ideal))) ⟨m, fun _ => 0, ρ⟩ (fun r => ∀ c : Dev nD,
    r.2.mem ((c.tc : Thread nD τ).loc main_v3) = kept (big (yArg m c) (peArg m c) (w1Arg m c) (w2Arg m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨h.1 c, h.2 c⟩) (θ_run_and (tail_result m ρ) (unchanged m ρ))

end Cert.Proof.CmpTail

end
-- ==== Proof.CmpRef.lean ====
/-
  The reference's summaries read at an index; its result is the kernel's (`ref_run`).
-/
module

public import proofs.«01_k».proof.Proof.CmpTail
public import proofs.«01_k».proof.Proof.Gen.CmpRefIdeal.Run
public import proofs.«01_k».proof.Proof.Gen.CmpRefIdeal.Read

@[expose] public section

set_option maxRecDepth 16384

noncomputable section

namespace Cert.Proof.CmpRef

open Cert.CmpRefIdeal Cert.CmpRefIdeal.Gen Cert.CmpRefIdeal.Read Idealize.ShloMosaic Idealize.ShloMosaic.TcCoe Idealize.SL.Sem
open Cert.Proof.CmpSpec Pointwise
open Cert.Proof.CmpArray (big)
open Cert.Proof.CmpTail (kept)

variable (y : Vec Ideal S8x2048x5632 .f32) (pe : Vec Ideal S2x32x128 .f32) (w1 : Vec Ideal S2x32x128x128 .f32) (w2 : Vec Ideal S2x128x128 .f32)

/-! ## The keys -/

/-- The table of group `g`'s keys. -/
def tab0 (g : Fin 2) : Fin 4 := ⟨0 + g.val, by omega⟩

/-- The first two columns are keys. -/
theorem kind_tab0 (g : Fin 2) : kind (tab0 g) = 0 := Fin.ext (by show (0 + g.val) / 2 = 0; omega)

/-- Channels of the keys by token and group. -/
theorem v3_apply (b : Fin 8) (t : Fin 2048) (g : Fin 2) (d : Fin 128) : val_main_v3 (F := Ideal) y (ix4 b t g d)
    = y (ix3 b t (colOf (tab0 g) d)) := by
  pointwise [val_main_v3, val_main_v2, val_main_v1, val_main_v0]
  exact congrArg (fun r => y (ix3 b t r)) (Fin.ext (by show 1024 + (g.val * 128 + d.val) = 1024 + 128 * (0 + g.val) + d.val; omega))

/-- Channels of the keys by stride, position and group. -/
theorem v10_apply (b : Fin 8) (n : Fin 128) (s : Fin 16) (g : Fin 2) (d : Fin 128) : val_main_v10 (F := Ideal) y (ix5 b n s g d)
    = y (ix3 b (rowOf n s) (colOf (tab0 g) d)) := by
  refine Eq.trans ?_ (v3_apply y b (rowOf n s) g d)
  unfold val_main_v10
  generalize val_main_v3 (F := Ideal) y = z
  pointwise
  exact congrArg (fun r => z (ix4 b r g d)) (Fin.ext (by show n.val * 16 + s.val = 16 * n.val + s.val; omega))

/-- The first half's embeddings of the keys. -/
theorem v15_apply (s : Fin 16) (d : Fin 128) : val_main_v15 (F := Ideal) pe (ix3 s 0 d) = pe (ix3 0 (posOf 0 s) d) := by
  pointwise [val_main_v15, val_main_v14, val_main_v11, val_main_v5, val_main_v4, posOf]

/-- The first half's weights of the keys. -/
theorem v20_apply (s : Fin 16) (d j : Fin 128) : val_main_v20 (F := Ideal) w1 (ix3 s d j) = w1 (ix4 0 (posOf 0 s) d j) := by
  pointwise [val_main_v20, val_main_v19, val_main_v12, val_main_v7, val_main_v6, posOf]

/-- The first half's contribution to the summaries of the keys. -/
theorem v21_apply (b : Fin 8) (n : Fin 127) (g : Fin 2) (j : Fin 128) : val_main_v21 (F := Ideal) y pe w1 (ix4 b n g j)
    = part y pe w1 0 b (tab0 g) ⟨n.val, by omega⟩ j := by
  have e : ∀ (s : Fin 16) (d : Fin 128), val_main_v18 (F := Ideal) y pe (ix5 b n s g d)
      = y (ix3 b (rowOf ⟨n.val, by omega⟩ s) (colOf (tab0 g) d)) + pe (ix3 0 (posOf 0 s) d) := fun s d => by
    rw [← v10_apply y, ← v15_apply pe]
    unfold val_main_v18 val_main_v17 val_main_v16 val_main_v13
    generalize val_main_v10 (F := Ideal) y = z
    generalize val_main_v15 (F := Ideal) pe = q
    pointwise
  have f := v20_apply w1
  unfold part
  rw [kind_tab0]
  simp only [← e, ← f]
  unfold val_main_v21
  generalize val_main_v18 (F := Ideal) y pe = z
  generalize val_main_v20 (F := Ideal) w1 = q
  pointwise
  exact Finset.sum_comm

/-- The second half's embeddings of the keys. -/
theorem v24_apply (s : Fin 16) (d : Fin 128) : val_main_v24 (F := Ideal) pe (ix3 s 0 d) = pe (ix3 0 (posOf 1 s) d) := by
  pointwise [val_main_v24, val_main_v23, val_main_v11, val_main_v5, val_main_v4, posOf]

/-- The second half's weights of the keys. -/
theorem v29_apply (s : Fin 16) (d j : Fin 128) : val_main_v29 (F := Ideal) w1 (ix3 s d j) = w1 (ix4 0 (posOf 1 s) d j) := by
  pointwise [val_main_v29, val_main_v28, val_main_v12, val_main_v7, val_main_v6, posOf]

/-- The second half's contribution to the summaries of the keys. -/
theorem v30_apply (b : Fin 8) (n : Fin 127) (g : Fin 2) (j : Fin 128) : val_main_v30 (F := Ideal) y pe w1 (ix4 b n g j)
    = part y pe w1 1 b (tab0 g) ⟨1 + n.val, by omega⟩ j := by
  have e : ∀ (s : Fin 16) (d : Fin 128), val_main_v27 (F := Ideal) y pe (ix5 b n s g d)
      = y (ix3 b (rowOf ⟨1 + n.val, by omega⟩ s) (colOf (tab0 g) d)) + pe (ix3 0 (posOf 1 s) d) := fun s d => by
    rw [← v10_apply y, ← v24_apply pe]
    unfold val_main_v27 val_main_v26 val_main_v25 val_main_v22
    generalize val_main_v10 (F := Ideal) y = z
    generalize val_main_v24 (F := Ideal) pe = q
    pointwise
  have f := v29_apply w1
  unfold part
  rw [kind_tab0]
  simp only [← e, ← f]
  unfold val_main_v30
  generalize val_main_v27 (F := Ideal) y pe = z
  generalize val_main_v29 (F := Ideal) w1 = q
  pointwise
  exact Finset.sum_comm

/-- Hidden layer of the keys. -/
theorem v31_apply (b : Fin 8) (n : Fin 127) (g : Fin 2) (j : Fin 128) : val_main_v31 (F := Ideal) y pe w1 (ix4 b n g j)
    = hid y pe w1 b (tab0 g) ⟨n.val, by omega⟩ j := by
  have e : nxt ⟨n.val, by omega⟩ = ⟨1 + n.val, by omega⟩ := Fin.ext (by show (n.val + 1) % 128 = 1 + n.val; omega)
  unfold hid
  rw [e, ← v21_apply, ← v30_apply]
  rfl

/-- Hidden layer of the keys through the gelu. -/
theorem v44_apply (b : Fin 8) (n : Fin 127) (g : Fin 2) (j : Fin 128) : val_main_v44 (F := Ideal) y pe w1 (ix4 b n g j)
    = gelu (hid y pe w1 b (tab0 g) ⟨n.val, by omega⟩ j) := by
  rw [← v31_apply]
  unfold val_main_v44 val_main_v43 val_main_v42 val_main_cst_2 val_main_v41 val_main_v40 val_main_cst_1 val_main_v39 val_main_v38 val_main_v37 val_main_cst_0 val_main_v36 val_main_v35 val_main_v34 val_main_cst val_main_v33 val_main_v32
  generalize val_main_v31 (F := Ideal) y pe w1 = z
  unfold gelu
  pointwise
  rw [mul_left_comm, ← mul_assoc]

/-- The second layer of the keys. -/
theorem v9_apply (j k : Fin 128) : val_main_v9 (F := Ideal) w2 (ix2 j k) = w2 (ix3 0 j k) := by
  pointwise [val_main_v9, val_main_v8]

/-- Summaries of the keys. -/
theorem v45_apply (b : Fin 8) (n : Fin 127) (g : Fin 2) (k : Fin 128) : val_main_v45 (F := Ideal) y pe w1 w2 (ix4 b n g k)
    = res y pe w1 w2 b (tab0 g) ⟨n.val, by omega⟩ k := by
  unfold res
  rw [kind_tab0]
  simp only [← v44_apply, ← v9_apply]
  unfold val_main_v45
  generalize val_main_v44 (F := Ideal) y pe w1 = z
  generalize val_main_v9 (F := Ideal) w2 = q
  pointwise

/-! ## The values -/

/-- The table of group `g`'s values. -/
def tab1 (g : Fin 2) : Fin 4 := ⟨2 + g.val, by omega⟩

/-- The last two columns are values. -/
theorem kind_tab1 (g : Fin 2) : kind (tab1 g) = 1 := Fin.ext (by show (2 + g.val) / 2 = 1; omega)

/-- Channels of the values by token and group. -/
theorem v47_apply (b : Fin 8) (t : Fin 2048) (g : Fin 2) (d : Fin 128) : val_main_v47 (F := Ideal) y (ix4 b t g d)
    = y (ix3 b t (colOf (tab1 g) d)) := by
  pointwise [val_main_v47, val_main_v46, val_main_v1, val_main_v0]
  exact congrArg (fun r => y (ix3 b t r)) (Fin.ext (by show 1024 + (256 + g.val * 128 + d.val) = 1024 + 128 * (2 + g.val) + d.val; omega))

/-- Channels of the values by stride, position and group. -/
theorem v54_apply (b : Fin 8) (n : Fin 128) (s : Fin 16) (g : Fin 2) (d : Fin 128) : val_main_v54 (F := Ideal) y (ix5 b n s g d)
    = y (ix3 b (rowOf n s) (colOf (tab1 g) d)) := by
  refine Eq.trans ?_ (v47_apply y b (rowOf n s) g d)
  unfold val_main_v54
  generalize val_main_v47 (F := Ideal) y = z
  pointwise
  exact congrArg (fun r => z (ix4 b r g d)) (Fin.ext (by show n.val * 16 + s.val = 16 * n.val + s.val; omega))

/-- The first half's embeddings of the values. -/
theorem v59_apply (s : Fin 16) (d : Fin 128) : val_main_v59 (F := Ideal) pe (ix3 s 0 d) = pe (ix3 1 (posOf 0 s) d) := by
  pointwise [val_main_v59, val_main_v58, val_main_v55, val_main_v49, val_main_v48, posOf]

/-- The first half's weights of the values. -/
theorem v64_apply (s : Fin 16) (d j : Fin 128) : val_main_v64 (F := Ideal) w1 (ix3 s d j) = w1 (ix4 1 (posOf 0 s) d j) := by
  pointwise [val_main_v64, val_main_v63, val_main_v56, val_main_v51, val_main_v50, posOf]

/-- The first half's contribution to the summaries of the values. -/
theorem v65_apply (b : Fin 8) (n : Fin 127) (g : Fin 2) (j : Fin 128) : val_main_v65 (F := Ideal) y pe w1 (ix4 b n g j)
    = part y pe w1 0 b (tab1 g) ⟨n.val, by omega⟩ j := by
  have e : ∀ (s : Fin 16) (d : Fin 128), val_main_v62 (F := Ideal) y pe (ix5 b n s g d)
      = y (ix3 b (rowOf ⟨n.val, by omega⟩ s) (colOf (tab1 g) d)) + pe (ix3 1 (posOf 0 s) d) := fun s d => by
    rw [← v54_apply y, ← v59_apply pe]
    unfold val_main_v62 val_main_v61 val_main_v60 val_main_v57
    generalize val_main_v54 (F := Ideal) y = z
    generalize val_main_v59 (F := Ideal) pe = q
    pointwise
  have f := v64_apply w1
  unfold part
  rw [kind_tab1]
  simp only [← e, ← f]
  unfold val_main_v65
  generalize val_main_v62 (F := Ideal) y pe = z
  generalize val_main_v64 (F := Ideal) w1 = q
  pointwise
  exact Finset.sum_comm

/-- The second half's embeddings of the values. -/
theorem v68_apply (s : Fin 16) (d : Fin 128) : val_main_v68 (F := Ideal) pe (ix3 s 0 d) = pe (ix3 1 (posOf 1 s) d) := by
  pointwise [val_main_v68, val_main_v67, val_main_v55, val_main_v49, val_main_v48, posOf]

/-- The second half's weights of the values. -/
theorem v73_apply (s : Fin 16) (d j : Fin 128) : val_main_v73 (F := Ideal) w1 (ix3 s d j) = w1 (ix4 1 (posOf 1 s) d j) := by
  pointwise [val_main_v73, val_main_v72, val_main_v56, val_main_v51, val_main_v50, posOf]

/-- The second half's contribution to the summaries of the values. -/
theorem v74_apply (b : Fin 8) (n : Fin 127) (g : Fin 2) (j : Fin 128) : val_main_v74 (F := Ideal) y pe w1 (ix4 b n g j)
    = part y pe w1 1 b (tab1 g) ⟨1 + n.val, by omega⟩ j := by
  have e : ∀ (s : Fin 16) (d : Fin 128), val_main_v71 (F := Ideal) y pe (ix5 b n s g d)
      = y (ix3 b (rowOf ⟨1 + n.val, by omega⟩ s) (colOf (tab1 g) d)) + pe (ix3 1 (posOf 1 s) d) := fun s d => by
    rw [← v54_apply y, ← v68_apply pe]
    unfold val_main_v71 val_main_v70 val_main_v69 val_main_v66
    generalize val_main_v54 (F := Ideal) y = z
    generalize val_main_v68 (F := Ideal) pe = q
    pointwise
  have f := v73_apply w1
  unfold part
  rw [kind_tab1]
  simp only [← e, ← f]
  unfold val_main_v74
  generalize val_main_v71 (F := Ideal) y pe = z
  generalize val_main_v73 (F := Ideal) w1 = q
  pointwise
  exact Finset.sum_comm

/-- Hidden layer of the values. -/
theorem v75_apply (b : Fin 8) (n : Fin 127) (g : Fin 2) (j : Fin 128) : val_main_v75 (F := Ideal) y pe w1 (ix4 b n g j)
    = hid y pe w1 b (tab1 g) ⟨n.val, by omega⟩ j := by
  have e : nxt ⟨n.val, by omega⟩ = ⟨1 + n.val, by omega⟩ := Fin.ext (by show (n.val + 1) % 128 = 1 + n.val; omega)
  unfold hid
  rw [e, ← v65_apply, ← v74_apply]
  rfl

/-- Hidden layer of the values through the gelu. -/
theorem v88_apply (b : Fin 8) (n : Fin 127) (g : Fin 2) (j : Fin 128) : val_main_v88 (F := Ideal) y pe w1 (ix4 b n g j)
    = gelu (hid y pe w1 b (tab1 g) ⟨n.val, by omega⟩ j) := by
  rw [← v75_apply]
  unfold val_main_v88 val_main_v87 val_main_v86 val_main_cst_6 val_main_v85 val_main_v84 val_main_cst_5 val_main_v83 val_main_v82 val_main_v81 val_main_cst_4 val_main_v80 val_main_v79 val_main_v78 val_main_cst_3 val_main_v77 val_main_v76
  generalize val_main_v75 (F := Ideal) y pe w1 = z
  unfold gelu
  pointwise
  rw [mul_left_comm, ← mul_assoc]

/-- The second layer of the values. -/
theorem v53_apply (j k : Fin 128) : val_main_v53 (F := Ideal) w2 (ix2 j k) = w2 (ix3 1 j k) := by
  pointwise [val_main_v53, val_main_v52]

/-- Summaries of the values. -/
theorem v89_apply (b : Fin 8) (n : Fin 127) (g : Fin 2) (k : Fin 128) : val_main_v89 (F := Ideal) y pe w1 w2 (ix4 b n g k)
    = res y pe w1 w2 b (tab1 g) ⟨n.val, by omega⟩ k := by
  unfold res
  rw [kind_tab1]
  simp only [← v88_apply, ← v53_apply]
  unfold val_main_v89
  generalize val_main_v88 (F := Ideal) y pe w1 = z
  generalize val_main_v53 (F := Ideal) w2 = q
  pointwise

/-! ## The result -/

/-- The reference's result is the kernel's. -/
theorem result_eq : val_main_v91 (F := Ideal) y pe w1 w2 = kept (big y pe w1 w2) := by
  funext i
  obtain ⟨b, c, n, k, rfl⟩ : ∃ (b : Fin 8) (c : Fin 4) (n : Fin 127) (k : Fin 128), i = ix4 b c n k := ⟨i 0, i 1, i 2, i 3, eq_ix4 i⟩
  have er : kept (big y pe w1 w2) (ix4 b c n k) = res y pe w1 w2 b c ⟨n.val, by omega⟩ k := by
    show big y pe w1 w2 _ = big y pe w1 w2 (ix4 b c ⟨n.val, by omega⟩ k)
    refine congrArg (big y pe w1 w2) (funext fun a => Fin.ext ?_)
    match a with
    | ⟨0, _⟩ => show 0 + b.val = b.val; omega
    | ⟨1, _⟩ => show 0 + c.val = c.val; omega
    | ⟨2, _⟩ => show 0 + n.val = n.val; omega
    | ⟨3, _⟩ => show 0 + k.val = k.val; omega
  rw [er]
  have h0 := v45_apply y pe w1 w2 b n
  have h1 := v89_apply y pe w1 w2 b n
  unfold val_main_v91 val_main_v90
  generalize val_main_v45 (F := Ideal) y pe w1 w2 = p at *
  generalize val_main_v89 (F := Ideal) y pe w1 w2 = q at *
  pointwise
  split
  · refine (h0 _ k).trans (congrArg (fun c => res y pe w1 w2 b c ⟨n.val, by omega⟩ k) (Fin.ext ?_))
    show 0 + c.val = c.val
    omega
  · refine (h1 _ k).trans (congrArg (fun c => res y pe w1 w2 b c ⟨n.val, by omega⟩ k) (Fin.ext ?_))
    show 2 + (c.val - 2) = c.val
    omega

/-- The reference's run leaves the kernel's result. -/
theorem ref_run (m : (ℓ : Loc nD τ sig) → Buf (Elt Ideal) ℓ) (ρ : Dev nD → PrngReg) (y : Dev nD → Vec Ideal S8x2048x5632 .f32)
    (pe : Dev nD → Vec Ideal S2x32x128 .f32) (w1 : Dev nD → Vec Ideal S2x32x128x128 .f32) (w2 : Dev nD → Vec Ideal S2x128x128 .f32)
    (h0 : ∀ c : Dev nD, m ((c.tc : Thread nD τ).loc main_arg0) = y c) (h1 : ∀ c : Dev nD, m ((c.tc : Thread nD τ).loc main_arg1) = pe c)
    (h2 : ∀ c : Dev nD, m ((c.tc : Thread nD τ).loc main_arg2) = w1 c) (h3 : ∀ c : Dev nD, m ((c.tc : Thread nD τ).loc main_arg3) = w2 c) :
    θ_run defs (onTc (τ := τ) (main (F := Ideal))) ⟨m, fun _ => 0, ρ⟩ fun r => ∀ c : Dev nD,
      r.2.mem ((c.tc : Thread nD τ).loc main_v91) = kept (big (y c) (pe c) (w1 c) (w2 c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r q c => by
    obtain ⟨hr, hk⟩ := q c
    refine ⟨hr.trans ?_, hk⟩
    rw [val_main_v91_eq, h0, h1, h2, h3]
    exact result_eq (y c) (pe c) (w1 c) (w2 c))
    (Cert.CmpRefIdeal.Value.run (F := Ideal) m ρ)

end Cert.Proof.CmpRef

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.Small
public import proofs.«01_k».proof.Proof.Gen.Small.Skeleton
public import proofs.«01_k».proof.Proof.Gen.Small.Launch
public import proofs.«01_k».proof.Proof.Gen.Small.Points
public import proofs.«01_k».proof.Proof.Gen.Small.Frame
public import proofs.«01_k».proof.Proof.Gen.SmallIdeal
public import proofs.«01_k».proof.Proof.Gen.SmallIdeal.Skeleton
public import proofs.«01_k».proof.Proof.Gen.SmallIdeal.Launch
public import proofs.«01_k».proof.Proof.Gen.SmallIdeal.Points
public import proofs.«01_k».proof.Proof.Gen.SmallIdeal.Frame
public import proofs.«01_k».proof.Proof.Gen.SmallRefIdeal
public import proofs.«01_k».proof.Proof.Gen.SmallS
public import proofs.«01_k».proof.Proof.Gen.SmallS.Skeleton
public import proofs.«01_k».proof.Proof.Gen.SmallS.Launch
public import proofs.«01_k».proof.Proof.Gen.SmallS.Points
public import proofs.«01_k».proof.Proof.Gen.SmallS.Frame
public import proofs.«01_k».proof.Proof.Gen.SmallSIdeal
public import proofs.«01_k».proof.Proof.Gen.SmallSIdeal.Skeleton
public import proofs.«01_k».proof.Proof.Gen.SmallSIdeal.Launch
public import proofs.«01_k».proof.Proof.Gen.SmallSIdeal.Points
public import proofs.«01_k».proof.Proof.Gen.SmallSIdeal.Frame
public import proofs.«01_k».proof.Proof.Gen.SmallSRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.AddLn
public import proofs.«01_k».proof.Proof.Gen.AddLn.Skeleton
public import proofs.«01_k».proof.Proof.Gen.AddLn.Launch
public import proofs.«01_k».proof.Proof.Gen.AddLn.Points
public import proofs.«01_k».proof.Proof.Gen.AddLn.Frame
public import proofs.«01_k».proof.Proof.Gen.AddLnIdeal
public import proofs.«01_k».proof.Proof.Gen.AddLnIdeal.Skeleton
public import proofs.«01_k».proof.Proof.Gen.AddLnIdeal.Launch
public import proofs.«01_k».proof.Proof.Gen.AddLnIdeal.Points
public import proofs.«01_k».proof.Proof.Gen.AddLnIdeal.Frame
public import proofs.«01_k».proof.Proof.Gen.AddLnRefIdeal
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.Pre_scores_above_neg_inf
public import Idealize.ShloMosaic.Lib.Quiescent
public import proofs.«01_k».proof.Proof.AddLnArray
public import proofs.«01_k».proof.Proof.AddLnRef
public import proofs.«01_k».proof.Proof.FoxArray
public import proofs.«01_k».proof.Proof.FoxRef
public import proofs.«01_k».proof.Proof.Gen.AddLnIdeal.Value
public import proofs.«01_k».proof.Proof.Gen.AddLnRefIdeal.Read
public import proofs.«01_k».proof.Proof.Gen.AddLnRefIdeal.Run
public import proofs.«01_k».proof.Proof.Gen.FoxIdeal.Value
public import proofs.«01_k».proof.Proof.Gen.FoxRefIdeal.Read
public import proofs.«01_k».proof.Proof.Gen.FoxRefIdeal.Run
public import proofs.«01_k».proof.Proof.Gen.PostIdeal.Value
public import proofs.«01_k».proof.Proof.Gen.PostRefIdeal.Read
public import proofs.«01_k».proof.Proof.Gen.PostRefIdeal.Run
public import proofs.«01_k».proof.Proof.Gen.ProjRefIdeal.Read
public import proofs.«01_k».proof.Proof.Gen.ProjRefIdeal.Run
public import proofs.«01_k».proof.Proof.Gen.ProjSRefIdeal.Read
public import proofs.«01_k».proof.Proof.Gen.ProjSRefIdeal.Run
public import proofs.«01_k».proof.Proof.Gen.SmallRefIdeal.Read
public import proofs.«01_k».proof.Proof.Gen.SmallRefIdeal.Run
public import proofs.«01_k».proof.Proof.Gen.SmallSRefIdeal.Read
public import proofs.«01_k».proof.Proof.Gen.SmallSRefIdeal.Run
public import proofs.«01_k».proof.Proof.PostArray
public import proofs.«01_k».proof.Proof.PostRef
public import proofs.«01_k».proof.Proof.ProjRef
public import proofs.«01_k».proof.Proof.ProjSRef
public import proofs.«01_k».proof.Proof.ProjSTail
public import proofs.«01_k».proof.Proof.ProjTail
public import proofs.«01_k».proof.Proof.SmallRef
public import proofs.«01_k».proof.Proof.SmallSRef
public import proofs.«01_k».proof.Proof.SmallSTail
public import proofs.«01_k».proof.Proof.SmallTail
public import proofs.«01_k».proof.Proof.RouteRef
public import proofs.«01_k».proof.Proof.RouteArray
public import proofs.«01_k».proof.Proof.CmpRef
public import Idealize.ShloMosaic.Adequacy
public import Idealize.ShloMosaic.Init

@[expose] public section

noncomputable section

namespace Cert.Proof

open Idealize.ShloMosaic Idealize.SL.Sem Cert.Fox

/-- The reference of the attention runs, leaves its arguments and every counter as they were. -/
theorem frame_FoxRef : quiescent_FoxRefIdeal (hFoxRefIdeal := Cert.FoxRefIdeal.Gen.facts) := fun m ρ _ =>
  (θ_run Cert.FoxRefIdeal.defs _ _).mono
    (fun r h => ⟨fun c => (h c).2, Idealize.ShloMosaic.sem_eq_zero_of_no_sems (by decide) r.2⟩)
    (Cert.FoxRefIdeal.Value.run (F := Ideal) m ρ)

/-- The reference of the prompt projection runs, leaves its arguments and every counter as they were. -/
theorem frame_ProjRef : quiescent_ProjRefIdeal (hProjRefIdeal := Cert.ProjRefIdeal.Gen.facts) := fun m ρ _ =>
  (θ_run Cert.ProjRefIdeal.defs _ _).mono
    (fun r h => ⟨fun c => (h c).2.2.2.2.2.2, Idealize.ShloMosaic.sem_eq_zero_of_no_sems (by decide) r.2⟩)
    (Cert.ProjRefIdeal.Value.run (F := Ideal) m ρ)

/-- The reference of the sample projection runs, leaves its arguments and every counter as they were. -/
theorem frame_ProjSRef : quiescent_ProjSRefIdeal (hProjSRefIdeal := Cert.ProjSRefIdeal.Gen.facts) := fun m ρ _ =>
  (θ_run Cert.ProjSRefIdeal.defs _ _).mono
    (fun r h => ⟨fun c => (h c).2.2.2.2.2, Idealize.ShloMosaic.sem_eq_zero_of_no_sems (by decide) r.2⟩)
    (Cert.ProjSRefIdeal.Value.run (F := Ideal) m ρ)

/-- The reference of the prompt gates runs, leaves its arguments and every counter as they were. -/
theorem frame_SmallRef : quiescent_SmallRefIdeal (hSmallRefIdeal := Cert.SmallRefIdeal.Gen.facts) := fun m ρ _ =>
  (θ_run Cert.SmallRefIdeal.defs _ _).mono
    (fun r h => ⟨fun c => (h c).2.2, Idealize.ShloMosaic.sem_eq_zero_of_no_sems (by decide) r.2⟩)
    (Cert.SmallRefIdeal.Value.run (F := Ideal) m ρ)

/-- The reference of the sample gates runs, leaves its arguments and every counter as they were. -/
theorem frame_SmallSRef : quiescent_SmallSRefIdeal (hSmallSRefIdeal := Cert.SmallSRefIdeal.Gen.facts) := fun m ρ _ =>
  (θ_run Cert.SmallSRefIdeal.defs _ _).mono
    (fun r h => ⟨fun c => (h c).2.2, Idealize.ShloMosaic.sem_eq_zero_of_no_sems (by decide) r.2⟩)
    (Cert.SmallSRefIdeal.Value.run (F := Ideal) m ρ)

/-- The reference of the output call runs, leaves its arguments and every counter as they were. -/
theorem frame_PostRef : quiescent_PostRefIdeal (hPostRefIdeal := Cert.PostRefIdeal.Gen.facts) := fun m ρ _ =>
  (θ_run Cert.PostRefIdeal.defs _ _).mono
    (fun r h => ⟨fun c => (h c).2, Idealize.ShloMosaic.sem_eq_zero_of_no_sems (by decide) r.2⟩)
    (Cert.PostRefIdeal.Value.run (F := Ideal) m ρ)

/-- The reference of the second norm runs, leaves its arguments and every counter as they were. -/
theorem frame_AddLnRef : quiescent_AddLnRefIdeal (hAddLnRefIdeal := Cert.AddLnRefIdeal.Gen.facts) := fun m ρ _ =>
  (θ_run Cert.AddLnRefIdeal.defs _ _).mono
    (fun r h => ⟨fun c => (h c).2, Idealize.ShloMosaic.sem_eq_zero_of_no_sems (by decide) r.2⟩)
    (Cert.AddLnRefIdeal.Value.run (F := Ideal) m ρ)

/-- The attention kernel and its reference end with the same array. -/
theorem algebraic_Fox : algebraic_FoxIdeal_FoxRefIdeal (hFoxIdeal := Cert.FoxIdeal.Gen.facts)
    (hFoxRefIdeal := Cert.FoxRefIdeal.Gen.facts) := fun m ρ m' ρ' _ hm =>
  ⟨fun c => FoxSpec.out (FoxArray.xArg m c) (FoxArray.cum m c),
    (θ_run Cert.FoxIdeal.defs _ _).mono (fun r h c => ⟨(h c).1.trans (FoxArray.final_eq m c), (h c).2⟩)
      (Cert.FoxIdeal.Value.run_blocks (F := Ideal) m ρ),
    (θ_run Cert.FoxRefIdeal.defs _ _).mono
      (fun r h c => ⟨by
        refine (h c).1.trans ?_
        rw [Cert.FoxRefIdeal.Read.val_main_v40_eq, FoxRef.result_eq, (hm c).1, (hm c).2]
        rfl, (h c).2⟩)
      (Cert.FoxRefIdeal.Value.run (F := Ideal) m' ρ')⟩

/-- The prompt group's projection and its reference end with the same results. -/
theorem algebraic_Proj : algebraic_ProjIdeal_ProjRefIdeal (hProjIdeal := Cert.ProjIdeal.Gen.facts)
    (hProjRefIdeal := Cert.ProjRefIdeal.Gen.facts) := fun m ρ m' ρ' _ hm =>
  ⟨_, _, _, _, _, _, ProjTail.tail_run m ρ,
    ProjRef.ref_run m' ρ' (fun c => ProjArray.xArg m c) (fun c => ProjArray.wArg m c) (fun c => (hm c).1) (fun c => (hm c).2)⟩

/-- The sample group's projection and its reference end with the same results. -/
theorem algebraic_ProjS : algebraic_ProjSIdeal_ProjSRefIdeal (hProjSIdeal := Cert.ProjSIdeal.Gen.facts)
    (hProjSRefIdeal := Cert.ProjSRefIdeal.Gen.facts) := fun m ρ m' ρ' _ hm =>
  ⟨_, _, _, _, _, ProjSTail.tail_run m ρ,
    ProjSRef.ref_run m' ρ' (fun c => ProjSArray.xArg m c) (fun c => ProjSArray.wArg m c) (fun c => ProjSTail.uArg m c) (fun c => (hm c).1) (fun c => (hm c).2.1) (fun c => (hm c).2.2)⟩

/-- The prompt group's gates and its reference end with the same results. -/
theorem algebraic_Small : algebraic_SmallIdeal_SmallRefIdeal (hSmallIdeal := Cert.SmallIdeal.Gen.facts)
    (hSmallRefIdeal := Cert.SmallRefIdeal.Gen.facts) := fun m ρ m' ρ' _ hm =>
  ⟨_, _, SmallTail.tail_run m ρ,
    SmallRef.ref_run m' ρ' (fun c => SmallArray.xArg m c) (fun c => SmallArray.wArg m c) (fun c => SmallArray.fArg m c) (fun c => (hm c).1) (fun c => (hm c).2.1) (fun c => (hm c).2.2)⟩

/-- The sample group's gates and its reference end with the same results. -/
theorem algebraic_SmallS : algebraic_SmallSIdeal_SmallSRefIdeal (hSmallSIdeal := Cert.SmallSIdeal.Gen.facts)
    (hSmallSRefIdeal := Cert.SmallSRefIdeal.Gen.facts) := fun m ρ m' ρ' _ hm =>
  ⟨_, _, SmallSTail.tail_run m ρ,
    SmallSRef.ref_run m' ρ' (fun c => SmallSArray.xArg m c) (fun c => SmallSArray.wArg m c) (fun c => SmallSArray.fArg m c) (fun c => (hm c).1) (fun c => (hm c).2.1) (fun c => (hm c).2.2)⟩

/-- The attention's output call and its reference end with the same results. -/
theorem algebraic_Post : algebraic_PostIdeal_PostRefIdeal (hPostIdeal := Cert.PostIdeal.Gen.facts)
    (hPostRefIdeal := Cert.PostRefIdeal.Gen.facts) := fun m ρ m' ρ' _ hm =>
  ⟨_, PostArray.kernel_run m ρ,
    PostRef.ref_run m' ρ' (fun c => PostArray.onArg m c) (fun c => PostArray.ofArg m c) (fun c => PostArray.xArg m c) (fun c => PostArray.gnArg m c) (fun c => PostArray.gfArg m c) (fun c => PostArray.wArg m c) (fun c => PostArray.gArg m c) (fun c => PostArray.bArg m c) (fun c => (hm c).1) (fun c => (hm c).2.1) (fun c => (hm c).2.2.1) (fun c => (hm c).2.2.2.1) (fun c => (hm c).2.2.2.2.1) (fun c => (hm c).2.2.2.2.2.1) (fun c => (hm c).2.2.2.2.2.2.1) (fun c => (hm c).2.2.2.2.2.2.2)⟩

/-- The second layer norm and its reference end with the same results. -/
theorem algebraic_AddLn : algebraic_AddLnIdeal_AddLnRefIdeal (hAddLnIdeal := Cert.AddLnIdeal.Gen.facts)
    (hAddLnRefIdeal := Cert.AddLnRefIdeal.Gen.facts) := fun m ρ m' ρ' _ hm =>
  ⟨_, AddLnArray.kernel_run m ρ,
    AddLnRef.ref_run m' ρ' (fun c => AddLnArray.hArg m c) (fun c => AddLnArray.fArg m c) (fun c => AddLnArray.gArg m c) (fun c => AddLnArray.bArg m c) (fun c => (hm c).1) (fun c => (hm c).2.1) (fun c => (hm c).2.2.1) (fun c => (hm c).2.2.2)⟩

/-- The reference of the router runs, leaves its arguments and every counter as they were. -/
theorem frame_RouteRef : quiescent_RouteRefIdeal (hRouteRefIdeal := Cert.RouteRefIdeal.Gen.facts) := fun m ρ _ =>
  (θ_run Cert.RouteRefIdeal.defs _ _).mono
    (fun r h => ⟨fun c => (h c).2.2, Idealize.ShloMosaic.sem_eq_zero_of_no_sems (by decide) r.2⟩)
    (Cert.RouteRefIdeal.Value.run (F := Ideal) m ρ)

/-- The router and its reference end with the same results, where every score is above minus infinity. -/
theorem algebraic_Route : algebraic_RouteIdeal_RouteRefIdeal_pre_scores_above_neg_inf (hRouteIdeal := Cert.RouteIdeal.Gen.facts)
    (hRouteRefIdeal := Cert.RouteRefIdeal.Gen.facts) (hPre_scores_above_neg_inf := Cert.Pre_scores_above_neg_inf.Gen.facts) :=
  fun m ρ m' ρ' hp hm =>
  ⟨_, _, RouteArray.kernel_run m ρ (fun c n t k => RouteRef.scores_ne_bot _ _ _ (hp c) n t k),
    RouteRef.ref_run m' ρ' (fun c => RouteArray.hArg m c) (fun c => RouteArray.wArg m c) (fun c => RouteArray.kArg m c)
      (fun c => (hm c).1) (fun c => (hm c).2.1) (fun c => (hm c).2.2)⟩

/-- The reference of the compression runs, leaves its arguments and every counter as they were. -/
theorem frame_CmpRef : quiescent_CmpRefIdeal (hCmpRefIdeal := Cert.CmpRefIdeal.Gen.facts) := fun m ρ _ =>
  (θ_run Cert.CmpRefIdeal.defs _ _).mono
    (fun r h => ⟨fun c => (h c).2, Idealize.ShloMosaic.sem_eq_zero_of_no_sems (by decide) r.2⟩)
    (Cert.CmpRefIdeal.Value.run (F := Ideal) m ρ)

/-- The compression of keys and values and its reference end with the same summaries. -/
theorem algebraic_Cmp : algebraic_CmpIdeal_CmpRefIdeal (hCmpIdeal := Cert.CmpIdeal.Gen.facts)
    (hCmpRefIdeal := Cert.CmpRefIdeal.Gen.facts) := fun m ρ m' ρ' _ hm =>
  ⟨_, CmpTail.tail_run m ρ,
    CmpRef.ref_run m' ρ' (fun c => CmpArray.yArg m c) (fun c => CmpArray.peArg m c) (fun c => CmpArray.w1Arg m c)
      (fun c => CmpArray.w2Arg m c) (fun c => (hm c).1) (fun c => (hm c).2.1) (fun c => (hm c).2.2.1) (fun c => (hm c).2.2.2)⟩

/-- Everything claimed. -/
theorem claim : Cert.Claim := ⟨Cert.Fox.Gen.facts, Cert.FoxIdeal.Gen.facts, Cert.FoxRefIdeal.Gen.facts, Cert.Proj.Gen.facts, Cert.ProjIdeal.Gen.facts, Cert.ProjRefIdeal.Gen.facts, Cert.ProjS.Gen.facts, Cert.ProjSIdeal.Gen.facts, Cert.ProjSRefIdeal.Gen.facts, Cert.Small.Gen.facts, Cert.SmallIdeal.Gen.facts, Cert.SmallRefIdeal.Gen.facts, Cert.SmallS.Gen.facts, Cert.SmallSIdeal.Gen.facts, Cert.SmallSRefIdeal.Gen.facts, Cert.Post.Gen.facts, Cert.PostIdeal.Gen.facts, Cert.PostRefIdeal.Gen.facts, Cert.AddLn.Gen.facts, Cert.AddLnIdeal.Gen.facts, Cert.AddLnRefIdeal.Gen.facts, Cert.Route.Gen.facts, Cert.RouteIdeal.Gen.facts, Cert.RouteRefIdeal.Gen.facts, Cert.Cmp.Gen.facts, Cert.CmpIdeal.Gen.facts, Cert.CmpRefIdeal.Gen.facts, Cert.Pre_scores_above_neg_inf.Gen.facts,
  fun m ρ _ => Cert.Fox.Gen.frame m ρ,
  fun m ρ _ => Cert.FoxIdeal.Gen.frame m ρ,
  frame_FoxRef,
  fun m ρ _ => Cert.Proj.Gen.frame m ρ,
  fun m ρ _ => Cert.ProjIdeal.Gen.frame m ρ,
  frame_ProjRef,
  fun m ρ _ => Cert.ProjS.Gen.frame m ρ,
  fun m ρ _ => Cert.ProjSIdeal.Gen.frame m ρ,
  frame_ProjSRef,
  fun m ρ _ => Cert.Small.Gen.frame m ρ,
  fun m ρ _ => Cert.SmallIdeal.Gen.frame m ρ,
  frame_SmallRef,
  fun m ρ _ => Cert.SmallS.Gen.frame m ρ,
  fun m ρ _ => Cert.SmallSIdeal.Gen.frame m ρ,
  frame_SmallSRef,
  fun m ρ _ => Cert.Post.Gen.frame m ρ,
  fun m ρ _ => Cert.PostIdeal.Gen.frame m ρ,
  frame_PostRef,
  fun m ρ _ => Cert.AddLn.Gen.frame m ρ,
  fun m ρ _ => Cert.AddLnIdeal.Gen.frame m ρ,
  frame_AddLnRef,
  fun m ρ _ => Cert.Route.Gen.frame m ρ,
  fun m ρ _ => Cert.RouteIdeal.Gen.frame m ρ,
  fun m ρ _ => Cert.RouteIdeal.Gen.frame m ρ,
  frame_RouteRef,
  fun m ρ _ => frame_RouteRef m ρ trivial,
  fun m ρ _ => Cert.Cmp.Gen.frame m ρ,
  fun m ρ _ => Cert.CmpIdeal.Gen.frame m ρ,
  frame_CmpRef,
  IdealRules.named_const.statement Cert.FoxIdeal.κ "mask" .f32 0xF149F2CA#32 ⊥ rfl,
  algebraic_Fox,
  trivial,
  algebraic_Proj,
  trivial,
  algebraic_ProjS,
  trivial,
  algebraic_Small,
  trivial,
  algebraic_SmallS,
  trivial,
  algebraic_Post,
  trivial,
  algebraic_AddLn,
  trivial,
  algebraic_Route,
  trivial,
  algebraic_Cmp⟩

end Cert.Proof

end
